-- ==== Defs.lean ====
def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_finite [hPre_pool_finite : Cert.Pre_pool_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_finite [hPre_pool_finite : Cert.Pre_pool_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).1 = (fun _ => 1#1)
    ∧ (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.1 = (fun _ => 1#1)
    ∧ (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.1 = (fun _ => 1#1)
    ∧ (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.2 = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_flash_finite [hPre_flash_finite : Cert.Pre_flash_finite.Facts] (m : (ℓ : Loc Cert.FlashIdeal.nD Cert.FlashIdeal.τ Cert.FlashIdeal.sig) → Buf (Elt Ideal) ℓ) : Prop :=
  ∀ c : Dev Cert.FlashIdeal.nD,
    (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.1 = (fun _ => 1#1)
    ∧ (Cert.Pre_flash_finite.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))).2.2.2 = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_flash_finite [hPre_flash_finite : Cert.Pre_flash_finite.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.1 = (fun _ => 1#1)
    ∧ (Cert.Pre_flash_finite.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))).2.2.2 = (fun _ => 1#1)

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_loss_finite [hPre_loss_finite : Cert.Pre_loss_finite.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.2.2.1 = (fun _ => 1#1)
    ∧ (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))).2.2.2.2.2 = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_loss_finite [hPre_loss_finite : Cert.Pre_loss_finite.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.2.2.1 = (fun _ => 1#1)
    ∧ (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))).2.2.2.2.2 = (fun _ => 1#1)

def Pre_MixLn (m : (ℓ : Loc Cert.MixLn.nD Cert.MixLn.τ Cert.MixLn.sig) → Buf (Elt Bits) ℓ) : Prop :=
  True

def Pre_MixLnIdeal (m : (ℓ : Loc Cert.MixLnIdeal.nD Cert.MixLnIdeal.τ Cert.MixLnIdeal.sig) → Buf (Elt Ideal) ℓ) : Prop :=
  True

def Pre_MixLnIdeal_mix_finite [hPre_mix_finite : Cert.Pre_mix_finite.Facts] (m : (ℓ : Loc Cert.MixLnIdeal.nD Cert.MixLnIdeal.τ Cert.MixLnIdeal.sig) → Buf (Elt Ideal) ℓ) : Prop :=
  ∀ c : Dev Cert.MixLnIdeal.nD,
    (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.2.1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.2.2.1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.2.2.2.1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.2.2.2.2.1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.2.2.2.2.2.1 = (fun _ => 1#1)
    ∧ (Cert.Pre_mix_finite.fn (F := Ideal) (m ((c.tc : Thread Cert.MixLnIdeal.nD Cert.MixLnIdeal.τ).loc Cert.MixLnIdeal.main_arg0)) (m ((c.tc : Thread Cert.MixLnIdeal.nD Cert.MixLnIdeal.τ).loc Cert.MixLnIdeal.main_arg1)) (m ((c.tc : Thread Cert.MixLnIdeal.nD Cert.MixLnIdeal.τ).loc Cert.MixLnIdeal.main_arg2)) (m ((c.tc : Thread Cert.MixLnIdeal.nD Cert.MixLnIdeal.τ).loc Cert.MixLnIdeal.main_arg3)) (m ((c.tc : Thread Cert.MixLnIdeal.nD Cert.MixLnIdeal.τ).loc Cert.MixLnIdeal.main_arg4)) (m ((c.tc : Thread Cert.MixLnIdeal.nD Cert.MixLnIdeal.τ).loc Cert.MixLnIdeal.main_arg5)) (m ((c.tc : Thread Cert.MixLnIdeal.nD Cert.MixLnIdeal.τ).loc Cert.MixLnIdeal.main_arg6)) (m ((c.tc : Thread Cert.MixLnIdeal.nD Cert.MixLnIdeal.τ).loc Cert.MixLnIdeal.main_arg7))).2.2.2.2.2.2.2 = (fun _ => 1#1)

def Pre_MixLnRefIdeal (m : (ℓ : Loc Cert.MixLnRefIdeal.nD Cert.MixLnRefIdeal.τ Cert.MixLnRefIdeal.sig) → Buf (Elt Ideal) ℓ) : Prop :=
  True

def Pre_MixLnRefIdeal_mix_finite [hPre_mix_finite : Cert.Pre_mix_finite.Facts] (m : (ℓ : Loc Cert.MixLnRefIdeal.nD Cert.MixLnRefIdeal.τ Cert.MixLnRefIdeal.sig) → Buf (Elt Ideal) ℓ) : Prop :=
  ∀ c : Dev Cert.MixLnRefIdeal.nD,
    (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.2.1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.2.2.1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.2.2.2.1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.2.2.2.2.1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.2.2.2.2.2.1 = (fun _ => 1#1)
    ∧ (Cert.Pre_mix_finite.fn (F := Ideal) (m ((c.tc : Thread Cert.MixLnRefIdeal.nD Cert.MixLnRefIdeal.τ).loc Cert.MixLnRefIdeal.main_arg0)) (m ((c.tc : Thread Cert.MixLnRefIdeal.nD Cert.MixLnRefIdeal.τ).loc Cert.MixLnRefIdeal.main_arg1)) (m ((c.tc : Thread Cert.MixLnRefIdeal.nD Cert.MixLnRefIdeal.τ).loc Cert.MixLnRefIdeal.main_arg2)) (m ((c.tc : Thread Cert.MixLnRefIdeal.nD Cert.MixLnRefIdeal.τ).loc Cert.MixLnRefIdeal.main_arg3)) (m ((c.tc : Thread Cert.MixLnRefIdeal.nD Cert.MixLnRefIdeal.τ).loc Cert.MixLnRefIdeal.main_arg4)) (m ((c.tc : Thread Cert.MixLnRefIdeal.nD Cert.MixLnRefIdeal.τ).loc Cert.MixLnRefIdeal.main_arg5)) (m ((c.tc : Thread Cert.MixLnRefIdeal.nD Cert.MixLnRefIdeal.τ).loc Cert.MixLnRefIdeal.main_arg6)) (m ((c.tc : Thread Cert.MixLnRefIdeal.nD Cert.MixLnRefIdeal.τ).loc Cert.MixLnRefIdeal.main_arg7))).2.2.2.2.2.2.2 = (fun _ => 1#1)

def Pre_Norms (m : (ℓ : Loc Cert.Norms.nD Cert.Norms.τ Cert.Norms.sig) → Buf (Elt Bits) ℓ) : Prop :=
  True

def Pre_NormsIdeal (m : (ℓ : Loc Cert.NormsIdeal.nD Cert.NormsIdeal.τ Cert.NormsIdeal.sig) → Buf (Elt Ideal) ℓ) : Prop :=
  True

def Pre_NormsRefIdeal (m : (ℓ : Loc Cert.NormsRefIdeal.nD Cert.NormsRefIdeal.τ Cert.NormsRefIdeal.sig) → Buf (Elt Ideal) ℓ) : Prop :=
  True

def Pre_MemAttn (m : (ℓ : Loc Cert.MemAttn.nD Cert.MemAttn.τ Cert.MemAttn.sig) → Buf (Elt Bits) ℓ) : Prop :=
  True

def Pre_MemAttnIdeal (m : (ℓ : Loc Cert.MemAttnIdeal.nD Cert.MemAttnIdeal.τ Cert.MemAttnIdeal.sig) → Buf (Elt Ideal) ℓ) : Prop :=
  True

def Pre_MemAttnRefIdeal (m : (ℓ : Loc Cert.MemAttnRefIdeal.nD Cert.MemAttnRefIdeal.τ Cert.MemAttnRefIdeal.sig) → Buf (Elt Ideal) ℓ) : Prop :=
  True

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_finite [hPoolBwdIdeal : Cert.PoolBwdIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_finite [hPoolBwdRefIdeal : Cert.PoolBwdRefIdeal.Facts] [hPre_pool_finite : Cert.Pre_pool_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_flash_finite [hFlashIdeal : Cert.FlashIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_flash_finite m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_flash_finite [hFlashRefIdeal : Cert.FlashRefIdeal.Facts] [hPre_flash_finite : Cert.Pre_flash_finite.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_flash_finite m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3)
      ∧ r.2.mem ((c.tc : Thread Cert.LossLn.nD Cert.LossLn.τ).loc Cert.LossLn.main_arg4) = m ((c.tc : Thread Cert.LossLn.nD Cert.LossLn.τ).loc Cert.LossLn.main_arg4)
      ∧ r.2.mem ((c.tc : Thread Cert.LossLn.nD Cert.LossLn.τ).loc Cert.LossLn.main_arg5) = m ((c.tc : Thread Cert.LossLn.nD Cert.LossLn.τ).loc Cert.LossLn.main_arg5))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ r.2.sem = fun _ => 0)

def quiescent_LossLnIdeal_pre_loss_finite [hLossLnIdeal : Cert.LossLnIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_loss_finite m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5))
      ∧ r.2.sem = fun _ => 0)

def quiescent_LossLnRefIdeal_pre_loss_finite [hLossLnRefIdeal : Cert.LossLnRefIdeal.Facts] [hPre_loss_finite : Cert.Pre_loss_finite.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_loss_finite m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5))
      ∧ r.2.sem = fun _ => 0)

def quiescent_MixLn [hMixLn : Cert.MixLn.Facts] : Prop :=
  ∀ (m : (ℓ : Loc Cert.MixLn.nD Cert.MixLn.τ Cert.MixLn.sig) → Buf (Elt Bits) ℓ) (g : Dev Cert.MixLn.nD → PrngReg), Pre_MixLn m →
    θ_run (Cert.MixLn.defs (F := Bits)) (onTc (τ := Cert.MixLn.τ) (Cert.MixLn.main (F := Bits))) ⟨m, fun _ => 0, g⟩ (fun r => (∀ c : Dev Cert.MixLn.nD,
      r.2.mem ((c.tc : Thread Cert.MixLn.nD Cert.MixLn.τ).loc Cert.MixLn.main_arg0) = m ((c.tc : Thread Cert.MixLn.nD Cert.MixLn.τ).loc Cert.MixLn.main_arg0)
      ∧ r.2.mem ((c.tc : Thread Cert.MixLn.nD Cert.MixLn.τ).loc Cert.MixLn.main_arg1) = m ((c.tc : Thread Cert.MixLn.nD Cert.MixLn.τ).loc Cert.MixLn.main_arg1)
      ∧ r.2.mem ((c.tc : Thread Cert.MixLn.nD Cert.MixLn.τ).loc Cert.MixLn.main_arg2) = m ((c.tc : Thread Cert.MixLn.nD Cert.MixLn.τ).loc Cert.MixLn.main_arg2)
      ∧ r.2.mem ((c.tc : Thread Cert.MixLn.nD Cert.MixLn.τ).loc Cert.MixLn.main_arg3) = m ((c.tc : Thread Cert.MixLn.nD Cert.MixLn.τ).loc Cert.MixLn.main_arg3)
      ∧ r.2.mem ((c.tc : Thread Cert.MixLn.nD Cert.MixLn.τ).loc Cert.MixLn.main_arg4) = m ((c.tc : Thread Cert.MixLn.nD Cert.MixLn.τ).loc Cert.MixLn.main_arg4)
      ∧ r.2.mem ((c.tc : Thread Cert.MixLn.nD Cert.MixLn.τ).loc Cert.MixLn.main_arg5) = m ((c.tc : Thread Cert.MixLn.nD Cert.MixLn.τ).loc Cert.MixLn.main_arg5)
      ∧ r.2.mem ((c.tc : Thread Cert.MixLn.nD Cert.MixLn.τ).loc Cert.MixLn.main_arg6) = m ((c.tc : Thread Cert.MixLn.nD Cert.MixLn.τ).loc Cert.MixLn.main_arg6)
      ∧ r.2.mem ((c.tc : Thread Cert.MixLn.nD Cert.MixLn.τ).loc Cert.MixLn.main_arg7) = m ((c.tc : Thread Cert.MixLn.nD Cert.MixLn.τ).loc Cert.MixLn.main_arg7))
      ∧ r.2.sem = fun _ => 0)

def quiescent_MixLnIdeal [hMixLnIdeal : Cert.MixLnIdeal.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
      ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5)
      ∧ r.2.mem ((c.tc : Thread Cert.MixLnIdeal.nD Cert.MixLnIdeal.τ).loc Cert.MixLnIdeal.main_arg6) = m ((c.tc : Thread Cert.MixLnIdeal.nD Cert.MixLnIdeal.τ).loc Cert.MixLnIdeal.main_arg6)
      ∧ r.2.mem ((c.tc : Thread Cert.MixLnIdeal.nD Cert.MixLnIdeal.τ).loc Cert.MixLnIdeal.main_arg7) = m ((c.tc : Thread Cert.MixLnIdeal.nD Cert.MixLnIdeal.τ).loc Cert.MixLnIdeal.main_arg7))
      ∧ r.2.sem = fun _ => 0)

def quiescent_MixLnIdeal_pre_mix_finite [hMixLnIdeal : Cert.MixLnIdeal.Facts] [hPre_mix_finite : Cert.Pre_mix_finite.Facts] : Prop :=
  ∀ (m : (ℓ : Loc Cert.MixLnIdeal.nD Cert.MixLnIdeal.τ Cert.MixLnIdeal.sig) → Buf (Elt Ideal) ℓ) (g : Dev Cert.MixLnIdeal.nD → PrngReg), Pre_MixLnIdeal_mix_finite m →
    θ_run (Cert.MixLnIdeal.defs (F := Ideal)) (onTc (τ := Cert.MixLnIdeal.τ) (Cert.MixLnIdeal.main (F := Ideal))) ⟨m, fun _ => 0, g⟩ (fun r => (∀ c : Dev Cert.MixLnIdeal.nD,
      r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
      ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
      ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
      ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
      ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
      ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5)
      ∧ r.2.mem ((c.tc : Thread Cert.MixLnIdeal.nD Cert.MixLnIdeal.τ).loc Cert.MixLnIdeal.main_arg6) = m ((c.tc : Thread Cert.MixLnIdeal.nD Cert.MixLnIdeal.τ).loc Cert.MixLnIdeal.main_arg6)
      ∧ r.2.mem ((c.tc : Thread Cert.MixLnIdeal.nD Cert.MixLnIdeal.τ).loc Cert.MixLnIdeal.main_arg7) = m ((c.tc : Thread Cert.MixLnIdeal.nD Cert.MixLnIdeal.τ).loc Cert.MixLnIdeal.main_arg7))
      ∧ r.2.sem = fun _ => 0)

def quiescent_MixLnRefIdeal [hMixLnRefIdeal : Cert.MixLnRefIdeal.Facts] : Prop :=
  ∀ (m : (ℓ : Loc Cert.MixLnRefIdeal.nD Cert.MixLnRefIdeal.τ Cert.MixLnRefIdeal.sig) → Buf (Elt Ideal) ℓ) (g : Dev Cert.MixLnRefIdeal.nD → PrngReg), Pre_MixLnRefIdeal m →
    θ_run (Cert.MixLnRefIdeal.defs (F := Ideal)) (onTc (τ := Cert.MixLnRefIdeal.τ) (Cert.MixLnRefIdeal.main (F := Ideal))) ⟨m, fun _ => 0, g⟩ (fun r => (∀ c : Dev Cert.MixLnRefIdeal.nD,
      r.2.mem ((c.tc : Thread Cert.MixLnRefIdeal.nD Cert.MixLnRefIdeal.τ).loc Cert.MixLnRefIdeal.main_arg0) = m ((c.tc : Thread Cert.MixLnRefIdeal.nD Cert.MixLnRefIdeal.τ).loc Cert.MixLnRefIdeal.main_arg0)
      ∧ r.2.mem ((c.tc : Thread Cert.MixLnRefIdeal.nD Cert.MixLnRefIdeal.τ).loc Cert.MixLnRefIdeal.main_arg1) = m ((c.tc : Thread Cert.MixLnRefIdeal.nD Cert.MixLnRefIdeal.τ).loc Cert.MixLnRefIdeal.main_arg1)
      ∧ r.2.mem ((c.tc : Thread Cert.MixLnRefIdeal.nD Cert.MixLnRefIdeal.τ).loc Cert.MixLnRefIdeal.main_arg2) = m ((c.tc : Thread Cert.MixLnRefIdeal.nD Cert.MixLnRefIdeal.τ).loc Cert.MixLnRefIdeal.main_arg2)
      ∧ r.2.mem ((c.tc : Thread Cert.MixLnRefIdeal.nD Cert.MixLnRefIdeal.τ).loc Cert.MixLnRefIdeal.main_arg3) = m ((c.tc : Thread Cert.MixLnRefIdeal.nD Cert.MixLnRefIdeal.τ).loc Cert.MixLnRefIdeal.main_arg3)
      ∧ r.2.mem ((c.tc : Thread Cert.MixLnRefIdeal.nD Cert.MixLnRefIdeal.τ).loc Cert.MixLnRefIdeal.main_arg4) = m ((c.tc : Thread Cert.MixLnRefIdeal.nD Cert.MixLnRefIdeal.τ).loc Cert.MixLnRefIdeal.main_arg4)
      ∧ r.2.mem ((c.tc : Thread Cert.MixLnRefIdeal.nD Cert.MixLnRefIdeal.τ).loc Cert.MixLnRefIdeal.main_arg5) = m ((c.tc : Thread Cert.MixLnRefIdeal.nD Cert.MixLnRefIdeal.τ).loc Cert.MixLnRefIdeal.main_arg5)
      ∧ r.2.mem ((c.tc : Thread Cert.MixLnRefIdeal.nD Cert.MixLnRefIdeal.τ).loc Cert.MixLnRefIdeal.main_arg6) = m ((c.tc : Thread Cert.MixLnRefIdeal.nD Cert.MixLnRefIdeal.τ).loc Cert.MixLnRefIdeal.main_arg6)
      ∧ r.2.mem ((c.tc : Thread Cert.MixLnRefIdeal.nD Cert.MixLnRefIdeal.τ).loc Cert.MixLnRefIdeal.main_arg7) = m ((c.tc : Thread Cert.MixLnRefIdeal.nD Cert.MixLnRefIdeal.τ).loc Cert.MixLnRefIdeal.main_arg7))
      ∧ r.2.sem = fun _ => 0)

def quiescent_MixLnRefIdeal_pre_mix_finite [hMixLnRefIdeal : Cert.MixLnRefIdeal.Facts] [hPre_mix_finite : Cert.Pre_mix_finite.Facts] : Prop :=
  ∀ (m : (ℓ : Loc Cert.MixLnRefIdeal.nD Cert.MixLnRefIdeal.τ Cert.MixLnRefIdeal.sig) → Buf (Elt Ideal) ℓ) (g : Dev Cert.MixLnRefIdeal.nD → PrngReg), Pre_MixLnRefIdeal_mix_finite m →
    θ_run (Cert.MixLnRefIdeal.defs (F := Ideal)) (onTc (τ := Cert.MixLnRefIdeal.τ) (Cert.MixLnRefIdeal.main (F := Ideal))) ⟨m, fun _ => 0, g⟩ (fun r => (∀ c : Dev Cert.MixLnRefIdeal.nD,
      r.2.mem ((c.tc : Thread Cert.MixLnRefIdeal.nD Cert.MixLnRefIdeal.τ).loc Cert.MixLnRefIdeal.main_arg0) = m ((c.tc : Thread Cert.MixLnRefIdeal.nD Cert.MixLnRefIdeal.τ).loc Cert.MixLnRefIdeal.main_arg0)
      ∧ r.2.mem ((c.tc : Thread Cert.MixLnRefIdeal.nD Cert.MixLnRefIdeal.τ).loc Cert.MixLnRefIdeal.main_arg1) = m ((c.tc : Thread Cert.MixLnRefIdeal.nD Cert.MixLnRefIdeal.τ).loc Cert.MixLnRefIdeal.main_arg1)
      ∧ r.2.mem ((c.tc : Thread Cert.MixLnRefIdeal.nD Cert.MixLnRefIdeal.τ).loc Cert.MixLnRefIdeal.main_arg2) = m ((c.tc : Thread Cert.MixLnRefIdeal.nD Cert.MixLnRefIdeal.τ).loc Cert.MixLnRefIdeal.main_arg2)
      ∧ r.2.mem ((c.tc : Thread Cert.MixLnRefIdeal.nD Cert.MixLnRefIdeal.τ).loc Cert.MixLnRefIdeal.main_arg3) = m ((c.tc : Thread Cert.MixLnRefIdeal.nD Cert.MixLnRefIdeal.τ).loc Cert.MixLnRefIdeal.main_arg3)
      ∧ r.2.mem ((c.tc : Thread Cert.MixLnRefIdeal.nD Cert.MixLnRefIdeal.τ).loc Cert.MixLnRefIdeal.main_arg4) = m ((c.tc : Thread Cert.MixLnRefIdeal.nD Cert.MixLnRefIdeal.τ).loc Cert.MixLnRefIdeal.main_arg4)
      ∧ r.2.mem ((c.tc : Thread Cert.MixLnRefIdeal.nD Cert.MixLnRefIdeal.τ).loc Cert.MixLnRefIdeal.main_arg5) = m ((c.tc : Thread Cert.MixLnRefIdeal.nD Cert.MixLnRefIdeal.τ).loc Cert.MixLnRefIdeal.main_arg5)
      ∧ r.2.mem ((c.tc : Thread Cert.MixLnRefIdeal.nD Cert.MixLnRefIdeal.τ).loc Cert.MixLnRefIdeal.main_arg6) = m ((c.tc : Thread Cert.MixLnRefIdeal.nD Cert.MixLnRefIdeal.τ).loc Cert.MixLnRefIdeal.main_arg6)
      ∧ r.2.mem ((c.tc : Thread Cert.MixLnRefIdeal.nD Cert.MixLnRefIdeal.τ).loc Cert.MixLnRefIdeal.main_arg7) = m ((c.tc : Thread Cert.MixLnRefIdeal.nD Cert.MixLnRefIdeal.τ).loc Cert.MixLnRefIdeal.main_arg7))
      ∧ r.2.sem = fun _ => 0)

def quiescent_Norms [hNorms : Cert.Norms.Facts] : Prop :=
  ∀ (m : (ℓ : Loc Cert.Norms.nD Cert.Norms.τ Cert.Norms.sig) → Buf (Elt Bits) ℓ) (g : Dev Cert.Norms.nD → PrngReg), Pre_Norms m →
    θ_run (Cert.Norms.defs (F := Bits)) (onTc (τ := Cert.Norms.τ) (Cert.Norms.main (F := Bits))) ⟨m, fun _ => 0, g⟩ (fun r => (∀ c : Dev Cert.Norms.nD,
      r.2.mem ((c.tc : Thread Cert.Norms.nD Cert.Norms.τ).loc Cert.Norms.main_arg0) = m ((c.tc : Thread Cert.Norms.nD Cert.Norms.τ).loc Cert.Norms.main_arg0)
      ∧ r.2.mem ((c.tc : Thread Cert.Norms.nD Cert.Norms.τ).loc Cert.Norms.main_arg1) = m ((c.tc : Thread Cert.Norms.nD Cert.Norms.τ).loc Cert.Norms.main_arg1)
      ∧ r.2.mem ((c.tc : Thread Cert.Norms.nD Cert.Norms.τ).loc Cert.Norms.main_arg2) = m ((c.tc : Thread Cert.Norms.nD Cert.Norms.τ).loc Cert.Norms.main_arg2)
      ∧ r.2.mem ((c.tc : Thread Cert.Norms.nD Cert.Norms.τ).loc Cert.Norms.main_arg3) = m ((c.tc : Thread Cert.Norms.nD Cert.Norms.τ).loc Cert.Norms.main_arg3)
      ∧ r.2.mem ((c.tc : Thread Cert.Norms.nD Cert.Norms.τ).loc Cert.Norms.main_arg4) = m ((c.tc : Thread Cert.Norms.nD Cert.Norms.τ).loc Cert.Norms.main_arg4)
      ∧ r.2.mem ((c.tc : Thread Cert.Norms.nD Cert.Norms.τ).loc Cert.Norms.main_arg5) = m ((c.tc : Thread Cert.Norms.nD Cert.Norms.τ).loc Cert.Norms.main_arg5)
      ∧ r.2.mem ((c.tc : Thread Cert.Norms.nD Cert.Norms.τ).loc Cert.Norms.main_arg6) = m ((c.tc : Thread Cert.Norms.nD Cert.Norms.τ).loc Cert.Norms.main_arg6))
      ∧ r.2.sem = fun _ => 0)

def quiescent_NormsIdeal [hNormsIdeal : Cert.NormsIdeal.Facts] : Prop :=
  ∀ (m : (ℓ : Loc Cert.NormsIdeal.nD Cert.NormsIdeal.τ Cert.NormsIdeal.sig) → Buf (Elt Ideal) ℓ) (g : Dev Cert.NormsIdeal.nD → PrngReg), Pre_NormsIdeal m →
    θ_run (Cert.NormsIdeal.defs (F := Ideal)) (onTc (τ := Cert.NormsIdeal.τ) (Cert.NormsIdeal.main (F := Ideal))) ⟨m, fun _ => 0, g⟩ (fun r => (∀ c : Dev Cert.NormsIdeal.nD,
      r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
      ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
      ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
      ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
      ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
      ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
      ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6))
      ∧ r.2.sem = fun _ => 0)

def quiescent_NormsRefIdeal [hNormsRefIdeal : Cert.NormsRefIdeal.Facts] : Prop :=
  ∀ (m : (ℓ : Loc Cert.NormsRefIdeal.nD Cert.NormsRefIdeal.τ Cert.NormsRefIdeal.sig) → Buf (Elt Ideal) ℓ) (g : Dev Cert.NormsRefIdeal.nD → PrngReg), Pre_NormsRefIdeal m →
    θ_run (Cert.NormsRefIdeal.defs (F := Ideal)) (onTc (τ := Cert.NormsRefIdeal.τ) (Cert.NormsRefIdeal.main (F := Ideal))) ⟨m, fun _ => 0, g⟩ (fun r => (∀ c : Dev Cert.NormsRefIdeal.nD,
      r.2.mem ((c.tc : Thread Cert.NormsRefIdeal.nD Cert.NormsRefIdeal.τ).loc Cert.NormsRefIdeal.main_arg0) = m ((c.tc : Thread Cert.NormsRefIdeal.nD Cert.NormsRefIdeal.τ).loc Cert.NormsRefIdeal.main_arg0)
      ∧ r.2.mem ((c.tc : Thread Cert.NormsRefIdeal.nD Cert.NormsRefIdeal.τ).loc Cert.NormsRefIdeal.main_arg1) = m ((c.tc : Thread Cert.NormsRefIdeal.nD Cert.NormsRefIdeal.τ).loc Cert.NormsRefIdeal.main_arg1)
      ∧ r.2.mem ((c.tc : Thread Cert.NormsRefIdeal.nD Cert.NormsRefIdeal.τ).loc Cert.NormsRefIdeal.main_arg2) = m ((c.tc : Thread Cert.NormsRefIdeal.nD Cert.NormsRefIdeal.τ).loc Cert.NormsRefIdeal.main_arg2)
      ∧ r.2.mem ((c.tc : Thread Cert.NormsRefIdeal.nD Cert.NormsRefIdeal.τ).loc Cert.NormsRefIdeal.main_arg3) = m ((c.tc : Thread Cert.NormsRefIdeal.nD Cert.NormsRefIdeal.τ).loc Cert.NormsRefIdeal.main_arg3)
      ∧ r.2.mem ((c.tc : Thread Cert.NormsRefIdeal.nD Cert.NormsRefIdeal.τ).loc Cert.NormsRefIdeal.main_arg4) = m ((c.tc : Thread Cert.NormsRefIdeal.nD Cert.NormsRefIdeal.τ).loc Cert.NormsRefIdeal.main_arg4)
      ∧ r.2.mem ((c.tc : Thread Cert.NormsRefIdeal.nD Cert.NormsRefIdeal.τ).loc Cert.NormsRefIdeal.main_arg5) = m ((c.tc : Thread Cert.NormsRefIdeal.nD Cert.NormsRefIdeal.τ).loc Cert.NormsRefIdeal.main_arg5)
      ∧ r.2.mem ((c.tc : Thread Cert.NormsRefIdeal.nD Cert.NormsRefIdeal.τ).loc Cert.NormsRefIdeal.main_arg6) = m ((c.tc : Thread Cert.NormsRefIdeal.nD Cert.NormsRefIdeal.τ).loc Cert.NormsRefIdeal.main_arg6))
      ∧ r.2.sem = fun _ => 0)

def quiescent_MemAttn [hMemAttn : Cert.MemAttn.Facts] : Prop :=
  ∀ (m : (ℓ : Loc Cert.MemAttn.nD Cert.MemAttn.τ Cert.MemAttn.sig) → Buf (Elt Bits) ℓ) (g : Dev Cert.MemAttn.nD → PrngReg), Pre_MemAttn m →
    θ_run (Cert.MemAttn.defs (F := Bits)) (onTc (τ := Cert.MemAttn.τ) (Cert.MemAttn.main (F := Bits))) ⟨m, fun _ => 0, g⟩ (fun r => (∀ c : Dev Cert.MemAttn.nD,
      r.2.mem ((c.tc : Thread Cert.MemAttn.nD Cert.MemAttn.τ).loc Cert.MemAttn.main_arg0) = m ((c.tc : Thread Cert.MemAttn.nD Cert.MemAttn.τ).loc Cert.MemAttn.main_arg0)
      ∧ r.2.mem ((c.tc : Thread Cert.MemAttn.nD Cert.MemAttn.τ).loc Cert.MemAttn.main_arg1) = m ((c.tc : Thread Cert.MemAttn.nD Cert.MemAttn.τ).loc Cert.MemAttn.main_arg1)
      ∧ r.2.mem ((c.tc : Thread Cert.MemAttn.nD Cert.MemAttn.τ).loc Cert.MemAttn.main_arg2) = m ((c.tc : Thread Cert.MemAttn.nD Cert.MemAttn.τ).loc Cert.MemAttn.main_arg2)
      ∧ r.2.mem ((c.tc : Thread Cert.MemAttn.nD Cert.MemAttn.τ).loc Cert.MemAttn.main_arg3) = m ((c.tc : Thread Cert.MemAttn.nD Cert.MemAttn.τ).loc Cert.MemAttn.main_arg3)
      ∧ r.2.mem ((c.tc : Thread Cert.MemAttn.nD Cert.MemAttn.τ).loc Cert.MemAttn.main_arg4) = m ((c.tc : Thread Cert.MemAttn.nD Cert.MemAttn.τ).loc Cert.MemAttn.main_arg4))
      ∧ r.2.sem = fun _ => 0)

def quiescent_MemAttnIdeal [hMemAttnIdeal : Cert.MemAttnIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg), Pre_MemAttnIdeal m →
    θ_run (Cert.MemAttnIdeal.defs (F := Ideal)) (onTc (τ := Cert.MemAttnIdeal.τ) (Cert.MemAttnIdeal.main (F := Ideal))) ⟨m, fun _ => 0, g⟩ (fun r => (∀ c : Dev Cert.MemAttnIdeal.nD,
      r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
      ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
      ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
      ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
      ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4))
      ∧ r.2.sem = fun _ => 0)

def quiescent_MemAttnRefIdeal [hMemAttnRefIdeal : Cert.MemAttnRefIdeal.Facts] : Prop :=
  ∀ (m : (ℓ : Loc Cert.MemAttnRefIdeal.nD Cert.MemAttnRefIdeal.τ Cert.MemAttnRefIdeal.sig) → Buf (Elt Ideal) ℓ) (g : Dev Cert.MemAttnRefIdeal.nD → PrngReg), Pre_MemAttnRefIdeal m →
    θ_run (Cert.MemAttnRefIdeal.defs (F := Ideal)) (onTc (τ := Cert.MemAttnRefIdeal.τ) (Cert.MemAttnRefIdeal.main (F := Ideal))) ⟨m, fun _ => 0, g⟩ (fun r => (∀ c : Dev Cert.MemAttnRefIdeal.nD,
      r.2.mem ((c.tc : Thread Cert.MemAttnRefIdeal.nD Cert.MemAttnRefIdeal.τ).loc Cert.MemAttnRefIdeal.main_arg0) = m ((c.tc : Thread Cert.MemAttnRefIdeal.nD Cert.MemAttnRefIdeal.τ).loc Cert.MemAttnRefIdeal.main_arg0)
      ∧ r.2.mem ((c.tc : Thread Cert.MemAttnRefIdeal.nD Cert.MemAttnRefIdeal.τ).loc Cert.MemAttnRefIdeal.main_arg1) = m ((c.tc : Thread Cert.MemAttnRefIdeal.nD Cert.MemAttnRefIdeal.τ).loc Cert.MemAttnRefIdeal.main_arg1)
      ∧ r.2.mem ((c.tc : Thread Cert.MemAttnRefIdeal.nD Cert.MemAttnRefIdeal.τ).loc Cert.MemAttnRefIdeal.main_arg2) = m ((c.tc : Thread Cert.MemAttnRefIdeal.nD Cert.MemAttnRefIdeal.τ).loc Cert.MemAttnRefIdeal.main_arg2)
      ∧ r.2.mem ((c.tc : Thread Cert.MemAttnRefIdeal.nD Cert.MemAttnRefIdeal.τ).loc Cert.MemAttnRefIdeal.main_arg3) = m ((c.tc : Thread Cert.MemAttnRefIdeal.nD Cert.MemAttnRefIdeal.τ).loc Cert.MemAttnRefIdeal.main_arg3)
      ∧ r.2.mem ((c.tc : Thread Cert.MemAttnRefIdeal.nD Cert.MemAttnRefIdeal.τ).loc Cert.MemAttnRefIdeal.main_arg4) = m ((c.tc : Thread Cert.MemAttnRefIdeal.nD Cert.MemAttnRefIdeal.τ).loc Cert.MemAttnRefIdeal.main_arg4))
      ∧ r.2.sem = fun _ => 0)

def preserves_PoolBwd_PoolBwdIdeal : Prop :=
  True

def algebraic_PoolBwdIdeal_PoolBwdRefIdeal_pre_pool_finite [hPoolBwdIdeal : Cert.PoolBwdIdeal.Facts] [hPoolBwdRefIdeal : Cert.PoolBwdRefIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v16_0)) (v1 : (c : Dev Cert.PoolBwdIdeal.nD) → Buf (Elt Ideal) ((c.tc : Thread Cert.PoolBwdIdeal.nD Cert.PoolBwdIdeal.τ).loc Cert.PoolBwdIdeal.main_v25)) (v2 : (c : Dev Cert.PoolBwdIdeal.nD) → Buf (Elt Ideal) ((c.tc : Thread Cert.PoolBwdIdeal.nD Cert.PoolBwdIdeal.τ).loc Cert.PoolBwdIdeal.main_v16_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v16_0) = v0 c
          ∧ r.2.mem ((c.tc : Thread Cert.PoolBwdIdeal.nD Cert.PoolBwdIdeal.τ).loc Cert.PoolBwdIdeal.main_v25) = v1 c
          ∧ r.2.mem ((c.tc : Thread Cert.PoolBwdIdeal.nD Cert.PoolBwdIdeal.τ).loc Cert.PoolBwdIdeal.main_v16_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v128) = v0 c
          ∧ r.2.mem ((c.tc : Thread Cert.PoolBwdRefIdeal.nD Cert.PoolBwdRefIdeal.τ).loc Cert.PoolBwdRefIdeal.main_v82) = v1 c
          ∧ r.2.mem ((c.tc : Thread Cert.PoolBwdRefIdeal.nD Cert.PoolBwdRefIdeal.τ).loc Cert.PoolBwdRefIdeal.main_v129) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_Flash_FlashIdeal : Prop :=
  IdealRules.named_const.Statement Cert.FlashIdeal.κ "mask" .f32 0xF149F2CA#32 ⊥

def algebraic_FlashIdeal_FlashRefIdeal_pre_flash_finite [hFlashIdeal : Cert.FlashIdeal.Facts] [hFlashRefIdeal : Cert.FlashRefIdeal.Facts] [hPre_flash_finite : Cert.Pre_flash_finite.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_flash_finite m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v5)) (v1 : (c : Dev Cert.FlashIdeal.nD) → Buf (Elt Ideal) ((c.tc : Thread Cert.FlashIdeal.nD Cert.FlashIdeal.τ).loc Cert.FlashIdeal.main_v4_0)) (v2 : (c : Dev Cert.FlashIdeal.nD) → Buf (Elt Ideal) ((c.tc : Thread Cert.FlashIdeal.nD Cert.FlashIdeal.τ).loc Cert.FlashIdeal.main_v4_1)) (v3 : (c : Dev Cert.FlashIdeal.nD) → Buf (Elt Ideal) ((c.tc : Thread Cert.FlashIdeal.nD Cert.FlashIdeal.τ).loc Cert.FlashIdeal.main_v4_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v5) = v0 c
          ∧ r.2.mem ((c.tc : Thread Cert.FlashIdeal.nD Cert.FlashIdeal.τ).loc Cert.FlashIdeal.main_v4_0) = v1 c
          ∧ r.2.mem ((c.tc : Thread Cert.FlashIdeal.nD Cert.FlashIdeal.τ).loc Cert.FlashIdeal.main_v4_1) = v2 c
          ∧ r.2.mem ((c.tc : Thread Cert.FlashIdeal.nD Cert.FlashIdeal.τ).loc Cert.FlashIdeal.main_v4_2) = v3 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v75) = v0 c
          ∧ r.2.mem ((c.tc : Thread Cert.FlashRefIdeal.nD Cert.FlashRefIdeal.τ).loc Cert.FlashRefIdeal.main_v76) = v1 c
          ∧ r.2.mem ((c.tc : Thread Cert.FlashRefIdeal.nD Cert.FlashRefIdeal.τ).loc Cert.FlashRefIdeal.main_v77) = v2 c
          ∧ r.2.mem ((c.tc : Thread Cert.FlashRefIdeal.nD Cert.FlashRefIdeal.τ).loc Cert.FlashRefIdeal.main_v78) = v3 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v14)) (v1 : (c : Dev Cert.FfnIdeal.nD) → Buf (Elt Ideal) ((c.tc : Thread Cert.FfnIdeal.nD Cert.FfnIdeal.τ).loc Cert.FfnIdeal.main_v7_1)) (v2 : (c : Dev Cert.FfnIdeal.nD) → Buf (Elt Ideal) ((c.tc : Thread Cert.FfnIdeal.nD Cert.FfnIdeal.τ).loc Cert.FfnIdeal.main_v17)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v14) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_v17) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_v16) = v1 c
          ∧ r.2.mem ((c.tc : Thread Cert.FfnRefIdeal.nD Cert.FfnRefIdeal.τ).loc Cert.FfnRefIdeal.main_v17) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_LossLn_LossLnIdeal : Prop :=
  True

def algebraic_LossLnIdeal_LossLnRefIdeal_pre_loss_finite [hLossLnIdeal : Cert.LossLnIdeal.Facts] [hLossLnRefIdeal : Cert.LossLnRefIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_loss_finite m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)
      ∧ m' ((c.tc : Thread Cert.LossLnRefIdeal.nD Cert.LossLnRefIdeal.τ).loc Cert.LossLnRefIdeal.main_arg4) = m ((c.tc : Thread Cert.LossLnIdeal.nD Cert.LossLnIdeal.τ).loc Cert.LossLnIdeal.main_arg4)
      ∧ m' ((c.tc : Thread Cert.LossLnRefIdeal.nD Cert.LossLnRefIdeal.τ).loc Cert.LossLnRefIdeal.main_arg5) = m ((c.tc : Thread Cert.LossLnIdeal.nD Cert.LossLnIdeal.τ).loc Cert.LossLnIdeal.main_arg5)) →
    ∃ (v0 : (c : Dev Cert.LossLnIdeal.nD) → Buf (Elt Ideal) ((c.tc : Thread Cert.LossLnIdeal.nD Cert.LossLnIdeal.τ).loc Cert.LossLnIdeal.main_v3_0)) (v1 : (c : Dev Cert.LossLnIdeal.nD) → Buf (Elt Ideal) ((c.tc : Thread Cert.LossLnIdeal.nD Cert.LossLnIdeal.τ).loc Cert.LossLnIdeal.main_v3_1)) (v2 : (c : Dev Cert.LossLnIdeal.nD) → Buf (Elt Ideal) ((c.tc : Thread Cert.LossLnIdeal.nD Cert.LossLnIdeal.τ).loc Cert.LossLnIdeal.main_v4_0)) (v3 : (c : Dev Cert.LossLnIdeal.nD) → Buf (Elt Ideal) ((c.tc : Thread Cert.LossLnIdeal.nD Cert.LossLnIdeal.τ).loc Cert.LossLnIdeal.main_v4_1)) (v4 : (c : Dev Cert.LossLnIdeal.nD) → Buf (Elt Ideal) ((c.tc : Thread Cert.LossLnIdeal.nD Cert.LossLnIdeal.τ).loc Cert.LossLnIdeal.main_v4_2)) (v5 : (c : Dev Cert.LossLnIdeal.nD) → Buf (Elt Ideal) ((c.tc : Thread Cert.LossLnIdeal.nD Cert.LossLnIdeal.τ).loc Cert.LossLnIdeal.main_v4_3)) (v6 : (c : Dev Cert.LossLnIdeal.nD) → Buf (Elt Ideal) ((c.tc : Thread Cert.LossLnIdeal.nD Cert.LossLnIdeal.τ).loc Cert.LossLnIdeal.main_v6)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v3_0) = v0 c
          ∧ r.2.mem ((c.tc : Thread Cert.LossLnIdeal.nD Cert.LossLnIdeal.τ).loc Cert.LossLnIdeal.main_v3_1) = v1 c
          ∧ r.2.mem ((c.tc : Thread Cert.LossLnIdeal.nD Cert.LossLnIdeal.τ).loc Cert.LossLnIdeal.main_v4_0) = v2 c
          ∧ r.2.mem ((c.tc : Thread Cert.LossLnIdeal.nD Cert.LossLnIdeal.τ).loc Cert.LossLnIdeal.main_v4_1) = v3 c
          ∧ r.2.mem ((c.tc : Thread Cert.LossLnIdeal.nD Cert.LossLnIdeal.τ).loc Cert.LossLnIdeal.main_v4_2) = v4 c
          ∧ r.2.mem ((c.tc : Thread Cert.LossLnIdeal.nD Cert.LossLnIdeal.τ).loc Cert.LossLnIdeal.main_v4_3) = v5 c
          ∧ r.2.mem ((c.tc : Thread Cert.LossLnIdeal.nD Cert.LossLnIdeal.τ).loc Cert.LossLnIdeal.main_v6) = v6 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
          ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
          ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v89) = v0 c
          ∧ r.2.mem ((c.tc : Thread Cert.LossLnRefIdeal.nD Cert.LossLnRefIdeal.τ).loc Cert.LossLnRefIdeal.main_v36) = v1 c
          ∧ r.2.mem ((c.tc : Thread Cert.LossLnRefIdeal.nD Cert.LossLnRefIdeal.τ).loc Cert.LossLnRefIdeal.main_v88) = v2 c
          ∧ r.2.mem ((c.tc : Thread Cert.LossLnRefIdeal.nD Cert.LossLnRefIdeal.τ).loc Cert.LossLnRefIdeal.main_v90) = v3 c
          ∧ r.2.mem ((c.tc : Thread Cert.LossLnRefIdeal.nD Cert.LossLnRefIdeal.τ).loc Cert.LossLnRefIdeal.main_v91) = v4 c
          ∧ r.2.mem ((c.tc : Thread Cert.LossLnRefIdeal.nD Cert.LossLnRefIdeal.τ).loc Cert.LossLnRefIdeal.main_v92) = v5 c
          ∧ r.2.mem ((c.tc : Thread Cert.LossLnRefIdeal.nD Cert.LossLnRefIdeal.τ).loc Cert.LossLnRefIdeal.main_v93) = v6 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3)
          ∧ r.2.mem ((c.tc : Thread Cert.LossLnRefIdeal.nD Cert.LossLnRefIdeal.τ).loc Cert.LossLnRefIdeal.main_arg4) = m' ((c.tc : Thread Cert.LossLnRefIdeal.nD Cert.LossLnRefIdeal.τ).loc Cert.LossLnRefIdeal.main_arg4)
          ∧ r.2.mem ((c.tc : Thread Cert.LossLnRefIdeal.nD Cert.LossLnRefIdeal.τ).loc Cert.LossLnRefIdeal.main_arg5) = m' ((c.tc : Thread Cert.LossLnRefIdeal.nD Cert.LossLnRefIdeal.τ).loc Cert.LossLnRefIdeal.main_arg5))

def preserves_MixLn_MixLnIdeal : Prop :=
  True

def algebraic_MixLnIdeal_MixLnRefIdeal_pre_mix_finite [hMixLnIdeal : Cert.MixLnIdeal.Facts] [hMixLnRefIdeal : Cert.MixLnRefIdeal.Facts] [hPre_mix_finite : Cert.Pre_mix_finite.Facts] : Prop :=
  ∀ (m : (ℓ : Loc Cert.MixLnIdeal.nD Cert.MixLnIdeal.τ Cert.MixLnIdeal.sig) → Buf (Elt Ideal) ℓ) (g : Dev Cert.MixLnIdeal.nD → PrngReg)
    (m' : (ℓ : Loc Cert.MixLnRefIdeal.nD Cert.MixLnRefIdeal.τ Cert.MixLnRefIdeal.sig) → Buf (Elt Ideal) ℓ) (g' : Dev Cert.MixLnRefIdeal.nD → PrngReg), Pre_MixLnIdeal_mix_finite m →
    (∀ c : Dev Cert.MixLnIdeal.nD,
      m' ((c.tc : Thread Cert.MixLnRefIdeal.nD Cert.MixLnRefIdeal.τ).loc Cert.MixLnRefIdeal.main_arg0) = m ((c.tc : Thread Cert.MixLnIdeal.nD Cert.MixLnIdeal.τ).loc Cert.MixLnIdeal.main_arg0)
      ∧ m' ((c.tc : Thread Cert.MixLnRefIdeal.nD Cert.MixLnRefIdeal.τ).loc Cert.MixLnRefIdeal.main_arg1) = m ((c.tc : Thread Cert.MixLnIdeal.nD Cert.MixLnIdeal.τ).loc Cert.MixLnIdeal.main_arg1)
      ∧ m' ((c.tc : Thread Cert.MixLnRefIdeal.nD Cert.MixLnRefIdeal.τ).loc Cert.MixLnRefIdeal.main_arg2) = m ((c.tc : Thread Cert.MixLnIdeal.nD Cert.MixLnIdeal.τ).loc Cert.MixLnIdeal.main_arg2)
      ∧ m' ((c.tc : Thread Cert.MixLnRefIdeal.nD Cert.MixLnRefIdeal.τ).loc Cert.MixLnRefIdeal.main_arg3) = m ((c.tc : Thread Cert.MixLnIdeal.nD Cert.MixLnIdeal.τ).loc Cert.MixLnIdeal.main_arg3)
      ∧ m' ((c.tc : Thread Cert.MixLnRefIdeal.nD Cert.MixLnRefIdeal.τ).loc Cert.MixLnRefIdeal.main_arg4) = m ((c.tc : Thread Cert.MixLnIdeal.nD Cert.MixLnIdeal.τ).loc Cert.MixLnIdeal.main_arg4)
      ∧ m' ((c.tc : Thread Cert.MixLnRefIdeal.nD Cert.MixLnRefIdeal.τ).loc Cert.MixLnRefIdeal.main_arg5) = m ((c.tc : Thread Cert.MixLnIdeal.nD Cert.MixLnIdeal.τ).loc Cert.MixLnIdeal.main_arg5)
      ∧ m' ((c.tc : Thread Cert.MixLnRefIdeal.nD Cert.MixLnRefIdeal.τ).loc Cert.MixLnRefIdeal.main_arg6) = m ((c.tc : Thread Cert.MixLnIdeal.nD Cert.MixLnIdeal.τ).loc Cert.MixLnIdeal.main_arg6)
      ∧ m' ((c.tc : Thread Cert.MixLnRefIdeal.nD Cert.MixLnRefIdeal.τ).loc Cert.MixLnRefIdeal.main_arg7) = m ((c.tc : Thread Cert.MixLnIdeal.nD Cert.MixLnIdeal.τ).loc Cert.MixLnIdeal.main_arg7)) →
    ∃ (v0 : (c : Dev Cert.MixLnIdeal.nD) → Buf (Elt Ideal) ((c.tc : Thread Cert.MixLnIdeal.nD Cert.MixLnIdeal.τ).loc Cert.MixLnIdeal.main_v3_1)) (v1 : (c : Dev Cert.MixLnIdeal.nD) → Buf (Elt Ideal) ((c.tc : Thread Cert.MixLnIdeal.nD Cert.MixLnIdeal.τ).loc Cert.MixLnIdeal.main_v14_0)) (v2 : (c : Dev Cert.MixLnIdeal.nD) → Buf (Elt Ideal) ((c.tc : Thread Cert.MixLnIdeal.nD Cert.MixLnIdeal.τ).loc Cert.MixLnIdeal.main_v14_1)) (v3 : (c : Dev Cert.MixLnIdeal.nD) → Buf (Elt Ideal) ((c.tc : Thread Cert.MixLnIdeal.nD Cert.MixLnIdeal.τ).loc Cert.MixLnIdeal.main_v14_2)) (v4 : (c : Dev Cert.MixLnIdeal.nD) → Buf (Elt Ideal) ((c.tc : Thread Cert.MixLnIdeal.nD Cert.MixLnIdeal.τ).loc Cert.MixLnIdeal.main_v14_3)),
      θ_run (Cert.MixLnIdeal.defs (F := Ideal)) (onTc (τ := Cert.MixLnIdeal.τ) (Cert.MixLnIdeal.main (F := Ideal))) ⟨m, fun _ => 0, g⟩ (fun r => ∀ c : Dev Cert.MixLnIdeal.nD,
          r.2.mem ((c.tc : Thread Cert.MixLnIdeal.nD Cert.MixLnIdeal.τ).loc Cert.MixLnIdeal.main_v3_1) = v0 c
          ∧ r.2.mem ((c.tc : Thread Cert.MixLnIdeal.nD Cert.MixLnIdeal.τ).loc Cert.MixLnIdeal.main_v14_0) = v1 c
          ∧ r.2.mem ((c.tc : Thread Cert.MixLnIdeal.nD Cert.MixLnIdeal.τ).loc Cert.MixLnIdeal.main_v14_1) = v2 c
          ∧ r.2.mem ((c.tc : Thread Cert.MixLnIdeal.nD Cert.MixLnIdeal.τ).loc Cert.MixLnIdeal.main_v14_2) = v3 c
          ∧ r.2.mem ((c.tc : Thread Cert.MixLnIdeal.nD Cert.MixLnIdeal.τ).loc Cert.MixLnIdeal.main_v14_3) = v4 c
          ∧ r.2.mem ((c.tc : Thread Cert.MixLnIdeal.nD Cert.MixLnIdeal.τ).loc Cert.MixLnIdeal.main_arg0) = m ((c.tc : Thread Cert.MixLnIdeal.nD Cert.MixLnIdeal.τ).loc Cert.MixLnIdeal.main_arg0)
          ∧ r.2.mem ((c.tc : Thread Cert.MixLnIdeal.nD Cert.MixLnIdeal.τ).loc Cert.MixLnIdeal.main_arg1) = m ((c.tc : Thread Cert.MixLnIdeal.nD Cert.MixLnIdeal.τ).loc Cert.MixLnIdeal.main_arg1)
          ∧ r.2.mem ((c.tc : Thread Cert.MixLnIdeal.nD Cert.MixLnIdeal.τ).loc Cert.MixLnIdeal.main_arg2) = m ((c.tc : Thread Cert.MixLnIdeal.nD Cert.MixLnIdeal.τ).loc Cert.MixLnIdeal.main_arg2)
          ∧ r.2.mem ((c.tc : Thread Cert.MixLnIdeal.nD Cert.MixLnIdeal.τ).loc Cert.MixLnIdeal.main_arg3) = m ((c.tc : Thread Cert.MixLnIdeal.nD Cert.MixLnIdeal.τ).loc Cert.MixLnIdeal.main_arg3)
          ∧ r.2.mem ((c.tc : Thread Cert.MixLnIdeal.nD Cert.MixLnIdeal.τ).loc Cert.MixLnIdeal.main_arg4) = m ((c.tc : Thread Cert.MixLnIdeal.nD Cert.MixLnIdeal.τ).loc Cert.MixLnIdeal.main_arg4)
          ∧ r.2.mem ((c.tc : Thread Cert.MixLnIdeal.nD Cert.MixLnIdeal.τ).loc Cert.MixLnIdeal.main_arg5) = m ((c.tc : Thread Cert.MixLnIdeal.nD Cert.MixLnIdeal.τ).loc Cert.MixLnIdeal.main_arg5)
          ∧ r.2.mem ((c.tc : Thread Cert.MixLnIdeal.nD Cert.MixLnIdeal.τ).loc Cert.MixLnIdeal.main_arg6) = m ((c.tc : Thread Cert.MixLnIdeal.nD Cert.MixLnIdeal.τ).loc Cert.MixLnIdeal.main_arg6)
          ∧ r.2.mem ((c.tc : Thread Cert.MixLnIdeal.nD Cert.MixLnIdeal.τ).loc Cert.MixLnIdeal.main_arg7) = m ((c.tc : Thread Cert.MixLnIdeal.nD Cert.MixLnIdeal.τ).loc Cert.MixLnIdeal.main_arg7))
      ∧ θ_run (Cert.MixLnRefIdeal.defs (F := Ideal)) (onTc (τ := Cert.MixLnRefIdeal.τ) (Cert.MixLnRefIdeal.main (F := Ideal))) ⟨m', fun _ => 0, g'⟩ (fun r => ∀ c : Dev Cert.MixLnRefIdeal.nD,
          r.2.mem ((c.tc : Thread Cert.MixLnRefIdeal.nD Cert.MixLnRefIdeal.τ).loc Cert.MixLnRefIdeal.main_v34) = v0 c
          ∧ r.2.mem ((c.tc : Thread Cert.MixLnRefIdeal.nD Cert.MixLnRefIdeal.τ).loc Cert.MixLnRefIdeal.main_v73) = v1 c
          ∧ r.2.mem ((c.tc : Thread Cert.MixLnRefIdeal.nD Cert.MixLnRefIdeal.τ).loc Cert.MixLnRefIdeal.main_v74) = v2 c
          ∧ r.2.mem ((c.tc : Thread Cert.MixLnRefIdeal.nD Cert.MixLnRefIdeal.τ).loc Cert.MixLnRefIdeal.main_v75) = v3 c
          ∧ r.2.mem ((c.tc : Thread Cert.MixLnRefIdeal.nD Cert.MixLnRefIdeal.τ).loc Cert.MixLnRefIdeal.main_v76) = v4 c
          ∧ r.2.mem ((c.tc : Thread Cert.MixLnRefIdeal.nD Cert.MixLnRefIdeal.τ).loc Cert.MixLnRefIdeal.main_arg0) = m' ((c.tc : Thread Cert.MixLnRefIdeal.nD Cert.MixLnRefIdeal.τ).loc Cert.MixLnRefIdeal.main_arg0)
          ∧ r.2.mem ((c.tc : Thread Cert.MixLnRefIdeal.nD Cert.MixLnRefIdeal.τ).loc Cert.MixLnRefIdeal.main_arg1) = m' ((c.tc : Thread Cert.MixLnRefIdeal.nD Cert.MixLnRefIdeal.τ).loc Cert.MixLnRefIdeal.main_arg1)
          ∧ r.2.mem ((c.tc : Thread Cert.MixLnRefIdeal.nD Cert.MixLnRefIdeal.τ).loc Cert.MixLnRefIdeal.main_arg2) = m' ((c.tc : Thread Cert.MixLnRefIdeal.nD Cert.MixLnRefIdeal.τ).loc Cert.MixLnRefIdeal.main_arg2)
          ∧ r.2.mem ((c.tc : Thread Cert.MixLnRefIdeal.nD Cert.MixLnRefIdeal.τ).loc Cert.MixLnRefIdeal.main_arg3) = m' ((c.tc : Thread Cert.MixLnRefIdeal.nD Cert.MixLnRefIdeal.τ).loc Cert.MixLnRefIdeal.main_arg3)
          ∧ r.2.mem ((c.tc : Thread Cert.MixLnRefIdeal.nD Cert.MixLnRefIdeal.τ).loc Cert.MixLnRefIdeal.main_arg4) = m' ((c.tc : Thread Cert.MixLnRefIdeal.nD Cert.MixLnRefIdeal.τ).loc Cert.MixLnRefIdeal.main_arg4)
          ∧ r.2.mem ((c.tc : Thread Cert.MixLnRefIdeal.nD Cert.MixLnRefIdeal.τ).loc Cert.MixLnRefIdeal.main_arg5) = m' ((c.tc : Thread Cert.MixLnRefIdeal.nD Cert.MixLnRefIdeal.τ).loc Cert.MixLnRefIdeal.main_arg5)
          ∧ r.2.mem ((c.tc : Thread Cert.MixLnRefIdeal.nD Cert.MixLnRefIdeal.τ).loc Cert.MixLnRefIdeal.main_arg6) = m' ((c.tc : Thread Cert.MixLnRefIdeal.nD Cert.MixLnRefIdeal.τ).loc Cert.MixLnRefIdeal.main_arg6)
          ∧ r.2.mem ((c.tc : Thread Cert.MixLnRefIdeal.nD Cert.MixLnRefIdeal.τ).loc Cert.MixLnRefIdeal.main_arg7) = m' ((c.tc : Thread Cert.MixLnRefIdeal.nD Cert.MixLnRefIdeal.τ).loc Cert.MixLnRefIdeal.main_arg7))

def preserves_Norms_NormsIdeal : Prop :=
  True

def algebraic_NormsIdeal_NormsRefIdeal [hNormsIdeal : Cert.NormsIdeal.Facts] [hNormsRefIdeal : Cert.NormsRefIdeal.Facts] : Prop :=
  ∀ (m : (ℓ : Loc Cert.NormsIdeal.nD Cert.NormsIdeal.τ Cert.NormsIdeal.sig) → Buf (Elt Ideal) ℓ) (g : Dev Cert.NormsIdeal.nD → PrngReg)
    (m' : (ℓ : Loc Cert.NormsRefIdeal.nD Cert.NormsRefIdeal.τ Cert.NormsRefIdeal.sig) → Buf (Elt Ideal) ℓ) (g' : Dev Cert.NormsRefIdeal.nD → PrngReg), Pre_NormsIdeal m →
    (∀ c : Dev Cert.NormsIdeal.nD,
      m' ((c.tc : Thread Cert.NormsRefIdeal.nD Cert.NormsRefIdeal.τ).loc Cert.NormsRefIdeal.main_arg0) = m ((c.tc : Thread Cert.NormsIdeal.nD Cert.NormsIdeal.τ).loc Cert.NormsIdeal.main_arg0)
      ∧ m' ((c.tc : Thread Cert.NormsRefIdeal.nD Cert.NormsRefIdeal.τ).loc Cert.NormsRefIdeal.main_arg1) = m ((c.tc : Thread Cert.NormsIdeal.nD Cert.NormsIdeal.τ).loc Cert.NormsIdeal.main_arg1)
      ∧ m' ((c.tc : Thread Cert.NormsRefIdeal.nD Cert.NormsRefIdeal.τ).loc Cert.NormsRefIdeal.main_arg2) = m ((c.tc : Thread Cert.NormsIdeal.nD Cert.NormsIdeal.τ).loc Cert.NormsIdeal.main_arg2)
      ∧ m' ((c.tc : Thread Cert.NormsRefIdeal.nD Cert.NormsRefIdeal.τ).loc Cert.NormsRefIdeal.main_arg3) = m ((c.tc : Thread Cert.NormsIdeal.nD Cert.NormsIdeal.τ).loc Cert.NormsIdeal.main_arg3)
      ∧ m' ((c.tc : Thread Cert.NormsRefIdeal.nD Cert.NormsRefIdeal.τ).loc Cert.NormsRefIdeal.main_arg4) = m ((c.tc : Thread Cert.NormsIdeal.nD Cert.NormsIdeal.τ).loc Cert.NormsIdeal.main_arg4)
      ∧ m' ((c.tc : Thread Cert.NormsRefIdeal.nD Cert.NormsRefIdeal.τ).loc Cert.NormsRefIdeal.main_arg5) = m ((c.tc : Thread Cert.NormsIdeal.nD Cert.NormsIdeal.τ).loc Cert.NormsIdeal.main_arg5)
      ∧ m' ((c.tc : Thread Cert.NormsRefIdeal.nD Cert.NormsRefIdeal.τ).loc Cert.NormsRefIdeal.main_arg6) = m ((c.tc : Thread Cert.NormsIdeal.nD Cert.NormsIdeal.τ).loc Cert.NormsIdeal.main_arg6)) →
    ∃ (v0 : (c : Dev Cert.NormsIdeal.nD) → Buf (Elt Ideal) ((c.tc : Thread Cert.NormsIdeal.nD Cert.NormsIdeal.τ).loc Cert.NormsIdeal.main_v3)) (v1 : (c : Dev Cert.NormsIdeal.nD) → Buf (Elt Ideal) ((c.tc : Thread Cert.NormsIdeal.nD Cert.NormsIdeal.τ).loc Cert.NormsIdeal.main_v2_1)) (v2 : (c : Dev Cert.NormsIdeal.nD) → Buf (Elt Ideal) ((c.tc : Thread Cert.NormsIdeal.nD Cert.NormsIdeal.τ).loc Cert.NormsIdeal.main_v2_2)),
      θ_run (Cert.NormsIdeal.defs (F := Ideal)) (onTc (τ := Cert.NormsIdeal.τ) (Cert.NormsIdeal.main (F := Ideal))) ⟨m, fun _ => 0, g⟩ (fun r => ∀ c : Dev Cert.NormsIdeal.nD,
          r.2.mem ((c.tc : Thread Cert.NormsIdeal.nD Cert.NormsIdeal.τ).loc Cert.NormsIdeal.main_v3) = v0 c
          ∧ r.2.mem ((c.tc : Thread Cert.NormsIdeal.nD Cert.NormsIdeal.τ).loc Cert.NormsIdeal.main_v2_1) = v1 c
          ∧ r.2.mem ((c.tc : Thread Cert.NormsIdeal.nD Cert.NormsIdeal.τ).loc Cert.NormsIdeal.main_v2_2) = v2 c
          ∧ r.2.mem ((c.tc : Thread Cert.NormsIdeal.nD Cert.NormsIdeal.τ).loc Cert.NormsIdeal.main_arg0) = m ((c.tc : Thread Cert.NormsIdeal.nD Cert.NormsIdeal.τ).loc Cert.NormsIdeal.main_arg0)
          ∧ r.2.mem ((c.tc : Thread Cert.NormsIdeal.nD Cert.NormsIdeal.τ).loc Cert.NormsIdeal.main_arg1) = m ((c.tc : Thread Cert.NormsIdeal.nD Cert.NormsIdeal.τ).loc Cert.NormsIdeal.main_arg1)
          ∧ r.2.mem ((c.tc : Thread Cert.NormsIdeal.nD Cert.NormsIdeal.τ).loc Cert.NormsIdeal.main_arg2) = m ((c.tc : Thread Cert.NormsIdeal.nD Cert.NormsIdeal.τ).loc Cert.NormsIdeal.main_arg2)
          ∧ r.2.mem ((c.tc : Thread Cert.NormsIdeal.nD Cert.NormsIdeal.τ).loc Cert.NormsIdeal.main_arg3) = m ((c.tc : Thread Cert.NormsIdeal.nD Cert.NormsIdeal.τ).loc Cert.NormsIdeal.main_arg3)
          ∧ r.2.mem ((c.tc : Thread Cert.NormsIdeal.nD Cert.NormsIdeal.τ).loc Cert.NormsIdeal.main_arg4) = m ((c.tc : Thread Cert.NormsIdeal.nD Cert.NormsIdeal.τ).loc Cert.NormsIdeal.main_arg4)
          ∧ r.2.mem ((c.tc : Thread Cert.NormsIdeal.nD Cert.NormsIdeal.τ).loc Cert.NormsIdeal.main_arg5) = m ((c.tc : Thread Cert.NormsIdeal.nD Cert.NormsIdeal.τ).loc Cert.NormsIdeal.main_arg5)
          ∧ r.2.mem ((c.tc : Thread Cert.NormsIdeal.nD Cert.NormsIdeal.τ).loc Cert.NormsIdeal.main_arg6) = m ((c.tc : Thread Cert.NormsIdeal.nD Cert.NormsIdeal.τ).loc Cert.NormsIdeal.main_arg6))
      ∧ θ_run (Cert.NormsRefIdeal.defs (F := Ideal)) (onTc (τ := Cert.NormsRefIdeal.τ) (Cert.NormsRefIdeal.main (F := Ideal))) ⟨m', fun _ => 0, g'⟩ (fun r => ∀ c : Dev Cert.NormsRefIdeal.nD,
          r.2.mem ((c.tc : Thread Cert.NormsRefIdeal.nD Cert.NormsRefIdeal.τ).loc Cert.NormsRefIdeal.main_v85) = v0 c
          ∧ r.2.mem ((c.tc : Thread Cert.NormsRefIdeal.nD Cert.NormsRefIdeal.τ).loc Cert.NormsRefIdeal.main_v86) = v1 c
          ∧ r.2.mem ((c.tc : Thread Cert.NormsRefIdeal.nD Cert.NormsRefIdeal.τ).loc Cert.NormsRefIdeal.main_v87) = v2 c
          ∧ r.2.mem ((c.tc : Thread Cert.NormsRefIdeal.nD Cert.NormsRefIdeal.τ).loc Cert.NormsRefIdeal.main_arg0) = m' ((c.tc : Thread Cert.NormsRefIdeal.nD Cert.NormsRefIdeal.τ).loc Cert.NormsRefIdeal.main_arg0)
          ∧ r.2.mem ((c.tc : Thread Cert.NormsRefIdeal.nD Cert.NormsRefIdeal.τ).loc Cert.NormsRefIdeal.main_arg1) = m' ((c.tc : Thread Cert.NormsRefIdeal.nD Cert.NormsRefIdeal.τ).loc Cert.NormsRefIdeal.main_arg1)
          ∧ r.2.mem ((c.tc : Thread Cert.NormsRefIdeal.nD Cert.NormsRefIdeal.τ).loc Cert.NormsRefIdeal.main_arg2) = m' ((c.tc : Thread Cert.NormsRefIdeal.nD Cert.NormsRefIdeal.τ).loc Cert.NormsRefIdeal.main_arg2)
          ∧ r.2.mem ((c.tc : Thread Cert.NormsRefIdeal.nD Cert.NormsRefIdeal.τ).loc Cert.NormsRefIdeal.main_arg3) = m' ((c.tc : Thread Cert.NormsRefIdeal.nD Cert.NormsRefIdeal.τ).loc Cert.NormsRefIdeal.main_arg3)
          ∧ r.2.mem ((c.tc : Thread Cert.NormsRefIdeal.nD Cert.NormsRefIdeal.τ).loc Cert.NormsRefIdeal.main_arg4) = m' ((c.tc : Thread Cert.NormsRefIdeal.nD Cert.NormsRefIdeal.τ).loc Cert.NormsRefIdeal.main_arg4)
          ∧ r.2.mem ((c.tc : Thread Cert.NormsRefIdeal.nD Cert.NormsRefIdeal.τ).loc Cert.NormsRefIdeal.main_arg5) = m' ((c.tc : Thread Cert.NormsRefIdeal.nD Cert.NormsRefIdeal.τ).loc Cert.NormsRefIdeal.main_arg5)
          ∧ r.2.mem ((c.tc : Thread Cert.NormsRefIdeal.nD Cert.NormsRefIdeal.τ).loc Cert.NormsRefIdeal.main_arg6) = m' ((c.tc : Thread Cert.NormsRefIdeal.nD Cert.NormsRefIdeal.τ).loc Cert.NormsRefIdeal.main_arg6))

def preserves_MemAttn_MemAttnIdeal : Prop :=
  True

def algebraic_MemAttnIdeal_MemAttnRefIdeal [hMemAttnIdeal : Cert.MemAttnIdeal.Facts] [hMemAttnRefIdeal : Cert.MemAttnRefIdeal.Facts] : Prop :=
  ∀ (m : (ℓ : Loc Cert.MemAttnIdeal.nD Cert.MemAttnIdeal.τ Cert.MemAttnIdeal.sig) → Buf (Elt Ideal) ℓ) (g : Dev Cert.MemAttnIdeal.nD → PrngReg)
    (m' : (ℓ : Loc Cert.MemAttnRefIdeal.nD Cert.MemAttnRefIdeal.τ Cert.MemAttnRefIdeal.sig) → Buf (Elt Ideal) ℓ) (g' : Dev Cert.MemAttnRefIdeal.nD → PrngReg), Pre_MemAttnIdeal m →
    (∀ c : Dev Cert.MemAttnIdeal.nD,
      m' ((c.tc : Thread Cert.MemAttnRefIdeal.nD Cert.MemAttnRefIdeal.τ).loc Cert.MemAttnRefIdeal.main_arg0) = m ((c.tc : Thread Cert.MemAttnIdeal.nD Cert.MemAttnIdeal.τ).loc Cert.MemAttnIdeal.main_arg0)
      ∧ m' ((c.tc : Thread Cert.MemAttnRefIdeal.nD Cert.MemAttnRefIdeal.τ).loc Cert.MemAttnRefIdeal.main_arg1) = m ((c.tc : Thread Cert.MemAttnIdeal.nD Cert.MemAttnIdeal.τ).loc Cert.MemAttnIdeal.main_arg1)
      ∧ m' ((c.tc : Thread Cert.MemAttnRefIdeal.nD Cert.MemAttnRefIdeal.τ).loc Cert.MemAttnRefIdeal.main_arg2) = m ((c.tc : Thread Cert.MemAttnIdeal.nD Cert.MemAttnIdeal.τ).loc Cert.MemAttnIdeal.main_arg2)
      ∧ m' ((c.tc : Thread Cert.MemAttnRefIdeal.nD Cert.MemAttnRefIdeal.τ).loc Cert.MemAttnRefIdeal.main_arg3) = m ((c.tc : Thread Cert.MemAttnIdeal.nD Cert.MemAttnIdeal.τ).loc Cert.MemAttnIdeal.main_arg3)
      ∧ m' ((c.tc : Thread Cert.MemAttnRefIdeal.nD Cert.MemAttnRefIdeal.τ).loc Cert.MemAttnRefIdeal.main_arg4) = m ((c.tc : Thread Cert.MemAttnIdeal.nD Cert.MemAttnIdeal.τ).loc Cert.MemAttnIdeal.main_arg4)) →
    ∃ (v0 : (c : Dev Cert.MemAttnIdeal.nD) → Buf (Elt Ideal) ((c.tc : Thread Cert.MemAttnIdeal.nD Cert.MemAttnIdeal.τ).loc Cert.MemAttnIdeal.main_v2_0)) (v1 : (c : Dev Cert.MemAttnIdeal.nD) → Buf (Elt Ideal) ((c.tc : Thread Cert.MemAttnIdeal.nD Cert.MemAttnIdeal.τ).loc Cert.MemAttnIdeal.main_v4_0)) (v2 : (c : Dev Cert.MemAttnIdeal.nD) → Buf (Elt Ideal) ((c.tc : Thread Cert.MemAttnIdeal.nD Cert.MemAttnIdeal.τ).loc Cert.MemAttnIdeal.main_v4_1)) (v3 : (c : Dev Cert.MemAttnIdeal.nD) → Buf (Elt Ideal) ((c.tc : Thread Cert.MemAttnIdeal.nD Cert.MemAttnIdeal.τ).loc Cert.MemAttnIdeal.main_v4_2)),
      θ_run (Cert.MemAttnIdeal.defs (F := Ideal)) (onTc (τ := Cert.MemAttnIdeal.τ) (Cert.MemAttnIdeal.main (F := Ideal))) ⟨m, fun _ => 0, g⟩ (fun r => ∀ c : Dev Cert.MemAttnIdeal.nD,
          r.2.mem ((c.tc : Thread Cert.MemAttnIdeal.nD Cert.MemAttnIdeal.τ).loc Cert.MemAttnIdeal.main_v2_0) = v0 c
          ∧ r.2.mem ((c.tc : Thread Cert.MemAttnIdeal.nD Cert.MemAttnIdeal.τ).loc Cert.MemAttnIdeal.main_v4_0) = v1 c
          ∧ r.2.mem ((c.tc : Thread Cert.MemAttnIdeal.nD Cert.MemAttnIdeal.τ).loc Cert.MemAttnIdeal.main_v4_1) = v2 c
          ∧ r.2.mem ((c.tc : Thread Cert.MemAttnIdeal.nD Cert.MemAttnIdeal.τ).loc Cert.MemAttnIdeal.main_v4_2) = v3 c
          ∧ r.2.mem ((c.tc : Thread Cert.MemAttnIdeal.nD Cert.MemAttnIdeal.τ).loc Cert.MemAttnIdeal.main_arg0) = m ((c.tc : Thread Cert.MemAttnIdeal.nD Cert.MemAttnIdeal.τ).loc Cert.MemAttnIdeal.main_arg0)
          ∧ r.2.mem ((c.tc : Thread Cert.MemAttnIdeal.nD Cert.MemAttnIdeal.τ).loc Cert.MemAttnIdeal.main_arg1) = m ((c.tc : Thread Cert.MemAttnIdeal.nD Cert.MemAttnIdeal.τ).loc Cert.MemAttnIdeal.main_arg1)
          ∧ r.2.mem ((c.tc : Thread Cert.MemAttnIdeal.nD Cert.MemAttnIdeal.τ).loc Cert.MemAttnIdeal.main_arg2) = m ((c.tc : Thread Cert.MemAttnIdeal.nD Cert.MemAttnIdeal.τ).loc Cert.MemAttnIdeal.main_arg2)
          ∧ r.2.mem ((c.tc : Thread Cert.MemAttnIdeal.nD Cert.MemAttnIdeal.τ).loc Cert.MemAttnIdeal.main_arg3) = m ((c.tc : Thread Cert.MemAttnIdeal.nD Cert.MemAttnIdeal.τ).loc Cert.MemAttnIdeal.main_arg3)
          ∧ r.2.mem ((c.tc : Thread Cert.MemAttnIdeal.nD Cert.MemAttnIdeal.τ).loc Cert.MemAttnIdeal.main_arg4) = m ((c.tc : Thread Cert.MemAttnIdeal.nD Cert.MemAttnIdeal.τ).loc Cert.MemAttnIdeal.main_arg4))
      ∧ θ_run (Cert.MemAttnRefIdeal.defs (F := Ideal)) (onTc (τ := Cert.MemAttnRefIdeal.τ) (Cert.MemAttnRefIdeal.main (F := Ideal))) ⟨m', fun _ => 0, g'⟩ (fun r => ∀ c : Dev Cert.MemAttnRefIdeal.nD,
          r.2.mem ((c.tc : Thread Cert.MemAttnRefIdeal.nD Cert.MemAttnRefIdeal.τ).loc Cert.MemAttnRefIdeal.main_v64) = v0 c
          ∧ r.2.mem ((c.tc : Thread Cert.MemAttnRefIdeal.nD Cert.MemAttnRefIdeal.τ).loc Cert.MemAttnRefIdeal.main_v65) = v1 c
          ∧ r.2.mem ((c.tc : Thread Cert.MemAttnRefIdeal.nD Cert.MemAttnRefIdeal.τ).loc Cert.MemAttnRefIdeal.main_v62) = v2 c
          ∧ r.2.mem ((c.tc : Thread Cert.MemAttnRefIdeal.nD Cert.MemAttnRefIdeal.τ).loc Cert.MemAttnRefIdeal.main_v61) = v3 c
          ∧ r.2.mem ((c.tc : Thread Cert.MemAttnRefIdeal.nD Cert.MemAttnRefIdeal.τ).loc Cert.MemAttnRefIdeal.main_arg0) = m' ((c.tc : Thread Cert.MemAttnRefIdeal.nD Cert.MemAttnRefIdeal.τ).loc Cert.MemAttnRefIdeal.main_arg0)
          ∧ r.2.mem ((c.tc : Thread Cert.MemAttnRefIdeal.nD Cert.MemAttnRefIdeal.τ).loc Cert.MemAttnRefIdeal.main_arg1) = m' ((c.tc : Thread Cert.MemAttnRefIdeal.nD Cert.MemAttnRefIdeal.τ).loc Cert.MemAttnRefIdeal.main_arg1)
          ∧ r.2.mem ((c.tc : Thread Cert.MemAttnRefIdeal.nD Cert.MemAttnRefIdeal.τ).loc Cert.MemAttnRefIdeal.main_arg2) = m' ((c.tc : Thread Cert.MemAttnRefIdeal.nD Cert.MemAttnRefIdeal.τ).loc Cert.MemAttnRefIdeal.main_arg2)
          ∧ r.2.mem ((c.tc : Thread Cert.MemAttnRefIdeal.nD Cert.MemAttnRefIdeal.τ).loc Cert.MemAttnRefIdeal.main_arg3) = m' ((c.tc : Thread Cert.MemAttnRefIdeal.nD Cert.MemAttnRefIdeal.τ).loc Cert.MemAttnRefIdeal.main_arg3)
          ∧ r.2.mem ((c.tc : Thread Cert.MemAttnRefIdeal.nD Cert.MemAttnRefIdeal.τ).loc Cert.MemAttnRefIdeal.main_arg4) = m' ((c.tc : Thread Cert.MemAttnRefIdeal.nD Cert.MemAttnRefIdeal.τ).loc Cert.MemAttnRefIdeal.main_arg4))

def Claim : Prop :=
  ∃ (hPoolBwd : Cert.PoolBwd.Facts) (hPoolBwdIdeal : Cert.PoolBwdIdeal.Facts) (hPoolBwdRefIdeal : Cert.PoolBwdRefIdeal.Facts) (hFlash : Cert.Flash.Facts) (hFlashIdeal : Cert.FlashIdeal.Facts) (hFlashRefIdeal : Cert.FlashRefIdeal.Facts) (hFfn : Cert.Ffn.Facts) (hFfnIdeal : Cert.FfnIdeal.Facts) (hFfnRefIdeal : Cert.FfnRefIdeal.Facts) (hLossLn : Cert.LossLn.Facts) (hLossLnIdeal : Cert.LossLnIdeal.Facts) (hLossLnRefIdeal : Cert.LossLnRefIdeal.Facts) (hMixLn : Cert.MixLn.Facts) (hMixLnIdeal : Cert.MixLnIdeal.Facts) (hMixLnRefIdeal : Cert.MixLnRefIdeal.Facts) (hNorms : Cert.Norms.Facts) (hNormsIdeal : Cert.NormsIdeal.Facts) (hNormsRefIdeal : Cert.NormsRefIdeal.Facts) (hMemAttn : Cert.MemAttn.Facts) (hMemAttnIdeal : Cert.MemAttnIdeal.Facts) (hMemAttnRefIdeal : Cert.MemAttnRefIdeal.Facts) (hPre_pool_finite : Cert.Pre_pool_finite.Facts) (hPre_flash_finite : Cert.Pre_flash_finite.Facts) (hPre_ffn_finite : Cert.Pre_ffn_finite.Facts) (hPre_loss_finite : Cert.Pre_loss_finite.Facts) (hPre_mix_finite : Cert.Pre_mix_finite.Facts),
    quiescent_PoolBwd (hPoolBwd := hPoolBwd)
    ∧ quiescent_PoolBwdIdeal (hPoolBwdIdeal := hPoolBwdIdeal)
    ∧ quiescent_PoolBwdIdeal_pre_pool_finite (hPoolBwdIdeal := hPoolBwdIdeal) (hPre_pool_finite := hPre_pool_finite)
    ∧ quiescent_PoolBwdRefIdeal (hPoolBwdRefIdeal := hPoolBwdRefIdeal)
    ∧ quiescent_PoolBwdRefIdeal_pre_pool_finite (hPoolBwdRefIdeal := hPoolBwdRefIdeal) (hPre_pool_finite := hPre_pool_finite)
    ∧ quiescent_Flash (hFlash := hFlash)
    ∧ quiescent_FlashIdeal (hFlashIdeal := hFlashIdeal)
    ∧ quiescent_FlashIdeal_pre_flash_finite (hFlashIdeal := hFlashIdeal) (hPre_flash_finite := hPre_flash_finite)
    ∧ quiescent_FlashRefIdeal (hFlashRefIdeal := hFlashRefIdeal)
    ∧ quiescent_FlashRefIdeal_pre_flash_finite (hFlashRefIdeal := hFlashRefIdeal) (hPre_flash_finite := hPre_flash_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_LossLn (hLossLn := hLossLn)
    ∧ quiescent_LossLnIdeal (hLossLnIdeal := hLossLnIdeal)
    ∧ quiescent_LossLnIdeal_pre_loss_finite (hLossLnIdeal := hLossLnIdeal) (hPre_loss_finite := hPre_loss_finite)
    ∧ quiescent_LossLnRefIdeal (hLossLnRefIdeal := hLossLnRefIdeal)
    ∧ quiescent_LossLnRefIdeal_pre_loss_finite (hLossLnRefIdeal := hLossLnRefIdeal) (hPre_loss_finite := hPre_loss_finite)
    ∧ quiescent_MixLn (hMixLn := hMixLn)
    ∧ quiescent_MixLnIdeal (hMixLnIdeal := hMixLnIdeal)
    ∧ quiescent_MixLnIdeal_pre_mix_finite (hMixLnIdeal := hMixLnIdeal) (hPre_mix_finite := hPre_mix_finite)
    ∧ quiescent_MixLnRefIdeal (hMixLnRefIdeal := hMixLnRefIdeal)
    ∧ quiescent_MixLnRefIdeal_pre_mix_finite (hMixLnRefIdeal := hMixLnRefIdeal) (hPre_mix_finite := hPre_mix_finite)
    ∧ quiescent_Norms (hNorms := hNorms)
    ∧ quiescent_NormsIdeal (hNormsIdeal := hNormsIdeal)
    ∧ quiescent_NormsRefIdeal (hNormsRefIdeal := hNormsRefIdeal)
    ∧ quiescent_MemAttn (hMemAttn := hMemAttn)
    ∧ quiescent_MemAttnIdeal (hMemAttnIdeal := hMemAttnIdeal)
    ∧ quiescent_MemAttnRefIdeal (hMemAttnRefIdeal := hMemAttnRefIdeal)
    ∧ preserves_PoolBwd_PoolBwdIdeal
    ∧ algebraic_PoolBwdIdeal_PoolBwdRefIdeal_pre_pool_finite (hPoolBwdIdeal := hPoolBwdIdeal) (hPoolBwdRefIdeal := hPoolBwdRefIdeal) (hPre_pool_finite := hPre_pool_finite)
    ∧ preserves_Flash_FlashIdeal
    ∧ algebraic_FlashIdeal_FlashRefIdeal_pre_flash_finite (hFlashIdeal := hFlashIdeal) (hFlashRefIdeal := hFlashRefIdeal) (hPre_flash_finite := hPre_flash_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_LossLn_LossLnIdeal
    ∧ algebraic_LossLnIdeal_LossLnRefIdeal_pre_loss_finite (hLossLnIdeal := hLossLnIdeal) (hLossLnRefIdeal := hLossLnRefIdeal) (hPre_loss_finite := hPre_loss_finite)
    ∧ preserves_MixLn_MixLnIdeal
    ∧ algebraic_MixLnIdeal_MixLnRefIdeal_pre_mix_finite (hMixLnIdeal := hMixLnIdeal) (hMixLnRefIdeal := hMixLnRefIdeal) (hPre_mix_finite := hPre_mix_finite)
    ∧ preserves_Norms_NormsIdeal
    ∧ algebraic_NormsIdeal_NormsRefIdeal (hNormsIdeal := hNormsIdeal) (hNormsRefIdeal := hNormsRefIdeal)
    ∧ preserves_MemAttn_MemAttnIdeal
    ∧ algebraic_MemAttnIdeal_MemAttnRefIdeal (hMemAttnIdeal := hMemAttnIdeal) (hMemAttnRefIdeal := hMemAttnRefIdeal)
-- ==== Pre_ffn_finite.lean ====
abbrev S4096x1024 : Shape := ⟨2, ![4096, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x5632 .f32) (main_arg2 : FVec F S2816x1024 .f32) (main_arg3 : FVec F S4096x1024 .f32) : IVec S4096x1024 1 × IVec S1024x5632 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_flash_finite.lean ====
abbrev S4096x1536 : Shape := ⟨2, ![4096, 1536]⟩
abbrev S4096x768 : Shape := ⟨2, ![4096, 768]⟩
abbrev S4096x1024 : Shape := ⟨2, ![4096, 1024]⟩
abbrev S_ : Shape := ⟨0, ![]⟩

class Facts : Prop where
  bcast_S_S4096x1536 : S_.BroadcastsInDim S4096x1536 (![] : Fin 0 → Fin S4096x1536.rank)
  bcast_S_S4096x768 : S_.BroadcastsInDim S4096x768 (![] : Fin 0 → Fin S4096x768.rank)
  slices_S4096x1024_S4096x768_0_256 : S4096x1024.Slices ![0, 256] S4096x768

variable [Facts]

def fn {F : FTy → Type} [FloatOps F] (main_arg0 : FVec F S4096x1536 .f32) (main_arg1 : FVec F S4096x1536 .f32) (main_arg2 : FVec F S4096x768 .f32) (main_arg3 : FVec F S4096x1024 .f32) : IVec S4096x1536 1 × IVec S4096x1536 1 × IVec S4096x768 1 × IVec S4096x768 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x1536 .f32 := Host.absf main_arg1
  let main_cst_0 : FVec F S_ .f32 := constant S_ .f32 0x7F800000#32
  let main_v4 : FVec F S4096x1536 .f32 := broadcastInDim S4096x1536 ![] bcast_S_S4096x1536 main_cst_0
  let main_v5 : IVec S4096x1536 1 := cmpf .olt main_v3 main_v4
  let main_v6 : FVec F S4096x768 .f32 := Host.absf main_arg2
  let main_cst_1 : FVec F S_ .f32 := constant S_ .f32 0x7F800000#32
  let main_v7 : FVec F S4096x768 .f32 := broadcastInDim S4096x768 ![] bcast_S_S4096x768 main_cst_1
  let main_v8 : IVec S4096x768 1 := cmpf .olt main_v6 main_v7
  let main_v9 : FVec F S4096x768 .f32 := (extractStridedSlice S4096x768 ![0, 256] · slices_S4096x1024_S4096x768_0_256) main_arg3
  let main_v10 : FVec F S4096x768 .f32 := Host.absf main_v9
  let main_cst_2 : FVec F S_ .f32 := constant S_ .f32 0x7F800000#32
  let main_v11 : FVec F S4096x768 .f32 := broadcastInDim S4096x768 ![] bcast_S_S4096x768 main_cst_2
  let main_v12 : IVec S4096x768 1 := cmpf .olt main_v10 main_v11
  (main_v2, main_v5, main_v8, main_v12)
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S2816x1024 .f32) (main_arg2 : FVec F S4096x1024 .f32) (main_arg3 : FVec F S1x1024 .f32) (main_arg4 : FVec F S1x1024 .f32) (main_arg5 : FVec F S4096x1024 .f32) : IVec S4096x2816 1 × IVec S2816x1024 1 × IVec S4096x1024 1 × IVec S1x1024 1 × IVec S1x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_mix_finite.lean ====
abbrev S4096x1024 : Shape := ⟨2, ![4096, 1024]⟩
abbrev S1024x1024 : Shape := ⟨2, ![1024, 1024]⟩
abbrev S1x1024 : Shape := ⟨2, ![1, 1024]⟩
abbrev S4096x5632 : Shape := ⟨2, ![4096, 5632]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S4096x5632 : S_.BroadcastsInDim S4096x5632 (![] : Fin 0 → Fin S4096x5632.rank)
  bcast_S_S1024x5632 : S_.BroadcastsInDim S1024x5632 (![] : Fin 0 → Fin S1024x5632.rank)

variable [Facts]

def fn_part1 {F : FTy → Type} [FloatOps F] (main_arg6 : FVec F S4096x5632 .f32) (main_arg7 : FVec F S1024x5632 .f32) (main_v2 : IVec S4096x1024 1) (main_v5 : IVec S1024x1024 1) (main_v8 : IVec S4096x1024 1) (main_v11 : IVec S1x1024 1) (main_v14 : IVec S1x1024 1) (main_v17 : IVec S4096x1024 1) : IVec S4096x1024 1 × IVec S1024x1024 1 × IVec S4096x1024 1 × IVec S1x1024 1 × IVec S1x1024 1 × IVec S4096x1024 1 × IVec S4096x5632 1 × IVec S1024x5632 1 :=
  let main_v18 : FVec F S4096x5632 .f32 := Host.absf main_arg6
  let main_cst_5 : FVec F S_ .f32 := constant S_ .f32 0x7F800000#32
  let main_v19 : FVec F S4096x5632 .f32 := broadcastInDim S4096x5632 ![] bcast_S_S4096x5632 main_cst_5
  let main_v20 : IVec S4096x5632 1 := cmpf .olt main_v18 main_v19
  let main_v21 : FVec F S1024x5632 .f32 := Host.absf main_arg7
  let main_cst_6 : FVec F S_ .f32 := constant S_ .f32 0x7F800000#32
  let main_v22 : FVec F S1024x5632 .f32 := broadcastInDim S1024x5632 ![] bcast_S_S1024x5632 main_cst_6
  let main_v23 : IVec S1024x5632 1 := cmpf .olt main_v21 main_v22
  (main_v2, main_v5, main_v8, main_v11, main_v14, main_v17, main_v20, main_v23)

def fn {F : FTy → Type} [FloatOps F] (main_arg0 : FVec F S4096x1024 .f32) (main_arg1 : FVec F S1024x1024 .f32) (main_arg2 : FVec F S4096x1024 .f32) (main_arg3 : FVec F S1x1024 .f32) (main_arg4 : FVec F S1x1024 .f32) (main_arg5 : FVec F S4096x1024 .f32) (main_arg6 : FVec F S4096x5632 .f32) (main_arg7 : FVec F S1024x5632 .f32) : IVec S4096x1024 1 × IVec S1024x1024 1 × IVec S4096x1024 1 × IVec S1x1024 1 × IVec S1x1024 1 × IVec S4096x1024 1 × IVec S4096x5632 1 × IVec S1024x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Pre_pool_finite.lean ====
abbrev S4096x704 : Shape := ⟨2, ![4096, 704]⟩
abbrev S4x64x64 : Shape := ⟨3, ![4, 64, 64]⟩
abbrev S256 : Shape := ⟨1, ![256]⟩
abbrev S4096x1024 : Shape := ⟨2, ![4096, 1024]⟩
abbrev S4096x256 : Shape := ⟨2, ![4096, 256]⟩
abbrev S_ : Shape := ⟨0, ![]⟩

class Facts : Prop where
  slices_S4096x704_S4096x256_0_0 : S4096x704.Slices ![0, 0] S4096x256
  bcast_S_S4096x256 : S_.BroadcastsInDim S4096x256 (![] : Fin 0 → Fin S4096x256.rank)
  bcast_S_S4x64x64 : S_.BroadcastsInDim S4x64x64 (![] : Fin 0 → Fin S4x64x64.rank)
  bcast_S_S256 : S_.BroadcastsInDim S256 (![] : Fin 0 → Fin S256.rank)
  slices_S4096x1024_S4096x256_0_0 : S4096x1024.Slices ![0, 0] S4096x256

variable [Facts]

def fn {F : FTy → Type} [FloatOps F] (main_arg0 : FVec F S4096x704 .f32) (main_arg1 : FVec F S4x64x64 .f32) (main_arg2 : FVec F S256 .f32) (main_arg3 : FVec F S4096x1024 .f32) : IVec S4096x256 1 × IVec S4x64x64 1 × IVec S256 1 × IVec S4096x256 1 :=
  let main_v0 : FVec F S4096x256 .f32 := (extractStridedSlice S4096x256 ![0, 0] · slices_S4096x704_S4096x256_0_0) main_arg0
  let main_v1 : FVec F S4096x256 .f32 := Host.absf main_v0
  let main_cst : FVec F S_ .f32 := constant S_ .f32 0x7F800000#32
  let main_v2 : FVec F S4096x256 .f32 := broadcastInDim S4096x256 ![] bcast_S_S4096x256 main_cst
  let main_v3 : IVec S4096x256 1 := cmpf .olt main_v1 main_v2
  let main_v4 : FVec F S4x64x64 .f32 := Host.absf main_arg1
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_v7 : FVec F S256 .f32 := Host.absf main_arg2
  let main_cst_1 : FVec F S_ .f32 := constant S_ .f32 0x7F800000#32
  let main_v8 : FVec F S256 .f32 := broadcastInDim S256 ![] bcast_S_S256 main_cst_1
  let main_v9 : IVec S256 1 := cmpf .olt main_v7 main_v8
  let main_v10 : FVec F S4096x256 .f32 := (extractStridedSlice S4096x256 ![0, 0] · slices_S4096x1024_S4096x256_0_0) main_arg3
  let main_v11 : FVec F S4096x256 .f32 := Host.absf main_v10
  let main_cst_2 : FVec F S_ .f32 := constant S_ .f32 0x7F800000#32
  let main_v12 : FVec F S4096x256 .f32 := broadcastInDim S4096x256 ![] bcast_S_S4096x256 main_cst_2
  let main_v13 : IVec S4096x256 1 := cmpf .olt main_v11 main_v12
  (main_v3, main_v6, main_v9, main_v13)
-- ==== PoolBwd.lean ====
abbrev S4096x704 : Shape := ⟨2, ![4096, 704]⟩
abbrev S4x64x64 : Shape := ⟨3, ![4, 64, 64]⟩
abbrev S256 : Shape := ⟨1, ![256]⟩
abbrev S4096x1024 : Shape := ⟨2, ![4096, 1024]⟩
abbrev S_ : Shape := ⟨0, ![]⟩
abbrev S4096x768 : Shape := ⟨2, ![4096, 768]⟩
abbrev S256x256 : Shape := ⟨2, ![256, 256]⟩
abbrev S1x64x64 : Shape := ⟨3, ![1, 64, 64]⟩
abbrev S64x64 : Shape := ⟨2, ![64, 64]⟩
abbrev S1x256 : Shape := ⟨2, ![1, 256]⟩
abbrev S4096x256 : Shape := ⟨2, ![4096, 256]⟩
abbrev S16x256 : Shape := ⟨2, ![16, 256]⟩
abbrev S272x256 : Shape := ⟨2, ![272, 256]⟩

abbrev nBuf : Space → Nat
  | .hbm => 43
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4x64x64, .f32⟩
  | .hbm, ⟨2, _⟩ => ⟨S256, .f32⟩
  | .hbm, ⟨3, _⟩ => ⟨S4096x1024, .f32⟩
  | .hbm, ⟨4, _⟩ => ⟨S_, .i32⟩
  | .hbm, ⟨5, _⟩ => ⟨S_, .f32⟩
  | .hbm, ⟨6, _⟩ => ⟨S4096x768, .f32⟩
  | .hbm, ⟨7, _⟩ => ⟨S_, .f32⟩
  | .hbm, ⟨8, _⟩ => ⟨S256x256, .f32⟩
  | .hbm, ⟨9, _⟩ => ⟨S1x64x64, .f32⟩
  | .hbm, ⟨10, _⟩ => ⟨S64x64, .f32⟩
  | .hbm, ⟨11, _⟩ => ⟨S_, .i32⟩
  | .hbm, ⟨12, _⟩ => ⟨S_, .i32⟩
  | .hbm, ⟨13, _⟩ => ⟨S256x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S_, .i32⟩
  | .hbm, ⟨18, _⟩ => ⟨S256x256, .f32⟩
  | .hbm, ⟨19, _⟩ => ⟨S1x64x64, .f32⟩
  | .hbm, ⟨20, _⟩ => ⟨S64x64, .f32⟩
  | .hbm, ⟨21, _⟩ => ⟨S_, .i32⟩
  | .hbm, ⟨22, _⟩ => ⟨S_, .i32⟩
  | .hbm, ⟨23, _⟩ => ⟨S256x256, .f32⟩
  | .hbm, ⟨24, _⟩ => ⟨S1x64x64, .f32⟩
  | .hbm, ⟨25, _⟩ => ⟨S64x64, .f32⟩
  | .hbm, ⟨26, _⟩ => ⟨S_, .i32⟩
  | .hbm, ⟨27, _⟩ => ⟨S_, .i32⟩
  | .hbm, ⟨28, _⟩ => ⟨S256x256, .f32⟩
  | .hbm, ⟨29, _⟩ => ⟨S256x256, .bf16⟩
  | .hbm, ⟨30, _⟩ => ⟨S1x256, .f32⟩
  | .hbm, ⟨31, _⟩ => ⟨S4096x256, .f32⟩
  | .hbm, ⟨32, _⟩ => ⟨S256x256, .f32⟩
  | .hbm, ⟨33, _⟩ => ⟨S1x256, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S1x64x64, .f32⟩
  | .hbm, ⟨39, _⟩ => ⟨S1x64x64, .f32⟩
  | .hbm, ⟨40, _⟩ => ⟨S1x64x64, .f32⟩
  | .hbm, ⟨41, _⟩ => ⟨S1x64x64, .f32⟩
  | .hbm, ⟨42, _⟩ => ⟨S4x64x64, .f32⟩
  | .local _ .vmem, ⟨0, _⟩ => ⟨S256x256, .f32⟩
  | .local _ .vmem, ⟨1, _⟩ => ⟨S256x256, .f32⟩
  | .local _ .vmem, ⟨2, _⟩ => ⟨S16x256, .f32⟩
  | .local _ .vmem, ⟨3, _⟩ => ⟨S16x256, .f32⟩
  | .local _ .vmem, ⟨4, _⟩ => ⟨S256x256, .f32⟩
  | .local _ .vmem, ⟨5, _⟩ => ⟨S256x256, .f32⟩
  | .local _ .vmem, ⟨6, _⟩ => ⟨S16x256, .f32⟩
  | .local _ .vmem, ⟨7, _⟩ => ⟨S16x256, .f32⟩
  | .local _ .vmem, ⟨8, _⟩ => ⟨S256x256, .bf16⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S1x256, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_4 : Ref sig .tc := ⟨.hbm, 21, rfl⟩
abbrev main_c_5 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_6 : Ref sig .tc := ⟨.hbm, 26, rfl⟩
abbrev main_c_7 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S4096x704 : Shape := ⟨2, ![4096, 704]⟩
abbrev S4x64x64 : Shape := ⟨3, ![4, 64, 64]⟩
abbrev S256 : Shape := ⟨1, ![256]⟩
abbrev S4096x1024 : Shape := ⟨2, ![4096, 1024]⟩
abbrev S4096x256 : Shape := ⟨2, ![4096, 256]⟩
abbrev S1x4096x256 : Shape := ⟨3, ![1, 4096, 256]⟩
abbrev S_ : Shape := ⟨0, ![]⟩
abbrev S4096 : Shape := ⟨1, ![4096]⟩
abbrev S1x4096x64 : Shape := ⟨3, ![1, 4096, 64]⟩
abbrev S1x2x64 : Shape := ⟨3, ![1, 2, 64]⟩
abbrev S1x4094x64 : Shape := ⟨3, ![1, 4094, 64]⟩
abbrev S1x4096x1 : Shape := ⟨3, ![1, 4096, 1]⟩
abbrev S1x4x64 : Shape := ⟨3, ![1, 4, 64]⟩
abbrev S1x4092x64 : Shape := ⟨3, ![1, 4092, 64]⟩
abbrev S1x8x64 : Shape := ⟨3, ![1, 8, 64]⟩
abbrev S1x4088x64 : Shape := ⟨3, ![1, 4088, 64]⟩
abbrev S1x16x64 : Shape := ⟨3, ![1, 16, 64]⟩
abbrev S1x4080x64 : Shape := ⟨3, ![1, 4080, 64]⟩
abbrev S1x4096x4x64 : Shape := ⟨4, ![1, 4096, 4, 64]⟩
abbrev S4x64x1x4096 : Shape := ⟨4, ![4, 64, 1, 4096]⟩
abbrev S1x1x256 : Shape := ⟨3, ![1, 1, 256]⟩
abbrev S1x256 : Shape := ⟨2, ![1, 256]⟩
abbrev S4x1x4096x64 : Shape := ⟨4, ![4, 1, 4096, 64]⟩

abbrev nBuf : Space → Nat
  | .hbm => 166
  | .vmem => 0
  | .smem => 0
  | _ => 0

abbrev hbmTy0_0 (i : Nat) : BufTy := match i % 128 with
  | 0 => ⟨S4096x704, .f32⟩
  | 1 => ⟨S4x64x64, .f32⟩
  | 2 => ⟨S256, .f32⟩
  | 3 => ⟨S4096x1024, .f32⟩
  | 4 => ⟨S4096x256, .f32⟩
  | 5 => ⟨S1x4096x256, .f32⟩
  | 6 => ⟨S_, .f32⟩
  | 7 => ⟨S_, .f32⟩
  | 8 => ⟨S1x4096x256, .f32⟩
  | 9 => ⟨S4096, .i32⟩
  | 10 => ⟨S1x4096x64, .f32⟩
  | 11 => ⟨S_, .f32⟩
  | 12 => ⟨S1x2x64, .f32⟩
  | 13 => ⟨S1x4094x64, .f32⟩
  | 14 => ⟨S1x4096x64, .f32⟩
  | 15 => ⟨S_, .f32⟩
  | 16 => ⟨S1x2x64, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S1x4096x1, .f32⟩
  | 25 => ⟨S1x4096x64, .f32⟩
  | 26 => ⟨S1x4096x64, .f32⟩
  | 27 => ⟨S1x4096x64, .f32⟩
  | 28 => ⟨S1x4096x64, .f32⟩
  | 29 => ⟨S_, .f32⟩
  | 30 => ⟨S1x4x64, .f32⟩
  | 31 => ⟨S1x4092x64, .f32⟩
  | 32 => ⟨S1x4096x64, .f32⟩
  | 33 => ⟨S_, .f32⟩
  | 34 => ⟨S1x4x64, .f32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S4096, .f32⟩
  | 42 => ⟨S1x4096x1, .f32⟩
  | 43 => ⟨S1x4096x64, .f32⟩
  | 44 => ⟨S1x4096x64, .f32⟩
  | 45 => ⟨S1x4096x64, .f32⟩
  | 46 => ⟨S1x4096x64, .f32⟩
  | 47 => ⟨S_, .f32⟩
  | 48 => ⟨S1x8x64, .f32⟩
  | 49 => ⟨S1x4088x64, .f32⟩
  | 50 => ⟨S1x4096x64, .f32⟩
  | 51 => ⟨S_, .f32⟩
  | 52 => ⟨S1x8x64, .f32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S4096, .f32⟩
  | 60 => ⟨S1x4096x1, .f32⟩
  | 61 => ⟨S1x4096x64, .f32⟩
  | 62 => ⟨S1x4096x64, .f32⟩
  | 63 => ⟨S1x4096x64, .f32⟩
  | 64 => ⟨S1x4096x64, .f32⟩
  | 65 => ⟨S_, .f32⟩
  | 66 => ⟨S1x16x64, .f32⟩
  | 67 => ⟨S1x4080x64, .f32⟩
  | 68 => ⟨S1x4096x64, .f32⟩
  | 69 => ⟨S_, .f32⟩
  | 70 => ⟨S1x16x64, .f32⟩
  | 71 => ⟨S_, .i32⟩
  | 72 => ⟨S4096, .i32⟩
  | 73 => ⟨S4096, .i32⟩
  | 74 => ⟨S_, .i32⟩
  | 75 => ⟨S4096, .i32⟩
  | 76 => ⟨S4096, .i32⟩
  | 77 => ⟨S4096, .f32⟩
  | 78 => ⟨S1x4096x1, .f32⟩
  | 79 => ⟨S1x4096x64, .f32⟩
  | 80 => ⟨S1x4096x64, .f32⟩
  | 81 => ⟨S1x4096x64, .f32⟩
  | 82 => ⟨S1x4096x256, .f32⟩
  | 83 => ⟨S1x4096x256, .f32⟩
  | 84 => ⟨S1x4096x4x64, .f32⟩
  | 85 => ⟨S4x64x1x4096, .f32⟩
  | 86 => ⟨S1x4096x4x64, .f32⟩
  | 87 => ⟨S1x4096x256, .f32⟩
  | 88 => ⟨S1x1x256, .f32⟩
  | 89 => ⟨S1x4096x256, .f32⟩
  | 90 => ⟨S1x4096x256, .f32⟩
  | 91 => ⟨S4096x256, .f32⟩
  | 92 => ⟨S1x4096x256, .f32⟩
  | 93 => ⟨S1x4096x256, .f32⟩
  | 94 => ⟨S_, .f32⟩
  | 95 => ⟨S1x256, .f32⟩
  | 96 => ⟨S1x1x256, .f32⟩
  | 97 => ⟨S1x4096x256, .f32⟩
  | 98 => ⟨S1x4096x256, .f32⟩
  | 99 => ⟨S_, .f32⟩
  | 100 => ⟨S256, .f32⟩
  | 101 => ⟨S1x4096x4x64, .f32⟩
  | 102 => ⟨S4x64x1x4096, .f32⟩
  | 103 => ⟨S4x1x4096x64, .f32⟩
  | 104 => ⟨S1x4096x4x64, .f32⟩
  | 105 => ⟨S4x64x64, .f32⟩
  | 106 => ⟨S4x64x64, .f32⟩
  | 107 => ⟨S1x4096x256, .f32⟩
  | 108 => ⟨S1x4096x256, .f32⟩
  | 109 => ⟨S1x4096x64, .f32⟩
  | 110 => ⟨S1x4096x64, .f32⟩
  | 111 => ⟨S1x4096x64, .f32⟩
  | 112 => ⟨S1x4096x64, .f32⟩
  | 113 => ⟨S1x4096x64, .f32⟩
  | 114 => ⟨S1x4096x64, .f32⟩
  | 115 => ⟨S1x4096x64, .f32⟩
  | 116 => ⟨S1x16x64, .f32⟩
  | 117 => ⟨S1x4080x64, .f32⟩
  | 118 => ⟨S_, .f32⟩
  | 119 => ⟨S1x4096x64, .f32⟩
  | 120 => ⟨S1x4096x64, .f32⟩
  | 121 => ⟨S_, .f32⟩
  | 122 => ⟨S1x4096x256, .f32⟩
  | 123 => ⟨S1x4096x64, .f32⟩
  | 124 => ⟨S1x4096x64, .f32⟩
  | 125 => ⟨S1x4096x64, .f32⟩
  | 126 => ⟨S1x8x64, .f32⟩
  | 127 => ⟨S1x4088x64, .f32⟩
  | _ => ⟨S4096x704, .f32⟩

abbrev hbmTy0_1 (i : Nat) : BufTy := match i % 128 with
  | 0 => ⟨S_, .f32⟩
  | 1 => ⟨S1x4096x64, .f32⟩
  | 2 => ⟨S1x4096x64, .f32⟩
  | 3 => ⟨S_, .f32⟩
  | 4 => ⟨S1x4096x256, .f32⟩
  | 5 => ⟨S1x4096x256, .f32⟩
  | 6 => ⟨S1x4096x64, .f32⟩
  | 7 => ⟨S1x4096x64, .f32⟩
  | 8 => ⟨S1x4096x64, .f32⟩
  | 9 => ⟨S1x4x64, .f32⟩
  | 10 => ⟨S1x4092x64, .f32⟩
  | 11 => ⟨S_, .f32⟩
  | 12 => ⟨S1x4096x64, .f32⟩
  | 13 => ⟨S1x4096x64, .f32⟩
  | 14 => ⟨S_, .f32⟩
  | 15 => ⟨S1x4096x256, .f32⟩
  | 16 => ⟨S1x4096x256, .f32⟩
  | 17 => ⟨S1x4096x64, .f32⟩
  | 18 => ⟨S1x4096x64, .f32⟩
  | 19 => ⟨S1x4096x64, .f32⟩
  | 20 => ⟨S1x2x64, .f32⟩
  | 21 => ⟨S1x4094x64, .f32⟩
  | 22 => ⟨S_, .f32⟩
  | 23 => ⟨S1x4096x64, .f32⟩
  | 24 => ⟨S1x4096x64, .f32⟩
  | 25 => ⟨S_, .f32⟩
  | 26 => ⟨S1x4096x256, .f32⟩
  | 27 => ⟨S1x4096x256, .f32⟩
  | 28 => ⟨S_, .f32⟩
  | 29 => ⟨S_, .f32⟩
  | 30 => ⟨S1x4096x256, .f32⟩
  | 31 => ⟨S1x4096x256, .f32⟩
  | 32 => ⟨S_, .f32⟩
  | 33 => ⟨S4096x256, .f32⟩
  | 34 => ⟨S_, .f32⟩
  | 35 => ⟨S4096x704, .f32⟩
  | 36 => ⟨S4096x256, .f32⟩
  | 37 => ⟨S1x256, .f32⟩
  | _ => ⟨S4096x704, .f32⟩

abbrev hbmTy (i : Nat) : BufTy := match i / 128 with
  | 0 => hbmTy0_0 i
  | 1 => hbmTy0_1 i
  | _ => ⟨S4096x704, .f32⟩

abbrev bufTy : (tb : Table) → Fin (tcTables nBuf tb) → BufTy
  | .hbm, ⟨i, _⟩ => hbmTy i
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_c_12 : Ref sig .tc := ⟨.hbm, 71, rfl⟩
abbrev main_v51 : Ref sig .tc := ⟨.hbm, 72, rfl⟩
abbrev main_v52 : Ref sig .tc := ⟨.hbm, 73, rfl⟩
abbrev main_c_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_14 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_16 : Ref sig .tc := ⟨.hbm, 118, rfl⟩
abbrev main_v94 : Ref sig .tc := ⟨.hbm, 119, rfl⟩
abbrev main_v95 : Ref sig .tc := ⟨.hbm, 120, rfl⟩
abbrev main_cst_17 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_cst_18 : Ref sig .tc := ⟨.hbm, 128, rfl⟩
abbrev main_v102 : Ref sig .tc := ⟨.hbm, 129, rfl⟩
abbrev main_v103 : Ref sig .tc := ⟨.hbm, 130, rfl⟩
abbrev main_cst_19 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_20 : Ref sig .tc := ⟨.hbm, 139, rfl⟩
abbrev main_v111 : Ref sig .tc := ⟨.hbm, 140, rfl⟩
abbrev main_v112 : Ref sig .tc := ⟨.hbm, 141, rfl⟩
abbrev main_cst_21 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_22 : Ref sig .tc := ⟨.hbm, 150, rfl⟩
abbrev main_v120 : Ref sig .tc := ⟨.hbm, 151, rfl⟩
abbrev main_v121 : Ref sig .tc := ⟨.hbm, 152, rfl⟩
abbrev main_cst_23 : Ref sig .tc := ⟨.hbm, 153, rfl⟩
abbrev main_v122 : Ref sig .tc := ⟨.hbm, 154, rfl⟩
abbrev main_v123 : Ref sig .tc := ⟨.hbm, 155, rfl⟩
abbrev main_call1_call0_cst : Ref sig .tc := ⟨.hbm, 156, rfl⟩
abbrev main_call1_call0_v0 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_cst_25 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩

abbrev nD : Nat := 1
abbrev τ : Topo := Topo.v7x

variable {F : FTy → Type} [FloatOps F]
-- ==== Flash.lean ====
abbrev S4096x1536 : Shape := ⟨2, ![4096, 1536]⟩
abbrev S4096x768 : Shape := ⟨2, ![4096, 768]⟩
abbrev S4096x1024 : Shape := ⟨2, ![4096, 1024]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S512x1 : Shape := ⟨2, ![512, 1]⟩
abbrev S512x512 : Shape := ⟨2, ![512, 512]⟩
abbrev S512 : Shape := ⟨1, ![512]⟩

abbrev nBuf : Space → Nat
  | .hbm => 13
  | .vmem => 29
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x768, .f32⟩
  | .hbm, ⟨3, _⟩ => ⟨S4096x1024, .f32⟩
  | .hbm, ⟨4, _⟩ => ⟨S4096x1536, .bf16⟩
  | .hbm, ⟨5, _⟩ => ⟨S4096x1536, .bf16⟩
  | .hbm, ⟨6, _⟩ => ⟨S4096x768, .bf16⟩
  | .hbm, ⟨7, _⟩ => ⟨S4096x1024, .bf16⟩
  | .hbm, ⟨8, _⟩ => ⟨S4096x768, .f32⟩
  | .hbm, ⟨9, _⟩ => ⟨S4096x1536, .bf16⟩
  | .hbm, ⟨10, _⟩ => ⟨S4096x1536, .bf16⟩
  | .hbm, ⟨11, _⟩ => ⟨S4096x768, .bf16⟩
  | .hbm, ⟨12, _⟩ => ⟨S4096x768, .bf16⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S4096x256, .bf16⟩
  | .local _ .vmem, ⟨11, _⟩ => ⟨S4096x256, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x256, .bf16⟩
  | .local _ .vmem, ⟨23, _⟩ => ⟨S4096x256, .bf16⟩
  | .local _ .vmem, ⟨24, _⟩ => ⟨S512x256, .bf16⟩
  | .local _ .vmem, ⟨25, _⟩ => ⟨S512x256, .bf16⟩
  | .local _ .vmem, ⟨26, _⟩ => ⟨S512x128, .bf16⟩
  | .local _ .vmem, ⟨27, _⟩ => ⟨S512x128, .bf16⟩
  | .local _ .vmem, ⟨28, _⟩ => ⟨S4096x256, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![6, 8], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_30 : BitVec 32 := 512#32
  let v106 : BitVec 32 := Scalar.muli arg7 c512_i32_30
  v106
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_30 : BitVec 32 := 512#32
  let v106 : BitVec 32 := Scalar.muli arg7 c512_i32_30
  let v107 : BitVec 32 := v106
  let v108 : Index := Scalar.indexCast v107
  let c0_31 : Index := 0#32
  ![v108.toNat, 0]
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_30 : BitVec 32 := 512#32
  let v106 : BitVec 32 := Scalar.muli arg7 c512_i32_30
  let v107 : BitVec 32 := v106
  let v112 : Index := Scalar.indexCast v107
  let c0_33 : Index := 0#32
  ![v112.toNat, 0]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_30 : BitVec 32 := 512#32
  let v106 : BitVec 32 := Scalar.muli arg7 c512_i32_30
  v106
def k0_off3 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_30 : BitVec 32 := 512#32
  let v106 : BitVec 32 := Scalar.muli arg7 c512_i32_30
  let v107 : BitVec 32 := v106
  let v108 : Index := Scalar.indexCast v107
  let c0_31 : Index := 0#32
  ![v108.toNat, 0]
def k0_off4 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg7 : BitVec 32 := Scf.iv v9 c1_i32_4 k0_t2
  let c512_i32_30 : BitVec 32 := 512#32
  let v106 : BitVec 32 := Scalar.muli arg7 c512_i32_30
  let v107 : BitVec 32 := v106
  let v112 : Index := Scalar.indexCast v107
  let c0_33 : Index := 0#32
  ![v112.toNat, 0]
def k0_mult3 (i : grid0.Coords) : BitVec 32 :=
  let arg1 : BitVec 32 := BitVec.ofNat 32 (i 1).val
  let c512_i32 : BitVec 32 := 512#32
  let v12 : BitVec 32 := Scalar.muli arg1 c512_i32
  v12
def k0_off5 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_5 : Index := 0#32
  ![v14.toNat, 0]
def k0_off6 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v73 : Index := Scalar.indexCast v13
  let c0_22 : Index := 0#32
  ![v73.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![6, 8], ![false, false]⟩

def k1_mult1 (i : grid1.Coords) : BitVec 32 :=
  let arg1 : BitVec 32 := BitVec.ofNat 32 (i 1).val
  let c512_i32 : BitVec 32 := 512#32
  let v9 : BitVec 32 := Scalar.muli arg1 c512_i32
  let c0_i32_5 : BitVec 32 := 0#32
  let v10 : BitVec 32 := Scalar.addi v9 c0_i32_5
  v10
def k1_off1 (i : grid1.Coords) : Fin 2 → Nat :=
  let arg1 : BitVec 32 := BitVec.ofNat 32 (i 1).val
  let c512_i32 : BitVec 32 := 512#32
  let v9 : BitVec 32 := Scalar.muli arg1 c512_i32
  let c0_i32_5 : BitVec 32 := 0#32
  let v10 : BitVec 32 := Scalar.addi v9 c0_i32_5
  let v11 : BitVec 32 := v10
  let v65 : Index := Scalar.indexCast v11
  let c0_19 : Index := 0#32
  ![v65.toNat, 0]
def k1_off2 (i : grid1.Coords) : Fin 2 → Nat :=
  let arg1 : BitVec 32 := BitVec.ofNat 32 (i 1).val
  let c512_i32 : BitVec 32 := 512#32
  let v9 : BitVec 32 := Scalar.muli arg1 c512_i32
  let c0_i32_5 : BitVec 32 := 0#32
  let v10 : BitVec 32 := Scalar.addi v9 c0_i32_5
  let v11 : BitVec 32 := v10
  let v68 : Index := Scalar.indexCast v11
  let c0_20 : Index := 0#32
  ![v68.toNat, 0]
@[reducible] def k1_t1_loop (i : grid1.Coords) : Scf.Loop 32 :=
  let arg1 : BitVec 32 := BitVec.ofNat 32 (i 1).val
  let c1_i32_32 : BitVec 32 := 1#32
  let v106 : BitVec 32 := Scalar.addi arg1 c1_i32_32
  let c8_i32 : BitVec 32 := 8#32
  let v107 : BitVec 32 := Scalar.subi c8_i32 v106
  let c1_i32_33 : BitVec 32 := 1#32
  let v109 : BitVec 32 := Scalar.divsi v107 c1_i32_33
  let v110 : BitVec 32 := Scalar.muli v109 c1_i32_33
  let v111 : BitVec 32 := Scalar.addi v106 v110
  let c1_i32_34 : BitVec 32 := 1#32
  ⟨v106, v111, c1_i32_34⟩
def k1_mult2 (i : grid1.Coords) (k1_t1 : Fin (k1_t1_loop i).trips) : BitVec 32 :=
  let arg1 : BitVec 32 := BitVec.ofNat 32 (i 1).val
  let c1_i32_32 : BitVec 32 := 1#32
  let v106 : BitVec 32 := Scalar.addi arg1 c1_i32_32
  let c1_i32_34 : BitVec 32 := 1#32
  let arg12 : BitVec 32 := Scf.iv v106 c1_i32_34 k1_t1
  let c512_i32_41 : BitVec 32 := 512#32
  let v125 : BitVec 32 := Scalar.muli arg12 c512_i32_41
  v125
def k1_off3 (i : grid1.Coords) (k1_t1 : Fin (k1_t1_loop i).trips) : Fin 2 → Nat :=
  let arg1 : BitVec 32 := BitVec.ofNat 32 (i 1).val
  let c1_i32_32 : BitVec 32 := 1#32
  let v106 : BitVec 32 := Scalar.addi arg1 c1_i32_32
  let c1_i32_34 : BitVec 32 := 1#32
  let arg12 : BitVec 32 := Scf.iv v106 c1_i32_34 k1_t1
  let c512_i32_41 : BitVec 32 := 512#32
  let v125 : BitVec 32 := Scalar.muli arg12 c512_i32_41
  let v126 : BitVec 32 := v125
  let v127 : Index := Scalar.indexCast v126
  let c0_42 : Index := 0#32
  ![v127.toNat, 0]
def k1_off4 (i : grid1.Coords) (k1_t1 : Fin (k1_t1_loop i).trips) : Fin 2 → Nat :=
  let arg1 : BitVec 32 := BitVec.ofNat 32 (i 1).val
  let c1_i32_32 : BitVec 32 := 1#32
  let v106 : BitVec 32 := Scalar.addi arg1 c1_i32_32
  let c1_i32_34 : BitVec 32 := 1#32
  let arg12 : BitVec 32 := Scf.iv v106 c1_i32_34 k1_t1
  let c512_i32_41 : BitVec 32 := 512#32
  let v125 : BitVec 32 := Scalar.muli arg12 c512_i32_41
  let v126 : BitVec 32 := v125
  let v130 : Index := Scalar.indexCast v126
  let c0_43 : Index := 0#32
  ![v130.toNat, 0]
@[reducible] def k1_t2_loop (i : grid1.Coords) : Scf.Loop 32 :=
  let arg1 : BitVec 32 := BitVec.ofNat 32 (i 1).val
  let c1_i32_32 : BitVec 32 := 1#32
  let v106 : BitVec 32 := Scalar.addi arg1 c1_i32_32
  let c8_i32 : BitVec 32 := 8#32
  let v107 : BitVec 32 := Scalar.subi c8_i32 v106
  let c1_i32_33 : BitVec 32 := 1#32
  let v109 : BitVec 32 := Scalar.divsi v107 c1_i32_33
  let v110 : BitVec 32 := Scalar.muli v109 c1_i32_33
  let v111 : BitVec 32 := Scalar.addi v106 v110
  let v108 : BitVec 32 := Scalar.addi v106 v107
  let c1_i32_35 : BitVec 32 := 1#32
  ⟨v111, v108, c1_i32_35⟩
def k1_mult3 (i : grid1.Coords) (k1_t2 : Fin (k1_t2_loop i).trips) : BitVec 32 :=
  let arg1 : BitVec 32 := BitVec.ofNat 32 (i 1).val
  let c1_i32_32 : BitVec 32 := 1#32
  let v106 : BitVec 32 := Scalar.addi arg1 c1_i32_32
  let c8_i32 : BitVec 32 := 8#32
  let v107 : BitVec 32 := Scalar.subi c8_i32 v106
  let c1_i32_33 : BitVec 32 := 1#32
  let v109 : BitVec 32 := Scalar.divsi v107 c1_i32_33
  let v110 : BitVec 32 := Scalar.muli v109 c1_i32_33
  let v111 : BitVec 32 := Scalar.addi v106 v110
  let c1_i32_35 : BitVec 32 := 1#32
  let arg12 : BitVec 32 := Scf.iv v111 c1_i32_35 k1_t2
  let c512_i32_41 : BitVec 32 := 512#32
  let v125 : BitVec 32 := Scalar.muli arg12 c512_i32_41
  v125
def k1_off5 (i : grid1.Coords) (k1_t2 : Fin (k1_t2_loop i).trips) : Fin 2 → Nat :=
  let arg1 : BitVec 32 := BitVec.ofNat 32 (i 1).val
  let c1_i32_32 : BitVec 32 := 1#32
  let v106 : BitVec 32 := Scalar.addi arg1 c1_i32_32
  let c8_i32 : BitVec 32 := 8#32
  let v107 : BitVec 32 := Scalar.subi c8_i32 v106
  let c1_i32_33 : BitVec 32 := 1#32
  let v109 : BitVec 32 := Scalar.divsi v107 c1_i32_33
  let v110 : BitVec 32 := Scalar.muli v109 c1_i32_33
  let v111 : BitVec 32 := Scalar.addi v106 v110
  let c1_i32_35 : BitVec 32 := 1#32
  let arg12 : BitVec 32 := Scf.iv v111 c1_i32_35 k1_t2
  let c512_i32_41 : BitVec 32 := 512#32
  let v125 : BitVec 32 := Scalar.muli arg12 c512_i32_41
  let v126 : BitVec 32 := v125
  let v127 : Index := Scalar.indexCast v126
  let c0_42 : Index := 0#32
  ![v127.toNat, 0]
def k1_off6 (i : grid1.Coords) (k1_t2 : Fin (k1_t2_loop i).trips) : Fin 2 → Nat :=
  let arg1 : BitVec 32 := BitVec.ofNat 32 (i 1).val
  let c1_i32_32 : BitVec 32 := 1#32
  let v106 : BitVec 32 := Scalar.addi arg1 c1_i32_32
  let c8_i32 : BitVec 32 := 8#32
  let v107 : BitVec 32 := Scalar.subi c8_i32 v106
  let c1_i32_33 : BitVec 32 := 1#32
  let v109 : BitVec 32 := Scalar.divsi v107 c1_i32_33
  let v110 : BitVec 32 := Scalar.muli v109 c1_i32_33
  let v111 : BitVec 32 := Scalar.addi v106 v110
  let c1_i32_35 : BitVec 32 := 1#32
  let arg12 : BitVec 32 := Scf.iv v111 c1_i32_35 k1_t2
  let c512_i32_41 : BitVec 32 := 512#32
  let v125 : BitVec 32 := Scalar.muli arg12 c512_i32_41
  let v126 : BitVec 32 := v125
  let v130 : Index := Scalar.indexCast v126
  let c0_43 : Index := 0#32
  ![v130.toNat, 0]
def k1_cond2 (i : grid1.Coords) : BitVec 1 :=
  let arg1 : BitVec 32 := BitVec.ofNat 32 (i 1).val
  let c7_i32 : BitVec 32 := 7#32
  let v122 : BitVec 1 := Scalar.cmpi .eq arg1 c7_i32
  let v123 : BitVec 32 := Scalar.extui v122
  let c0_i32_40 : BitVec 32 := 0#32
  let v124 : BitVec 1 := Scalar.cmpi .ne v123 c0_i32_40
  v124

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S4096x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4096x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4096x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== FlashIdeal.lean ====
variable {F : FTy → Type} [FloatOps F] [Named F]
def κ : String → Option EReal := fun
  | "mask" => some ⊥
  | _ => none
-- ==== FlashRefIdeal.lean ====
abbrev S4096x1536 : Shape := ⟨2, ![4096, 1536]⟩
abbrev S4096x768 : Shape := ⟨2, ![4096, 768]⟩
abbrev S4096x1024 : Shape := ⟨2, ![4096, 1024]⟩
abbrev S4096x6x256 : Shape := ⟨3, ![4096, 6, 256]⟩
abbrev S4096x6x128 : Shape := ⟨3, ![4096, 6, 128]⟩
abbrev S6x4096x4096 : Shape := ⟨3, ![6, 4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S6x4096 : Shape := ⟨2, ![6, 4096]⟩
abbrev S6x4096x1 : Shape := ⟨3, ![6, 4096, 1]⟩
abbrev S6x128x4096 : Shape := ⟨3, ![6, 128, 4096]⟩
abbrev S6x4096x256 : Shape := ⟨3, ![6, 4096, 256]⟩

abbrev nBuf : Space → Nat
  | .hbm => 99
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x768, .f32⟩
  | .hbm, ⟨3, _⟩ => ⟨S4096x1024, .f32⟩
  | .hbm, ⟨4, _⟩ => ⟨S4096x6x256, .f32⟩
  | .hbm, ⟨5, _⟩ => ⟨S4096x6x256, .f32⟩
  | .hbm, ⟨6, _⟩ => ⟨S4096x6x128, .f32⟩
  | .hbm, ⟨7, _⟩ => ⟨S6x4096x4096, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S1x4096x4096, .i1⟩
  | .hbm, ⟨18, _⟩ => ⟨S6x4096x4096, .i1⟩
  | .hbm, ⟨19, _⟩ => ⟨S_, .f32⟩
  | .hbm, ⟨20, _⟩ => ⟨S6x4096x4096, .f32⟩
  | .hbm, ⟨21, _⟩ => ⟨S6x4096x4096, .f32⟩
  | .hbm, ⟨22, _⟩ => ⟨S_, .f32⟩
  | .hbm, ⟨23, _⟩ => ⟨S6x4096x4096, .f32⟩
  | .hbm, ⟨24, _⟩ => ⟨S_, .f32⟩
  | .hbm, ⟨25, _⟩ => ⟨S6x4096, .f32⟩
  | .hbm, ⟨26, _⟩ => ⟨S6x4096x1, .f32⟩
  | .hbm, ⟨27, _⟩ => ⟨S6x4096x4096, .f32⟩
  | .hbm, ⟨28, _⟩ => ⟨S6x4096x4096, .i1⟩
  | .hbm, ⟨29, _⟩ => ⟨S6x4096x4096, .f32⟩
  | .hbm, ⟨30, _⟩ => ⟨S_, .f32⟩
  | .hbm, ⟨31, _⟩ => ⟨S6x4096, .f32⟩
  | .hbm, ⟨32, _⟩ => ⟨S_, .f32⟩
  | .hbm, ⟨33, _⟩ => ⟨S6x4096, .f32⟩
  | .hbm, ⟨34, _⟩ => ⟨S6x4096, .f32⟩
  | .hbm, ⟨35, _⟩ => ⟨S_, .f32⟩
  | .hbm, ⟨36, _⟩ => ⟨S6x4096, .f32⟩
  | .hbm, ⟨37, _⟩ => ⟨S6x4096, .i1⟩
  | .hbm, ⟨38, _⟩ => ⟨S_, .f32⟩
  | .hbm, ⟨39, _⟩ => ⟨S6x4096, .f32⟩
  | .hbm, ⟨40, _⟩ => ⟨S6x4096, .i1⟩
  | .hbm, ⟨41, _⟩ => ⟨S_, .f32⟩
  | .hbm, ⟨42, _⟩ => ⟨S6x4096, .f32⟩
  | .hbm, ⟨43, _⟩ => ⟨S_, .f32⟩
  | .hbm, ⟨44, _⟩ => ⟨S6x4096, .f32⟩
  | .hbm, ⟨45, _⟩ => ⟨S_, .f32⟩
  | .hbm, ⟨46, _⟩ => ⟨S6x4096, .f32⟩
  | .hbm, ⟨47, _⟩ => ⟨S6x4096, .f32⟩
  | .hbm, ⟨48, _⟩ => ⟨S6x4096, .f32⟩
  | .hbm, ⟨49, _⟩ => ⟨S6x4096x1, .f32⟩
  | .hbm, ⟨50, _⟩ => ⟨S6x4096x4096, .f32⟩
  | .hbm, ⟨51, _⟩ => ⟨S6x4096x4096, .f32⟩
  | .hbm, ⟨52, _⟩ => ⟨S6x4096x4096, .f32⟩
  | .hbm, ⟨53, _⟩ => ⟨S_, .f32⟩
  | .hbm, ⟨54, _⟩ => ⟨S6x4096, .f32⟩
  | .hbm, ⟨55, _⟩ => ⟨S6x4096x1, .f32⟩
  | .hbm, ⟨56, _⟩ => ⟨S6x4096x4096, .f32⟩
  | .hbm, ⟨57, _⟩ => ⟨S6x4096x4096, .f32⟩
  | .hbm, ⟨58, _⟩ => ⟨S6x4096x1, .f32⟩
  | .hbm, ⟨59, _⟩ => ⟨S_, .f32⟩
  | .hbm, ⟨60, _⟩ => ⟨S6x4096x1, .f32⟩
  | .hbm, ⟨61, _⟩ => ⟨S6x4096x1, .f32⟩
  | .hbm, ⟨62, _⟩ => ⟨S6x128x4096, .f32⟩
  | .hbm, ⟨63, _⟩ => ⟨S4096x6x128, .f32⟩
  | .hbm, ⟨64, _⟩ => ⟨S4096x768, .f32⟩
  | .hbm, ⟨65, _⟩ => ⟨S4096x768, .f32⟩
  | .hbm, ⟨66, _⟩ => ⟨S4096x6x128, .f32⟩
  | .hbm, ⟨67, _⟩ => ⟨S6x128x4096, .f32⟩
  | .hbm, ⟨68, _⟩ => ⟨S6x4096x4096, .f32⟩
  | .hbm, ⟨69, _⟩ => ⟨S6x128x4096, .f32⟩
  | .hbm, ⟨70, _⟩ => ⟨S4096x6x128, .f32⟩
  | .hbm, ⟨71, _⟩ => ⟨S6x4096x4096, .f32⟩
  | .hbm, ⟨72, _⟩ => ⟨S6x4096x4096, .f32⟩
  | .hbm, ⟨73, _⟩ => ⟨S6x4096x4096, .f32⟩
  | .hbm, ⟨74, _⟩ => ⟨S_, .f32⟩
  | .hbm, ⟨75, _⟩ => ⟨S6x4096, .f32⟩
  | .hbm, ⟨76, _⟩ => ⟨S6x4096x1, .f32⟩
  | .hbm, ⟨77, _⟩ => ⟨S6x4096x1, .f32⟩
  | .hbm, ⟨78, _⟩ => ⟨S6x4096x4096, .f32⟩
  | .hbm, ⟨79, _⟩ => ⟨S6x4096x4096, .f32⟩
  | .hbm, ⟨80, _⟩ => ⟨S_, .f32⟩
  | .hbm, ⟨81, _⟩ => ⟨S6x4096, .f32⟩
  | .hbm, ⟨82, _⟩ => ⟨S6x4096x4096, .f32⟩
  | .hbm, ⟨83, _⟩ => ⟨S6x4096x4096, .f32⟩
  | .hbm, ⟨84, _⟩ => ⟨S6x4096x4096, .f32⟩
  | .hbm, ⟨85, _⟩ => ⟨S_, .f32⟩
  | .hbm, ⟨86, _⟩ => ⟨S6x4096x4096, .f32⟩
  | .hbm, ⟨87, _⟩ => ⟨S6x4096x4096, .f32⟩
  | .hbm, ⟨88, _⟩ => ⟨S6x4096x256, .f32⟩
  | .hbm, ⟨89, _⟩ => ⟨S4096x6x256, .f32⟩
  | .hbm, ⟨90, _⟩ => ⟨S6x4096x256, .f32⟩
  | .hbm, ⟨91, _⟩ => ⟨S4096x6x256, .f32⟩
  | .hbm, ⟨92, _⟩ => ⟨S4096x768, .f32⟩
  | .hbm, ⟨93, _⟩ => ⟨S4096x1536, .f32⟩
  | .hbm, ⟨94, _⟩ => ⟨S4096x1536, .f32⟩
  | .hbm, ⟨95, _⟩ => ⟨S4096x768, .bf16⟩
  | .hbm, ⟨96, _⟩ => ⟨S4096x1536, .bf16⟩
  | .hbm, ⟨97, _⟩ => ⟨S4096x1536, .bf16⟩
  | .hbm, ⟨98, _⟩ => ⟨S4096x768, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== Ffn.lean ====
abbrev S4096x1024 : Shape := ⟨2, ![4096, 1024]⟩
abbrev S1024x5632 : Shape := ⟨2, ![1024, 5632]⟩
abbrev S2816x1024 : Shape := ⟨2, ![2816, 1024]⟩
abbrev S5632x1024 : Shape := ⟨2, ![5632, 1024]⟩
abbrev S1x5632x1024 : Shape := ⟨3, ![1, 5632, 1024]⟩
abbrev S1x2x11x256x1024 : Shape := ⟨5, ![1, 2, 11, 256, 1024]⟩
abbrev S1x11x2x256x1024 : Shape := ⟨5, ![1, 11, 2, 256, 1024]⟩
abbrev S4096x5632 : Shape := ⟨2, ![4096, 5632]⟩
abbrev S4096x2816 : Shape := ⟨2, ![4096, 2816]⟩
abbrev S2048x1024 : Shape := ⟨2, ![2048, 1024]⟩
abbrev S1x512x1024 : Shape := ⟨3, ![1, 512, 1024]⟩
abbrev S2048x512 : Shape := ⟨2, ![2048, 512]⟩
abbrev S2048x256 : Shape := ⟨2, ![2048, 256]⟩
abbrev S512x1024 : Shape := ⟨2, ![512, 1024]⟩
abbrev S1x2816x1024 : Shape := ⟨3, ![1, 2816, 1024]⟩
abbrev S1x256x1024 : Shape := ⟨3, ![1, 256, 1024]⟩
abbrev S256x1024 : Shape := ⟨2, ![256, 1024]⟩
abbrev S4096x11x2x256 : Shape := ⟨4, ![4096, 11, 2, 256]⟩
abbrev S4096x2x11x256 : Shape := ⟨4, ![4096, 2, 11, 256]⟩

abbrev nBuf : Space → Nat
  | .hbm => 23
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S5632x1024, .f32⟩
  | .hbm, ⟨5, _⟩ => ⟨S1x5632x1024, .f32⟩
  | .hbm, ⟨6, _⟩ => ⟨S1x5632x1024, .bf16⟩
  | .hbm, ⟨7, _⟩ => ⟨S1x2x11x256x1024, .bf16⟩
  | .hbm, ⟨8, _⟩ => ⟨S1x11x2x256x1024, .bf16⟩
  | .hbm, ⟨9, _⟩ => ⟨S1x5632x1024, .bf16⟩
  | .hbm, ⟨10, _⟩ => ⟨S4096x1024, .bf16⟩
  | .hbm, ⟨11, _⟩ => ⟨S4096x5632, .bf16⟩
  | .hbm, ⟨12, _⟩ => ⟨S4096x2816, .bf16⟩
  | .hbm, ⟨13, _⟩ => ⟨S4096x1024, .bf16⟩
  | .hbm, ⟨14, _⟩ => ⟨S1x2816x1024, .f32⟩
  | .hbm, ⟨15, _⟩ => ⟨S1x2816x1024, .bf16⟩
  | .hbm, ⟨16, _⟩ => ⟨S4096x5632, .bf16⟩
  | .hbm, ⟨17, _⟩ => ⟨S4096x11x2x256, .bf16⟩
  | .hbm, ⟨18, _⟩ => ⟨S4096x2x11x256, .bf16⟩
  | .hbm, ⟨19, _⟩ => ⟨S4096x5632, .bf16⟩
  | .hbm, ⟨20, _⟩ => ⟨S4096x11x2x256, .bf16⟩
  | .hbm, ⟨21, _⟩ => ⟨S4096x2x11x256, .bf16⟩
  | .hbm, ⟨22, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x256, .bf16⟩
  | .local _ .vmem, ⟨7, _⟩ => ⟨S2048x256, .bf16⟩
  | .local _ .vmem, ⟨8, _⟩ => ⟨S2048x1024, .bf16⟩
  | .local _ .vmem, ⟨9, _⟩ => ⟨S2048x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== FfnRefIdeal.lean ====
abbrev S4096x1024 : Shape := ⟨2, ![4096, 1024]⟩
abbrev S1024x5632 : Shape := ⟨2, ![1024, 5632]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .bf16⟩
  | .hbm, ⟨44, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]
-- ==== LossLn.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x2816x1024 : Shape := ⟨3, ![1, 2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 19
  | .vmem => 29
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .bf16⟩
  | .hbm, ⟨7, _⟩ => ⟨S1x2816x1024, .f32⟩
  | .hbm, ⟨8, _⟩ => ⟨S1x2816x1024, .bf16⟩
  | .hbm, ⟨9, _⟩ => ⟨S4096x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S8x128, .f32⟩
  | .hbm, ⟨17, _⟩ => ⟨S1x1, .f32⟩
  | .hbm, ⟨18, _⟩ => ⟨S1, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .bf16⟩
  | .local _ .vmem, ⟨26, _⟩ => ⟨S1x1024, .f32⟩
  | .local _ .vmem, ⟨27, _⟩ => ⟨S1x1024, .f32⟩
  | .local _ .vmem, ⟨28, _⟩ => ⟨S8x128, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem8_0 : DmaSem sig := 27
abbrev cc1_sem9_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S8x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== LossLnRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1 : Shape := ⟨1, ![1]⟩

abbrev nBuf : Space → Nat
  | .hbm => 130
  | .vmem => 0
  | .smem => 0
  | _ => 0

abbrev hbmTy0_0 (i : Nat) : BufTy := match i % 128 with
  | 0 => ⟨S4096x2816, .f32⟩
  | 1 => ⟨S2816x1024, .f32⟩
  | 2 => ⟨S4096x1024, .f32⟩
  | 3 => ⟨S1x1024, .f32⟩
  | 4 => ⟨S1x1024, .f32⟩
  | 5 => ⟨S4096x1024, .f32⟩
  | 6 => ⟨S4096x1024, .f32⟩
  | 7 => ⟨S1024, .f32⟩
  | 8 => ⟨S1024, .f32⟩
  | 9 => ⟨S_, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096, .f32⟩
  | 30 => ⟨S4096x1, .f32⟩
  | 31 => ⟨S_, .f32⟩
  | 32 => ⟨S4096x1, .f32⟩
  | 33 => ⟨S4096x1, .f32⟩
  | 34 => ⟨S4096x1024, .f32⟩
  | 35 => ⟨S4096x1024, .f32⟩
  | 36 => ⟨S_, .f32⟩
  | 37 => ⟨S4096x1, .f32⟩
  | 38 => ⟨S4096x1, .f32⟩
  | 39 => ⟨S4096x1, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096, .f32⟩
  | 59 => ⟨S_, .f32⟩
  | 60 => ⟨S4096, .f32⟩
  | 61 => ⟨S4096, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S4096, .f32⟩
  | 70 => ⟨S_, .f32⟩
  | 71 => ⟨S4096, .f32⟩
  | 72 => ⟨S4096, .f32⟩
  | 73 => ⟨S4096x1024, .f32⟩
  | 74 => ⟨S4096x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S4096x1024, .f32⟩
  | 81 => ⟨S_, .f32⟩
  | 82 => ⟨S1024, .f32⟩
  | 83 => ⟨S1x1024, .f32⟩
  | 84 => ⟨S4096x1024, .f32⟩
  | 85 => ⟨S4096x1024, .f32⟩
  | 86 => ⟨S_, .f32⟩
  | 87 => ⟨S1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S4096x1024, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S4096x1024, .bf16⟩
  | 126 => ⟨S4096x1024, .bf16⟩
  | 127 => ⟨S1x1024, .f32⟩
  | _ => ⟨S4096x2816, .f32⟩

abbrev hbmTy0_1 (i : Nat) : BufTy := match i % 128 with
  | 0 => ⟨S1x1024, .f32⟩
  | 1 => ⟨S1, .f32⟩
  | _ => ⟨S4096x2816, .f32⟩

abbrev hbmTy (i : Nat) : BufTy := match i / 128 with
  | 0 => hbmTy0_0 i
  | 1 => hbmTy0_1 i
  | _ => ⟨S4096x2816, .f32⟩

abbrev bufTy : (tb : Table) → Fin (tcTables nBuf tb) → BufTy
  | .hbm, ⟨i, _⟩ => hbmTy i
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_cst_13 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_16 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_19 : Ref sig .tc := ⟨.hbm, 86, rfl⟩
abbrev main_v60 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_cst_22 : Ref sig .tc := ⟨.hbm, 99, rfl⟩
abbrev main_v70 : Ref sig .tc := ⟨.hbm, 100, rfl⟩
abbrev main_v71 : Ref sig .tc := ⟨.hbm, 101, rfl⟩
abbrev main_cst_23 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_24 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_25 : Ref sig .tc := ⟨.hbm, 112, rfl⟩
abbrev main_v80 : Ref sig .tc := ⟨.hbm, 113, rfl⟩
abbrev main_v81 : Ref sig .tc := ⟨.hbm, 114, rfl⟩
abbrev main_cst_26 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_27 : Ref sig .tc := ⟨.hbm, 119, rfl⟩
abbrev main_v85 : Ref sig .tc := ⟨.hbm, 120, rfl⟩
abbrev main_v86 : Ref sig .tc := ⟨.hbm, 121, rfl⟩
abbrev main_cst_28 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]
-- ==== MixLn.lean ====
abbrev S4096x1024 : Shape := ⟨2, ![4096, 1024]⟩
abbrev S1024x1024 : Shape := ⟨2, ![1024, 1024]⟩
abbrev S1x1024 : Shape := ⟨2, ![1, 1024]⟩
abbrev S4096x5632 : Shape := ⟨2, ![4096, 5632]⟩
abbrev S1024x5632 : Shape := ⟨2, ![1024, 5632]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S5632x1024 : Shape := ⟨2, ![5632, 1024]⟩
abbrev S1x5632x1024 : Shape := ⟨3, ![1, 5632, 1024]⟩
abbrev S1x2x11x256x1024 : Shape := ⟨5, ![1, 2, 11, 256, 1024]⟩
abbrev S1x11x2x256x1024 : Shape := ⟨5, ![1, 11, 2, 256, 1024]⟩
abbrev S4096x2x11x256 : Shape := ⟨4, ![4096, 2, 11, 256]⟩
abbrev S4096x11x2x256 : Shape := ⟨4, ![4096, 11, 2, 256]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 28
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x5632, .f32⟩
  | .hbm, ⟨7, _⟩ => ⟨S1024x5632, .f32⟩
  | .hbm, ⟨8, _⟩ => ⟨S4096x1024, .bf16⟩
  | .hbm, ⟨9, _⟩ => ⟨S1x1024x1024, .f32⟩
  | .hbm, ⟨10, _⟩ => ⟨S1x1024x1024, .bf16⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S5632x1024, .f32⟩
  | .hbm, ⟨15, _⟩ => ⟨S1x5632x1024, .f32⟩
  | .hbm, ⟨16, _⟩ => ⟨S1x5632x1024, .bf16⟩
  | .hbm, ⟨17, _⟩ => ⟨S1x2x11x256x1024, .bf16⟩
  | .hbm, ⟨18, _⟩ => ⟨S1x11x2x256x1024, .bf16⟩
  | .hbm, ⟨19, _⟩ => ⟨S1x5632x1024, .bf16⟩
  | .hbm, ⟨20, _⟩ => ⟨S4096x5632, .bf16⟩
  | .hbm, ⟨21, _⟩ => ⟨S4096x2x11x256, .bf16⟩
  | .hbm, ⟨22, _⟩ => ⟨S4096x11x2x256, .bf16⟩
  | .hbm, ⟨23, _⟩ => ⟨S4096x5632, .bf16⟩
  | .hbm, ⟨24, _⟩ => ⟨S4096x1024, .f32⟩
  | .hbm, ⟨25, _⟩ => ⟨S4096x1024, .bf16⟩
  | .hbm, ⟨26, _⟩ => ⟨S1x1024, .f32⟩
  | .hbm, ⟨27, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S256x5632, .bf16⟩
  | .local _ .vmem, ⟨14, _⟩ => ⟨S256x5632, .bf16⟩
  | .local _ .vmem, ⟨15, _⟩ => ⟨S1x5632x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg9_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem9_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x5632x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]
-- ==== MixLnRefIdeal.lean ====
abbrev S4096x1024 : Shape := ⟨2, ![4096, 1024]⟩
abbrev S1024x1024 : Shape := ⟨2, ![1024, 1024]⟩
abbrev S1x1024 : Shape := ⟨2, ![1, 1024]⟩
abbrev S4096x5632 : Shape := ⟨2, ![4096, 5632]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 105
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x5632, .f32⟩
  | .hbm, ⟨7, _⟩ => ⟨S1024x5632, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x5632, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S4096x1024, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S1x1024, .f32⟩
  | .hbm, ⟨104, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Norms.lean ====
abbrev S4096x704 : Shape := ⟨2, ![4096, 704]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S4096x64 : Shape := ⟨2, ![4096, 64]⟩
abbrev S_ : Shape := ⟨0, ![]⟩
abbrev S4096x768 : Shape := ⟨2, ![4096, 768]⟩
abbrev S256x768 : Shape := ⟨2, ![256, 768]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S256x640 : Shape := ⟨2, ![256, 640]⟩
abbrev S128 : Shape := ⟨1, ![128]⟩
abbrev S256x512 : Shape := ⟨2, ![256, 512]⟩

abbrev nBuf : Space → Nat
  | .hbm => 17
  | .vmem => 16
  | .smem => 0
  | _ => 0

abbrev bufTy : (tb : Table) → Fin (tcTables nBuf tb) → BufTy
  | .hbm, ⟨0, _⟩ => ⟨S4096x704, .f32⟩
  | .hbm, ⟨1, _⟩ => ⟨S1x256, .f32⟩
  | .hbm, ⟨2, _⟩ => ⟨S1x128, .f32⟩
  | .hbm, ⟨3, _⟩ => ⟨S4096x256, .f32⟩
  | .hbm, ⟨4, _⟩ => ⟨S4096x128, .f32⟩
  | .hbm, ⟨5, _⟩ => ⟨S4096x64, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x768, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x768, .bf16⟩
  | .hbm, ⟨14, _⟩ => ⟨S1x256, .f32⟩
  | .hbm, ⟨15, _⟩ => ⟨S1x128, .f32⟩
  | .hbm, ⟨16, _⟩ => ⟨S4096x704, .bf16⟩
  | .local _ .vmem, ⟨0, _⟩ => ⟨S256x768, .f32⟩
  | .local _ .vmem, ⟨1, _⟩ => ⟨S256x768, .f32⟩
  | .local _ .vmem, ⟨2, _⟩ => ⟨S256x256, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x256, .f32⟩
  | .local _ .vmem, ⟨9, _⟩ => ⟨S256x256, .f32⟩
  | .local _ .vmem, ⟨10, _⟩ => ⟨S1x256, .f32⟩
  | .local _ .vmem, ⟨11, _⟩ => ⟨S1x128, .f32⟩
  | .local _ .vmem, ⟨12, _⟩ => ⟨S256x768, .bf16⟩
  | .local _ .vmem, ⟨13, _⟩ => ⟨S256x768, .bf16⟩
  | .local _ .vmem, ⟨14, _⟩ => ⟨S1x256, .f32⟩
  | .local _ .vmem, ⟨15, _⟩ => ⟨S1x128, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormsRefIdeal.lean ====
abbrev S4096x704 : Shape := ⟨2, ![4096, 704]⟩
abbrev S1x256 : Shape := ⟨2, ![1, 256]⟩
abbrev S1x128 : Shape := ⟨2, ![1, 128]⟩
abbrev S4096x256 : Shape := ⟨2, ![4096, 256]⟩
abbrev S4096x128 : Shape := ⟨2, ![4096, 128]⟩
abbrev S4096x64 : Shape := ⟨2, ![4096, 64]⟩
abbrev S256 : Shape := ⟨1, ![256]⟩
abbrev S128 : Shape := ⟨1, ![128]⟩
abbrev S_ : Shape := ⟨0, ![]⟩
abbrev S4096 : Shape := ⟨1, ![4096]⟩
abbrev S4096x1 : Shape := ⟨2, ![4096, 1]⟩

abbrev nBuf : Space → Nat
  | .hbm => 119
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S1x256, .f32⟩
  | .hbm, ⟨2, _⟩ => ⟨S1x128, .f32⟩
  | .hbm, ⟨3, _⟩ => ⟨S4096x256, .f32⟩
  | .hbm, ⟨4, _⟩ => ⟨S4096x128, .f32⟩
  | .hbm, ⟨5, _⟩ => ⟨S4096x64, .f32⟩
  | .hbm, ⟨6, _⟩ => ⟨S4096x256, .f32⟩
  | .hbm, ⟨7, _⟩ => ⟨S256, .f32⟩
  | .hbm, ⟨8, _⟩ => ⟨S128, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x256, .f32⟩
  | .hbm, ⟨30, _⟩ => ⟨S4096x256, .f32⟩
  | .hbm, ⟨31, _⟩ => ⟨S1x256, .f32⟩
  | .hbm, ⟨32, _⟩ => ⟨S4096x256, .f32⟩
  | .hbm, ⟨33, _⟩ => ⟨S4096x256, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x128, .f32⟩
  | .hbm, ⟨54, _⟩ => ⟨S4096x128, .f32⟩
  | .hbm, ⟨55, _⟩ => ⟨S1x128, .f32⟩
  | .hbm, ⟨56, _⟩ => ⟨S4096x128, .f32⟩
  | .hbm, ⟨57, _⟩ => ⟨S4096x128, .f32⟩
  | .hbm, ⟨58, _⟩ => ⟨S4096x64, .f32⟩
  | .hbm, ⟨59, _⟩ => ⟨S_, .f32⟩
  | .hbm, ⟨60, _⟩ => ⟨S4096x704, .f32⟩
  | .hbm, ⟨61, _⟩ => ⟨S4096x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S128, .f32⟩
  | .hbm, ⟨69, _⟩ => ⟨S4096x128, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x128, .f32⟩
  | .hbm, ⟨74, _⟩ => ⟨S4096x128, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S_, .f32⟩
  | .hbm, ⟨80, _⟩ => ⟨S4096, .f32⟩
  | .hbm, ⟨81, _⟩ => ⟨S4096x128, .f32⟩
  | .hbm, ⟨82, _⟩ => ⟨S4096x128, .f32⟩
  | .hbm, ⟨83, _⟩ => ⟨S4096x128, .f32⟩
  | .hbm, ⟨84, _⟩ => ⟨S_, .f32⟩
  | .hbm, ⟨85, _⟩ => ⟨S4096x704, .f32⟩
  | .hbm, ⟨86, _⟩ => ⟨S4096x704, .f32⟩
  | .hbm, ⟨87, _⟩ => ⟨S4096x256, .f32⟩
  | .hbm, ⟨88, _⟩ => ⟨S_, .f32⟩
  | .hbm, ⟨89, _⟩ => ⟨S256, .f32⟩
  | .hbm, ⟨90, _⟩ => ⟨S1x256, .f32⟩
  | .hbm, ⟨91, _⟩ => ⟨S4096x256, .f32⟩
  | .hbm, ⟨92, _⟩ => ⟨S4096x256, .f32⟩
  | .hbm, ⟨93, _⟩ => ⟨S_, .f32⟩
  | .hbm, ⟨94, _⟩ => ⟨S256, .f32⟩
  | .hbm, ⟨95, _⟩ => ⟨S4096x256, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x256, .f32⟩
  | .hbm, ⟨100, _⟩ => ⟨S4096x256, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x256, .f32⟩
  | .hbm, ⟨108, _⟩ => ⟨S4096x256, .f32⟩
  | .hbm, ⟨109, _⟩ => ⟨S4096x256, .f32⟩
  | .hbm, ⟨110, _⟩ => ⟨S_, .f32⟩
  | .hbm, ⟨111, _⟩ => ⟨S4096x704, .f32⟩
  | .hbm, ⟨112, _⟩ => ⟨S4096x704, .f32⟩
  | .hbm, ⟨113, _⟩ => ⟨S_, .f32⟩
  | .hbm, ⟨114, _⟩ => ⟨S4096x704, .f32⟩
  | .hbm, ⟨115, _⟩ => ⟨S4096x704, .f32⟩
  | .hbm, ⟨116, _⟩ => ⟨S4096x704, .bf16⟩
  | .hbm, ⟨117, _⟩ => ⟨S1x256, .f32⟩
  | .hbm, ⟨118, _⟩ => ⟨S1x128, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_15 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_19 : Ref sig .tc := ⟨.hbm, 102, rfl⟩
abbrev main_v75 : Ref sig .tc := ⟨.hbm, 103, rfl⟩
abbrev main_v76 : Ref sig .tc := ⟨.hbm, 104, rfl⟩
abbrev main_cst_20 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_v82 : Ref sig .tc := ⟨.hbm, 112, rfl⟩
abbrev main_cst_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== MemAttn.lean ====
abbrev S4096x1024 : Shape := ⟨2, ![4096, 1024]⟩
abbrev S1024x1024 : Shape := ⟨2, ![1024, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x768 : Shape := ⟨2, ![256, 768]⟩
abbrev S256x512 : Shape := ⟨2, ![256, 512]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S256x1024, .f32⟩
  | .hbm, ⟨12, _⟩ => ⟨S256x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S256x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== MemAttnRefIdeal.lean ====
abbrev S4096x1024 : Shape := ⟨2, ![4096, 1024]⟩
abbrev S1024x1024 : Shape := ⟨2, ![1024, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S256x1024, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S4x4096x256, .f32⟩
  | .hbm, ⟨17, _⟩ => ⟨S4x4096x256, .i1⟩
  | .hbm, ⟨18, _⟩ => ⟨S4x4096x256, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S4x4096, .i1⟩
  | .hbm, ⟨27, _⟩ => ⟨S_, .f32⟩
  | .hbm, ⟨28, _⟩ => ⟨S4x4096, .f32⟩
  | .hbm, ⟨29, _⟩ => ⟨S4x4096, .i1⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .f32⟩
  | .hbm, ⟨37, _⟩ => ⟨S4x4096, .f32⟩
  | .hbm, ⟨38, _⟩ => ⟨S4x4096x1, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S4x4096x256, .f32⟩
  | .hbm, ⟨46, _⟩ => ⟨S4x4096x256, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x256x4096, .f32⟩
  | .hbm, ⟨52, _⟩ => ⟨S4096x4x256, .f32⟩
  | .hbm, ⟨53, _⟩ => ⟨S4096x1024, .f32⟩
  | .hbm, ⟨54, _⟩ => ⟨S4096x4x256, .f32⟩
  | .hbm, ⟨55, _⟩ => ⟨S4x256x4096, .f32⟩
  | .hbm, ⟨56, _⟩ => ⟨S4x4096x256, .f32⟩
  | .hbm, ⟨57, _⟩ => ⟨S4x256x256, .f32⟩
  | .hbm, ⟨58, _⟩ => ⟨S256x4x256, .f32⟩
  | .hbm, ⟨59, _⟩ => ⟨S4x4096x256, .f32⟩
  | .hbm, ⟨60, _⟩ => ⟨S4x4096x256, .f32⟩
  | .hbm, ⟨61, _⟩ => ⟨S4x4096x256, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S4x4096x1, .f32⟩
  | .hbm, ⟨66, _⟩ => ⟨S4x4096x256, .f32⟩
  | .hbm, ⟨67, _⟩ => ⟨S4x4096x256, .f32⟩
  | .hbm, ⟨68, _⟩ => ⟨S_, .f32⟩
  | .hbm, ⟨69, _⟩ => ⟨S4x4096, .f32⟩
  | .hbm, ⟨70, _⟩ => ⟨S4x4096x256, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4x4096x256, .f32⟩
  | .hbm, ⟨75, _⟩ => ⟨S4x4096x256, .f32⟩
  | .hbm, ⟨76, _⟩ => ⟨S4x256x256, .f32⟩
  | .hbm, ⟨77, _⟩ => ⟨S256x4x256, .f32⟩
  | .hbm, ⟨78, _⟩ => ⟨S4x4096x256, .f32⟩
  | .hbm, ⟨79, _⟩ => ⟨S4096x4x256, .f32⟩
  | .hbm, ⟨80, _⟩ => ⟨S256x1024, .f32⟩
  | .hbm, ⟨81, _⟩ => ⟨S256x1024, .f32⟩
  | .hbm, ⟨82, _⟩ => ⟨S4096x1024, .f32⟩
  | .hbm, ⟨83, _⟩ => ⟨S4096x1024, .bf16⟩
  | .hbm, ⟨84, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.RealSums.lean ====
/- Finite sums of extended reals that are all real, and products and quotients of them: the coercion of the real
   operation. A precondition that bounds an array by infinity gives such a real function. -/
module

public import Idealize.ShloMosaic.PureOps.Ideal
public import Idealize.ShloMosaic.Lib.Pointwise
public import Mathlib.Algebra.BigOperators.Fin

@[expose] public section

open Idealize.ShloMosaic

namespace Cert.RealSums

/-- A finite sum of reals, read as extended reals, is the coercion of the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum over `Fin n` of reals given by a function of the index's number. -/
theorem coe_sum_fin {n : ℕ} (f : ℕ → ℝ) : (∑ i : Fin n, (f i : EReal)) = ((∑ i ∈ Finset.range n, f i : ℝ) : EReal) := by
  rw [coe_sum, Finset.sum_range]

/-- Division of reals, the divisor not zero. -/
theorem div_real {x y : ℝ} (h : y ≠ 0) : Ideal.div (x : EReal) (y : EReal) = ((x / y : ℝ) : EReal) := by
  rw [Ideal.div_coe h, ← EReal.coe_mul, mul_one_div]

/-- An extended real whose absolute value is below infinity is a real. -/
theorem real_of_abs_lt {x : EReal} (h : max x (-x) < ⊤) : x = ((x.toReal : ℝ) : EReal) := by
  refine (EReal.coe_toReal ?_ ?_).symm
  · rintro rfl; simp at h
  · rintro rfl; simp at h

/-- Where a magnitude compares below infinity, the entry is a real number. -/
theorem real_of_one {x : EReal} (h : Ideal.cmp .olt (max x (-x)) (Ideal.ofBits .f32 0x7F800000#32) = 1#1) : x = ((x.toReal : ℝ) : EReal) := by
  refine real_of_abs_lt ?_
  have e : Ideal.ofBits .f32 0x7F800000#32 = ⊤ := by simp [Ideal.ofBits, Ideal.ieee]
  rw [e] at h
  by_contra hx
  simp [Ideal.cmp, hx] at h

/-- A left fold that adds is the start plus the sum. -/
theorem foldl_add_eq {M ι : Type*} [AddCommMonoid M] (l : List ι) (g : ι → M) (v : M) :
    l.foldl (fun r n => r + g n) v = v + (l.map g).sum := by
  induction l generalizing v with
  | nil => simp
  | cons a l ih => rw [List.foldl_cons, ih, List.map_cons, List.sum_cons, add_assoc]

end Cert.RealSums

end
-- ==== Proof.PoolMath.lean ====
/- The pooling mixer's gradient in real numbers: window sums, their means and their transposes. -/
module

public import Mathlib.Algebra.BigOperators.Fin

public import Idealize.ShloMosaic.PureOps.Ideal
public import Idealize.ShloMosaic.Lib.Pointwise

@[expose] public section

namespace Cert.Pool

open Finset

/-- The window of lane `l`: 2, 4, 8, 16 rows for the four groups of 64 lanes. -/
def win (l : ℕ) : ℕ := 2 ^ (l / 64 + 1)

theorem win_pos (l : ℕ) : 0 < win l := by unfold win; positivity

/-- How many rows the window that ends at row `t` holds. -/
noncomputable def cnt (t l : ℕ) : ℝ := ((min (t + 1) (win l) : ℕ) : ℝ)

theorem cnt_ne (t l : ℕ) : cnt t l ≠ 0 := by
  have := win_pos l
  unfold cnt; exact_mod_cast (by omega : min (t + 1) (win l) ≠ 0)

/-- The sum of the `w` rows that end at row `t`. -/
noncomputable def back (f : ℕ → ℝ) (w t : ℕ) : ℝ := ∑ s ∈ range w, if s ≤ t then f (t - s) else 0

/-- The sum of the `w` rows that start at row `t`, of `T` rows. -/
noncomputable def fwd (f : ℕ → ℝ) (T w t : ℕ) : ℝ := ∑ s ∈ range w, if t + s < T then f (t + s) else 0

/-- A window sum is a difference of prefix sums. -/
theorem prefix_sub (f : ℕ → ℝ) (w t : ℕ) :
    (∑ k ∈ range (t + 1), f k) - (if t < w then 0 else ∑ k ∈ range (t - w + 1), f k) = back f w t := by
  unfold back
  induction w with
  | zero => simp
  | succ w ih =>
    rw [sum_range_succ (fun s => if s ≤ t then f (t - s) else 0) w, ← ih]
    by_cases h : w ≤ t
    · rw [if_neg (by omega : ¬ t < w), if_pos h]
      by_cases h' : w = t
      · subst h'; rw [if_pos (by omega)]; simp
      · rw [if_neg (by omega), show t - w + 1 = (t - (w + 1) + 1) + 1 by omega, sum_range_succ _ (t - (w + 1) + 1),
          show t - (w + 1) + 1 = t - w by omega]; ring
    · rw [if_pos (by omega), if_pos (by omega), if_neg h]; ring

/-- The suffix sum of the transposed prefix difference is the window sum of the rows from `t` on. -/
theorem suffix_sub (q : ℕ → ℝ) (T w t : ℕ) :
    (∑ k ∈ range T, if t + k < T then q (t + k) - (if t + k + w < T then q (t + k + w) else 0) else 0) = fwd q T w t := by
  unfold fwd
  set g : ℕ → ℝ := fun k => if t + k < T then q (t + k) else 0 with hg
  have h1 : ∀ k, (if t + k < T then q (t + k) - (if t + k + w < T then q (t + k + w) else 0) else 0) = g k - g (w + k) := by
    intro k; simp only [hg, show t + (w + k) = t + k + w by omega]
    by_cases h : t + k < T
    · rw [if_pos h, if_pos h]
    · rw [if_neg h, if_neg h, if_neg (by omega)]; ring
  rw [sum_congr rfl fun k _ => h1 k, sum_sub_distrib]
  have h2 := sum_range_add g T w
  have h3 := sum_range_add g w T
  have h4 : ∑ k ∈ range w, g (T + k) = 0 := sum_eq_zero fun k _ => if_neg (by omega)
  rw [add_comm w T, h2, h4] at h3
  have h5 : ∑ k ∈ range w, g k = ∑ s ∈ range w, if t + s < T then q (t + s) else 0 := rfl
  linarith [h5 ▸ h3]

/-- A window of `d + t + 1` rows that ends at row `t` holds the rows up to `t`. -/
theorem rowsBack' (f : ℕ → ℝ) (d t : ℕ) :
    (∑ k ∈ range (d + (t + 1)), if d + t ≤ t + k then f (t + k - (d + t)) else 0) = ∑ k ∈ range (t + 1), f k := by
  rw [sum_range_add, sum_eq_zero, zero_add]
  · refine sum_congr rfl fun k _ => ?_
    rw [if_pos (by omega)]; congr 1; omega
  · intro k hk
    rw [mem_range] at hk
    exact if_neg (by omega)

/-- A window of 4096 rows that ends at row `t` holds the rows up to `t`. -/
theorem rowsBack (f : ℕ → ℝ) (t : ℕ) (ht : t < 4096) :
    (∑ k ∈ range 4096, if 4095 ≤ t + k then f (t + k - 4095) else 0) = ∑ k ∈ range (t + 1), f k := by
  have h := rowsBack' f (4095 - t) t
  have h1 : 4095 - t + t = 4095 := by omega
  have h2 : 4095 - t + (t + 1) = 4096 := by omega
  rw [h1, h2] at h
  exact h

section
variable (U Y : ℕ → ℕ → ℝ) (W : ℕ → ℕ → ℕ → ℝ) (S : ℕ → ℝ)

/-- The mixer's input: the mean of the window that ends at row `t`, less the row. -/
noncomputable def delta (t l : ℕ) : ℝ := back (fun s => U s l) (win l) t / cnt t l - U t l

/-- The mixer's product at row `t`, lane `l`. -/
noncomputable def mix (t l : ℕ) : ℝ := ∑ c ∈ range 64, delta U t (l / 64 * 64 + c) * W (l / 64) c (l % 64)

/-- The cotangent of the product: the cotangent times the scale. -/
noncomputable def dys (t l : ℕ) : ℝ := Y t l * S l

/-- The cotangent of the mixer's input. -/
noncomputable def dd (t l : ℕ) : ℝ := ∑ d ∈ range 64, dys Y S t (l / 64 * 64 + d) * W (l / 64) (l % 64) d

/-- The gradient of the pooled lanes. -/
noncomputable def du (t l : ℕ) : ℝ := fwd (fun s => dd Y W S s l / cnt s l) 4096 (win l) t - dd Y W S t l

/-- The gradient of the group weights. -/
noncomputable def dw (g c d : ℕ) : ℝ := ∑ t ∈ range 4096, delta U t (g * 64 + c) * dys Y S t (g * 64 + d)

/-- The gradient of the scale. -/
noncomputable def ds (l : ℕ) : ℝ := ∑ t ∈ range 4096, Y t l * mix U W t l

end

/-- Doubling: a sum of `w` rows and the sum of the `w` rows before it. -/
theorem back_add (e : ℕ → ℝ) (w t : ℕ) (h : 2 * w ≤ t + 1) : back e w t + back e w (t - w) = back e (w + w) t := by
  unfold back
  rw [sum_range_add]
  congr 1
  refine sum_congr rfl fun s hs => ?_
  rw [mem_range] at hs
  rw [if_pos (by omega), if_pos (by omega)]
  congr 1; omega

theorem fwd_add (e : ℕ → ℝ) (T w t : ℕ) : fwd e T w t + fwd e T w (t + w) = fwd e T (w + w) t := by
  unfold fwd
  rw [sum_range_add]
  simp only [add_assoc]

end Cert.Pool

end
-- ==== Proof.PoolPrefix.lean ====
/- Window sums read as finite sums, and the prefix sums of the pooled lanes. -/
module

public import proofs.«01_k».proof.Proof.RealSums
public import proofs.«01_k».proof.Proof.PoolMath
public import proofs.«01_k».proof.Proof.Gen.PoolBwdRefIdeal.Run
public import proofs.«01_k».proof.Proof.Gen.PoolBwdRefIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem
open Cert.PoolBwdRefIdeal Cert.PoolBwdRefIdeal.Gen Cert.PoolBwdRefIdeal.Value Cert.PoolBwdRefIdeal.Read Cert.RealSums

namespace Cert.Pool

/-- The positions of a window of 4096 rows. -/
def rowsEquiv : Fin 4096 ≃ (⟨3, ![1, 4096, 1]⟩ : Shape).Idx where
  toFun k := ix3 0 k 0
  invFun w := w 1
  left_inv k := rfl
  right_inv w := by
    funext a
    match a with
    | 0 => exact Subsingleton.elim (α := Fin 1) _ _
    | 1 => rfl
    | 2 => exact Subsingleton.elim (α := Fin 1) _ _

/-- A window sum whose window runs along the rows of one slab, read at an index. -/
theorem windowRows (lo hi : ℕ) (x : FVec Ideal S1x4096x256 .f32) (init : S_.Idx → Ideal .f32)
    (h : S1x4096x256.ReduceWindows ![1, 4096, 1] ![1, 1, 1] ![0, lo, 0] ![0, hi, 0] S1x4096x256) (hu : 0 < S_.numel)
    (h0 : ∀ i, init i = 0) (t : Fin 4096) (l : Fin 256) :
    Host.reduceWindowAdd ![1, 4096, 1] ![1, 1, 1] ![0, lo, 0] ![0, hi, 0] x init h hu (ix3 0 t l)
      = ∑ k : Fin 4096, if hk : lo ≤ (t : ℕ) + k ∧ (t : ℕ) + k - lo < 4096 then x (ix3 0 ⟨(t : ℕ) + k - lo, hk.2⟩ l) else 0 := by
  unfold Host.reduceWindowAdd
  rw [Ideal.hostReduceWindowAdd_def]
  unfold Ideal.hostReduceWindowAdd Host.reduceWindow
  simp only [h0]
  rw [foldl_add_eq, zero_add, ← Fin.sum_univ_def]
  refine Fintype.sum_equiv ((Shape.rowMajor (⟨3, ![1, 4096, 1]⟩ : Shape)).symm.trans rowsEquiv.symm) _ _ fun n => ?_
  have hw : (rowsEquiv.symm (((Shape.rowMajor (⟨3, ![1, 4096, 1]⟩ : Shape)).symm) n) : Fin 4096)
      = ((Shape.rowMajor (⟨3, ![1, 4096, 1]⟩ : Shape)).symm n) 1 := rfl
  rw [Equiv.trans_apply, hw]
  have w0 : ((Shape.rowMajor (⟨3, ![1, 4096, 1]⟩ : Shape)).symm n 0 : ℕ) = 0 :=
    Nat.lt_one_iff.1 ((Shape.rowMajor (⟨3, ![1, 4096, 1]⟩ : Shape)).symm n 0).isLt
  have w2 : ((Shape.rowMajor (⟨3, ![1, 4096, 1]⟩ : Shape)).symm n 2 : ℕ) = 0 :=
    Nat.lt_one_iff.1 ((Shape.rowMajor (⟨3, ![1, 4096, 1]⟩ : Shape)).symm n 2).isLt
  have hl : (l : ℕ) < 256 := l.isLt
  by_cases hk : lo ≤ (t : ℕ) + ((Shape.rowMajor (⟨3, ![1, 4096, 1]⟩ : Shape)).symm n 1 : ℕ)
      ∧ (t : ℕ) + ((Shape.rowMajor (⟨3, ![1, 4096, 1]⟩ : Shape)).symm n 1 : ℕ) - lo < 4096
  · rw [dif_pos hk, dif_pos]
    · congr 1
      funext a
      apply Fin.ext
      match a with
      | 0 => show 0 * 1 + _ - 0 = 0; rw [w0]
      | 1 => show (t : ℕ) * 1 + _ - lo = (t : ℕ) + _ - lo; rw [Nat.mul_one]
      | 2 => show (l : ℕ) * 1 + _ - 0 = (l : ℕ); rw [w2]; omega
    · intro a
      match a with
      | 0 => show 0 ≤ 0 * 1 + _ ∧ 0 * 1 + _ - 0 < 1; rw [w0]; omega
      | 1 => show lo ≤ (t : ℕ) * 1 + _ ∧ (t : ℕ) * 1 + _ - lo < 4096; rw [Nat.mul_one]; exact hk
      | 2 => show 0 ≤ (l : ℕ) * 1 + _ ∧ (l : ℕ) * 1 + _ - 0 < 256; rw [w2]; omega
  · rw [dif_neg hk, dif_neg]
    intro hin
    have h1 := hin 1
    apply hk
    have h2 : lo ≤ (t : ℕ) * 1 + ((Shape.rowMajor (⟨3, ![1, 4096, 1]⟩ : Shape)).symm n 1 : ℕ)
      ∧ (t : ℕ) * 1 + ((Shape.rowMajor (⟨3, ![1, 4096, 1]⟩ : Shape)).symm n 1 : ℕ) - lo < 4096 := h1
    rwa [Nat.mul_one] at h2

/-- The cotangent of a lane's prefix sums: a row's cotangent, shared out over its window, less that of the row one window on. -/
noncomputable def step (Y : ℕ → ℕ → ℝ) (W : ℕ → ℕ → ℕ → ℝ) (S : ℕ → ℝ) (w l t : ℕ) : ℝ :=
  dd Y W S t l / ((min (t + 1) w : ℕ) : ℝ) - if t + w < 4096 then dd Y W S (t + w) l / ((min (t + w + 1) w : ℕ) : ℝ) else 0

/-- A sum over two axes of one element each. -/
theorem sumUnit {n : ℕ} {t : Shape} (h : (⟨3, ![1, 1, n]⟩ : Shape).ReducesTo [0, 1] t) (v : (⟨3, ![1, 1, n]⟩ : Shape).Idx → EReal) (init : EReal)
    (j : t.Idx) (hr : 0 < t.rank) (l : Fin n) (hl : (l : ℕ) = j ⟨0, hr⟩) :
    Ideal.hostReduceAdd h v init j = init + v (ix3 0 0 l) := by
  unfold Ideal.hostReduceAdd
  congr 1
  have hrank : t.rank = 1 := h.1
  refine Finset.sum_eq_single_of_mem _ ?_ fun i hi hne => absurd ?_ hne
  · rw [Finset.mem_filter]
    refine ⟨Finset.mem_univ _, ?_⟩
    funext b; apply Fin.ext
    match b with
    | ⟨0, _⟩ => exact hl
    | ⟨_ + 1, hb⟩ => exact absurd hb (by omega)
  · have e := (Finset.mem_filter.mp hi).2
    funext a; apply Fin.ext
    match a with
    | ⟨0, _⟩ => exact Nat.lt_one_iff.1 (i 0).isLt
    | ⟨1, _⟩ => exact Nat.lt_one_iff.1 (i 1).isLt
    | ⟨2, _⟩ => exact (congrArg Fin.val (congrFun e ⟨0, hr⟩)).trans hl.symm

section
variable {U Y : ℕ → ℕ → ℝ} {W : ℕ → ℕ → ℕ → ℝ} {S : ℕ → ℝ}
  {x0 : FVec Ideal S4096x704 .f32} {x1 : FVec Ideal S4x64x64 .f32} {x2 : FVec Ideal S256 .f32} {x3 : FVec Ideal S4096x1024 .f32}

/-- The prefix sums of the pooled lanes. -/
theorem ref_prefix (h0 : ∀ (t : Fin 4096) (l : Fin 704), (l : ℕ) < 256 → x0 (ix2 t l) = (U t l : EReal)) (t : Fin 4096) (l : Fin 256) :
    val_main_v2 (F := Ideal) x0 (ix3 0 t l) = ((∑ k ∈ Finset.range (t + 1), U k l : ℝ) : EReal) := by
  unfold val_main_v2
  rw [windowRows 4095 0 _ _ _ _ (fun i => by pointwise [val_main_call0_call0_v0, val_main_call0_call0_cst])]
  have hx : ∀ s : Fin 4096, val_main_v1 (F := Ideal) x0 (ix3 0 s l) = (U s l : EReal) := fun s => by
    pointwise [val_main_v1, val_main_v0]
    exact h0 s _ l.isLt
  simp only [hx]
  have ht : (t : ℕ) < 4096 := t.isLt
  rw [← rowsBack (fun s => U s l) t ht, ← coe_sum_fin]
  refine Finset.sum_congr rfl fun k _ => ?_
  by_cases hk : 4095 ≤ (t : ℕ) + k
  · rw [dif_pos ⟨hk, by omega⟩, if_pos hk]
  · rw [dif_neg (fun h => hk h.1), if_neg hk, EReal.coe_zero]

/-- The number of rows of a window, computed on words. -/
theorem count_word (t w : ℕ) (ht : t < 8192) (hw : w < 4096) :
    (FloatOps.sitofp FTy.f32 (IntOp.minsi (IntOp.addi (BitVec.ofNat 32 t) 1#32) (BitVec.ofNat 32 w)) : Ideal .f32)
      = (((min (t + 1) w : ℕ) : ℝ) : EReal) := by
  show (((IntOp.minsi (IntOp.addi (BitVec.ofNat 32 t) 1#32) (BitVec.ofNat 32 w)).toInt : ℝ) : EReal) = _
  have e : IntOp.addi (BitVec.ofNat 32 t) 1#32 = BitVec.ofNat 32 (t + 1) := (BitVec.ofNat_add t 1).symm
  have h1 : (BitVec.ofNat 32 (t + 1)).toInt = ((t + 1 : ℕ) : ℤ) := WordCmp.toInt_ofNat_of_lt (by omega)
  have h2 : (BitVec.ofNat 32 w).toInt = (w : ℤ) := WordCmp.toInt_ofNat_of_lt (by omega)
  have h3 : (IntOp.minsi (BitVec.ofNat 32 (t + 1)) (BitVec.ofNat 32 w)).toInt = ((min (t + 1) w : ℕ) : ℤ) := by
    unfold IntOp.minsi
    rw [BitVec.slt_eq_decide, h1, h2]
    by_cases h : ((t + 1 : ℕ) : ℤ) < (w : ℤ)
    · rw [decide_eq_true h, if_pos rfl, h1]; congr 1; omega
    · rw [decide_eq_false h, if_neg Bool.false_ne_true, h2]; congr 1; omega
  rw [e, h3]; norm_cast

/-- The mean of a window, from the prefix sums. -/
theorem ref_mean (h0 : ∀ (t : Fin 4096) (l : Fin 704), (l : ℕ) < 256 → x0 (ix2 t l) = (U t l : EReal)) (w l : ℕ) (hw : w < 4096) (hp : 0 < w)
    (t : Fin 4096) (l' : Fin 256) (hl : (l' : ℕ) = l) (g : t - w < 4096) :
    Ideal.div (val_main_v2 (F := Ideal) x0 (ix3 0 t l') - if h : (t : ℕ) < w then 0 else val_main_v2 (F := Ideal) x0 (ix3 0 ⟨t - w, g⟩ l'))
        (FloatOps.sitofp FTy.f32 (IntOp.minsi (IntOp.addi (BitVec.ofNat 32 t) 1#32) (BitVec.ofNat 32 w)) : Ideal .f32)
      = ((back (fun s => U s l) w t / ((min (t + 1) w : ℕ) : ℝ) : ℝ) : EReal) := by
  rw [count_word _ _ (by omega) hw, ref_prefix h0, ref_prefix h0, hl, ← prefix_sub, ← div_real (by
    have : min ((t : ℕ) + 1) w ≠ 0 := by omega
    exact_mod_cast this)]
  congr 1
  by_cases h : (t : ℕ) < w
  · rw [dif_pos h, if_pos h, sub_zero, sub_zero]
  · rw [dif_neg h, if_neg h, ← EReal.coe_sub]

end

end Cert.Pool

end

end
-- ==== Proof.PoolPay.lean ====
/- The pooling mixer's backward block: its stored values, read element by element as real formulas. -/
module

public import proofs.«01_k».proof.Proof.PoolPrefix
public import proofs.«01_k».proof.Proof.Gen.PoolBwdIdeal.Skeleton

@[expose] public section

set_option maxRecDepth 16384

noncomputable section

open Idealize.ShloMosaic Idealize.ShloMosaic.TcCoe Idealize.SL.Sem
open Cert.PoolBwdIdeal Cert.PoolBwdIdeal.Gen Cert.RealSums

namespace Cert.Pool

/-- The rows of block `n` of a column, with the sixteen rows before it in front. -/
def ext (f : ℕ → ℝ) (n r : ℕ) : ℝ := if 256 * n + r < 16 then 0 else f (256 * n + r - 16)

/-- A window sum of the extended block is the column's. -/
theorem back_ext (f : ℕ → ℝ) (n w r : ℕ) (hw : w ≤ 16) : back (ext f n) w (16 + r) = back f w (256 * n + r) := by
  unfold back
  refine Finset.sum_congr rfl fun s hs => ?_
  rw [Finset.mem_range] at hs
  rw [if_pos (by omega)]
  unfold ext
  by_cases h : s ≤ 256 * n + r
  · rw [if_neg (by omega), if_pos h]; congr 1; omega
  · rw [if_pos (by omega), if_neg h]

section
variable {U Y : ℕ → ℕ → ℝ} {W : ℕ → ℕ → ℕ → ℝ} {S : ℕ → ℝ} {i : grid0.Coords} {n : ℕ}
  {v4 : FVec Ideal S16x256 .f32} {v8 : FVec Ideal S256x256 .f32} {v105 : FVec Ideal S256x256 .bf16} {v107 : FVec Ideal S1x256 .f32}
  {v109 : FVec Ideal S256x256 .f32} {v111 : FVec Ideal S16x256 .f32}

/-- What a block holds of the pooled lanes: its own rows, and the sixteen before them. -/
structure Lanes (U : ℕ → ℕ → ℝ) (n : ℕ) (v4 : FVec Ideal S16x256 .f32) (v8 : FVec Ideal S256x256 .f32) : Prop where
  own : ∀ (r l : Fin 256), v8 (ix2 r l) = (U (256 * n + r) l : EReal)
  before : 0 < n → ∀ (r : Fin 16) (l : Fin 256), v4 (ix2 r l) = (U (256 * n + r - 16) l : EReal)

/-- A choice among the four groups, by a group number in words. -/
theorem select_group {α : Type} (g : ℕ) (hg : g < 4) (a b c d : α) :
    Scalar.select (IntOp.cmpi .eq (BitVec.ofNat 32 g) 0#32) a (Scalar.select (IntOp.cmpi .eq (BitVec.ofNat 32 g) 1#32) b
      (Scalar.select (IntOp.cmpi .eq (BitVec.ofNat 32 g) 2#32) c d)) = if g = 0 then a else if g = 1 then b else if g = 2 then c else d := by
  interval_cases g <;> rfl

theorem group_lt (l : Fin 256) : (l : ℕ) / 64 < 4 := by omega

/-- The window of a group, in words. -/
theorem win_word (l : Fin 256) : (if (l : ℕ) / 64 = 0 then 2#32 else if (l : ℕ) / 64 = 1 then 4#32 else if (l : ℕ) / 64 = 2 then 8#32 else 16#32)
    = BitVec.ofNat 32 (win l) := by
  revert l; decide +kernel

theorem win_le (l : Fin 256) : win l ≤ 16 := by revert l; decide +kernel

/-- The number of a block's row, in words. -/
theorem row_word (n r : ℕ) : IntOp.addi (Scalar.muli (BitVec.ofNat 32 n) 256#32) (BitVec.ofNat 32 r) = BitVec.ofNat 32 (256 * n + r) := by
  rw [Nat.mul_comm 256 n, BitVec.ofNat_add, BitVec.ofNat_mul]; rfl

/-- The group number of a lane, as computed. -/
theorem pay16_read (r l : Fin 256) : k0_pay16 (ix2 r l) = BitVec.ofNat 32 (l / 64) := by
  pointwise [k0_pay16]
  revert l
  decide +kernel

/-- The group number of a lane of the extended block, as computed. -/
theorem pay27_read (r : Fin 272) (l : Fin 256) : k0_pay27 (ix2 r l) = BitVec.ofNat 32 (l / 64) := by
  pointwise [k0_pay27]
  revert l
  decide +kernel

/-- The window sum of a lane's group. -/
theorem pay15_read (v20 v21 v22 v23 : FVec Ideal S256x256 .f32) (r l : Fin 256) :
    k0_pay15 v20 v21 v22 v23 (iota .tc S256x256 32 [1] iota_S256x256_d1_w32) 64#32 k0_pay12 k0_pay13 k0_pay14 (ix2 r l)
      = if (l : ℕ) / 64 = 0 then v20 (ix2 r l) else if (l : ℕ) / 64 = 1 then v21 (ix2 r l) else if (l : ℕ) / 64 = 2 then v22 (ix2 r l)
        else v23 (ix2 r l) := by
  rw [← select_group _ (group_lt l), ← pay16_read r l]
  pointwise [k0_pay15, k0_pay12, k0_pay13, k0_pay14, k0_pay16]

/-- The gradient's window sum of a lane's group, less the row's own cotangent. -/
theorem pay1_read (v138 : FVec Ideal S272x256 .f32) (v194 v195 v196 v197 : FVec Ideal S256x256 .f32) (r l : Fin 256) :
    k0_pay1 v138 v194 v195 v196 v197 (iota .tc S256x256 32 [1] iota_S256x256_d1_w32) 64#32 k0_pay36 k0_pay37
        (Scalar.extui (Scalar.cmpi .sgt 64#32 0#32)) (Scalar.cmpi .slt 64#32 0#32) (ix2 r l)
      = (if (l : ℕ) / 64 = 0 then v194 (ix2 r l) else if (l : ℕ) / 64 = 1 then v195 (ix2 r l) else if (l : ℕ) / 64 = 2 then v196 (ix2 r l)
        else v197 (ix2 r l)) - v138 (ix2 ⟨r, by omega⟩ l) := by
  rw [← select_group _ (group_lt l), ← pay16_read r l]
  pointwise [k0_pay1, k0_pay36, k0_pay37, k0_pay16]

/-- A block's number is above zero, in words. -/
theorem above_word {α : Type} (n : ℕ) (hn : n < 16) (a b : α) : Scalar.select (Scalar.cmpi .sgt (BitVec.ofNat 32 n) 0#32) a b = if 0 < n then a else b := by
  interval_cases n <;> rfl

/-- A block's number is below fifteen, in words. -/
theorem below_word {α : Type} (n : ℕ) (hn : n < 16) (a b : α) : Scalar.select (Scalar.cmpi .slt (BitVec.ofNat 32 n) 15#32) a b = if n < 15 then a else b := by
  interval_cases n <;> rfl

theorem back_one (e : ℕ → ℝ) (t : ℕ) : back e 1 t = e t := by
  unfold back; rw [Finset.sum_range_one, if_pos (Nat.zero_le _), Nat.sub_zero]

/-- The extended block, a row and the one before it added. -/
theorem pay5_read (hi : (i 0 : ℕ) = n) (hn : n < 16) (h : Lanes U n v4 v8) (r : Fin 272) (l : Fin 256) (hr : 1 ≤ (r : ℕ)) :
    k0_pay5 (F := Ideal) i v4 v8 (ix2 r l) = (back (ext (fun s => U s l) n) 2 r : EReal) := by
  have row : ∀ (s : ℕ) (hs : s < 272), (if h : s < 16 then Scalar.select (Scalar.cmpi .sgt (BitVec.ofNat 32 n) 0#32) (v4 (ix2 ⟨s, h⟩ l)) 0
      else v8 (ix2 ⟨s - 16, by omega⟩ l)) = (ext (fun s => U s l) n s : EReal) := by
    intro s hs
    rw [ext]
    by_cases c : s < 16
    · rw [dif_pos c, above_word n hn]
      by_cases c0 : 0 < n
      · rw [if_pos c0, h.before c0, if_neg (by omega)]
      · rw [if_neg c0, if_pos (by omega), EReal.coe_zero]
    · rw [dif_neg c, h.own, if_neg (by omega)]
      show (U (256 * n + (s - 16)) l : EReal) = (U (256 * n + s - 16) l : EReal)
      rw [show 256 * n + (s - 16) = 256 * n + s - 16 by omega]
  pointwise [k0_pay5, k0_pay4]
  rw [hi]
  have h1 := row r r.isLt
  have h2 := row ((r + 272 - 1) % 272) (Nat.mod_lt _ (by decide))
  rw [h1, h2, ← EReal.coe_add, show ((r : ℕ) + 272 - 1) % 272 = r - 1 by omega, ← back_add _ 1 r (by omega), back_one, back_one]

/-- A sum of windows read at a row and at an earlier row is the longer window's. -/
theorem roll_read (x : FVec Ideal S272x256 .f32) (e : ℕ → ℝ) (w : ℕ) (l : Fin 256) (hx : ∀ r : Fin 272, w ≤ r + 1 → x (ix2 r l) = (back e w r : EReal))
    (hw : w ≤ 8) (r : Fin 272) (hr : 2 * w ≤ r + 1) (g : ((r : ℕ) + 272 - w) % 272 < 272) :
    x (ix2 r l) + x (ix2 ⟨((r : ℕ) + 272 - w) % 272, g⟩ l) = (back e (w + w) r : EReal) := by
  have h1 := hx r (by omega)
  have h2 := hx ⟨((r : ℕ) + 272 - w) % 272, g⟩ (by show w ≤ ((r : ℕ) + 272 - w) % 272 + 1; omega)
  rw [h1, h2, ← EReal.coe_add]
  show ((back e w r + back e w (((r : ℕ) + 272 - w) % 272) : ℝ) : EReal) = _
  rw [show ((r : ℕ) + 272 - w) % 272 = r - w by omega, back_add _ _ _ hr]

theorem pay6_read (hi : (i 0 : ℕ) = n) (hn : n < 16) (h : Lanes U n v4 v8) (r : Fin 272) (l : Fin 256) (hr : 3 ≤ (r : ℕ)) :
    k0_pay6 (F := Ideal) i v4 v8 (ix2 r l) = (back (ext (fun s => U s l) n) 4 r : EReal) := by
  pointwise [k0_pay6]
  exact roll_read _ _ 2 l (fun s hs => pay5_read hi hn h s l (by omega)) (by omega) r (by omega) _

theorem pay7_read (hi : (i 0 : ℕ) = n) (hn : n < 16) (h : Lanes U n v4 v8) (r : Fin 272) (l : Fin 256) (hr : 7 ≤ (r : ℕ)) :
    k0_pay7 (F := Ideal) i v4 v8 (ix2 r l) = (back (ext (fun s => U s l) n) 8 r : EReal) := by
  pointwise [k0_pay7]
  exact roll_read _ _ 4 l (fun s hs => pay6_read hi hn h s l (by omega)) (by omega) r (by omega) _

/-- The window sum of each row of the block, whichever the group. -/
theorem back_read (hi : (i 0 : ℕ) = n) (hn : n < 16) (h : Lanes U n v4 v8) (r l : Fin 256) :
    k0_pay15 (F := Ideal) (k0_pay8 i v4 v8) (k0_pay9 i v4 v8) (k0_pay10 i v4 v8) (k0_pay11 i v4 v8) (iota .tc S256x256 32 [1] iota_S256x256_d1_w32) 64#32
        k0_pay12 k0_pay13 k0_pay14 (ix2 r l) = (back (fun s => U s l) (win l) (256 * n + r) : EReal) := by
  rw [pay15_read]
  have e2 : k0_pay8 (F := Ideal) i v4 v8 (ix2 r l) = (back (fun s => U s l) 2 (256 * n + r) : EReal) := by
    rw [← back_ext _ _ _ _ (by omega)]
    pointwise [k0_pay8]
    exact pay5_read hi hn h _ l (by show 1 ≤ 16 + (r : ℕ); omega)
  have e4 : k0_pay9 (F := Ideal) i v4 v8 (ix2 r l) = (back (fun s => U s l) 4 (256 * n + r) : EReal) := by
    rw [← back_ext _ _ _ _ (by omega)]
    pointwise [k0_pay9]
    exact pay6_read hi hn h _ l (by show 3 ≤ 16 + (r : ℕ); omega)
  have e8 : k0_pay10 (F := Ideal) i v4 v8 (ix2 r l) = (back (fun s => U s l) 8 (256 * n + r) : EReal) := by
    rw [← back_ext _ _ _ _ (by omega)]
    pointwise [k0_pay10]
    exact pay7_read hi hn h _ l (by show 7 ≤ 16 + (r : ℕ); omega)
  have e16 : k0_pay11 (F := Ideal) i v4 v8 (ix2 r l) = (back (fun s => U s l) 16 (256 * n + r) : EReal) := by
    rw [← back_ext _ _ _ _ (by omega)]
    pointwise [k0_pay11]
    exact roll_read _ _ 8 l (fun s hs => pay7_read hi hn h s l (by omega)) (by omega) ⟨16 + r, by omega⟩ (by show 16 ≤ 16 + (r : ℕ) + 1; omega) _
  rw [e2, e4, e8, e16]
  have hl := group_lt l
  unfold win
  by_cases c0 : (l : ℕ) / 64 = 0
  · rw [if_pos c0, c0]; rfl
  · by_cases c1 : (l : ℕ) / 64 = 1
    · rw [if_neg c0, if_pos c1, c1]; rfl
    · by_cases c2 : (l : ℕ) / 64 = 2
      · rw [if_neg c0, if_neg c1, if_pos c2, c2]; rfl
      · rw [if_neg c0, if_neg c1, if_neg c2, show (l : ℕ) / 64 = 3 by omega]; rfl

/-- The mixer's input, from the window sums. -/
theorem pay19_read (hn : n < 16) (v9 : FVec Ideal S256x256 .f32) (v57 : FVec Ideal S256x256 .f32) (r l : Fin 256) (h9 : v9 (ix2 r l) = (U (256 * n + r) l : EReal))
    (h57 : v57 (ix2 r l) = (back (fun s => U s l) (win l) (256 * n + r) : EReal)) :
    k0_pay19 v9 (Scalar.muli (BitVec.ofNat 32 n) 256#32) v57 k0_pay16 k0_pay17 k0_pay18 (ix2 r l)
      = (delta U (256 * n + r) l : EReal) := by
  pointwise [k0_pay19, k0_pay17, k0_pay18]
  rw [pay16_read, select_group _ (group_lt l), win_word, row_word, count_word _ _ (by omega) (by have := win_le l; omega), h9, h57,
    div_real (show ((min (256 * n + r + 1) (win l) : ℕ) : ℝ) ≠ 0 from cnt_ne _ _), ← EReal.coe_sub]
  rfl

/-- A sum over all lanes of one group's lanes. -/
theorem sum_group (g : ℕ) (hg : g < 4) (f : ℕ → ℝ) :
    (∑ x ∈ Finset.range 256, if x / 64 = g then f x else 0) = ∑ d ∈ Finset.range 64, f (g * 64 + d) := by
  rw [← Finset.sum_filter]
  refine Finset.sum_nbij' (fun x => x % 64) (fun d => g * 64 + d) ?_ ?_ ?_ ?_ ?_
  · intro x hx; rw [Finset.mem_filter, Finset.mem_range] at hx; rw [Finset.mem_range]; omega
  · intro d hd; rw [Finset.mem_range] at hd; rw [Finset.mem_filter, Finset.mem_range]; omega
  · intro x hx; rw [Finset.mem_filter, Finset.mem_range] at hx; show g * 64 + x % 64 = x; omega
  · intro d hd; rw [Finset.mem_range] at hd; show (g * 64 + d) % 64 = d; omega
  · intro x hx; rw [Finset.mem_filter, Finset.mem_range] at hx; congr 1; show x = g * 64 + x % 64; omega

/-- The four group matrices on the diagonal of one square. -/
def diag (W : ℕ → ℕ → ℕ → ℝ) (a b : ℕ) : ℝ := if a / 64 = b / 64 then W (a / 64) (a % 64) (b % 64) else 0

/-- The cotangent of the mixer's input on the extended block: zero past the last row. -/
theorem pay26_read (hn : n < 16) (h105 : ∀ a b : Fin 256, v105 (ix2 a b) = (diag W a b : EReal)) (h107 : ∀ l : Fin 256, v107 (ix2 0 l) = (S l : EReal))
    (h109 : ∀ r l : Fin 256, v109 (ix2 r l) = (Y (256 * n + r) l : EReal))
    (h111 : n < 15 → ∀ (r : Fin 16) (l : Fin 256), v111 (ix2 r l) = (Y (256 * n + (256 + r)) l : EReal))
    (r : Fin 272) (l : Fin 256) :
    k0_pay26 (F := Ideal) (k0_pay20 v105) (k0_pay21 v107) v109 (k0_pay22 (BitVec.ofNat 32 n) v111) (ix2 r l)
      = ((if 256 * n + r < 4096 then dd Y W S (256 * n + r) l else 0 : ℝ) : EReal) := by
  pointwise [k0_pay26, k0_pay22, k0_pay24, k0_pay20, k0_pay21]
  obtain ⟨y, hy⟩ : ∃ y : ℕ → ℝ, y = fun x => if 256 * n + r < 4096 then dys Y S (256 * n + r) x else 0 := ⟨_, rfl⟩
  obtain ⟨f, hf⟩ : ∃ f : ℕ → ℝ, f = fun x => if x / 64 = (l : ℕ) / 64 then y x * W (l / 64) (l % 64) (x % 64) else 0 := ⟨_, rfl⟩
  have e : ∀ x : Fin 256, (if h : (r : ℕ) < 256 then v109 (ix2 ⟨r, h⟩ x) * v107 (ix2 0 x)
      else Scalar.select (Scalar.cmpi .slt (BitVec.ofNat 32 n) 15#32) (v111 (ix2 ⟨r - 256, by omega⟩ x) * v107 (ix2 0 x)) 0) * v105 (ix2 l x) = (f x : EReal) := fun x => by
    have ey : (if h : (r : ℕ) < 256 then v109 (ix2 ⟨r, h⟩ x) * v107 (ix2 0 x)
        else Scalar.select (Scalar.cmpi .slt (BitVec.ofNat 32 n) 15#32) (v111 (ix2 ⟨r - 256, by omega⟩ x) * v107 (ix2 0 x)) 0) = (y x : EReal) := by
      have hyx : y x = if 256 * n + r < 4096 then dys Y S (256 * n + r) x else 0 := by rw [hy]
      rw [hyx]
      by_cases c : (r : ℕ) < 256
      · rw [dif_pos c, h109, h107, ← EReal.coe_mul]
        show ((Y (256 * n + r) x * S x : ℝ) : EReal) = _
        rw [if_pos (by omega), dys]
      · rw [dif_neg c, below_word n hn]
        by_cases c' : n < 15
        · rw [if_pos c', h111 c', h107, ← EReal.coe_mul]
          show ((Y (256 * n + (256 + (r - 256))) x * S x : ℝ) : EReal) = _
          rw [if_pos (by omega), dys, show 256 * n + (256 + ((r : ℕ) - 256)) = 256 * n + r by omega]
        · rw [if_neg c', if_neg (by omega), EReal.coe_zero]
    rw [ey, h105, ← EReal.coe_mul, diag, hf]
    by_cases hx : (x : ℕ) / 64 = (l : ℕ) / 64
    · simp only [hx, if_true]
    · simp only [if_neg hx, if_neg (Ne.symm hx), mul_zero]
  refine (Finset.sum_congr rfl fun x _ => e x).trans ?_
  rw [coe_sum_fin f, hf, sum_group _ (group_lt l)]
  refine congrArg (fun z : ℝ => (z : EReal)) ?_
  have hd : ∀ d ∈ Finset.range 64, y ((l : ℕ) / 64 * 64 + d) * W (l / 64) (l % 64) (((l : ℕ) / 64 * 64 + d) % 64)
      = if 256 * n + r < 4096 then dys Y S (256 * n + r) ((l : ℕ) / 64 * 64 + d) * W (l / 64) (l % 64) d else 0 := fun d hd => by
    rw [Finset.mem_range] at hd
    rw [show ((l : ℕ) / 64 * 64 + d) % 64 = d by omega, hy]
    simp only [ite_mul, zero_mul]
  rw [Finset.sum_congr rfl hd]
  by_cases c : 256 * n + (r : ℕ) < 4096
  · simp only [if_pos c, dd]
  · simp only [if_neg c, Finset.sum_const_zero]

/-- One block's part of the gradient of the scale. -/
theorem pay23_read (v9 : FVec Ideal S256x256 .f32) (v10) (v57 : FVec Ideal S256x256 .f32) (v82 v84 v85) (v114 : FVec Ideal S1x256 .f32)
    (h105 : ∀ a b : Fin 256, v105 (ix2 a b) = (diag W a b : EReal)) (h109 : ∀ r l : Fin 256, v109 (ix2 r l) = (Y (256 * n + r) l : EReal))
    (hd : ∀ r l : Fin 256, k0_pay19 (F := Ideal) v9 v10 v57 v82 v84 v85 (ix2 r l) = (delta U (256 * n + r) l : EReal)) (l : Fin 256) :
    k0_pay23 v9 v10 v57 v82 v84 v85 v105 v109 v114 (ix2 0 l)
      = v114 (ix2 0 l) + ∑ r : Fin 256, ((Y (256 * n + r) l * mix U W (256 * n + r) l : ℝ) : EReal) := by
  pointwise [k0_pay23, k0_pay20]
  congr 1
  refine Finset.sum_congr rfl fun r _ => ?_
  obtain ⟨f, hf⟩ : ∃ f : ℕ → ℝ, f = fun x => if x / 64 = (l : ℕ) / 64 then delta U (256 * n + r) x * W (l / 64) (x % 64) (l % 64) else 0 := ⟨_, rfl⟩
  have e : ∀ x : Fin 256, k0_pay19 (F := Ideal) v9 v10 v57 v82 v84 v85 (ix2 r x) * v105 (ix2 x l) = (f x : EReal) := fun x => by
    rw [hd, h105, ← EReal.coe_mul, diag, hf]
    by_cases hx : (x : ℕ) / 64 = (l : ℕ) / 64
    · simp only [hx, if_true]
    · simp only [if_neg hx, mul_zero]
  rw [Finset.sum_congr rfl fun x _ => e x, coe_sum_fin f, h109, ← EReal.coe_mul, hf, sum_group _ (group_lt l), mix]
  refine congrArg (fun z : ℝ => ((Y (256 * n + r) l * z : ℝ) : EReal)) (Finset.sum_congr rfl fun d hd => ?_)
  rw [Finset.mem_range] at hd
  rw [show ((l : ℕ) / 64 * 64 + d) % 64 = d by omega]

/-- One block's part of the gradient of the weights. -/
theorem pay25_read (v104 : FVec Ideal S256x256 .f32) (v126 : FVec Ideal S256x256 .f32) (h107 : ∀ l : Fin 256, v107 (ix2 0 l) = (S l : EReal))
    (h109 : ∀ r l : Fin 256, v109 (ix2 r l) = (Y (256 * n + r) l : EReal))
    (hd : ∀ r l : Fin 256, v104 (ix2 r l) = (delta U (256 * n + r) l : EReal)) (a b : Fin 256) :
    k0_pay25 v104 (k0_pay21 v107) v109 v126 (ix2 a b)
      = v126 (ix2 a b) + ∑ r : Fin 256, ((delta U (256 * n + r) a * dys Y S (256 * n + r) b : ℝ) : EReal) := by
  pointwise [k0_pay25, k0_pay24, k0_pay21]
  congr 1
  refine Finset.sum_congr rfl fun r _ => ?_
  rw [hd, h109, h107, ← EReal.coe_mul, ← EReal.coe_mul]; rfl

/-- The rows' mean cotangents, and the sums of two. -/
theorem pay29_read (hn : n < 16) (v138 : FVec Ideal S272x256 .f32)
    (hd : ∀ (r : Fin 272) (l : Fin 256), v138 (ix2 r l) = ((if 256 * n + r < 4096 then dd Y W S (256 * n + r) l else 0 : ℝ) : EReal))
    (r : Fin 272) (l : Fin 256) (hr : (r : ℕ) < 271) :
    k0_pay29 v138 (Scalar.muli (BitVec.ofNat 32 n) 256#32) k0_pay27 k0_pay28 (ix2 r l)
      = (fwd (fun s => dd Y W S s l / cnt s l) 4096 2 (256 * n + r) : EReal) := by
  have q : ∀ s : Fin 272, Ideal.div (v138 (ix2 s l)) (FloatOps.sitofp FTy.f32 (IntOp.minsi (IntOp.addi (BitVec.ofNat 32 (256 * n + s)) 1#32)
      (BitVec.ofNat 32 (win l))) : Ideal .f32) = (fwd (fun s => dd Y W S s l / cnt s l) 4096 1 (256 * n + s) : EReal) := fun s => by
    rw [count_word _ _ (by omega) (by have := win_le l; omega), hd, div_real (x := _) (show ((min (256 * n + s + 1) (win l) : ℕ) : ℝ) ≠ 0 from cnt_ne _ _), fwd, Finset.sum_range_one]
    simp only [Nat.add_zero]
    by_cases hs : 256 * n + s < 4096
    · rw [if_pos hs, if_pos hs]; rfl
    · rw [if_neg hs, if_neg hs, zero_div]
  pointwise [k0_pay29, k0_pay28]
  simp only [pay27_read, select_group _ (group_lt l), win_word, row_word]
  have h1 := q r
  have h2 := q ⟨((r : ℕ) + 272 - 271) % 272, Nat.mod_lt _ (by decide)⟩
  rw [h1, h2, ← EReal.coe_add]
  show ((fwd _ 4096 1 (256 * n + r) + fwd _ 4096 1 (256 * n + ((r : ℕ) + 272 - 271) % 272) : ℝ) : EReal) = _
  rw [show 256 * n + ((r : ℕ) + 272 - 271) % 272 = 256 * n + r + 1 by omega, fwd_add]

/-- A sum of windows read at a row and at a later row is the longer window's. -/
theorem unroll_read (x : FVec Ideal S272x256 .f32) (e : ℕ → ℝ) (w k : ℕ) (hk : k + w = 272) (l : Fin 256)
    (hx : ∀ r : Fin 272, (r : ℕ) + w ≤ 272 → x (ix2 r l) = (fwd e 4096 w (256 * n + r) : EReal)) (r : Fin 272) (hr : r + w + w ≤ 272)
    (g : ((r : ℕ) + 272 - k) % 272 < 272) (hp : 0 < w) :
    x (ix2 r l) + x (ix2 ⟨((r : ℕ) + 272 - k) % 272, g⟩ l) = (fwd e 4096 (w + w) (256 * n + r) : EReal) := by
  have e' : ((r : ℕ) + 272 - k) % 272 = r + w := by omega
  have h1 := hx r (by omega)
  have h2 := hx ⟨((r : ℕ) + 272 - k) % 272, g⟩ (by show ((r : ℕ) + 272 - k) % 272 + w ≤ 272; omega)
  rw [h1, h2, ← EReal.coe_add]
  show ((fwd e 4096 w (256 * n + r) + fwd e 4096 w (256 * n + ((r : ℕ) + 272 - k) % 272) : ℝ) : EReal) = _
  rw [e', show 256 * n + ((r : ℕ) + w) = 256 * n + r + w by omega, fwd_add]

/-- The gradient of the block's pooled lanes, from the cotangent of the mixer's input. -/
theorem du_read (hn : n < 16) (v138 : FVec Ideal S272x256 .f32)
    (hd : ∀ (r : Fin 272) (l : Fin 256), v138 (ix2 r l) = ((if 256 * n + r < 4096 then dd Y W S (256 * n + r) l else 0 : ℝ) : EReal))
    (v139 : BitVec 32) (h139 : v139 = Scalar.muli (BitVec.ofNat 32 n) 256#32) (r l : Fin 256) :
    k0_pay1 (F := Ideal) v138 (k0_pay32 v138 v139 k0_pay27 k0_pay28) (k0_pay33 v138 v139 k0_pay27 k0_pay28) (k0_pay34 v138 v139 k0_pay27 k0_pay28)
        (k0_pay35 v138 v139 k0_pay27 k0_pay28) (iota .tc S256x256 32 [1] iota_S256x256_d1_w32) 64#32 k0_pay36 k0_pay37
        (Scalar.extui (Scalar.cmpi .sgt 64#32 0#32)) (Scalar.cmpi .slt 64#32 0#32) (ix2 r l) = (du Y W S (256 * n + r) l : EReal) := by
  obtain ⟨f, hf⟩ : ∃ f : ℕ → ℝ, f = fun s => dd Y W S s l / cnt s l := ⟨_, rfl⟩
  have p2 : ∀ s : Fin 272, (s : ℕ) + 2 ≤ 272 → k0_pay29 (F := Ideal) v138 v139 k0_pay27 k0_pay28 (ix2 s l) = (fwd f 4096 2 (256 * n + s) : EReal) := fun s hs => by
    rw [h139, hf]; exact pay29_read hn v138 hd s l (by omega)
  have p4 : ∀ s : Fin 272, (s : ℕ) + 4 ≤ 272 → k0_pay30 (F := Ideal) v138 v139 k0_pay27 k0_pay28 (ix2 s l) = (fwd f 4096 4 (256 * n + s) : EReal) := fun s hs => by
    pointwise [k0_pay30]
    exact unroll_read _ f 2 270 (by omega) l p2 s (by omega) _ (by omega)
  have p8 : ∀ s : Fin 272, (s : ℕ) + 8 ≤ 272 → k0_pay31 (F := Ideal) v138 v139 k0_pay27 k0_pay28 (ix2 s l) = (fwd f 4096 8 (256 * n + s) : EReal) := fun s hs => by
    pointwise [k0_pay31]
    exact unroll_read _ f 4 268 (by omega) l p4 s (by omega) _ (by omega)
  have e2 : k0_pay32 (F := Ideal) v138 v139 k0_pay27 k0_pay28 (ix2 r l) = (fwd f 4096 2 (256 * n + r) : EReal) := by
    pointwise [k0_pay32]
    exact p2 _ (by show (r : ℕ) + 2 ≤ 272; omega)
  have e4 : k0_pay33 (F := Ideal) v138 v139 k0_pay27 k0_pay28 (ix2 r l) = (fwd f 4096 4 (256 * n + r) : EReal) := by
    pointwise [k0_pay33]
    exact p4 _ (by show (r : ℕ) + 4 ≤ 272; omega)
  have e8 : k0_pay34 (F := Ideal) v138 v139 k0_pay27 k0_pay28 (ix2 r l) = (fwd f 4096 8 (256 * n + r) : EReal) := by
    pointwise [k0_pay34]
    exact p8 _ (by show (r : ℕ) + 8 ≤ 272; omega)
  have e16 : k0_pay35 (F := Ideal) v138 v139 k0_pay27 k0_pay28 (ix2 r l) = (fwd f 4096 16 (256 * n + r) : EReal) := by
    pointwise [k0_pay35]
    exact unroll_read _ f 8 264 (by omega) l p8 ⟨r, by omega⟩ (by show (r : ℕ) + 8 + 8 ≤ 272; omega) _ (by omega)
  rw [pay1_read, hd, e2, e4, e8, e16, if_pos (show 256 * n + (r : ℕ) < 4096 by omega), du, ← hf, EReal.coe_sub]
  congr 1
  have hl := group_lt l
  unfold win
  by_cases c0 : (l : ℕ) / 64 = 0
  · rw [if_pos c0, c0]; rfl
  · by_cases c1 : (l : ℕ) / 64 = 1
    · rw [if_neg c0, if_pos c1, c1]; rfl
    · by_cases c2 : (l : ℕ) / 64 = 2
      · rw [if_neg c0, if_neg c1, if_pos c2, c2]; rfl
      · rw [if_neg c0, if_neg c1, if_neg c2, show (l : ℕ) / 64 = 3 by omega]; rfl

end

end Cert.Pool

end

end
-- ==== Proof.PoolFinal.lean ====
/- The pooling mixer's backward kernel: its result arrays as real formulas. -/
module

public import proofs.«01_k».proof.Proof.PoolPay
public import proofs.«01_k».proof.Proof.Gen.PoolBwdIdeal.Frame
public import Idealize.ShloMosaic.Lib.Pipeline.ValueKit
public import Idealize.ShloMosaic.Lib.Claim
public import Idealize.ShloMosaic.Lib.StableHlo.RunClose
public import Idealize.ShloMosaic.Lib.StableHlo.RunRead
public import Idealize.ShloMosaic.Lib.WordCmp

@[expose] public section

set_option maxRecDepth 16384

noncomputable section

open Idealize.ShloMosaic Idealize.ShloMosaic.TcCoe Idealize.SL.Sem
open Cert.PoolBwdIdeal Cert.PoolBwdIdeal.Gen Cert.RealSums

namespace Cert.Pool

variable (m : (ℓ : Loc nD τ sig) → Buf (Elt Ideal) ℓ)

/-- Where each window stands at each point. -/
theorem idx : ∀ t : Fin cfg0.N, win0_0.index t = ![t.val, 0] ∧ win0_1.index t = ![16 * t.val - 1, 0] ∧ win0_2.index t = ![t.val, 0]
    ∧ win0_3.index t = ![min (16 * (t.val + 1)) 255, 0] ∧ win0_4.index t = ![0, 0] ∧ win0_5.index t = ![0, 0] ∧ win0_6.index t = ![t.val, 0]
    ∧ win0_7.index t = ![0, 0] ∧ win0_8.index t = ![0, 0] ∧ (grid0.coords t 0).val = t.val ∧ t.val < 16 :=
  (by decide +kernel : ∀ t : Fin grid0.N, _)

/-- A table padded with columns, read where it was not padded. -/
theorem pad_read (x : FVec Ideal S4096x704 .f32) (t : Fin 4096) (l : Fin 768) (h : (l : ℕ) < 704) :
    (pad S4096x768 ![0, 0] ![0, 64] ![0, 0] x (sitofp .f32 (constantI S_ 32 0#32)) pads_S4096x704_S4096x768_000_0640 h_S_ :
      FVec Ideal S4096x768 .f32) (ix2 t l) = x (ix2 t ⟨l, h⟩) := by
  pointwise
  rw [dif_pos h]

/-- The kernel's first operand, read in the columns that the call uses. -/
theorem padded (c : Dev nD) (t : Fin 4096) (l : Fin 768) (h : (l : ℕ) < 704) :
    V m c main_v0 (ix2 t l) = m ((c : Thread nD τ).loc main_arg0) (ix2 t ⟨l, h⟩) := by
  show StableHlo.after (hostOps0 ++ (hostOps0_1 ++ hostOps0_2)) _ (Proc.devRef .tc main_v0) _ = _
  after_reads_simp
  exact pad_read _ t l h

/-- A read of a table of two axes depends on the coordinates' values alone. -/
theorem at2 {α : Type} {a b : ℕ} (x : (⟨2, ![a, b]⟩ : Shape).Idx → α) {i i' : Fin a} {j j' : Fin b} (hi : (i : ℕ) = i') (hj : (j : ℕ) = j') :
    x (ix2 i j) = x (ix2 i' j') := by
  rw [Fin.ext hi, Fin.ext hj]

/-- A read of a table of three axes depends on the coordinates' values alone. -/
theorem at3 {α : Type} {a b c : ℕ} (x : (⟨3, ![a, b, c]⟩ : Shape).Idx → α) {i i' : Fin a} {j j' : Fin b} {k k' : Fin c} (hi : (i : ℕ) = i')
    (hj : (j : ℕ) = j') (hk : (k : ℕ) = k') : x (ix3 i j k) = x (ix3 i' j' k') := by
  rw [Fin.ext hi, Fin.ext hj, Fin.ext hk]

/-- A table with a block written at a place of its diagonal. -/
theorem place_read (x : FVec Ideal S256x256 .f32) (u : FVec Ideal S64x64 .f32) (f : Fin 2 → Int) (k : ℕ) (hk : k + 64 ≤ 256) (hf : ∀ a, f a = k)
    (a b : Fin 256) : Host.dynamicUpdateSlice x u f updateFits_S256x256_S64x64 (ix2 a b)
      = if h : (k ≤ (a : ℕ) ∧ (a : ℕ) < k + 64) ∧ k ≤ (b : ℕ) ∧ (b : ℕ) < k + 64 then u (ix2 ⟨a - k, by omega⟩ ⟨b - k, by omega⟩)
        else x (ix2 a b) := by
  rw [WordCmp.dynamicUpdateSlice_eq_update x u f _ (fun _ => k) ⟨rfl, fun a => by fin_cases a <;> exact hk⟩ hf]
  pointwise

/-- The block-diagonal weights. -/
theorem weights (c : Dev nD) (a b : Fin 256) :
    (V m c main_v14 : FVec Ideal S256x256 .bf16) (ix2 a b) = if (a : ℕ) / 64 = (b : ℕ) / 64 then (m ((c : Thread nD τ).loc main_arg1) : FVec Ideal S4x64x64 .f32)
      (ix3 ⟨a / 64, by omega⟩ ⟨a % 64, by omega⟩ ⟨b % 64, by omega⟩) else (0 : EReal) := by
  show StableHlo.after (hostOps0 ++ (hostOps0_1 ++ hostOps0_2)) _ (Proc.devRef .tc main_v14) _ = _
  after_reads_simp [StableHlo.binaryIndexed_result_read, StableHlo.indexContents_cons, StableHlo.indexContents_empty]
  show Host.dynamicUpdateSlice _ _ _ updateFits_S256x256_S64x64 (ix2 a b) = _
  have two : ∀ (f : Fin 2 → Int) (z : Int), f 0 = z → f 1 = z → ∀ a, f a = z := fun f z h0 h1 a => by fin_cases a <;> assumption
  rw [place_read _ _ _ 192 (by omega) (two _ _ rfl rfl), place_read _ _ _ 128 (by omega) (two _ _ rfl rfl), place_read _ _ _ 64 (by omega) (two _ _ rfl rfl),
    place_read _ _ _ 0 (by omega) (two _ _ rfl rfl)]
  pointwise
  by_cases h : (a : ℕ) / 64 = (b : ℕ) / 64
  · rw [if_pos h]
    split_ifs
    iterate 4 exact at3 (α := EReal) (m ((c : Thread nD τ).loc main_arg1)) (by simp only []; omega) (by simp only []; omega) (by simp only []; omega)
    omega
  · rw [if_neg h, dif_neg (by omega), dif_neg (by omega), dif_neg (by omega), dif_neg (by omega)]

/-- The scales as a row. -/
theorem scales (c : Dev nD) (l : Fin 256) :
    V m c main_v15 (ix2 0 l) = m ((c : Thread nD τ).loc main_arg2) (ix1 l) := by
  show StableHlo.after (hostOps0 ++ (hostOps0_1 ++ hostOps0_2)) _ (Proc.devRef .tc main_v15) _ = _
  after_reads_simp
  pointwise

/-- What the operations after the call make of its second result: the stack of its diagonal blocks. -/
theorem blocks (W : Valuation τ sig (Elt Ideal)) (x : FVec Ideal S256x256 .f32) (hx : W (Proc.devRef .tc main_v16_1) = x) :
    StableHlo.after hostOps1 W (Proc.devRef .tc main_v25)
      = (concatenate S4x64x64 0 [⟨S1x64x64, broadcastInDim S1x64x64 ![1, 2] bcast_S64x64_S1x64x64_1_2 (extractStridedSlice S64x64 ![0, 0] x slices_S256x256_S64x64_0_0)⟩,
        ⟨S1x64x64, broadcastInDim S1x64x64 ![1, 2] bcast_S64x64_S1x64x64_1_2 (extractStridedSlice S64x64 ![64, 64] x slices_S256x256_S64x64_64_64)⟩,
        ⟨S1x64x64, broadcastInDim S1x64x64 ![1, 2] bcast_S64x64_S1x64x64_1_2 (extractStridedSlice S64x64 ![128, 128] x slices_S256x256_S64x64_128_128)⟩,
        ⟨S1x64x64, broadcastInDim S1x64x64 ![1, 2] bcast_S64x64_S1x64x64_1_2 (extractStridedSlice S64x64 ![192, 192] x slices_S256x256_S64x64_192_192)⟩]
        concatenates_S1x64x64_S1x64x64_S1x64x64_S1x64x64_S4x64x64_d0 : FVec Ideal S4x64x64 .f32) := by
  subst hx
  after_results_entrywise (rounds := 1) []

/-- The second result is the stack of the diagonal blocks. -/
theorem stacked (c : Dev nD) (g : Fin 4) (a b : Fin 64) : Pipeline.afterTail₀ cfgs (dats m) 0 (V0 m) [hostOps1] c main_v25 (ix3 g a b)
    = (dats m 0 c).arrAt 7 (cfgs 0).N (ix2 ⟨g * 64 + a, by omega⟩ ⟨g * 64 + b, by omega⟩) := by
  have e := blocks (Pipeline.withArrays (cfgs 0).spec c (V0 m c) fun w => (dats m 0 c).arrAt w (cfgs 0).N) ((dats m 0 c).arrAt 7 (cfgs 0).N)
    ((dats m 0 c).withArrays_arrAt sharedIn0 (V0 m c) (fun w => A_eq m c w) 7)
  refine (congrFun e _).trans ?_
  generalize (dats m 0 c).arrAt 7 (cfgs 0).N = x
  revert x
  show ∀ x : FVec Ideal S256x256 .f32, _
  intro x
  pointwise
  split_ifs <;> exact at2 x (by simp only []; omega) (by simp only []; omega)

/-- The block's own rows. -/
theorem read0 (c : Dev nD) (t : Fin cfg0.N) (r l : Fin 256) : iblk m c 0 t (ix2 r l)
    = m ((c : Thread nD τ).loc main_arg0) (ix2 ⟨256 * t.val + r, by have := (idx t).2.2.2.2.2.2.2.2.2.2; omega⟩ ⟨l, by omega⟩) := by
  have h := (idx t).2.2.2.2.2.2.2.2.2.2
  refine Eq.trans ?_ (padded m c ⟨256 * t.val + r, by omega⟩ ⟨l, by omega⟩ (by show (l : ℕ) < 704; omega))
  blk_ext [iblk, idx t]

/-- The sixteen rows before the block. -/
theorem read1 (c : Dev nD) (t : Fin cfg0.N) (r : Fin 16) (l : Fin 256) (h0 : 0 < t.val) : iblk m c 1 t (ix2 r l)
    = m ((c : Thread nD τ).loc main_arg0) (ix2 ⟨256 * t.val + r - 16, by have := (idx t).2.2.2.2.2.2.2.2.2.2; omega⟩ ⟨l, by omega⟩) := by
  have h := (idx t).2.2.2.2.2.2.2.2.2.2
  refine Eq.trans ?_ (padded m c ⟨256 * t.val + r - 16, by omega⟩ ⟨l, by omega⟩ (by show (l : ℕ) < 704; omega))
  blk_ext [iblk, idx t]

/-- The block's rows of the cotangent. -/
theorem read2 (c : Dev nD) (t : Fin cfg0.N) (r l : Fin 256) : iblk m c 2 t (ix2 r l)
    = m ((c : Thread nD τ).loc main_arg3) (ix2 ⟨256 * t.val + r, by have := (idx t).2.2.2.2.2.2.2.2.2.2; omega⟩ ⟨l, by omega⟩) := by
  have h := (idx t).2.2.2.2.2.2.2.2.2.2
  blk_ext [iblk, V, idx t]

/-- The sixteen rows after the block of the cotangent. -/
theorem read3 (c : Dev nD) (t : Fin cfg0.N) (r : Fin 16) (l : Fin 256) (h0 : t.val < 15) : iblk m c 3 t (ix2 r l)
    = m ((c : Thread nD τ).loc main_arg3) (ix2 ⟨256 * t.val + (256 + r), by omega⟩ ⟨l, by omega⟩) := by
  have h : min (16 * (t.val + 1)) 255 = 16 * (t.val + 1) := by omega
  blk_ext [iblk, V, idx t, h]

/-- The weights, whole. -/
theorem read4 (c : Dev nD) (t : Fin cfg0.N) (r l : Fin 256) : iblk m c 4 t (ix2 r l) = V m c main_v14 (ix2 r l) := by
  blk_ext [iblk, idx t]

/-- The scales, whole. -/
theorem read5 (c : Dev nD) (t : Fin cfg0.N) (l : Fin 256) : iblk m c 5 t (ix2 0 l) = m ((c : Thread nD τ).loc main_arg2) (ix1 l) := by
  refine Eq.trans ?_ (scales m c l)
  blk_ext [iblk, idx t]

/-- The arguments hold these real numbers: the pooled lanes of the input, the mixer's weights, its scales, the cotangent. -/
structure Reals (U : ℕ → ℕ → ℝ) (W : ℕ → ℕ → ℕ → ℝ) (S : ℕ → ℝ) (Y : ℕ → ℕ → ℝ) (c : Dev nD) : Prop where
  input : ∀ (t : Fin 4096) (l : Fin 704), (l : ℕ) < 256 → (m ((c : Thread nD τ).loc main_arg0) : FVec Ideal S4096x704 .f32) (ix2 t l) = (U t l : EReal)
  weight : ∀ (g : Fin 4) (a b : Fin 64), (m ((c : Thread nD τ).loc main_arg1) : FVec Ideal S4x64x64 .f32) (ix3 g a b) = (W g a b : EReal)
  scale : ∀ l : Fin 256, (m ((c : Thread nD τ).loc main_arg2) : FVec Ideal S256 .f32) (ix1 l) = (S l : EReal)
  cot : ∀ (t : Fin 4096) (l : Fin 1024), (l : ℕ) < 256 → (m ((c : Thread nD τ).loc main_arg3) : FVec Ideal S4096x1024 .f32) (ix2 t l) = (Y t l : EReal)

section Values

variable {m} {U : ℕ → ℕ → ℝ} {W : ℕ → ℕ → ℕ → ℝ} {S : ℕ → ℝ} {Y : ℕ → ℕ → ℝ} {c : Dev nD} (h : Reals m U W S Y c) (t : Fin cfg0.N)

/-- The grid's coordinate is the point's number. -/
theorem coord : (grid0.coords t 0).val = t.val := (idx t).2.2.2.2.2.2.2.2.2.1

theorem lt16 : t.val < 16 := (idx t).2.2.2.2.2.2.2.2.2.2

include h

/-- The block and the rows before it. -/
theorem lanes : Lanes U t.val (iblk m c 1 t) (iblk m c 0 t) where
  own r l := (read0 m c t r l).trans (h.input _ _ l.isLt)
  before h0 r l := (read1 m c t r l h0).trans (h.input _ _ l.isLt)

theorem cots (r l : Fin 256) : (iblk m c 2 t : FVec Ideal S256x256 .f32) (ix2 r l) = (Y (256 * t.val + r) l : EReal) :=
  (read2 m c t r l).trans (h.cot _ _ l.isLt)

theorem nextCots (ht : t.val < 15) (r : Fin 16) (l : Fin 256) :
    (iblk m c 3 t : FVec Ideal S16x256 .f32) (ix2 r l) = (Y (256 * t.val + (256 + r)) l : EReal) :=
  (read3 m c t r l ht).trans (h.cot _ _ l.isLt)

theorem diagonal (a b : Fin 256) : (iblk m c 4 t : FVec Ideal S256x256 .bf16) (ix2 a b) = (diag W a b : EReal) := by
  rw [read4, weights, diag]
  split_ifs
  · exact h.weight _ _ _
  · rfl

theorem scaling (l : Fin 256) : (iblk m c 5 t : FVec Ideal S1x256 .f32) (ix2 0 l) = (S l : EReal) :=
  (read5 m c t l).trans (h.scale l)

/-- The block's gradient of the pooled lanes. -/
theorem left6 (r l : Fin 256) : (outsAt0 m c t.val t.isLt).1 (ix2 r l) = (du Y W S (256 * t.val + r) l : EReal) := by
  have hd := pay26_read (lt16 t) (diagonal h t) (scaling h t) (cots h t) (nextCots h t)
  by_cases h0 : t.val % 16 = 0
  · rw [outsAt0_A m c t h0]
    frame_out
    rw [coord]
    exact du_read (lt16 t) _ hd _ rfl r l
  · rw [outsAt0_B m c t h0]
    frame_out
    rw [coord]
    exact du_read (lt16 t) _ hd _ rfl r l

/-- The block's centred window means. -/
theorem deltas (r l : Fin 256) : k0_pay19 (F := Ideal) (k0_pay4 (iblk m c 0 t)) (Scalar.muli (BitVec.ofNat 32 t.val) 256#32)
        (k0_pay15 (k0_pay8 (grid0.coords t) (iblk m c 1 t) (iblk m c 0 t))
          (k0_pay9 (grid0.coords t) (iblk m c 1 t) (iblk m c 0 t))
          (k0_pay10 (grid0.coords t) (iblk m c 1 t) (iblk m c 0 t))
          (k0_pay11 (grid0.coords t) (iblk m c 1 t) (iblk m c 0 t)) (iota .tc S256x256 32 [1] iota_S256x256_d1_w32)
          64#32 k0_pay12 k0_pay13 k0_pay14) k0_pay16 k0_pay17 k0_pay18 (ix2 r l) = (delta U (256 * t.val + r) l : EReal) :=
  pay19_read (lt16 t) _ _ r l (((by pointwise [k0_pay4]) : k0_pay4 (iblk m c 0 t) (ix2 r l) = _).trans ((lanes h t).own r l)) (back_read (coord t) (lt16 t) (lanes h t) r l)

omit h in
/-- A running sum of rows grows by a block's rows. -/
theorem grow {f : ℕ → ℝ} (n : ℕ) : ((∑ s ∈ Finset.range (256 * n), f s : ℝ) : EReal) + ∑ r : Fin 256, (f (256 * n + r) : EReal)
    = ((∑ s ∈ Finset.range (256 * (n + 1)), f s : ℝ) : EReal) := by
  rw [show 256 * (n + 1) = 256 * n + 256 by ring, Finset.sum_range_add, EReal.coe_add, ← coe_sum_fin fun r => f (256 * n + r)]

/-- The running gradient of the weights. -/
theorem left7 (a b : Fin 256) : ∀ (n : ℕ) (hn : n < cfg0.N), (outsAt0 m c n hn).2.1 (ix2 a b)
    = ((∑ s ∈ Finset.range (256 * (n + 1)), delta U s a * dys Y S s b : ℝ) : EReal)
  | 0, hn => by
    have e : outsAt0 m c 0 hn = _ := outsAt0_A m c ⟨0, hn⟩ rfl
    rw [e]
    frame_out
    rw [coord]
    refine (pay25_read _ _ (scaling h _) (cots h _) (deltas h _) a b).trans ?_
    rw [← grow 0]
    pointwise [k0_pay2]
    rw [Finset.range_zero, Finset.sum_empty, EReal.coe_zero, zero_add]
  | n + 1, hn => by
    have e : outsAt0 m c (n + 1) hn = _ := outsAt0_B m c ⟨n + 1, hn⟩ (by have := lt16 ⟨n + 1, hn⟩; simp only [] at this ⊢; omega)
    rw [e]
    frame_out
    rw [coord]
    refine (pay25_read _ _ (scaling h _) (cots h _) (deltas h _) a b).trans ?_
    rw [← grow (n + 1), ← left7 a b n (by omega)]
    rfl

/-- The running gradient of the scales. -/
theorem left8 (l : Fin 256) : ∀ (n : ℕ) (hn : n < cfg0.N), (outsAt0 m c n hn).2.2 (ix2 0 l)
    = ((∑ s ∈ Finset.range (256 * (n + 1)), Y s l * mix U W s l : ℝ) : EReal)
  | 0, hn => by
    have e : outsAt0 m c 0 hn = _ := outsAt0_A m c ⟨0, hn⟩ rfl
    rw [e]
    frame_out
    rw [coord]
    refine (pay23_read _ _ _ _ _ _ _ (diagonal h _) (cots h _) (deltas h _) l).trans ?_
    rw [← grow 0]
    pointwise [k0_pay3]
    rw [Finset.range_zero, Finset.sum_empty, EReal.coe_zero, zero_add]
  | n + 1, hn => by
    have e : outsAt0 m c (n + 1) hn = _ := outsAt0_B m c ⟨n + 1, hn⟩ (by have := lt16 ⟨n + 1, hn⟩; simp only [] at this ⊢; omega)
    rw [e]
    frame_out
    rw [coord]
    refine (pay23_read _ _ _ _ _ _ _ (diagonal h _) (cots h _) (deltas h _) l).trans ?_
    rw [← grow (n + 1), ← left8 l n (by omega)]
    rfl

/-- The first result: the gradient of the pooled lanes. -/
theorem final6 (t : Fin 4096) (l : Fin 256) : (dats m 0 c).arrAt 6 (cfgs 0).N (ix2 t l) = (du Y W S t l : EReal) := by
  have e : (dats m 0 c).arrAt 6 (cfgs 0).N = (fun i => (du Y W S (i 0 : ℕ) (i 1 : ℕ) : EReal) : FVec Ideal S4096x256 .f32) := by
    refine (dats m 0 c).arrAt_eq_of_covers 6 _ (by decide +kernel) fun t hf y => ?_
    idx_vars y
    blk_simp [idx t]
    rw [after0_6, left6 h, Nat.mul_comm]
  rw [e]; rfl

/-- The second result, before its diagonal blocks are taken. -/
theorem final7 (a b : Fin 256) : (dats m 0 c).arrAt 7 (cfgs 0).N (ix2 a b)
    = ((∑ s ∈ Finset.range 4096, delta U s a * dys Y S s b : ℝ) : EReal) := by
  have e : (dats m 0 c).arrAt 7 (cfgs 0).N = (fun i => ((∑ s ∈ Finset.range 4096, delta U s (i 0 : ℕ) * dys Y S s (i 1 : ℕ) : ℝ) : EReal) : FVec Ideal S256x256 .f32) := by
    refine (dats m 0 c).arrAt_eq_of_after_last 7 t0_15 (by decide +kernel) _ fun y => ?_
    idx_vars y
    blk_simp
    rw [after0_7, left7 h]
    rfl
  rw [e]; rfl

/-- The third result: the gradient of the scales. -/
theorem final8 (l : Fin 256) : (dats m 0 c).arrAt 8 (cfgs 0).N (ix2 0 l)
    = ((∑ s ∈ Finset.range 4096, Y s l * mix U W s l : ℝ) : EReal) := by
  have e : (dats m 0 c).arrAt 8 (cfgs 0).N = (fun i => ((∑ s ∈ Finset.range 4096, Y s (i 1 : ℕ) * mix U W s (i 1 : ℕ) : ℝ) : EReal) : FVec Ideal S1x256 .f32) := by
    refine (dats m 0 c).arrAt_eq_of_after_last 8 t0_15 (by decide +kernel) _ fun y => ?_
    idx_vars y
    blk_simp
    rw [after0_8, Subsingleton.elim y0 0, left8 h]
    rfl
  rw [e]; rfl

/-- The second result: the gradient of the weights. -/
theorem finalBlocks (g : Fin 4) (a b : Fin 64) : Pipeline.afterTail₀ cfgs (dats m) 0 (V0 m) [hostOps1] c main_v25 (ix3 g a b) = (dw U Y S g a b : EReal) := by
  rw [stacked, final7 h]; rfl

end Values

end Cert.Pool

end
end
-- ==== Proof.PoolMeans.lean ====
/- The means of the pooling windows and the mixer's input, read as real formulas. -/
module

public import proofs.«01_k».proof.Proof.PoolPrefix

@[expose] public section

set_option maxRecDepth 16384

noncomputable section

open Idealize.ShloMosaic Idealize.ShloMosaic.TcCoe Idealize.SL.Sem
open Cert.PoolBwdRefIdeal Cert.PoolBwdRefIdeal.Gen Cert.PoolBwdRefIdeal.Value Cert.PoolBwdRefIdeal.Read Cert.RealSums

namespace Cert.Pool

section
variable {U Y : ℕ → ℕ → ℝ} {W : ℕ → ℕ → ℕ → ℝ} {S : ℕ → ℝ}
  {x0 : FVec Ideal S4096x704 .f32} {x1 : FVec Ideal S4x64x64 .f32} {x2 : FVec Ideal S256 .f32} {x3 : FVec Ideal S4096x1024 .f32}

/-- The means of the windows of two rows. -/
theorem ref_mean_two (h0 : ∀ (t : Fin 4096) (l : Fin 704), (l : ℕ) < 256 → x0 (ix2 t l) = (U t l : EReal)) (t : Fin 4096) (c : Fin 64) :
    val_main_v17 (F := Ideal) x0 (ix3 0 t c) = ((back (fun s => U s c) 2 t / ((min ((t : ℕ) + 1) 2 : ℕ) : ℝ) : ℝ) : EReal) := by
  pointwise [val_main_v17, val_main_v15, val_main_v4, val_main_v7, val_main_v5, val_main_cst, val_main_v6, val_main_v16, val_main_v14, val_main_v13,
    val_main_v12, val_main_v10, val_main_v3, val_main_v9, val_main_c, val_main_v11, val_main_c_1]
  have h := ref_mean h0 2 c (by omega) (by omega) t ⟨c, by omega⟩ rfl (by omega)
  rw [h]

/-- The means of the windows of four rows. -/
theorem ref_mean_four (h0 : ∀ (t : Fin 4096) (l : Fin 704), (l : ℕ) < 256 → x0 (ix2 t l) = (U t l : EReal)) (t : Fin 4096) (c : Fin 64) :
    val_main_v31 (F := Ideal) x0 (ix3 0 t c) = ((back (fun s => U s (64 + c)) 4 t / ((min ((t : ℕ) + 1) 4 : ℕ) : ℝ) : ℝ) : EReal) := by
  pointwise [val_main_v31, val_main_v29, val_main_v18, val_main_v21, val_main_v19, val_main_cst_2, val_main_v20, val_main_v30, val_main_v28, val_main_v27,
    val_main_v26, val_main_v24, val_main_v3, val_main_v23, val_main_c_4, val_main_v25, val_main_c_5]
  have h := ref_mean h0 4 (64 + c) (by omega) (by omega) t ⟨64 + c, by omega⟩ rfl (by omega)
  rw [h]

/-- The means of the windows of eight rows. -/
theorem ref_mean_eight (h0 : ∀ (t : Fin 4096) (l : Fin 704), (l : ℕ) < 256 → x0 (ix2 t l) = (U t l : EReal)) (t : Fin 4096) (c : Fin 64) :
    val_main_v45 (F := Ideal) x0 (ix3 0 t c) = ((back (fun s => U s (128 + c)) 8 t / ((min ((t : ℕ) + 1) 8 : ℕ) : ℝ) : ℝ) : EReal) := by
  pointwise [val_main_v45, val_main_v43, val_main_v32, val_main_v35, val_main_v33, val_main_cst_6, val_main_v34, val_main_v44, val_main_v42, val_main_v41,
    val_main_v40, val_main_v38, val_main_v3, val_main_v37, val_main_c_8, val_main_v39, val_main_c_9]
  have h := ref_mean h0 8 (128 + c) (by omega) (by omega) t ⟨128 + c, by omega⟩ rfl (by omega)
  rw [h]

/-- The means of the windows of sixteen rows. -/
theorem ref_mean_sixteen (h0 : ∀ (t : Fin 4096) (l : Fin 704), (l : ℕ) < 256 → x0 (ix2 t l) = (U t l : EReal)) (t : Fin 4096) (c : Fin 64) :
    val_main_v59 (F := Ideal) x0 (ix3 0 t c) = ((back (fun s => U s (192 + c)) 16 t / ((min ((t : ℕ) + 1) 16 : ℕ) : ℝ) : ℝ) : EReal) := by
  pointwise [val_main_v59, val_main_v57, val_main_v46, val_main_v49, val_main_v47, val_main_cst_10, val_main_v48, val_main_v58, val_main_v56, val_main_v55,
    val_main_v54, val_main_v52, val_main_v3, val_main_v51, val_main_c_12, val_main_v53, val_main_c_13]
  have h := ref_mean h0 16 (192 + c) (by omega) (by omega) t ⟨192 + c, by omega⟩ rfl (by omega)
  rw [h]

/-- The mixer's input. -/
theorem ref_delta (h0 : ∀ (t : Fin 4096) (l : Fin 704), (l : ℕ) < 256 → x0 (ix2 t l) = (U t l : EReal)) (t : Fin 4096) (l : Fin 256) :
    val_main_v61 (F := Ideal) x0 (ix3 0 t l) = (delta U t l : EReal) := by
  pointwise [val_main_v61, val_main_v60, val_main_v1, val_main_v0]
  have hl : (l : ℕ) < 256 := l.isLt
  rw [h0 _ _ (by exact hl)]
  have key : ∀ w j : ℕ, win l = w → j = l → ((back (fun s => U s j) w t / ((min ((t : ℕ) + 1) w : ℕ) : ℝ) : ℝ) : EReal) - (U t l : EReal) = (delta U t l : EReal) := by
    intro w j hw hj
    rw [hj, ← EReal.coe_sub, ← hw, delta, cnt]
  by_cases c1 : (l : ℕ) < 64
  · rw [dif_pos c1, ref_mean_two h0]
    exact key 2 _ (by unfold win; rw [show (l : ℕ) / 64 = 0 by omega]; norm_num) rfl
  · by_cases c2 : (l : ℕ) - 64 < 64
    · rw [dif_neg c1, dif_pos c2, ref_mean_four h0]
      exact key 4 _ (by unfold win; rw [show (l : ℕ) / 64 = 1 by omega]; norm_num) (by show 64 + ((l : ℕ) - 64) = l; omega)
    · by_cases c3 : (l : ℕ) - 64 - 64 < 64
      · rw [dif_neg c1, dif_neg c2, dif_pos c3, ref_mean_eight h0]
        exact key 8 _ (by unfold win; rw [show (l : ℕ) / 64 = 2 by omega]; norm_num) (by show 128 + ((l : ℕ) - 64 - 64) = l; omega)
      · rw [dif_neg c1, dif_neg c2, dif_neg c3, ref_mean_sixteen h0]
        exact key 16 _ (by unfold win; rw [show (l : ℕ) / 64 = 3 by omega]; norm_num) (by show 192 + ((l : ℕ) - 64 - 64 - 64) = l; omega)

end

end Cert.Pool

end

end
-- ==== Proof.PoolRef.lean ====
/- The pooling mixer's reference gradient, read element by element as real formulas. -/
module

public import proofs.«01_k».proof.Proof.PoolMeans

@[expose] public section

set_option maxRecDepth 16384

noncomputable section

open Idealize.ShloMosaic Idealize.ShloMosaic.TcCoe Idealize.SL.Sem
open Cert.PoolBwdRefIdeal Cert.PoolBwdRefIdeal.Gen Cert.PoolBwdRefIdeal.Value Cert.PoolBwdRefIdeal.Read Cert.RealSums

namespace Cert.Pool

section
variable {U Y : ℕ → ℕ → ℝ} {W : ℕ → ℕ → ℕ → ℝ} {S : ℕ → ℝ}
  {x0 : FVec Ideal S4096x704 .f32} {x1 : FVec Ideal S4x64x64 .f32} {x2 : FVec Ideal S256 .f32} {x3 : FVec Ideal S4096x1024 .f32}

/-- The mixer's product. -/
theorem ref_mix (h0 : ∀ (t : Fin 4096) (l : Fin 704), (l : ℕ) < 256 → x0 (ix2 t l) = (U t l : EReal))
    (h1 : ∀ (g : Fin 4) (c d : Fin 64), x1 (ix3 g c d) = (W g c d : EReal)) (t : Fin 4096) (l : Fin 256) :
    val_main_v65 (F := Ideal) x0 x1 (ix3 0 t l) = (mix U W t l : EReal) := by
  pointwise [val_main_v65, val_main_v64, val_main_v63, val_main_v62]
  have hl : (l : ℕ) < 256 := l.isLt
  unfold mix
  rw [← coe_sum_fin]
  refine Finset.sum_congr rfl fun c _ => ?_
  rw [h1, ref_delta h0, ← EReal.coe_mul, mul_comm]

/-- The gradient of the scale. -/
theorem ref_ds (h0 : ∀ (t : Fin 4096) (l : Fin 704), (l : ℕ) < 256 → x0 (ix2 t l) = (U t l : EReal))
    (h1 : ∀ (g : Fin 4) (c d : Fin 64), x1 (ix3 g c d) = (W g c d : EReal))
    (h3 : ∀ (t : Fin 4096) (l : Fin 1024), (l : ℕ) < 256 → x3 (ix2 t l) = (Y t l : EReal)) (l : Fin 256) :
    val_main_v129 (F := Ideal) x0 x1 x3 (ix2 0 l) = (ds U Y W l : EReal) := by
  pointwise [val_main_v129, val_main_v76, val_main_v73, val_main_v72, val_main_v71, val_main_v70, val_main_v69, val_main_cst_14, val_main_cst_15]
  rw [sumUnit _ _ _ _ Nat.one_pos l rfl]
  pointwise
  have hl : (l : ℕ) < 256 := l.isLt
  unfold ds
  rw [← coe_sum_fin]
  refine Finset.sum_congr rfl fun t _ => ?_
  rw [ref_mix h0 h1, h3 _ _ (by exact hl), ← EReal.coe_mul, mul_comm]

/-- The cotangent of the mixer's input. -/
theorem ref_dd (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (l : Fin 256) :
    val_main_v83 (F := Ideal) x1 x2 x3 (ix3 0 t l) = (dd Y W S t l : EReal) := by
  pointwise [val_main_v83, val_main_v80, val_main_v79, val_main_v78, val_main_v77, val_main_v75, val_main_v74, val_main_v66, val_main_v70, val_main_v69]
  have hl : (l : ℕ) < 256 := l.isLt
  unfold dd
  rw [← coe_sum_fin]
  refine Finset.sum_congr rfl fun c _ => ?_
  have hc : (c : ℕ) < 64 := c.isLt
  rw [h3 _ _ (by show (l : ℕ) / 64 * 64 + c < 256; omega), h2, h1, ← EReal.coe_mul, ← EReal.coe_mul, dys]

/-- The gradient of the group weights. -/
theorem ref_dw (h0 : ∀ (t : Fin 4096) (l : Fin 704), (l : ℕ) < 256 → x0 (ix2 t l) = (U t l : EReal))
    (h2 : ∀ l : Fin 256, x2 (ix1 l) = (S l : EReal))
    (h3 : ∀ (t : Fin 4096) (l : Fin 1024), (l : ℕ) < 256 → x3 (ix2 t l) = (Y t l : EReal)) (g : Fin 4) (c d : Fin 64) :
    val_main_v82 (F := Ideal) x0 x2 x3 (ix3 g c d) = (dw U Y S g c d : EReal) := by
  pointwise [val_main_v82, val_main_v81, val_main_v78, val_main_v77, val_main_v75, val_main_v74, val_main_v66, val_main_v70, val_main_v69, val_main_v62]
  have hg : (g : ℕ) < 4 := g.isLt
  have hd : (d : ℕ) < 64 := d.isLt
  unfold dw
  rw [Fintype.sum_unique, ← coe_sum_fin]
  refine Finset.sum_congr rfl fun t _ => ?_
  rw [h3 _ _ (by show (g : ℕ) * 64 + d < 256; omega), h2, ref_delta h0, ← EReal.coe_mul, ← EReal.coe_mul, dys, mul_comm (delta _ _ _)]

/-- A row's mean cotangent less that of the row one window on, as computed. -/
theorem step_read (D : Fin 4096 → EReal) (l : ℕ) (hD : ∀ s : Fin 4096, D s = (dd Y W S s l : EReal)) (w n : ℕ) (hw : w < 4096) (hp : 0 < w)
    (hn : n + w = 4096) (t : Fin 4096) (g : (t : ℕ) < n → w + (t : ℕ) < 4096) :
    (Ideal.div (D t) (FloatOps.sitofp FTy.f32 (IntOp.minsi (IntOp.addi (BitVec.ofNat 32 t) 1#32) (BitVec.ofNat 32 w)) : Ideal .f32)
      + if h : (t : ℕ) < n then
          - Ideal.div (D ⟨w + t, g h⟩) (FloatOps.sitofp FTy.f32 (IntOp.minsi (IntOp.addi (BitVec.ofNat 32 (w + t)) 1#32) (BitVec.ofNat 32 w)) : Ideal .f32)
        else 0) = (step Y W S w l t : EReal) := by
  have hne : ∀ s : ℕ, ((min (s + 1) w : ℕ) : ℝ) ≠ 0 := fun s => by
    have : min (s + 1) w ≠ 0 := by omega
    exact_mod_cast this
  rw [count_word _ _ (by omega) hw, hD, div_real (hne _), step]
  by_cases h : (t : ℕ) < n
  · rw [dif_pos h, if_pos (by omega), count_word _ _ (by have := g h; omega) hw, hD, div_real (hne _), ← EReal.coe_neg, ← EReal.coe_add, ← sub_eq_add_neg]
    show ((_ - dd Y W S (w + t) l / ((min (w + t + 1) w : ℕ) : ℝ) : ℝ) : EReal) = _
    rw [Nat.add_comm w t]
  · rw [dif_neg h, if_neg (by omega), add_zero, sub_zero]

/-- The cotangent of the prefix sums of the windows of two rows. -/
theorem ref_grad_two (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (c : Fin 64) :
    val_main_v121 (F := Ideal) x1 x2 x3 (ix3 0 t c) = (step Y W S 2 c t : EReal) := by
  pointwise [val_main_v121, val_main_v120, val_main_cst_22, val_main_v119, val_main_v117, val_main_v116, val_main_v85, val_main_v115, val_main_v14, val_main_v13,
    val_main_v12, val_main_v10, val_main_v3, val_main_v9, val_main_c, val_main_v11, val_main_c_1]
  exact step_read (fun s => val_main_v83 (F := Ideal) x1 x2 x3 (ix3 0 s ⟨c, Nat.lt_trans c.isLt (by decide)⟩)) c (fun s => by rw [ref_dd h1 h2 h3]) 2 4094 (by omega)
    (by omega) (by omega) t _

/-- The cotangent of the prefix sums of the windows of four rows. -/
theorem ref_grad_four (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (c : Fin 64) :
    val_main_v112 (F := Ideal) x1 x2 x3 (ix3 0 t c) = (step Y W S 4 (64 + c) t : EReal) := by
  pointwise [val_main_v112, val_main_v111, val_main_cst_20, val_main_v110, val_main_v108, val_main_v107, val_main_v86, val_main_v106, val_main_v28, val_main_v27,
    val_main_v26, val_main_v24, val_main_v3, val_main_v23, val_main_c_4, val_main_v25, val_main_c_5]
  exact step_read (fun s => val_main_v83 (F := Ideal) x1 x2 x3 (ix3 0 s ⟨64 + c, Nat.lt_of_lt_of_le (Nat.add_lt_add_left c.isLt 64) (by decide)⟩)) (64 + c) (fun s => by rw [ref_dd h1 h2 h3]) 4 4092 (by omega)
    (by omega) (by omega) t _

/-- The cotangent of the prefix sums of the windows of eight rows. -/
theorem ref_grad_eight (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (c : Fin 64) :
    val_main_v103 (F := Ideal) x1 x2 x3 (ix3 0 t c) = (step Y W S 8 (128 + c) t : EReal) := by
  pointwise [val_main_v103, val_main_v102, val_main_cst_18, val_main_v101, val_main_v99, val_main_v98, val_main_v87, val_main_v97, val_main_v42, val_main_v41,
    val_main_v40, val_main_v38, val_main_v3, val_main_v37, val_main_c_8, val_main_v39, val_main_c_9]
  exact step_read (fun s => val_main_v83 (F := Ideal) x1 x2 x3 (ix3 0 s ⟨128 + c, Nat.lt_of_lt_of_le (Nat.add_lt_add_left c.isLt 128) (by decide)⟩)) (128 + c) (fun s => by rw [ref_dd h1 h2 h3]) 8 4088 (by omega)
    (by omega) (by omega) t _

/-- The cotangent of the prefix sums of the windows of sixteen rows. -/
theorem ref_grad_sixteen (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (c : Fin 64) :
    val_main_v95 (F := Ideal) x1 x2 x3 (ix3 0 t c) = (step Y W S 16 (192 + c) t : EReal) := by
  pointwise [val_main_v95, val_main_v94, val_main_cst_16, val_main_v93, val_main_v91, val_main_v90, val_main_v88, val_main_v89, val_main_v56, val_main_v55,
    val_main_v54, val_main_v52, val_main_v3, val_main_v51, val_main_c_12, val_main_v53, val_main_c_13]
  exact step_read (fun s => val_main_v83 (F := Ideal) x1 x2 x3 (ix3 0 s ⟨192 + c, Nat.lt_of_lt_of_le (Nat.add_lt_add_left c.isLt 192) (by decide)⟩)) (192 + c) (fun s => by rw [ref_dd h1 h2 h3]) 16 4080 (by omega)
    (by omega) (by omega) t _

/-- The cotangent of the prefix sums. -/
theorem ref_grad (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (l : Fin 256) :
    val_main_v123 (F := Ideal) x1 x2 x3 (ix3 0 t l) = (step Y W S (win l) l t : EReal) := by
  pointwise [val_main_v123, val_main_v122, val_main_cst_23, val_main_v114, val_main_v113, val_main_cst_21, val_main_v105, val_main_v104, val_main_cst_19,
    val_main_v96, val_main_cst_17]
  have hl : (l : ℕ) < 256 := l.isLt
  have key : ∀ w j : ℕ, win l = w → j = l → (step Y W S w j t : EReal) = (step Y W S (win l) l t : EReal) := by
    intro w j hw hj
    rw [hj, hw]
  by_cases c1 : (l : ℕ) < 64
  · rw [dif_neg (by omega), dif_neg (by omega), dif_neg (by omega), dif_pos c1, ref_grad_two h1 h2 h3, add_zero, add_zero, zero_add]
    exact key 2 _ (by unfold win; rw [show (l : ℕ) / 64 = 0 by omega]; norm_num) rfl
  · by_cases c2 : (l : ℕ) < 128
    · rw [dif_neg (by omega), dif_neg (by omega), dif_pos ⟨by omega, by omega⟩, dif_neg c1, ref_grad_four h1 h2 h3, add_zero, add_zero, zero_add]
      exact key 4 _ (by unfold win; rw [show (l : ℕ) / 64 = 1 by omega]; norm_num) (by show 64 + ((l : ℕ) - 64) = l; omega)
    · by_cases c3 : (l : ℕ) < 192
      · rw [dif_neg (by omega), dif_pos ⟨by omega, by omega⟩, dif_neg (by omega), dif_neg c1, ref_grad_eight h1 h2 h3, add_zero, add_zero, zero_add]
        exact key 8 _ (by unfold win; rw [show (l : ℕ) / 64 = 2 by omega]; norm_num) (by show 128 + ((l : ℕ) - 128) = l; omega)
      · rw [dif_pos ⟨by omega, by omega⟩, dif_neg (by omega), dif_neg (by omega), dif_neg c1, ref_grad_sixteen h1 h2 h3, add_zero, add_zero, add_zero]
        exact key 16 _ (by unfold win; rw [show (l : ℕ) / 64 = 3 by omega]; norm_num) (by show 192 + ((l : ℕ) - 192) = l; omega)

/-- The rows from `t` on, summed. -/
theorem ref_suffix (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (l : Fin 256) :
    val_main_v124 (F := Ideal) x1 x2 x3 (ix3 0 t l) = (fwd (fun s => dd Y W S s l / cnt s l) 4096 (win l) t : EReal) := by
  unfold val_main_v124
  rw [windowRows 0 4095 _ _ _ _ (fun i => by pointwise [val_main_call1_call0_v0, val_main_call1_call0_cst]), ← suffix_sub, ← coe_sum_fin]
  refine Finset.sum_congr rfl fun k _ => ?_
  by_cases hk : (t : ℕ) + k < 4096
  · rw [dif_pos ⟨Nat.zero_le _, by omega⟩, if_pos hk, ref_grad h1 h2 h3]; rfl
  · rw [dif_neg (fun h => hk (by omega)), if_neg hk, EReal.coe_zero]

/-- The gradient of the pooled lanes. -/
theorem ref_du (h1 : ∀ (g : Fin 4) (c d : Fin 64), x1 (ix3 g c d) = (W g c d : EReal)) (h2 : ∀ l : Fin 256, x2 (ix1 l) = (S l : EReal))
    (h3 : ∀ (t : Fin 4096) (l : Fin 1024), (l : ℕ) < 256 → x3 (ix2 t l) = (Y t l : EReal)) (t : Fin 4096) (l : Fin 256) :
    val_main_v128 (F := Ideal) x1 x2 x3 (ix2 t l) = (du Y W S t l : EReal) := by
  pointwise [val_main_v128, val_main_v127, val_main_cst_25, val_main_v126, val_main_cst_24, val_main_v125, val_main_v84]
  rw [Fintype.sum_unique]
  show -val_main_v83 (F := Ideal) x1 x2 x3 (ix3 0 t l) + val_main_v124 (F := Ideal) x1 x2 x3 (ix3 0 t l) = _
  rw [ref_suffix h1 h2 h3, ref_dd h1 h2 h3, ← EReal.coe_neg, ← EReal.coe_add, du, neg_add_eq_sub]

end

end Cert.Pool

end
-- ==== Proof.PoolClaim.lean ====
/- The pooling mixer's backward kernel computes the derivative of the plain forward pass. -/
module

public import proofs.«01_k».proof.Defs
public import proofs.«01_k».proof.Proof.PoolFinal
public import proofs.«01_k».proof.Proof.PoolRef
public import proofs.«01_k».proof.Proof.Gen.PoolBwdRefIdeal.Read
public import proofs.«01_k».proof.Proof.Gen.PoolBwdRefIdeal.Run
public import proofs.«01_k».proof.Proof.Gen.Pre_pool_finite
public import Idealize.ShloMosaic.Lib.Claim

@[expose] public section

set_option maxRecDepth 16384

noncomputable section

open Idealize.ShloMosaic Idealize.ShloMosaic.TcCoe Idealize.SL.Sem
open Cert.RealSums

namespace Cert.Pool

attribute [local instance] Cert.PoolBwdIdeal.Gen.facts Cert.PoolBwdRefIdeal.Gen.facts Cert.Pre_pool_finite.Gen.facts

open Cert.PoolBwdIdeal in
/-- Under the precondition the entries that the call reads are real numbers. -/
theorem reals_of_pre (x0 : FVec Ideal S4096x704 .f32) (x1 : FVec Ideal S4x64x64 .f32) (x2 : FVec Ideal S256 .f32) (x3 : FVec Ideal S4096x1024 .f32)
    (h0 : (Cert.Pre_pool_finite.fn (F := Ideal) x0 x1 x2 x3).1 = fun _ => 1#1)
    (h1 : (Cert.Pre_pool_finite.fn (F := Ideal) x0 x1 x2 x3).2.1 = fun _ => 1#1)
    (h2 : (Cert.Pre_pool_finite.fn (F := Ideal) x0 x1 x2 x3).2.2.1 = fun _ => 1#1)
    (h3 : (Cert.Pre_pool_finite.fn (F := Ideal) x0 x1 x2 x3).2.2.2 = fun _ => 1#1) :
    (∀ (t : Fin 4096) (l : Fin 704), (l : ℕ) < 256 → x0 (ix2 t l) = ((x0 (ix2 t l)).toReal : EReal))
    ∧ (∀ (g : Fin 4) (a b : Fin 64), x1 (ix3 g a b) = ((x1 (ix3 g a b)).toReal : EReal))
    ∧ (∀ l : Fin 256, x2 (ix1 l) = ((x2 (ix1 l)).toReal : EReal))
    ∧ (∀ (t : Fin 4096) (l : Fin 1024), (l : ℕ) < 256 → x3 (ix2 t l) = ((x3 (ix2 t l)).toReal : EReal)) := by
  refine ⟨fun t l hl => ?_, fun g a b => ?_, fun l => ?_, fun t l hl => ?_⟩
  · have e : (extractStridedSlice S4096x256 ![0, 0] x0 Cert.Pre_pool_finite.Facts.slices_S4096x704_S4096x256_0_0 : FVec Ideal S4096x256 .f32) (ix2 t (⟨l, hl⟩ : Fin 256)) = x0 (ix2 t l) := by
      pointwise
    rw [← e]
    exact real_of_one (congrFun h0 (ix2 t (⟨l, hl⟩ : Fin 256)))
  · exact real_of_one (congrFun h1 (ix3 g a b))
  · exact real_of_one (congrFun h2 (ix1 l))
  · have e : (extractStridedSlice S4096x256 ![0, 0] x3 Cert.Pre_pool_finite.Facts.slices_S4096x1024_S4096x256_0_0 : FVec Ideal S4096x256 .f32) (ix2 t (⟨l, hl⟩ : Fin 256)) = x3 (ix2 t l) := by
      pointwise
    rw [← e]
    exact real_of_one (congrFun h3 (ix2 t (⟨l, hl⟩ : Fin 256)))

open Cert.PoolBwdIdeal in
/-- The arguments of one device under the precondition, as functions into the real numbers. -/
theorem reals_at (m : (ℓ : Loc nD τ sig) → Buf (Elt Ideal) ℓ) (hpre : Cert.Pre_PoolBwdIdeal_pool_finite m) (c : Dev nD) :
    ∃ U W S Y, Reals m U W S Y c := by
  obtain ⟨h0, h1, h2, h3⟩ := hpre c
  obtain ⟨r0, r1, r2, r3⟩ := reals_of_pre _ _ _ _ h0 h1 h2 h3
  refine ⟨fun t l => if h : t < 4096 ∧ l < 704 then ((m ((c : Thread nD τ).loc main_arg0) : FVec Ideal S4096x704 .f32) (ix2 ⟨t, h.1⟩ ⟨l, h.2⟩)).toReal else 0,
    fun g a b => if h : g < 4 ∧ a < 64 ∧ b < 64 then ((m ((c : Thread nD τ).loc main_arg1) : FVec Ideal S4x64x64 .f32) (ix3 ⟨g, h.1⟩ ⟨a, h.2.1⟩ ⟨b, h.2.2⟩)).toReal else 0,
    fun l => if h : l < 256 then ((m ((c : Thread nD τ).loc main_arg2) : FVec Ideal S256 .f32) (ix1 ⟨l, h⟩)).toReal else 0,
    fun t l => if h : t < 4096 ∧ l < 1024 then ((m ((c : Thread nD τ).loc main_arg3) : FVec Ideal S4096x1024 .f32) (ix2 ⟨t, h.1⟩ ⟨l, h.2⟩)).toReal else 0,
    ⟨fun t l hl => ?_, fun g a b => ?_, fun l => ?_, fun t l hl => ?_⟩⟩
  · rw [dif_pos ⟨t.isLt, l.isLt⟩]
    exact r0 t l hl
  · rw [dif_pos ⟨g.isLt, a.isLt, b.isLt⟩]
    exact r1 g a b
  · rw [dif_pos l.isLt]
    exact r2 l
  · rw [dif_pos ⟨t.isLt, l.isLt⟩]
    exact r3 t l hl

/-- The derivative of the plain forward pass runs, leaves its arguments unchanged and has no counters. -/
theorem frame_ref : Cert.quiescent_PoolBwdRefIdeal := fun m g _ =>
  (θ_run Cert.PoolBwdRefIdeal.defs _ _).mono (fun r h => ⟨fun c => (h c).2.2.2, sem_eq_zero_of_no_sems (by decide) r.2⟩)
    (Cert.PoolBwdRefIdeal.Value.run (F := Ideal) m g)

/-- The claim about the values. -/
theorem algebraic : Cert.algebraic_PoolBwdIdeal_PoolBwdRefIdeal_pre_pool_finite := by
  pair_intro
  · run_from Cert.PoolBwdIdeal.Gen.run_main m g & Cert.PoolBwdIdeal.Gen.unchanged m g
  · run_from Cert.PoolBwdRefIdeal.Value.run m' g'
    · obtain ⟨a0, a1, a2, a3⟩ := hagree c
      obtain ⟨U, W, S, Y, h⟩ := reals_at m hpre c
      rw [Cert.PoolBwdRefIdeal.Read.val_main_v128_eq, a1, a2, a3]
      funext y
      idx_vars y
      exact (ref_du h.weight h.scale h.cot y0 y1).trans (final6 h y0 y1).symm
    · obtain ⟨a0, a1, a2, a3⟩ := hagree c
      obtain ⟨U, W, S, Y, h⟩ := reals_at m hpre c
      rw [Cert.PoolBwdRefIdeal.Read.val_main_v82_eq, a0, a2, a3]
      funext y
      idx_vars y
      exact (ref_dw h.input h.scale h.cot y0 y1 y2).trans (finalBlocks h y0 y1 y2).symm
    · obtain ⟨a0, a1, a2, a3⟩ := hagree c
      obtain ⟨U, W, S, Y, h⟩ := reals_at m hpre c
      rw [Cert.PoolBwdRefIdeal.Read.val_main_v129_eq, a0, a1, a3]
      funext y
      idx_vars y
      obtain rfl : y0 = 0 := Subsingleton.elim _ _
      exact (ref_ds h.input h.weight h.cot y1).trans (final8 h y1).symm

end Cert.Pool

end
-- ==== Proof.FlashMath.lean ====
/-
  Attention with a chunked causal mask, in real numbers: the weights and their gradient as functions of row and column
  numbers, and a softmax gathered block of columns by block of columns.
-/
module

public import proofs.«01_k».proof.Proof.RealSums
public import Mathlib.Algebra.BigOperators.Intervals

@[expose] public section

noncomputable section

namespace Cert.Att

open Finset Idealize.ShloMosaic Cert.RealSums

/-- Row `r` sees column `c`: the column's chunk of 64 is not after the row's. -/
abbrev seen (r c : ℕ) : Prop := c / 64 ≤ r / 64

/-- The scores: products of 256 lanes. -/
def score (q k : ℕ → ℕ → ℝ) (r c : ℕ) : ℝ := ∑ d ∈ range 256, q r d * k c d

/-- The exponential of a seen score, less `M`. -/
def wt (S : ℕ → ℕ → ℝ) (r : ℕ) (M : ℝ) (c : ℕ) : ℝ := if seen r c then Real.exp (S r c - M) else 0

/-- A row's sum of exponentials. -/
def tot (S : ℕ → ℕ → ℝ) (r : ℕ) : ℝ := ∑ c ∈ range 4096, wt S r 0 c

/-- The attention weights. -/
def prob (S : ℕ → ℕ → ℝ) (r c : ℕ) : ℝ := wt S r 0 c / tot S r

/-- The attention result. -/
def att (S v : ℕ → ℕ → ℝ) (r e : ℕ) : ℝ := ∑ c ∈ range 4096, prob S r c * v c e

/-- The weights' cotangent. -/
def dprob (v g : ℕ → ℕ → ℝ) (r c : ℕ) : ℝ := ∑ e ∈ range 128, g r e * v c e

/-- The product of a row's result and its cotangent. -/
def dot (S v g : ℕ → ℕ → ℝ) (r : ℕ) : ℝ := ∑ e ∈ range 128, g r e * att S v r e

/-- The scores' cotangent. -/
def dscore (S v g : ℕ → ℕ → ℝ) (r c : ℕ) : ℝ := prob S r c * (dprob v g r c - dot S v g r)

/-- The queries' gradient. -/
def dq (S k v g : ℕ → ℕ → ℝ) (r d : ℕ) : ℝ := ∑ c ∈ range 4096, dscore S v g r c * k c d

/-- The keys' gradient. -/
def dk (S q v g : ℕ → ℕ → ℝ) (c d : ℕ) : ℝ := ∑ r ∈ range 4096, dscore S v g r c * q r d

/-- The values' gradient. -/
def dv (S g : ℕ → ℕ → ℝ) (c e : ℕ) : ℝ := ∑ r ∈ range 4096, prob S r c * g r e

theorem wt_nonneg (S : ℕ → ℕ → ℝ) (r : ℕ) (M : ℝ) (c : ℕ) : 0 ≤ wt S r M c := by
  unfold wt; split
  · exact (Real.exp_pos _).le
  · exact le_rfl

theorem sum_wt_pos (S : ℕ → ℕ → ℝ) (r : ℕ) (M : ℝ) (n : ℕ) (h : r < n) : 0 < ∑ c ∈ range n, wt S r M c := by
  refine sum_pos' (fun c _ => wt_nonneg S r M c) ⟨r, mem_range.2 h, ?_⟩
  unfold wt; rw [if_pos le_rfl]; exact Real.exp_pos _

theorem tot_pos (S : ℕ → ℕ → ℝ) (r : ℕ) (h : r < 4096) : 0 < tot S r := sum_wt_pos S r 0 4096 h

theorem wt_unseen (S : ℕ → ℕ → ℝ) (r : ℕ) (M : ℝ) (c : ℕ) (h : ¬ seen r c) : wt S r M c = 0 := if_neg h

theorem prob_unseen (S : ℕ → ℕ → ℝ) (r c : ℕ) (h : ¬ seen r c) : prob S r c = 0 := by
  unfold prob; rw [wt_unseen S r 0 c h, zero_div]

theorem dscore_unseen (S v g : ℕ → ℕ → ℝ) (r c : ℕ) (h : ¬ seen r c) : dscore S v g r c = 0 := by
  unfold dscore; rw [prob_unseen S r c h, zero_mul]

/-- Subtracting `M` inside the exponential is dividing by its exponential. -/
theorem wt_shift (S : ℕ → ℕ → ℝ) (r : ℕ) (M M' : ℝ) (c : ℕ) : Real.exp (M - M') * wt S r M c = wt S r M' c := by
  unfold wt; split
  · rw [← Real.exp_add]; congr 1; ring
  · rw [mul_zero]

/-- Columns after the row's own block are not seen. -/
theorem sum_block (f : ℕ → ℝ) (r n : ℕ) (hr : r < 512 * n) (hn : n ≤ 8) (h0 : ∀ c, ¬ seen r c → f c = 0) :
    ∑ c ∈ range (512 * n), f c = ∑ c ∈ range 4096, f c := by
  refine sum_subset (range_subset_range.2 (by omega)) fun c _ hc => h0 c ?_
  rw [mem_range] at hc
  unfold seen; omega

/-- Rows before the column's own block do not see it. -/
theorem sum_rows (f : ℕ → ℝ) (c n : ℕ) (hr : 512 * n ≤ c) (hn : n ≤ 8) (h0 : ∀ r, ¬ seen r c → f r = 0) :
    ∑ r ∈ Ico (512 * n) 4096, f r = ∑ r ∈ range 4096, f r := by
  rw [range_eq_Ico]
  refine sum_subset (Ico_subset_Ico_left (by omega)) fun r _ hr' => h0 r ?_
  rw [mem_Ico] at *
  unfold seen; omega

/-- The largest of finitely many extended reals that are below infinity and not all minus infinity is real. -/
theorem fold_max_real {n : ℕ} (X : Fin n → EReal) (m : EReal) (hm : m ≠ ⊤) (hX : ∀ k, X k ≠ ⊤) (h : m ≠ ⊥ ∨ ∃ k, X k ≠ ⊥) :
    ∃ M : ℝ, max m (Finset.univ.fold max (⊥ : EReal) X) = (M : EReal) := by
  have hf : ∀ s : Finset (Fin n), s.fold max (⊥ : EReal) X ≠ ⊤ := by
    intro s
    refine ne_of_lt ((Finset.fold_max_lt (c := (⊤ : EReal))).2 ⟨by simp, fun k _ => lt_of_le_of_ne le_top (hX k)⟩)
  have ht : max m (Finset.univ.fold max (⊥ : EReal) X) ≠ ⊤ := by
    rcases max_choice m (Finset.univ.fold max (⊥ : EReal) X) with e | e <;> rw [e]
    · exact hm
    · exact hf _
  have hb : max m (Finset.univ.fold max (⊥ : EReal) X) ≠ ⊥ := by
    rcases h with h | ⟨k, hk⟩
    · exact fun e => h (le_bot_iff.1 ((le_max_left m _).trans e.le))
    · intro e
      have h1 : X k ≤ Finset.univ.fold max (⊥ : EReal) X := (Finset.le_fold_max (X k)).2 (.inr ⟨k, Finset.mem_univ k, le_rfl⟩)
      exact hk (le_bot_iff.1 (h1.trans ((le_max_right m _).trans e.le)))
  exact ⟨_, (EReal.coe_toReal ht hb).symm⟩

/-- What a row has gathered over its first `n` columns: the largest score so far and, less it, the sums of the
    exponentials and of the exponentials times the values. -/
def Row (S v : ℕ → ℕ → ℝ) (r n : ℕ) (m l : EReal) (acc : Fin 128 → EReal) : Prop :=
  (m = ⊥ ∧ n = 0 ∧ l = 0 ∧ ∀ e, acc e = 0) ∨
  ∃ M : ℝ, m = M ∧ l = ((∑ c ∈ range n, wt S r M c : ℝ) : EReal) ∧ ∀ e : Fin 128, acc e = ((∑ c ∈ range n, wt S r M c * v c e : ℝ) : EReal)

/-- A seen score less a real, exponentiated. -/
theorem exp_wt (S : ℕ → ℕ → ℝ) (r c : ℕ) (M : ℝ) :
    Ideal.exp ((if seen r c then (S r c : EReal) else ⊥) - (M : EReal)) = (wt S r M c : EReal) := by
  unfold wt; split
  · rw [← EReal.coe_sub, Ideal.exp_coe]
  · rw [sub_eq_add_neg, EReal.bot_add, Ideal.exp_bot, EReal.coe_zero]

/-- Another 512 columns taken in. -/
theorem Row.step {S v : ℕ → ℕ → ℝ} {r n : ℕ} {m l : EReal} {acc : Fin 128 → EReal} (h : Row S v r n m l acc)
    (X : Fin 512 → EReal) (hX : ∀ k : Fin 512, X k = if seen r (n + k) then (S r (n + k) : EReal) else ⊥) (hs : seen r n)
    (V : Fin 512 → Fin 128 → EReal) (hV : ∀ k e, V k e = (v (n + k) e : EReal))
    (m' : EReal) (hm' : m' = max m (Finset.univ.fold max (⊥ : EReal) X)) :
    (∃ M : ℝ, m' = M ) ∧
    Row S v r (n + 512) m' (Ideal.exp (m - m') * l + ∑ k : Fin 512, Ideal.exp (X k - m'))
      (fun e => Ideal.exp (m - m') * acc e + ∑ k : Fin 512, Ideal.exp (X k - m') * V k e) := by
  have hXt : ∀ k, X k ≠ ⊤ := fun k => by rw [hX]; split <;> simp
  have hm : m ≠ ⊤ := by rcases h with ⟨h, _⟩ | ⟨M, h, _⟩ <;> rw [h] <;> simp
  have h0 : X 0 ≠ ⊥ := by rw [hX, if_pos (by simpa using hs)]; simp
  obtain ⟨M', e⟩ := fold_max_real X m hm hXt (.inr ⟨0, h0⟩)
  rw [e] at hm'
  subst hm'
  refine ⟨⟨M', rfl⟩, .inr ⟨M', rfl, ?_, fun e => ?_⟩⟩
  · have hb : (∑ k : Fin 512, Ideal.exp (X k - (M' : EReal))) = ((∑ k ∈ range 512, wt S r M' (n + k) : ℝ) : EReal) := by
      rw [← coe_sum_fin]
      exact sum_congr rfl fun k _ => by rw [hX, exp_wt]
    rw [hb, sum_range_add]
    rcases h with ⟨rfl, rfl, rfl, _⟩ | ⟨M, rfl, rfl, _⟩
    · simp
    · rw [← EReal.coe_sub, Ideal.exp_coe, ← EReal.coe_mul, ← EReal.coe_add, mul_sum]
      simp only [wt_shift]
  · have hb : (∑ k : Fin 512, Ideal.exp (X k - (M' : EReal)) * V k e) = ((∑ k ∈ range 512, wt S r M' (n + k) * v (n + k) e : ℝ) : EReal) := by
      rw [← coe_sum_fin fun k => wt S r M' (n + k) * v (n + k) e]
      exact sum_congr rfl fun k _ => by rw [hX, exp_wt, hV, EReal.coe_mul]
    show _ + _ = _
    rw [hb, sum_range_add]
    rcases h with ⟨rfl, rfl, rfl, h⟩ | ⟨M, rfl, _, h⟩
    · rw [h]; simp
    · rw [h, ← EReal.coe_sub, Ideal.exp_coe, ← EReal.coe_mul, ← EReal.coe_add, mul_sum]
      simp only [← mul_assoc, wt_shift]

/-- A sum of exponentials less `M` is the row's sum, scaled. -/
theorem sum_wt (S : ℕ → ℕ → ℝ) (r n : ℕ) (M : ℝ) (f : ℕ → ℝ) (hr : r < 512 * n) (hn : n ≤ 8) :
    ∑ c ∈ range (512 * n), wt S r M c * f c = Real.exp (-M) * ∑ c ∈ range 4096, wt S r 0 c * f c := by
  rw [sum_block _ r n hr hn fun c hc => by rw [wt_unseen S r M c hc, zero_mul], mul_sum]
  refine sum_congr rfl fun c _ => ?_
  rw [← wt_shift S r 0 M c, zero_sub, mul_assoc]

theorem sum_wt_one (S : ℕ → ℕ → ℝ) (r n : ℕ) (M : ℝ) (hr : r < 512 * n) (hn : n ≤ 8) :
    ∑ c ∈ range (512 * n), wt S r M c = Real.exp (-M) * tot S r := by
  simpa [tot] using sum_wt S r n M (fun _ => 1) hr hn

/-- A row whose block is the last taken in: the result and the logarithm of its sum. -/
theorem Row.result {S v : ℕ → ℕ → ℝ} {r n : ℕ} {m l : EReal} {acc : Fin 128 → EReal} (h : Row S v r (512 * n) m l acc)
    (hr : r < 512 * n) (hn : n ≤ 8) :
    (∀ e : Fin 128, Ideal.div (acc e) l = (att S v r e : EReal)) ∧ m + Ideal.log l = (Real.log (tot S r) : EReal) := by
  rcases h with ⟨_, h, _⟩ | ⟨M, rfl, rfl, h⟩
  · omega
  have ht := tot_pos S r (by omega)
  have hM := Real.exp_pos (-M)
  rw [sum_wt_one S r n M hr hn]
  constructor
  · intro e
    rw [h, sum_wt S r n M (fun c => v c e) hr hn, div_real (mul_pos hM ht).ne', mul_div_mul_left _ _ hM.ne']
    unfold att prob
    rw [sum_div]
    congr 1
    exact sum_congr rfl fun c _ => by ring
  · rw [Ideal.log_coe, if_neg (not_le.2 (mul_pos hM ht)), Real.log_mul hM.ne' ht.ne', Real.log_exp, ← EReal.coe_add]
    congr 1; ring

/-- A weight from the score and the logarithm of the row's sum. -/
theorem exp_prob (S : ℕ → ℕ → ℝ) (r c : ℕ) (hr : r < 4096) :
    Ideal.exp ((if seen r c then (S r c : EReal) else ⊥) - (Real.log (tot S r) : EReal)) = (prob S r c : EReal) := by
  rw [exp_wt]
  unfold prob wt
  split
  · rw [Real.exp_sub, Real.exp_log (tot_pos S r hr), sub_zero]
  · rw [zero_div]

/-- A row's weights times their cotangent sum to the product of the row's result and its cotangent. -/
theorem sum_prob_dprob (S v g : ℕ → ℕ → ℝ) (r : ℕ) : ∑ c ∈ range 4096, prob S r c * dprob v g r c = dot S v g r := by
  unfold dprob dot att
  simp only [mul_sum]
  rw [sum_comm]
  exact sum_congr rfl fun e _ => sum_congr rfl fun c _ => by ring

end Cert.Att

end
-- ==== Proof.FlashFwdRun.lean ====
/-
  The forward attention call, one grid point at a time. What its two result blocks hold after the body is written as
  a function of the point's query block, of its head's keys and values and of the point: the key blocks before the
  diagonal one in turn (`foldF`), the second loop over no block at all, then the diagonal block.
-/
module

public import proofs.«01_k».proof.Proof.Gen.FlashIdeal.Launch
public import proofs.«01_k».proof.Proof.Gen.FlashIdeal.Skeleton
public import proofs.«01_k».proof.Proof.Gen.FlashIdeal.Points
public import proofs.«01_k».proof.Proof.Gen.FlashIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FlashIdeal.Att

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running maximum, sum and weighted sum of a query block. -/
abbrev Carry (F : FTy → Type) := FVec F S512x1 .f32 × FVec F S512x1 .f32 × FVec F S512x128 .f32

/-- One key block before the diagonal taken in. -/
def stepF (i : grid0.Coords) (q : Vec F S512x256 .bf16) (ks : Vec F S4096x256 .bf16) (vs : Vec F S4096x128 .bf16)
    (k : Fin (k0_t1_loop i).trips) (a : Carry F) : Carry F :=
  (k0_pay9 q a.1 (View.ld ks (Rect.unit (s := S4096x256) (k0_off1 i k) S512x256.size (k0_off1_inb i k))),
   k0_pay12 q a.1 a.2.1 (View.ld ks (Rect.unit (s := S4096x256) (k0_off1 i k) S512x256.size (k0_off1_inb i k))),
   k0_pay13 q a.1 a.2.2 (View.ld ks (Rect.unit (s := S4096x256) (k0_off1 i k) S512x256.size (k0_off1_inb i k)))
     (View.ld vs (Rect.unit (s := S4096x128) (k0_off2 i k) S512x128.size (k0_off2_inb i k))))

/-- The first `n` key blocks taken in, in turn. -/
def foldF (i : grid0.Coords) (q : Vec F S512x256 .bf16) (ks : Vec F S4096x256 .bf16) (vs : Vec F S4096x128 .bf16) : ℕ → Carry F
  | 0 => (k0_pay5, k0_pay6, k0_pay7)
  | n + 1 => if h : n < (k0_t1_loop i).trips then stepF i q ks vs ⟨n, h⟩ (foldF i q ks vs n) else foldF i q ks vs n

theorem st_eq (c : Dev nD) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S512x128 .f32) (harg6 : arg6.IsWhole)
    (q : Vec F S512x256 .bf16) (X3 : BufTy.Contents (Elt F) arg3.view.ty) (X4 : BufTy.Contents (Elt F) arg4.view.ty) (n : ℕ) :
    st_k0_t1 (F := F) Variants.none c none i arg2 harg2 arg3 harg3 arg4 harg4 arg5 harg5 arg6 harg6 q X3 X4 (k0_pay5, k0_pay6, k0_pay7) n
      = foldF i q (arg3.view.read (Elt F) X3) (arg4.view.read (Elt F) X4) n := by
  induction n with
  | zero => rfl
  | succ n ih =>
    rw [st_k0_t1.eq_2, ih, foldF]
    unfold st_k0_t1Step
    by_cases h : n < (k0_t1_loop i).trips
    · rw [dif_pos h, dif_pos h]
      unfold tripR_k0_t1 trip_k0_t1
      rfl
    · rw [dif_neg h, dif_neg h]

theorem trips_t1 : ∀ i : grid0.Coords, (k0_t1_loop i).trips = (i 1).val := by
  have h : ∀ j : Fin 8, ∀ i : grid0.Coords, i 1 = j → (k0_t1_loop i).trips = j.val := by
    intro j i h
    unfold k0_t1_loop
    rw [h]
    clear h
    revert j
    decide +kernel
  intro i; exact h (i 1) i rfl

theorem trips_t2 : ∀ i : grid0.Coords, (k0_t2_loop i).trips = 0 := by
  have h : ∀ j : Fin 8, ∀ i : grid0.Coords, i 1 = j → (k0_t2_loop i).trips = 0 := by
    intro j i h
    unfold k0_t2_loop
    rw [h]
    clear h
    revert j
    decide +kernel
  intro i; exact h (i 1) i rfl

theorem trips_t1' (i : grid0.Coords) : Scf.trips (0#32) (Scalar.addi (0#32) (Scalar.muli (Scalar.divsi (Scalar.subi (BitVec.ofNat 32 (i 1).val) 0#32) 1#32) 1#32)) 1#32 = (i 1).val :=
  trips_t1 i
theorem trips_t2' (i : grid0.Coords) : Scf.trips (Scalar.addi (0#32) (Scalar.muli (Scalar.divsi (Scalar.subi (BitVec.ofNat 32 (i 1).val) 0#32) 1#32) 1#32))
    (Scalar.addi (0#32) (Scalar.subi (BitVec.ofNat 32 (i 1).val) 0#32)) 1#32 = 0 :=
  trips_t2 i

abbrev rQ : Rect S512x256 := Rect.unit (s := S512x256) ![0, 0] S512x256.size inb_S512x256_S512x256_0_0
abbrev rO : Rect S512x128 := Rect.unit (s := S512x128) ![0, 0] S512x128.size inb_S512x128_S512x128_0_0

/-- The diagonal block's scores taken in after the carried value: the output block, -/
def finO (a : Carry F) (s : FVec F S512x512 .f32) (v : FVec F S512x128 .bf16) : FVec F S512x128 .bf16 :=
  k0_pay2 a.2.2 v (k0_pay28 a.1 s k0_pay22 k0_pay23 k0_pay24 0#32) (k0_pay29 a.1 s k0_pay22 k0_pay23 k0_pay24 0#32)
    (k0_pay30 a.1 a.2.1 s k0_pay22 k0_pay23 k0_pay24 0#32) (k0_pay31 a.1 s k0_pay22 k0_pay23 k0_pay24 0#32)
/-- and the logarithm of the sums. -/
def finL (a : Carry F) (s : FVec F S512x512 .f32) : FVec F S512x128 .f32 :=
  k0_pay3 (k0_pay27 a.1 s k0_pay22 k0_pay23 k0_pay24 0#32)
    (k0_pay30 a.1 a.2.1 s k0_pay22 k0_pay23 k0_pay24 0#32) (k0_pay31 a.1 s k0_pay22 k0_pay23 k0_pay24 0#32)

/-- The output's block after the body, -/
def out0_3 (i : grid0.Coords) (q : Vec F S512x256 .bf16) (ks : Vec F S4096x256 .bf16) (vs : Vec F S4096x128 .bf16) : Vec F S512x128 .bf16 :=
  finO (foldF i q ks vs (i 1).val)
    (k0_pay20 q (View.ld ks (Rect.unit (s := S4096x256) (k0_off5 i) S512x256.size (k0_off5_inb i))))
    (k0_pay26 (View.ld vs (Rect.unit (s := S4096x128) (k0_off6 i) S512x128.size (k0_off6_inb i))))
/-- and the block of the sums' logarithms. -/
def out0_4 (i : grid0.Coords) (q : Vec F S512x256 .bf16) (ks : Vec F S4096x256 .bf16) (vs : Vec F S4096x128 .bf16) : Vec F S512x128 .f32 :=
  finL (foldF i q ks vs (i 1).val)
    (k0_pay20 q (View.ld ks (Rect.unit (s := S4096x256) (k0_off5 i) S512x256.size (k0_off5_inb i))))

set_option maxHeartbeats 4000000 in
/-- The forward body on whole blocks: the inputs as they were, the results at `out0_3` and `out0_4`. -/
theorem sound_kernel0 (c : Dev nD) (E : Set ℕ) (i : grid0.Coords) (arg2 : Memref sig .tc .vmem S512x256 .bf16) (harg2 : arg2.IsWhole) (arg3 : Memref sig .tc .vmem S4096x256 .bf16) (harg3 : arg3.IsWhole) (arg4 : Memref sig .tc .vmem S4096x128 .bf16) (harg4 : arg4.IsWhole) (arg5 : Memref sig .tc .vmem S512x128 .bf16) (harg5 : arg5.IsWhole) (arg6 : Memref sig .tc .vmem S512x128 .f32) (harg6 : arg6.IsWhole)
    (x0 : Vec F S512x256 .bf16) (x1 : Vec F S4096x256 .bf16) (x2 : Vec F S4096x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 i x0 x1 x2) ∗ owns (c : Thread nD τ) arg6 fullShare (out0_4 i x0 x1 x2)) -∗ K ⟨⟩))
      ⊢ wp frame (wpE (defs₀ (F := F)) Variants.none c none) E (cc0_flash i arg2 harg2 arg3 harg3 arg4 harg4 arg5 harg5 arg6 harg6) K := by
  simp only [cc0_flash_eq_skeleton]; unfold cc0_flash_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_full]
    delta sound_kernel0.sl.r_9 sound_kernel0.sl.r_8 sound_kernel0.sl.r_7 sound_kernel0.sl.r_6 sound_kernel0.sl.r_5 sound_kernel0.sl.r_4 sound_kernel0.sl.r_3 sound_kernel0.sl.r_2 sound_kernel0.sl.r_1 sound_kernel0.sl.r
    simp only [trips_t2', trips_t1', st_k0_t2_zero]
    rw [show View.readAt (Elt F) arg2.view (Rect.unit ![0, 0] ![512, 256] inb_S512x256_S512x256_0_0).toLoadRect f0 = View.read (Elt F) arg2.view f0 from View.readAt_full _ _ _, st_eq]
    rfl
  iexists _; isplitr
  swap; · iexact H4
  ipureintro
  rw [View.read_writes_full]
  delta sound_kernel0.sl.r_9 sound_kernel0.sl.r_8 sound_kernel0.sl.r_7 sound_kernel0.sl.r_6 sound_kernel0.sl.r_5 sound_kernel0.sl.r_4 sound_kernel0.sl.r_3 sound_kernel0.sl.r_2 sound_kernel0.sl.r_1 sound_kernel0.sl.r
  simp only [trips_t2', trips_t1', st_k0_t2_zero]
  rw [show View.readAt (Elt F) arg2.view (Rect.unit ![0, 0] ![512, 256] inb_S512x256_S512x256_0_0).toLoadRect f0 = View.read (Elt F) arg2.view f0 from View.readAt_full _ _ _, st_eq]
  rfl

end Cert.FlashIdeal.Att

end
-- ==== Proof.FlashFwd.lean ====
/- The forward attention block in real numbers: its carried rows, its results and the logarithms of its sums. -/
module

public import proofs.«01_k».proof.Proof.FlashMath
public import proofs.«01_k».proof.Proof.FlashFwdRun
public import Idealize.ShloMosaic.Lib.Pipeline.ValueKit.Tiles

@[expose] public section

set_option maxRecDepth 16384

noncomputable section

open Idealize.ShloMosaic Idealize.ShloMosaic.TcCoe Idealize.SL.Sem
open Cert.FlashIdeal Cert.FlashIdeal.Gen Cert.RealSums

namespace Cert.FlashIdeal.Att
open Cert.Att

theorem ofBits_bot : Ideal.ofBits .f32 0xFF800000#32 = (⊥ : EReal) := by simp [Ideal.ofBits, Ideal.ieee]

theorem mask_bot : (Named.named κ "mask" (0xF149F2CA#32) : Ideal .f32) = ⊥ := IdealRules.named_const.ideal_named_scalar _ _ _ _ rfl

/-- A product of 512 rows and 512 rows over 256 lanes. -/
theorem sum_score (Q K : ℕ → ℕ → ℝ) (r c : ℕ) : (∑ d : Fin 256, (Q r d : EReal) * (K c d : EReal)) = (score Q K r c : EReal) := by
  rw [score, ← coe_sum_fin fun d => Q r d * K c d]
  exact Finset.sum_congr rfl fun d _ => (EReal.coe_mul _ _).symm

/-- The chunk number of a row or column of a block, as computed. -/
def chunk (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem chunk_row : ∀ r : Fin 512, chunk (IntOp.addi 0#32 (BitVec.ofNat 32 r)) = BitVec.ofNat 32 (r / 64) := by decide +kernel

theorem chunk_col : ∀ r : Fin 512, chunk (BitVec.ofNat 32 r) = BitVec.ofNat 32 (r / 64) := by decide +kernel

/-- The comparison of two chunk numbers, in words. -/
theorem select_sge {α : Type} (a b : ℕ) (ha : a < 8) (hb : b < 8) (x y : α) :
    Scalar.select (IntOp.cmpi .sge (BitVec.ofNat 32 a) (BitVec.ofNat 32 b)) x y = if b ≤ a then x else y := by
  interval_cases a <;> interval_cases b <;> rfl

/-- The masked choice, by the chunks of a row and a column of one block. -/
theorem select_seen {α : Type} (n : ℕ) (r c : Fin 512) (x y : α) :
    Scalar.select (IntOp.cmpi .sge (BitVec.ofNat 32 ((r : ℕ) / 64)) (BitVec.ofNat 32 ((c : ℕ) / 64))) x y
      = if seen (512 * n + r) (512 * n + c) then x else y := by
  rw [select_sge _ _ (by omega) (by omega)]
  exact if_congr (by unfold seen; omega) rfl rfl

theorem pay8_read (q k : FVec Ideal S512x256 .bf16) (r c : Fin 512) :
    k0_pay8 (F := Ideal) q k (ix2 r c) = ∑ d : Fin 256, q (ix2 r d) * k (ix2 c d) := by
  pointwise [k0_pay8, k0_pay4]

theorem pay9_read (q k : FVec Ideal S512x256 .bf16) (m : FVec Ideal S512x1 .f32) (r : Fin 512) :
    k0_pay9 (F := Ideal) q m k (ix2 r 0) = max (m (ix2 r 0)) (Finset.univ.fold max ⊥ fun c : Fin 512 => k0_pay8 (F := Ideal) q k (ix2 r c)) := by
  pointwise [k0_pay9]
  rw [ofBits_bot]

theorem pay12_read (q k : FVec Ideal S512x256 .bf16) (m l : FVec Ideal S512x1 .f32) (r : Fin 512) :
    k0_pay12 (F := Ideal) q m l k (ix2 r 0) = Ideal.exp (m (ix2 r 0) - k0_pay9 (F := Ideal) q m k (ix2 r 0)) * l (ix2 r 0) +
      ∑ c : Fin 512, Ideal.exp (k0_pay8 (F := Ideal) q k (ix2 r c) - k0_pay9 (F := Ideal) q m k (ix2 r 0)) := by
  pointwise [k0_pay12, k0_pay11, k0_pay10]

theorem pay13_read (q k : FVec Ideal S512x256 .bf16) (v : FVec Ideal S512x128 .bf16) (m : FVec Ideal S512x1 .f32) (a : FVec Ideal S512x128 .f32) (r : Fin 512) (e : Fin 128) :
    k0_pay13 (F := Ideal) q m a k v (ix2 r e) = Ideal.exp (m (ix2 r 0) - k0_pay9 (F := Ideal) q m k (ix2 r 0)) * a (ix2 r e) +
      ∑ c : Fin 512, Ideal.exp (k0_pay8 (F := Ideal) q k (ix2 r c) - k0_pay9 (F := Ideal) q m k (ix2 r 0)) * v (ix2 c e) := by
  pointwise [k0_pay13, k0_pay11, k0_pay10]

theorem pay25_read (s : FVec Ideal S512x512 .f32) (n : ℕ) (r c : Fin 512) :
    k0_pay25 (F := Ideal) s k0_pay22 k0_pay23 k0_pay24 0#32 (ix2 r c) = if seen (512 * n + r) (512 * n + c) then s (ix2 r c) else ⊥ := by
  rw [← select_seen, ← chunk_row, ← chunk_col, ← mask_bot]
  pointwise [k0_pay25, k0_pay22, k0_pay23, k0_pay24, k0_pay21]
  rfl

/-- 512 rows of an array from row `a` on. -/
theorem ld_rows256 {e : EltTy} (X : Vec Ideal S4096x256 e) (off : Fin 2 → ℕ) (inb) (a : ℕ) (h0 : off 0 = a) (h1 : off 1 = 0) (r : Fin 512) (d : Fin 256)
    (ha : a + r < 4096) :
    View.ld X (Rect.unit (s := S4096x256) off S512x256.size inb) (ix2 r d) = X (ix2 ⟨a + r, ha⟩ d) :=
  View.ld_unit_apply_of X off _ inb _ _ fun x => by
    match x with
    | 0 => show a + (r : ℕ) = off 0 + r; rw [h0]
    | 1 => show (d : ℕ) = off 1 + d; rw [h1, zero_add]

theorem ld_rows128 {e : EltTy} (X : Vec Ideal S4096x128 e) (off : Fin 2 → ℕ) (inb) (a : ℕ) (h0 : off 0 = a) (h1 : off 1 = 0) (r : Fin 512) (d : Fin 128)
    (ha : a + r < 4096) :
    View.ld X (Rect.unit (s := S4096x128) off S512x128.size inb) (ix2 r d) = X (ix2 ⟨a + r, ha⟩ d) :=
  View.ld_unit_apply_of X off _ inb _ _ fun x => by
    match x with
    | 0 => show a + (r : ℕ) = off 0 + r; rw [h0]
    | 1 => show (d : ℕ) = off 1 + d; rw [h1, zero_add]

/-- An offset of blocks, in words. -/
theorem block_word : ∀ n : Fin 8, (Scalar.indexCast (Scalar.muli (BitVec.ofNat 32 n) 512#32) : Index).toNat = 512 * n := by decide +kernel

theorem iv_word : ∀ n : Fin 8, (Scalar.indexCast (Scalar.muli (Scf.iv 0#32 1#32 n) 512#32) : Index).toNat = 512 * n := by decide +kernel

theorem i_lt (i : grid0.Coords) : (i 1).val < 8 := (i 1).isLt

section
variable (Q K V : ℕ → ℕ → ℝ) (i : grid0.Coords) (q : Vec Ideal S512x256 .bf16) (ks : Vec Ideal S4096x256 .bf16) (vs : Vec Ideal S4096x128 .bf16)

/-- What the blocks hold of a head's queries, keys and values. -/
structure Heads : Prop where
  q : ∀ (r : Fin 512) (d : Fin 256), q (ix2 r d) = (Q (512 * (i 1).val + r) d : EReal)
  k : ∀ (c : Fin 4096) (d : Fin 256), ks (ix2 c d) = (K c d : EReal)
  v : ∀ (c : Fin 4096) (e : Fin 128), vs (ix2 c e) = (V c e : EReal)

variable {Q K V i q ks vs}

/-- The scores of a query block and the `n`-th key block. -/
theorem Heads.scores (h : Heads Q K V i q ks vs) (n : ℕ) (hn : n < 8) (x : Vec Ideal S512x256 .bf16)
    (hx : ∀ (c : Fin 512) (d : Fin 256), x (ix2 c d) = ks (ix2 ⟨512 * n + c, by omega⟩ d)) (r c : Fin 512) :
    k0_pay8 (F := Ideal) q x (ix2 r c) = (score Q K (512 * (i 1).val + r) (512 * n + c) : EReal) := by
  rw [pay8_read, ← sum_score]
  exact Finset.sum_congr rfl fun d _ => by rw [hx, h.q, h.k]

/-- The carried row after `n` key blocks. -/
theorem Heads.carry (h : Heads Q K V i q ks vs) (r : Fin 512) (n : ℕ) (hn : n ≤ (i 1).val) :
    Row (score Q K) V (512 * (i 1).val + r) (512 * n) ((foldF i q ks vs n).1 (ix2 r 0)) ((foldF i q ks vs n).2.1 (ix2 r 0))
      (fun e => (foldF i q ks vs n).2.2 (ix2 r e)) := by
  have hi := i_lt i
  induction n with
  | zero =>
    refine .inl ⟨?_, rfl, ?_, fun e => ?_⟩
    · show k0_pay5 (F := Ideal) (ix2 r 0) = ⊥
      rw [← mask_bot]; pointwise [k0_pay5]
    · show k0_pay6 (F := Ideal) (ix2 r 0) = 0
      pointwise [k0_pay6]
    · show k0_pay7 (F := Ideal) (ix2 r e) = 0
      pointwise [k0_pay7]
  | succ n ih =>
    have ht : n < (k0_t1_loop i).trips := by rw [trips_t1]; omega
    have e : foldF i q ks vs (n + 1) = stepF i q ks vs ⟨n, ht⟩ (foldF i q ks vs n) := by rw [foldF, dif_pos ht]
    rw [e, show 512 * (n + 1) = 512 * n + 512 by ring]
    generalize foldF i q ks vs n = a at ih ⊢
    unfold stepF
    have o1 : k0_off1 i ⟨n, ht⟩ 0 = 512 * n := iv_word ⟨n, by omega⟩
    have o2 : k0_off2 i ⟨n, ht⟩ 0 = 512 * n := iv_word ⟨n, by omega⟩
    have hx := fun (c : Fin 512) (d : Fin 256) => ld_rows256 ks _ (k0_off1_inb i ⟨n, ht⟩) _ o1 rfl c d (by omega)
    have hy := fun (c : Fin 512) (d : Fin 128) => ld_rows128 vs _ (k0_off2_inb i ⟨n, ht⟩) _ o2 rfl c d (by omega)
    generalize View.ld ks (Rect.unit (s := S4096x256) (k0_off1 i ⟨n, ht⟩) S512x256.size (k0_off1_inb i ⟨n, ht⟩)) = x at hx ⊢
    generalize View.ld vs (Rect.unit (s := S4096x128) (k0_off2 i ⟨n, ht⟩) S512x128.size (k0_off2_inb i ⟨n, ht⟩)) = y at hy ⊢
    have hs : ∀ k : Fin 512, k0_pay8 (F := Ideal) q x (ix2 r k) = if seen (512 * (i 1).val + r) (512 * n + k) then (score Q K (512 * (i 1).val + r) (512 * n + k) : EReal) else ⊥ := by
      intro k
      rw [if_pos (by unfold seen; omega)]
      exact h.scores n (by omega) x hx r k
    have step := (Row.step (ih (by omega)) (fun k => k0_pay8 (F := Ideal) q x (ix2 r k)) hs (by unfold seen; omega) (fun k e => y (ix2 k e))
      (fun k e => by rw [hy, h.v]) (k0_pay9 (F := Ideal) q a.1 x (ix2 r 0)) (pay9_read _ _ _ _)).2
    rw [← pay12_read] at step
    simp only [← pay13_read] at step
    exact step

/-- The results of a query block: the attention, and the logarithms of the rows' sums in every lane. -/
theorem Heads.result (h : Heads Q K V i q ks vs) (r : Fin 512) (e : Fin 128) :
    out0_3 (F := Ideal) i q ks vs (ix2 r e) = (att (score Q K) V (512 * (i 1).val + r) e : EReal) ∧
    out0_4 (F := Ideal) i q ks vs (ix2 r e) = (Real.log (tot (score Q K) (512 * (i 1).val + r)) : EReal) := by
  have hi := i_lt i
  have c := h.carry r (i 1).val le_rfl
  unfold out0_3 out0_4 finO finL
  generalize foldF i q ks vs (i 1).val = a at c ⊢
  have o1 : k0_off5 i 0 = 512 * (i 1).val := block_word ⟨(i 1).val, hi⟩
  have o2 : k0_off6 i 0 = 512 * (i 1).val := block_word ⟨(i 1).val, hi⟩
  have hx := fun (c : Fin 512) (d : Fin 256) => ld_rows256 ks _ (k0_off5_inb i) _ o1 rfl c d (by omega)
  have hy := fun (c : Fin 512) (d : Fin 128) => ld_rows128 vs _ (k0_off6_inb i) _ o2 rfl c d (by omega)
  generalize View.ld ks (Rect.unit (s := S4096x256) (k0_off5 i) S512x256.size (k0_off5_inb i)) = x at hx ⊢
  generalize View.ld vs (Rect.unit (s := S4096x128) (k0_off6 i) S512x128.size (k0_off6_inb i)) = y at hy ⊢
  have hs : ∀ k : Fin 512, k0_pay25 (F := Ideal) (k0_pay20 q x) k0_pay22 k0_pay23 k0_pay24 0#32 (ix2 r k)
      = if seen (512 * (i 1).val + r) (512 * (i 1).val + k) then (score Q K (512 * (i 1).val + r) (512 * (i 1).val + k) : EReal) else ⊥ := by
    intro k
    rw [pay25_read _ (i 1).val, show k0_pay20 (F := Ideal) q x = k0_pay8 q x from rfl, h.scores _ hi x hx r k]
  have step := (Row.step c (fun k => k0_pay25 (F := Ideal) (k0_pay20 q x) k0_pay22 k0_pay23 k0_pay24 0#32 (ix2 r k)) hs (by unfold seen; omega)
    (fun k e => y (ix2 k e)) (fun k e => by rw [hy, h.v])
    (k0_pay27 (F := Ideal) a.1 (k0_pay20 q x) k0_pay22 k0_pay23 k0_pay24 0#32 (ix2 r 0)) (by pointwise [k0_pay27]; rw [ofBits_bot])).2
  rw [show 512 * (i 1).val + 512 = 512 * ((i 1).val + 1) by ring] at step
  have fin := step.result (by omega) (by omega)
  constructor
  · rw [← fin.1 e]
    pointwise [k0_pay2, k0_pay1, k0_pay26, k0_pay28, k0_pay29, k0_pay30, k0_pay31]
  · rw [← fin.2]
    pointwise [k0_pay3, k0_pay1, k0_pay28, k0_pay29, k0_pay30, k0_pay31]

end

end Cert.FlashIdeal.Att
-- ==== Proof.FlashBwdRun.lean ====
/-
  The backward attention call, one grid point at a time. A point takes one key block of one head against the query
  blocks from the diagonal one on; what it adds to the queries' gradient goes to a scratch buffer, row block by row
  block (`scrB`), which the head's last point writes out; the keys' and values' gradients are carried (`foldB`).
-/
module

public import proofs.«01_k».proof.Proof.Gen.FlashIdeal.Launch
public import proofs.«01_k».proof.Proof.Gen.FlashIdeal.Skeleton
public import proofs.«01_k».proof.Proof.Gen.FlashIdeal.Points
public import proofs.«01_k».proof.Proof.Gen.FlashIdeal.Loops
public import proofs.«01_k».proof.Proof.FlashFwdRun
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FlashIdeal.Att

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the gradients of a key block's keys and values have gathered. -/
abbrev CarryB (F : FTy → Type) := FVec F S512x256 .f32 × FVec F S512x128 .f32

/-- The rows of the query blocks at which trip `k` reads and adds. -/
abbrev rD (i : grid1.Coords) : Rect S4096x256 := Rect.unit (s := S4096x256) (k1_off1 i) S512x256.size (k1_off1_inb i)
abbrev rE (i : grid1.Coords) : Rect S4096x128 := Rect.unit (s := S4096x128) (k1_off2 i) S512x128.size (k1_off2_inb i)
abbrev rA (i : grid1.Coords) (k : Fin (k1_t1_loop i).trips) : Rect S4096x256 := Rect.unit (s := S4096x256) (k1_off3 i k) S512x256.size (k1_off3_inb i k)
abbrev rB (i : grid1.Coords) (k : Fin (k1_t1_loop i).trips) : Rect S4096x128 := Rect.unit (s := S4096x128) (k1_off4 i k) S512x128.size (k1_off4_inb i k)

/-- One query block below the diagonal taken in. -/
def stepB (i : grid1.Coords) (q : Vec F S4096x256 .bf16) (k4 : FVec F S512x256 .bf16) (v6 : FVec F S512x128 .bf16) (o : Vec F S4096x128 .bf16) (g : Vec F S4096x128 .f32) (l : Vec F S4096x128 .f32)
    (k : Fin (k1_t1_loop i).trips) (a : CarryB F) : CarryB F :=
  (k1_pay20 k4 v6 a.1 (View.ld q (rA i k)) (View.ld g (rB i k)) (View.ld o (rB i k)) (View.ld l (rB i k)),
   k1_pay21 k4 a.2 (View.ld q (rA i k)) (View.ld g (rB i k)) (View.ld l (rB i k)))

/-- The carried gradients after `n` query blocks below the diagonal. -/
def foldB (i : grid1.Coords) (q : Vec F S4096x256 .bf16) (k4 : FVec F S512x256 .bf16) (v6 : FVec F S512x128 .bf16) (o : Vec F S4096x128 .bf16) (g : Vec F S4096x128 .f32) (l : Vec F S4096x128 .f32)
    (a : CarryB F) : ℕ → CarryB F
  | 0 => a
  | n + 1 => if h : n < (k1_t1_loop i).trips then stepB i q k4 v6 o g l ⟨n, h⟩ (foldB i q k4 v6 o g l a n) else foldB i q k4 v6 o g l a n

/-- The scratch buffer after `n` query blocks below the diagonal, from what it held. -/
def scrB (i : grid1.Coords) (q : Vec F S4096x256 .bf16) (k4 : FVec F S512x256 .bf16) (v6 : FVec F S512x128 .bf16) (o : Vec F S4096x128 .bf16) (g : Vec F S4096x128 .f32) (l : Vec F S4096x128 .f32)
    (z : Vec F S4096x256 .f32) : ℕ → Vec F S4096x256 .f32
  | 0 => z
  | n + 1 => if h : n < (k1_t1_loop i).trips then
      VecWindow.put (scrB i q k4 v6 o g l z n) (k1_off3 i ⟨n, h⟩) S512x256.size
        (k1_pay19 k4 v6 (View.ld q (rA i ⟨n, h⟩)) (View.ld g (rB i ⟨n, h⟩)) (View.ld o (rB i ⟨n, h⟩)) (View.ld l (rB i ⟨n, h⟩)) (View.ld (scrB i q k4 v6 o g l z n) (rA i ⟨n, h⟩)))
    else scrB i q k4 v6 o g l z n

theorem stB_eq (c : Dev nD) (i : grid1.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S4096x256 .f32) (harg11 : arg11.IsWhole)
    (arg1 : BitVec 32) (v4 : FVec F S512x256 .bf16) (v6 : FVec F S512x128 .bf16) (v7 : FVec F S512x256 .f32) (v8 : FVec F S512x128 .f32) (v11 : BitVec 32) (v67 : FVec F S512x256 .bf16) (v69 : Vec F S512x128 .f32) (v81 : FVec F S512x512 .f32) (v83 : FVec F S512x512 .f32) (v84 : FVec F S512x128 .f32)
    (X2 : BufTy.Contents (Elt F) arg2.view.ty) (X5 : BufTy.Contents (Elt F) arg5.view.ty) (X6 : BufTy.Contents (Elt F) arg6.view.ty) (X7 : BufTy.Contents (Elt F) arg7.view.ty) (G : BufTy.Contents (Elt F) arg11.view.ty) (a : CarryB F) (n : ℕ) :
    (st_k1_t1 (F := F) Variants.none c none i arg2 harg2 arg3 harg3 arg4 harg4 arg5 harg5 arg6 harg6 arg7 harg7 arg8 harg8 arg9 harg9 arg10 harg10 arg11 harg11 arg1 v4 v6 v7 v8 v11 v67 v69 v81 v83 v84 X2 X5 X6 X7 G a n).1
        = foldB i (arg2.view.read (Elt F) X2) v4 v6 (arg5.view.read (Elt F) X5) (arg6.view.read (Elt F) X6) (arg7.view.read (Elt F) X7) a n
    ∧ arg11.view.read (Elt F) (arg11.view.writes (Elt F) G (st_k1_t1 (F := F) Variants.none c none i arg2 harg2 arg3 harg3 arg4 harg4 arg5 harg5 arg6 harg6 arg7 harg7 arg8 harg8 arg9 harg9 arg10 harg10 arg11 harg11 arg1 v4 v6 v7 v8 v11 v67 v69 v81 v83 v84 X2 X5 X6 X7 G a n).2)
        = scrB i (arg2.view.read (Elt F) X2) v4 v6 (arg5.view.read (Elt F) X5) (arg6.view.read (Elt F) X6) (arg7.view.read (Elt F) X7) (arg11.view.read (Elt F) G) n := by
  induction n with
  | zero => exact ⟨rfl, rfl⟩
  | succ n ih =>
    obtain ⟨ih1, ih2⟩ := ih
    rw [st_k1_t1.eq_2, foldB, scrB]
    unfold st_k1_t1Step
    by_cases h : n < (k1_t1_loop i).trips
    · rw [dif_pos h, dif_pos h, dif_pos h]
      unfold tripR_k1_t1 tripL_k1_t1 trip_k1_t1
      constructor
      · rw [ih1]; rfl
      · refine (View.read_writes_cons_put _ _ _ _ _ rfl).trans ?_
        rw [← ih2]
        rfl
    · rw [dif_neg h, dif_neg h, dif_neg h]
      exact ⟨ih1, ih2⟩

theorem tripsB (i : grid1.Coords) : (k1_t1_loop i).trips = 7 - (i 1).val := by
  have h : ∀ j : Fin 8, ∀ i : grid1.Coords, i 1 = j → (k1_t1_loop i).trips = 7 - j.val := by
    intro j i h
    unfold k1_t1_loop
    rw [h]
    clear h
    revert j
    decide +kernel
  exact h (i 1) i rfl

theorem tripsB2 (i : grid1.Coords) : (k1_t2_loop i).trips = 0 := by
  have h : ∀ j : Fin 8, ∀ i : grid1.Coords, i 1 = j → (k1_t2_loop i).trips = 0 := by
    intro j i h
    unfold k1_t2_loop
    rw [h]
    clear h
    revert j
    decide +kernel
  exact h (i 1) i rfl

/-- The scratch buffer as the body leaves it, by the key and value blocks it multiplies by. -/
def scrM (i : grid1.Coords) (q : Vec F S4096x256 .bf16) (k4 : FVec F S512x256 .bf16) (v6 : FVec F S512x128 .bf16) (o : Vec F S4096x128 .bf16) (g : Vec F S4096x128 .f32) (l : Vec F S4096x128 .f32)
    (z : Vec F S4096x256 .f32) : Vec F S4096x256 .f32 :=
  scrB i q k4 v6 o g l
    (VecWindow.put z (k1_off1 i) S512x256.size
      (k1_pay13 k4 (k1_pay9 k4 k1_pay7 (View.ld q (rD i)) (View.ld l (rE i))) (k1_pay10 v6 (View.ld g (rE i)))
        (k1_pay11 (View.ld g (rE i)) (View.ld o (rE i))) (View.ld z (rD i)))) (7 - (i 1).val)

/-- The carried gradients as the body leaves them, by the same. -/
def carM (i : grid1.Coords) (q : Vec F S4096x256 .bf16) (k4 : FVec F S512x256 .bf16) (v6 : FVec F S512x128 .bf16) (o : Vec F S4096x128 .bf16) (g : Vec F S4096x128 .f32) (l : Vec F S4096x128 .f32) : CarryB F :=
  foldB i q k4 v6 o g l
    (k1_pay14 k1_pay5 (k1_pay8 (View.ld q (rD i))) (k1_pay9 k4 k1_pay7 (View.ld q (rD i)) (View.ld l (rE i))) (k1_pay10 v6 (View.ld g (rE i)))
        (k1_pay11 (View.ld g (rE i)) (View.ld o (rE i))),
     k1_pay15 k1_pay6 (View.ld g (rE i)) (k1_pay9 k4 k1_pay7 (View.ld q (rD i)) (View.ld l (rE i)))) (7 - (i 1).val)

/-- The scratch buffer as the body leaves it. -/
abbrev scrN (i : grid1.Coords) (q : Vec F S4096x256 .bf16) (k : Vec F S512x256 .bf16) (v : Vec F S512x128 .bf16) (o : Vec F S4096x128 .bf16) (g : Vec F S4096x128 .f32) (l : Vec F S4096x128 .f32)
    (z : Vec F S4096x256 .f32) : Vec F S4096x256 .f32 := scrM i q (k1_pay3 k) (k1_pay4 v) o g l z

/-- The carried gradients as the body leaves them. -/
abbrev carN (i : grid1.Coords) (q : Vec F S4096x256 .bf16) (k : Vec F S512x256 .bf16) (v : Vec F S512x128 .bf16) (o : Vec F S4096x128 .bf16) (g : Vec F S4096x128 .f32) (l : Vec F S4096x128 .f32) : CarryB F :=
  carM i q (k1_pay3 k) (k1_pay4 v) o g l

theorem tripsB' (i : grid1.Coords) : Scf.trips (k1_t1_loop i).lb (k1_t1_loop i).ub (k1_t1_loop i).st = 7 - (i 1).val := tripsB i

theorem tripsB2' (i : grid1.Coords) : Scf.trips (k1_t2_loop i).lb (k1_t2_loop i).ub (k1_t2_loop i).st = 0 := tripsB2 i

theorem st2_zero (c : Dev nD) (i : grid1.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S4096x256 .f32) (harg11 : arg11.IsWhole)
    (arg1 : BitVec 32) (v4 : FVec F S512x256 .bf16) (v6 : FVec F S512x128 .bf16) (v7 : FVec F S512x256 .f32) (v8 : FVec F S512x128 .f32) (v11 : BitVec 32) (v67 : FVec F S512x256 .bf16) (v69 : Vec F S512x128 .f32) (v81 : FVec F S512x512 .f32) (v83 : FVec F S512x512 .f32) (v84 : FVec F S512x128 .f32)
    (X2 : BufTy.Contents (Elt F) arg2.view.ty) (X5 : BufTy.Contents (Elt F) arg5.view.ty) (X6 : BufTy.Contents (Elt F) arg6.view.ty) (X7 : BufTy.Contents (Elt F) arg7.view.ty) (G : BufTy.Contents (Elt F) arg11.view.ty) (a : CarryB F) :
    (st_k1_t2 (F := F) Variants.none c none i arg2 harg2 arg3 harg3 arg4 harg4 arg5 harg5 arg6 harg6 arg7 harg7 arg8 harg8 arg9 harg9 arg10 harg10 arg11 harg11 arg1 v4 v6 v7 v8 v11 v67 v69 v81 v83 v84 X2 X5 X6 X7 G a 0).2 = [] := rfl

theorem st2_fst (c : Dev nD) (i : grid1.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S4096x256 .f32) (harg11 : arg11.IsWhole)
    (arg1 : BitVec 32) (v4 : FVec F S512x256 .bf16) (v6 : FVec F S512x128 .bf16) (v7 : FVec F S512x256 .f32) (v8 : FVec F S512x128 .f32) (v11 : BitVec 32) (v67 : FVec F S512x256 .bf16) (v69 : Vec F S512x128 .f32) (v81 : FVec F S512x512 .f32) (v83 : FVec F S512x512 .f32) (v84 : FVec F S512x128 .f32)
    (X2 : BufTy.Contents (Elt F) arg2.view.ty) (X5 : BufTy.Contents (Elt F) arg5.view.ty) (X6 : BufTy.Contents (Elt F) arg6.view.ty) (X7 : BufTy.Contents (Elt F) arg7.view.ty) (G : BufTy.Contents (Elt F) arg11.view.ty) (a : CarryB F) :
    (st_k1_t2 (F := F) Variants.none c none i arg2 harg2 arg3 harg3 arg4 harg4 arg5 harg5 arg6 harg6 arg7 harg7 arg8 harg8 arg9 harg9 arg10 harg10 arg11 harg11 arg1 v4 v6 v7 v8 v11 v67 v69 v81 v83 v84 X2 X5 X6 X7 G a 0).1 = a := rfl

/-- The condition of the body's first branch. -/
abbrev condA (i : grid1.Coords) : BitVec 1 := Scalar.cmpi .ne (Scalar.extui (Scalar.cmpi .eq (BitVec.ofNat 32 (i 1).val) 0#32) : BitVec 32) 0#32

/-- The generated invariant of the loop below the diagonal, at buffers and words the loop does not use. -/
@[sl_loop] abbrev loopInvB (c : Dev nD) (E : Set ℕ) (i : grid1.Coords) (arg2 : Memref sig .tc .vmem S4096x256 .bf16) (harg2 : arg2.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg11 : Memref sig .tc .vmem S4096x256 .f32) (harg11 : arg11.IsWhole)
    (v4 : FVec F S512x256 .bf16) (v6 : FVec F S512x128 .bf16) (X2 : BufTy.Contents (Elt F) arg2.view.ty) (X5 : BufTy.Contents (Elt F) arg5.view.ty) (X6 : BufTy.Contents (Elt F) arg6.view.ty) (X7 : BufTy.Contents (Elt F) arg7.view.ty) (G : BufTy.Contents (Elt F) arg11.view.ty) (a : CarryB F) :=
  loopInv_k1_t1 (F := F) Variants.none c none E i arg2 harg2 (win1_1.stage 0) (hstage1_1 0) (win1_2.stage 0) (hstage1_2 0) arg5 harg5 arg6 harg6 arg7 harg7 arg2 harg2 (win1_1.stage 0) (hstage1_1 0) (win1_2.stage 0) (hstage1_2 0) arg11 harg11 0#32 v4 v6 k1_pay5 k1_pay6 0#32 v4 (k1_pay6 : FVec F S512x128 .f32) (constant S512x512 .f32 0#32) (constant S512x512 .f32 0#32) k1_pay6 X2 X5 X6 X7 G a

/-- The same for the loop past the last block, which makes no trip. -/
@[sl_loop] abbrev loopInvB2 (c : Dev nD) (E : Set ℕ) (i : grid1.Coords) (arg2 : Memref sig .tc .vmem S4096x256 .bf16) (harg2 : arg2.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg11 : Memref sig .tc .vmem S4096x256 .f32) (harg11 : arg11.IsWhole)
    (v4 : FVec F S512x256 .bf16) (v6 : FVec F S512x128 .bf16) (X2 : BufTy.Contents (Elt F) arg2.view.ty) (X5 : BufTy.Contents (Elt F) arg5.view.ty) (X6 : BufTy.Contents (Elt F) arg6.view.ty) (X7 : BufTy.Contents (Elt F) arg7.view.ty) (G : BufTy.Contents (Elt F) arg11.view.ty) (a : CarryB F) :=
  loopInv_k1_t2 (F := F) Variants.none c none E i arg2 harg2 (win1_1.stage 0) (hstage1_1 0) (win1_2.stage 0) (hstage1_2 0) arg5 harg5 arg6 harg6 arg7 harg7 arg2 harg2 (win1_1.stage 0) (hstage1_1 0) (win1_2.stage 0) (hstage1_2 0) arg11 harg11 0#32 v4 v6 k1_pay5 k1_pay6 0#32 v4 (k1_pay6 : FVec F S512x128 .f32) (constant S512x512 .f32 0#32) (constant S512x512 .f32 0#32) k1_pay6 X2 X5 X6 X7 G a

set_option maxHeartbeats 4000000 in
/-- One grid point of the backward call: it zeroes the scratch buffer at a head's first key block, adds its own part, and
    writes the buffer out at the last. -/
theorem sound_kernel1 (c : Dev nD) (E : Set ℕ) (i : grid1.Coords) (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .f32) (harg6 : arg6.IsWhole) (arg7 : Memref sig .tc .vmem S4096x128 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S4096x256 .f32) (harg11 : arg11.IsWhole)
    (x0 : Vec F S4096x256 .bf16) (x1 : Vec F S512x256 .bf16) (x2 : Vec F S512x128 .bf16) (x3 : Vec F S4096x128 .bf16) (x4 : Vec F S4096x128 .f32) (x5 : Vec F S4096x128 .f32) (d6 : Vec F S4096x256 .bf16) (z : Vec F S4096x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare d6 ∗ (∃ d, owns (c : Thread nD τ) arg9 fullShare d) ∗ (∃ d, owns (c : Thread nD τ) arg10 fullShare d) ∗ owns (c : Thread nD τ) arg11 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (if k1_cond2 i = 1#1 then k1_pay1 (scrN i x0 x1 x2 x3 x4 x5 (if condA i = 1#1 then k1_pay2 else z)) else d6) ∗ owns (c : Thread nD τ) arg9 fullShare (k1_pay28 (carN i x0 x1 x2 x3 x4 x5).1) ∗ owns (c : Thread nD τ) arg10 fullShare (k1_pay29 (carN i x0 x1 x2 x3 x4 x5).2) ∗ owns (c : Thread nD τ) arg11 fullShare (scrN i x0 x1 x2 x3 x4 x5 (if condA i = 1#1 then k1_pay2 else z))) -∗ K ⟨⟩))
      ⊢ wp frame (wpE (defs₀ (F := F)) Variants.none c none) E (cc1_flash_bwd i arg2 harg2 arg3 harg3 arg4 harg4 arg5 harg5 arg6 harg6 arg7 harg7 arg8 harg8 arg9 harg9 arg10 harg10 arg11 harg11) K := by
  simp only [cc1_flash_bwd_eq_skeleton]; unfold cc1_flash_bwd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  subst hf0 hf1 hf2 hf3 hf4 hf5 hf6 hf9
  by_cases hA : condA i = 1#1 <;> by_cases hB : k1_cond2 i = 1#1
  all_goals
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr
      swap; · iexact H6
      ipureintro
      first
      | exact (if_neg hB).symm
      | rw [if_pos hB]
        refine (View.read_writes_full _ _ _ _ _).trans (congrArg (k1_pay1 (F := F)) ((View.readAt_full _ _ _).trans ?_))
        rw [tripsB2', tripsB', st2_zero, List.nil_append, View.writes_append]
        refine (stB_eq ..).2.trans ?_
        refine (congrArg (fun z => scrB i _ _ _ _ _ _ z _) (View.read_writes_cons_put arg11.view _ _ _ _ rfl)).trans ?_
        change scrM i _ _ _ _ _ _ (arg11.view.read (Elt F) _) = _
        refine (congrArg (scrM i _ _ _ _ _ _) (by first | (rw [if_pos hA]; exact View.read_writes_full _ _ _ _ _) | (rw [if_neg hA]; rfl) : arg11.view.read (Elt F) _ = (if condA i = 1#1 then k1_pay2 else arg11.view.read (Elt F) f9))).trans ?_
        exact congrArg₂ (fun k4 v6 => scrM i (arg2.view.read (Elt F) f0) k4 v6 (arg5.view.read (Elt F) f3) (arg6.view.read (Elt F) f4) (arg7.view.read (Elt F) f5) (if condA i = 1#1 then k1_pay2 else arg11.view.read (Elt F) f9)) (congrArg (k1_pay3 (F := F)) (View.readAt_full _ _ _)) (congrArg (k1_pay4 (F := F)) (View.readAt_full _ _ _))
    isplitl [H7]
    · iexists _; isplitr
      swap; · iexact H7
      ipureintro
      refine (View.read_writes_full _ _ _ _ _).trans (congrArg (fun a : CarryB F => k1_pay28 a.1) ?_)
      rw [tripsB2', tripsB']
      refine Prod.mk.eta.trans ((stB_eq ..).1.trans ?_)
      exact congrArg₂ (fun k4 v6 => carM i (arg2.view.read (Elt F) f0) k4 v6 (arg5.view.read (Elt F) f3) (arg6.view.read (Elt F) f4) (arg7.view.read (Elt F) f5)) (congrArg (k1_pay3 (F := F)) (View.readAt_full _ _ _)) (congrArg (k1_pay4 (F := F)) (View.readAt_full _ _ _))
    isplitl [H8]
    · iexists _; isplitr
      swap; · iexact H8
      ipureintro
      refine (View.read_writes_full _ _ _ _ _).trans (congrArg (fun a : CarryB F => k1_pay29 a.2) ?_)
      rw [tripsB2', tripsB']
      refine Prod.mk.eta.trans ((stB_eq ..).1.trans ?_)
      exact congrArg₂ (fun k4 v6 => carM i (arg2.view.read (Elt F) f0) k4 v6 (arg5.view.read (Elt F) f3) (arg6.view.read (Elt F) f4) (arg7.view.read (Elt F) f5)) (congrArg (k1_pay3 (F := F)) (View.readAt_full _ _ _)) (congrArg (k1_pay4 (F := F)) (View.readAt_full _ _ _))
    iexists _; isplitr
    swap; · iexact H9
    ipureintro
    rw [tripsB2', tripsB', st2_zero, List.nil_append, View.writes_append]
    refine (stB_eq ..).2.trans ?_
    refine (congrArg (fun z => scrB i _ _ _ _ _ _ z _) (View.read_writes_cons_put arg11.view _ _ _ _ rfl)).trans ?_
    change scrM i _ _ _ _ _ _ (arg11.view.read (Elt F) _) = _
    refine (congrArg (scrM i _ _ _ _ _ _) (by first | (rw [if_pos hA]; exact View.read_writes_full _ _ _ _ _) | (rw [if_neg hA]; rfl) : arg11.view.read (Elt F) _ = (if condA i = 1#1 then k1_pay2 else arg11.view.read (Elt F) f9))).trans ?_
    exact congrArg₂ (fun k4 v6 => scrM i (arg2.view.read (Elt F) f0) k4 v6 (arg5.view.read (Elt F) f3) (arg6.view.read (Elt F) f4) (arg7.view.read (Elt F) f5) (if condA i = 1#1 then k1_pay2 else arg11.view.read (Elt F) f9)) (congrArg (k1_pay3 (F := F)) (View.readAt_full _ _ _)) (congrArg (k1_pay4 (F := F)) (View.readAt_full _ _ _))

end Cert.FlashIdeal.Att

end
-- ==== Proof.FlashBwd.lean ====
/- The backward attention block in real numbers: what a point adds to the queries' gradient, and the keys' and values'
   gradients it carries. -/
module

public import proofs.«01_k».proof.Proof.FlashFwd
public import proofs.«01_k».proof.Proof.FlashBwdRun

@[expose] public section

set_option maxRecDepth 16384

noncomputable section

open Idealize.ShloMosaic Idealize.ShloMosaic.TcCoe Idealize.SL.Sem
open Cert.FlashIdeal Cert.FlashIdeal.Gen Cert.RealSums

namespace Cert.FlashIdeal.Att
open Cert.Att

theorem bpay9_read (k x : FVec Ideal S512x256 .bf16) (l : FVec Ideal S512x128 .f32) (n : ℕ) (r c : Fin 512) :
    k1_pay9 (F := Ideal) k k1_pay7 x l (ix2 r c)
      = Ideal.exp ((if seen (512 * n + r) (512 * n + c) then ∑ d : Fin 256, x (ix2 r d) * k (ix2 c d) else ⊥) - l (ix2 r 0)) := by
  rw [← select_seen, ← chunk_row, ← chunk_col, ← mask_bot]
  pointwise [k1_pay9, k1_pay7, k1_pay8]
  rfl

theorem bpay10_read (v : FVec Ideal S512x128 .bf16) (g : FVec Ideal S512x128 .f32) (r c : Fin 512) :
    k1_pay10 (F := Ideal) v g (ix2 r c) = ∑ e : Fin 128, g (ix2 r e) * v (ix2 c e) := by
  pointwise [k1_pay10]

theorem bpay13_read (k : FVec Ideal S512x256 .bf16) (p dp : FVec Ideal S512x512 .f32) (w : FVec Ideal S512x128 .f32) (z : FVec Ideal S512x256 .f32) (r : Fin 512) (d : Fin 256) :
    k1_pay13 (F := Ideal) k p dp w z (ix2 r d) = z (ix2 r d) + ∑ c : Fin 512, p (ix2 r c) * (dp (ix2 r c) - ∑ e : Fin 128, w (ix2 r e)) * k (ix2 c d) := by
  pointwise [k1_pay13, k1_pay12]

theorem bpay14_read (a : FVec Ideal S512x256 .f32) (x : FVec Ideal S512x256 .bf16) (p dp : FVec Ideal S512x512 .f32) (w : FVec Ideal S512x128 .f32) (c : Fin 512) (d : Fin 256) :
    k1_pay14 (F := Ideal) a x p dp w (ix2 c d) = a (ix2 c d) + ∑ r : Fin 512, p (ix2 r c) * (dp (ix2 r c) - ∑ e : Fin 128, w (ix2 r e)) * x (ix2 r d) := by
  pointwise [k1_pay14, k1_pay12]

theorem bpay15_read (a : FVec Ideal S512x128 .f32) (g : FVec Ideal S512x128 .f32) (p : FVec Ideal S512x512 .f32) (c : Fin 512) (e : Fin 128) :
    k1_pay15 (F := Ideal) a g p (ix2 c e) = a (ix2 c e) + ∑ r : Fin 512, p (ix2 r c) * g (ix2 r e) := by
  pointwise [k1_pay15]

theorem bpay17_read (k x : FVec Ideal S512x256 .bf16) (l : FVec Ideal S512x128 .f32) (r c : Fin 512) :
    k1_pay17 (F := Ideal) k x l (ix2 r c) = Ideal.exp ((∑ d : Fin 256, x (ix2 r d) * k (ix2 c d)) - l (ix2 r 0)) := by
  pointwise [k1_pay17, k1_pay16]

theorem bpay18_read (k x : FVec Ideal S512x256 .bf16) (v : FVec Ideal S512x128 .bf16) (g : FVec Ideal S512x128 .f32) (o : FVec Ideal S512x128 .bf16) (l : FVec Ideal S512x128 .f32) (r c : Fin 512) :
    k1_pay18 (F := Ideal) k v x g o l (ix2 r c) = k1_pay17 (F := Ideal) k x l (ix2 r c) * ((∑ e : Fin 128, g (ix2 r e) * v (ix2 c e)) - ∑ e : Fin 128, g (ix2 r e) * o (ix2 r e)) := by
  pointwise [k1_pay18]

theorem bpay19_read (k x : FVec Ideal S512x256 .bf16) (v : FVec Ideal S512x128 .bf16) (g : FVec Ideal S512x128 .f32) (o : FVec Ideal S512x128 .bf16) (l : FVec Ideal S512x128 .f32) (z : FVec Ideal S512x256 .f32) (r : Fin 512) (d : Fin 256) :
    k1_pay19 (F := Ideal) k v x g o l z (ix2 r d) = z (ix2 r d) + ∑ c : Fin 512, k1_pay18 (F := Ideal) k v x g o l (ix2 r c) * k (ix2 c d) := by
  pointwise [k1_pay19]

theorem bpay20_read (k x : FVec Ideal S512x256 .bf16) (v : FVec Ideal S512x128 .bf16) (g : FVec Ideal S512x128 .f32) (o : FVec Ideal S512x128 .bf16) (l : FVec Ideal S512x128 .f32) (a : FVec Ideal S512x256 .f32) (c : Fin 512) (d : Fin 256) :
    k1_pay20 (F := Ideal) k v a x g o l (ix2 c d) = a (ix2 c d) + ∑ r : Fin 512, k1_pay18 (F := Ideal) k v x g o l (ix2 r c) * x (ix2 r d) := by
  pointwise [k1_pay20, k1_pay16]

theorem bpay21_read (k x : FVec Ideal S512x256 .bf16) (g : FVec Ideal S512x128 .f32) (l : FVec Ideal S512x128 .f32) (a : FVec Ideal S512x128 .f32) (c : Fin 512) (e : Fin 128) :
    k1_pay21 (F := Ideal) k a x g l (ix2 c e) = a (ix2 c e) + ∑ r : Fin 512, k1_pay17 (F := Ideal) k x l (ix2 r c) * g (ix2 r e) := by
  pointwise [k1_pay21]

/-- A finite sum of products of reals. -/
theorem sum_mul (n : ℕ) (f g : ℕ → ℝ) : (∑ c : Fin n, (f c : EReal) * (g c : EReal)) = ((∑ c ∈ Finset.range n, f c * g c : ℝ) : EReal) := by
  rw [← coe_sum_fin fun c => f c * g c]
  exact Finset.sum_congr rfl fun c _ => (EReal.coe_mul _ _).symm

/-- Another block of rows after those summed. -/
theorem sum_next (f : ℕ → ℝ) (a b : ℕ) (h : a ≤ b) :
    (∑ r ∈ Finset.Ico a b, f r) + ∑ r ∈ Finset.range 512, f (b + r) = ∑ r ∈ Finset.Ico a (b + 512), f r := by
  rw [← Finset.sum_Ico_consecutive f h (Nat.le_add_right b 512), Finset.sum_Ico_eq_sum_range f b, Nat.add_sub_cancel_left]

section
variable (Q K V G : ℕ → ℕ → ℝ)

/-- What a key block holds. -/
structure KeysAt (j : ℕ) (k : FVec Ideal S512x256 .bf16) (v : FVec Ideal S512x128 .bf16) : Prop where
  k : ∀ (c : Fin 512) (d : Fin 256), k (ix2 c d) = (K (512 * j + c) d : EReal)
  v : ∀ (c : Fin 512) (e : Fin 128), v (ix2 c e) = (V (512 * j + c) e : EReal)

/-- What a query block's rows hold: queries, cotangents, results and the logarithms of the sums. -/
structure RowsAt (m : ℕ) (x : FVec Ideal S512x256 .bf16) (g : FVec Ideal S512x128 .f32) (o : FVec Ideal S512x128 .bf16) (l : FVec Ideal S512x128 .f32) : Prop where
  q : ∀ (r : Fin 512) (d : Fin 256), x (ix2 r d) = (Q (512 * m + r) d : EReal)
  g : ∀ (r : Fin 512) (e : Fin 128), g (ix2 r e) = (G (512 * m + r) e : EReal)
  o : ∀ (r : Fin 512) (e : Fin 128), o (ix2 r e) = (att (score Q K) V (512 * m + r) e : EReal)
  l : ∀ (r : Fin 512) (e : Fin 128), l (ix2 r e) = (Real.log (tot (score Q K) (512 * m + r)) : EReal)

/-- What the whole blocks of a head hold. -/
structure HeadAt (q : Vec Ideal S4096x256 .bf16) (o : Vec Ideal S4096x128 .bf16) (g : Vec Ideal S4096x128 .f32) (l : Vec Ideal S4096x128 .f32) : Prop where
  q : ∀ (r : Fin 4096) (d : Fin 256), q (ix2 r d) = (Q r d : EReal)
  g : ∀ (r : Fin 4096) (e : Fin 128), g (ix2 r e) = (G r e : EReal)
  o : ∀ (r : Fin 4096) (e : Fin 128), o (ix2 r e) = (att (score Q K) V r e : EReal)
  l : ∀ (r : Fin 4096) (e : Fin 128), l (ix2 r e) = (Real.log (tot (score Q K) r) : EReal)

variable {Q K V G} {j m : ℕ} {k x : FVec Ideal S512x256 .bf16} {v o : FVec Ideal S512x128 .bf16} {g l : FVec Ideal S512x128 .f32}

theorem RowsAt.score (h : RowsAt Q K V G m x g o l) (hk : KeysAt K V j k v) (r c : Fin 512) :
    (∑ d : Fin 256, x (ix2 r d) * k (ix2 c d)) = (score Q K (512 * m + r) (512 * j + c) : EReal) := by
  rw [← sum_score]
  exact Finset.sum_congr rfl fun d _ => by rw [h.q, hk.k]

theorem RowsAt.dprob (h : RowsAt Q K V G m x g o l) (hk : KeysAt K V j k v) (r c : Fin 512) :
    (∑ e : Fin 128, g (ix2 r e) * v (ix2 c e)) = (dprob V G (512 * m + r) (512 * j + c) : EReal) := by
  unfold Cert.Att.dprob
  rw [← sum_mul]
  exact Finset.sum_congr rfl fun e _ => by rw [h.g, hk.v]

theorem RowsAt.dot (h : RowsAt Q K V G m x g o l) (r : Fin 512) :
    (∑ e : Fin 128, g (ix2 r e) * o (ix2 r e)) = (dot (Cert.Att.score Q K) V G (512 * m + r) : EReal) := by
  unfold Cert.Att.dot
  rw [← sum_mul]
  exact Finset.sum_congr rfl fun e _ => by rw [h.g, h.o]

/-- The weights of the block on the diagonal. -/
theorem RowsAt.prob_diag (h : RowsAt Q K V G j x g o l) (hk : KeysAt K V j k v) (hj : j < 8) (r c : Fin 512) :
    k1_pay9 (F := Ideal) k k1_pay7 x l (ix2 r c) = (prob (Cert.Att.score Q K) (512 * j + r) (512 * j + c) : EReal) := by
  rw [bpay9_read k x l j, h.score hk, h.l]
  exact exp_prob _ _ _ (by omega)

/-- The weights of a block below the diagonal. -/
theorem RowsAt.prob_below (h : RowsAt Q K V G m x g o l) (hk : KeysAt K V j k v) (hj : j < m) (hm : m < 8) (r c : Fin 512) :
    k1_pay17 (F := Ideal) k x l (ix2 r c) = (prob (Cert.Att.score Q K) (512 * m + r) (512 * j + c) : EReal) := by
  rw [bpay17_read, h.score hk, h.l, ← exp_prob _ _ _ (by omega : 512 * m + (r : ℕ) < 4096), if_pos (by unfold seen; omega)]

theorem RowsAt.ds_diag (h : RowsAt Q K V G j x g o l) (hk : KeysAt K V j k v) (hj : j < 8) (r c : Fin 512) :
    k1_pay9 (F := Ideal) k k1_pay7 x l (ix2 r c) * (k1_pay10 (F := Ideal) v g (ix2 r c) - ∑ e : Fin 128, k1_pay11 (F := Ideal) g o (ix2 r e))
      = (dscore (Cert.Att.score Q K) V G (512 * j + r) (512 * j + c) : EReal) := by
  have e : (∑ e : Fin 128, k1_pay11 (F := Ideal) g o (ix2 r e)) = ∑ e : Fin 128, g (ix2 r e) * o (ix2 r e) :=
    Finset.sum_congr rfl fun e _ => by pointwise [k1_pay11]
  rw [h.prob_diag hk hj, bpay10_read, h.dprob hk, e, h.dot, ← EReal.coe_sub, ← EReal.coe_mul]
  rfl

theorem RowsAt.ds_below (h : RowsAt Q K V G m x g o l) (hk : KeysAt K V j k v) (hj : j < m) (hm : m < 8) (r c : Fin 512) :
    k1_pay18 (F := Ideal) k v x g o l (ix2 r c) = (dscore (Cert.Att.score Q K) V G (512 * m + r) (512 * j + c) : EReal) := by
  rw [bpay18_read, h.prob_below hk hj hm, h.dprob hk, h.dot, ← EReal.coe_sub, ← EReal.coe_mul]
  rfl

end

theorem rows_word : ∀ j : Fin 8, (Scalar.indexCast (Scalar.addi (Scalar.muli (BitVec.ofNat 32 j) 512#32) 0#32) : Index).toNat = 512 * j := by decide +kernel

theorem below_rows_word : ∀ (j n : Fin 8), (Scalar.indexCast (Scalar.muli (Scf.iv (Scalar.addi (BitVec.ofNat 32 j) 1#32) 1#32 n) 512#32) : Index).toNat = 512 * (j + 1 + n) := by
  decide +kernel

theorem j_lt (i : grid1.Coords) : (i 1).val < 8 := (i 1).isLt

/-- 512 rows put at row `a`, read at an index. -/
theorem put_rows (X : Vec Ideal S4096x256 .f32) (off : Fin 2 → ℕ) (a : ℕ) (h0 : off 0 = a) (h1 : off 1 = 0) (w : FVec Ideal S512x256 .f32) (r : Fin 4096) (d : Fin 256) :
    VecWindow.put (s := S4096x256) X off S512x256.size w (ix2 r d) = if h : a ≤ r ∧ (r : ℕ) < a + 512 then w (ix2 ⟨r - a, by omega⟩ d) else X (ix2 r d) := by
  subst h0
  unfold VecWindow.put
  have hd := d.isLt
  by_cases h : off 0 ≤ r ∧ (r : ℕ) < off 0 + 512
  · rw [dif_pos h, dif_pos (fun x => by
      match x with
      | 0 => exact h
      | 1 => show off 1 ≤ (d : ℕ) ∧ (d : ℕ) < off 1 + 256; omega)]
    refine congrArg w (funext fun x => ?_)
    match x with
    | 0 => rfl
    | 1 => exact Fin.ext (show (d : ℕ) - off 1 = d by omega)
  · rw [dif_neg h, dif_neg (fun hh => h (hh 0))]

section
variable {Q K V G : ℕ → ℕ → ℝ} {i : grid1.Coords} {q : Vec Ideal S4096x256 .bf16} {k : FVec Ideal S512x256 .bf16} {v : FVec Ideal S512x128 .bf16}
  {o : Vec Ideal S4096x128 .bf16} {g l : Vec Ideal S4096x128 .f32}

/-- The rows read from row `512 * m` on. -/
theorem HeadAt.rows (h : HeadAt Q K V G q o g l) (off off' : Fin 2 → ℕ) (inb) (inb') (m : ℕ) (hm : m < 8) (h0 : off 0 = 512 * m) (h1 : off 1 = 0)
    (h0' : off' 0 = 512 * m) (h1' : off' 1 = 0) :
    RowsAt Q K V G m (View.ld q (Rect.unit (s := S4096x256) off S512x256.size inb)) (View.ld g (Rect.unit (s := S4096x128) off' S512x128.size inb'))
      (View.ld o (Rect.unit (s := S4096x128) off' S512x128.size inb')) (View.ld l (Rect.unit (s := S4096x128) off' S512x128.size inb')) where
  q := fun r d => by rw [ld_rows256 q off inb _ h0 h1 r d (by omega), h.q]
  g := fun r d => by rw [ld_rows128 g off' inb' _ h0' h1' r d (by omega), h.g]
  o := fun r d => by rw [ld_rows128 o off' inb' _ h0' h1' r d (by omega), h.o]
  l := fun r d => by rw [ld_rows128 l off' inb' _ h0' h1' r d (by omega), h.l]

theorem HeadAt.diag (h : HeadAt Q K V G q o g l) (i : grid1.Coords) :
    RowsAt Q K V G (i 1).val (View.ld q (rD i)) (View.ld g (rE i)) (View.ld o (rE i)) (View.ld l (rE i)) :=
  h.rows _ _ _ _ _ (j_lt i) (rows_word ⟨(i 1).val, j_lt i⟩) rfl (rows_word ⟨(i 1).val, j_lt i⟩) rfl

theorem HeadAt.below (h : HeadAt Q K V G q o g l) (i : grid1.Coords) (n : ℕ) (hn : n < (k1_t1_loop i).trips) :
    RowsAt Q K V G ((i 1).val + 1 + n) (View.ld q (rA i ⟨n, hn⟩)) (View.ld g (rB i ⟨n, hn⟩)) (View.ld o (rB i ⟨n, hn⟩)) (View.ld l (rB i ⟨n, hn⟩)) := by
  have ht := tripsB i
  have hj := j_lt i
  exact h.rows _ _ _ _ _ (by omega) (below_rows_word ⟨(i 1).val, hj⟩ ⟨n, by omega⟩) rfl (below_rows_word ⟨(i 1).val, hj⟩ ⟨n, by omega⟩) rfl

/-- What a point adds to the queries' gradient of a row. -/
def addq (S K V G : ℕ → ℕ → ℝ) (j r d : ℕ) : ℝ := ∑ c ∈ Finset.range 512, dscore S V G r (512 * j + c) * K (512 * j + c) d

theorem addq_before (S K V G : ℕ → ℕ → ℝ) (j r d : ℕ) (h : r < 512 * j) : addq S K V G j r d = 0 := by
  unfold addq
  refine Finset.sum_eq_zero fun c _ => ?_
  rw [dscore_unseen _ _ _ _ _ (by unfold seen; omega), zero_mul]

/-- The scratch buffer after `n` blocks below the diagonal. -/
theorem HeadAt.scr (h : HeadAt Q K V G q o g l) (hk : KeysAt K V (i 1).val k v) (z : Vec Ideal S4096x256 .f32) (W : ℕ → ℕ → ℝ)
    (hz : ∀ (r : Fin 4096) (d : Fin 256), z (ix2 r d) = ((W r d + if (r : ℕ) < 512 * ((i 1).val + 1) then addq (score Q K) K V G (i 1).val r d else 0 : ℝ) : EReal))
    (n : ℕ) (hn : n ≤ 7 - (i 1).val) (r : Fin 4096) (d : Fin 256) :
    scrB (F := Ideal) i q k v o g l z n (ix2 r d) = ((W r d + if (r : ℕ) < 512 * ((i 1).val + 1 + n) then addq (score Q K) K V G (i 1).val r d else 0 : ℝ) : EReal) := by
  have hj := j_lt i
  induction n generalizing r d with
  | zero => exact hz r d
  | succ n ih =>
    have ht : n < (k1_t1_loop i).trips := by rw [tripsB]; omega
    have hb := h.below i n ht
    have o1 : k1_off3 i ⟨n, ht⟩ 0 = 512 * ((i 1).val + 1 + n) := below_rows_word ⟨(i 1).val, hj⟩ ⟨n, by omega⟩
    rw [scrB, dif_pos ht, put_rows _ _ _ o1 rfl]
    have ih := ih (by omega)
    generalize scrB (F := Ideal) i q k v o g l z n = y at ih ⊢
    by_cases c : 512 * ((i 1).val + 1 + n) ≤ (r : ℕ) ∧ (r : ℕ) < 512 * ((i 1).val + 1 + n) + 512
    · rw [dif_pos c, bpay19_read, if_pos (by omega), ld_rows256 y _ _ _ o1 rfl _ _ (by show 512 * ((i 1).val + 1 + n) + ((r : ℕ) - 512 * ((i 1).val + 1 + n)) < 4096; omega)]
      have er : (⟨512 * ((i 1).val + 1 + n) + ((r : ℕ) - 512 * ((i 1).val + 1 + n)), by omega⟩ : Fin 4096) = r := Fin.ext (by show 512 * ((i 1).val + 1 + n) + ((r : ℕ) - 512 * ((i 1).val + 1 + n)) = r; omega)
      rw [er, ih, if_neg (by omega), add_zero, EReal.coe_add]
      congr 1
      unfold addq
      rw [← sum_mul]
      refine Finset.sum_congr rfl fun c' _ => ?_
      rw [hb.ds_below hk (by omega) (by omega), hk.k]
      show ((dscore _ V G (512 * ((i 1).val + 1 + n) + ((r : ℕ) - 512 * ((i 1).val + 1 + n))) _ : ℝ) : EReal) * _ = _
      rw [show 512 * ((i 1).val + 1 + n) + ((r : ℕ) - 512 * ((i 1).val + 1 + n)) = r by omega]
    · rw [dif_neg c, ih]
      refine congrArg (fun x : ℝ => ((W r d + x : ℝ) : EReal)) (if_congr (by omega) rfl rfl)

/-- The scratch buffer a point leaves: what it held and the point's part. -/
theorem HeadAt.scr_all (h : HeadAt Q K V G q o g l) (hk : KeysAt K V (i 1).val k v) (z : Vec Ideal S4096x256 .f32) (W : ℕ → ℕ → ℝ)
    (hz : ∀ (r : Fin 4096) (d : Fin 256), z (ix2 r d) = (W r d : EReal)) (r : Fin 4096) (d : Fin 256) :
    scrM (F := Ideal) i q k v o g l z (ix2 r d) = ((W r d + addq (score Q K) K V G (i 1).val r d : ℝ) : EReal) := by
  have hj := j_lt i
  have hb := h.diag i
  have o1 : k1_off1 i 0 = 512 * (i 1).val := rows_word ⟨(i 1).val, hj⟩
  unfold scrM
  refine (h.scr hk _ W (fun r d => ?_) (7 - (i 1).val) le_rfl r d).trans ?_
  · rw [put_rows _ _ _ o1 rfl]
    by_cases c : 512 * (i 1).val ≤ (r : ℕ) ∧ (r : ℕ) < 512 * (i 1).val + 512
    · rw [dif_pos c, bpay13_read, if_pos (by omega), ld_rows256 z _ _ _ o1 rfl _ _ (by show 512 * (i 1).val + ((r : ℕ) - 512 * (i 1).val) < 4096; omega)]
      have er : (⟨512 * (i 1).val + ((r : ℕ) - 512 * (i 1).val), by omega⟩ : Fin 4096) = r := Fin.ext (by show 512 * (i 1).val + ((r : ℕ) - 512 * (i 1).val) = r; omega)
      rw [er, hz, EReal.coe_add]
      congr 1
      unfold addq
      rw [← sum_mul]
      refine Finset.sum_congr rfl fun c' _ => ?_
      rw [hb.ds_diag hk hj, hk.k]
      show ((dscore _ V G (512 * (i 1).val + ((r : ℕ) - 512 * (i 1).val)) _ : ℝ) : EReal) * _ = _
      rw [show 512 * (i 1).val + ((r : ℕ) - 512 * (i 1).val) = r by omega]
    · rw [dif_neg c, hz]
      by_cases c' : (r : ℕ) < 512 * (i 1).val
      · rw [addq_before _ _ _ _ _ _ _ c', ite_self, add_zero]
      · rw [if_neg (by omega), add_zero]
  · rw [if_pos (by omega)]

/-- The keys' and values' gradients after `n` blocks below the diagonal: the sums over the rows of the blocks taken in. -/
theorem HeadAt.car (h : HeadAt Q K V G q o g l) (hk : KeysAt K V (i 1).val k v) (n : ℕ) (hn : n ≤ 7 - (i 1).val) (c : Fin 512) :
    (∀ d : Fin 256, (foldB (F := Ideal) i q k v o g l
        (k1_pay14 k1_pay5 (k1_pay8 (View.ld q (rD i))) (k1_pay9 k k1_pay7 (View.ld q (rD i)) (View.ld l (rE i))) (k1_pay10 v (View.ld g (rE i))) (k1_pay11 (View.ld g (rE i)) (View.ld o (rE i))),
         k1_pay15 k1_pay6 (View.ld g (rE i)) (k1_pay9 k k1_pay7 (View.ld q (rD i)) (View.ld l (rE i)))) n).1 (ix2 c d)
      = ((∑ r ∈ Finset.Ico (512 * (i 1).val) (512 * ((i 1).val + 1 + n)), dscore (score Q K) V G r (512 * (i 1).val + c) * Q r d : ℝ) : EReal)) ∧
    (∀ e : Fin 128, (foldB (F := Ideal) i q k v o g l
        (k1_pay14 k1_pay5 (k1_pay8 (View.ld q (rD i))) (k1_pay9 k k1_pay7 (View.ld q (rD i)) (View.ld l (rE i))) (k1_pay10 v (View.ld g (rE i))) (k1_pay11 (View.ld g (rE i)) (View.ld o (rE i))),
         k1_pay15 k1_pay6 (View.ld g (rE i)) (k1_pay9 k k1_pay7 (View.ld q (rD i)) (View.ld l (rE i)))) n).2 (ix2 c e)
      = ((∑ r ∈ Finset.Ico (512 * (i 1).val) (512 * ((i 1).val + 1 + n)), prob (score Q K) r (512 * (i 1).val + c) * G r e : ℝ) : EReal)) := by
  have hj := j_lt i
  have hb := h.diag i
  induction n with
  | zero =>
    constructor
    · intro d
      show k1_pay14 (F := Ideal) _ _ _ _ _ _ = _
      rw [bpay14_read, show 512 * ((i 1).val + 1 + 0) = 512 * (i 1).val + 512 by ring, ← sum_next _ _ _ le_rfl, Finset.Ico_self, Finset.sum_empty, zero_add, ← sum_mul]
      have e0 : k1_pay5 (F := Ideal) (ix2 c d) = 0 := by pointwise [k1_pay5]
      rw [e0, zero_add]
      refine Finset.sum_congr rfl fun r _ => ?_
      have e1 : k1_pay8 (F := Ideal) (View.ld q (rD i)) (ix2 r d) = View.ld q (rD i) (ix2 r d) := by pointwise [k1_pay8]
      rw [hb.ds_diag hk hj, e1, hb.q]
    · intro e
      show k1_pay15 (F := Ideal) _ _ _ _ = _
      rw [bpay15_read, show 512 * ((i 1).val + 1 + 0) = 512 * (i 1).val + 512 by ring, ← sum_next _ _ _ le_rfl, Finset.Ico_self, Finset.sum_empty, zero_add, ← sum_mul]
      have e0 : k1_pay6 (F := Ideal) (ix2 c e) = 0 := by pointwise [k1_pay6]
      rw [e0, zero_add]
      refine Finset.sum_congr rfl fun r _ => ?_
      rw [hb.prob_diag hk hj, hb.g]
  | succ n ih =>
    have ht : n < (k1_t1_loop i).trips := by rw [tripsB]; omega
    have hb := h.below i n ht
    rw [foldB, dif_pos ht]
    obtain ⟨ih1, ih2⟩ := ih (by omega)
    generalize foldB (F := Ideal) i q k v o g l _ n = a at ih1 ih2 ⊢
    rw [show 512 * ((i 1).val + 1 + (n + 1)) = 512 * ((i 1).val + 1 + n) + 512 by ring]
    constructor
    · intro d
      show k1_pay20 (F := Ideal) _ _ _ _ _ _ _ _ = _
      rw [bpay20_read, ih1, ← sum_next _ _ _ (by omega), EReal.coe_add, ← sum_mul]
      congr 1
      refine Finset.sum_congr rfl fun r _ => ?_
      rw [hb.ds_below hk (by omega) (by omega), hb.q]
    · intro e
      show k1_pay21 (F := Ideal) _ _ _ _ _ _ = _
      rw [bpay21_read, ih2, ← sum_next _ _ _ (by omega), EReal.coe_add, ← sum_mul]
      congr 1
      refine Finset.sum_congr rfl fun r _ => ?_
      rw [hb.prob_below hk (by omega) (by omega), hb.g]

/-- The keys' and values' gradients a point leaves. -/
theorem HeadAt.car_all (h : HeadAt Q K V G q o g l) (hk : KeysAt K V (i 1).val k v) (c : Fin 512) :
    (∀ d : Fin 256, (carM (F := Ideal) i q k v o g l).1 (ix2 c d) = (dk (score Q K) Q V G (512 * (i 1).val + c) d : EReal)) ∧
    (∀ e : Fin 128, (carM (F := Ideal) i q k v o g l).2 (ix2 c e) = (dv (score Q K) G (512 * (i 1).val + c) e : EReal)) := by
  have hj := j_lt i
  have hc := h.car hk (7 - (i 1).val) le_rfl c
  rw [show 512 * ((i 1).val + 1 + (7 - (i 1).val)) = 4096 by omega] at hc
  refine ⟨fun d => (hc.1 d).trans ?_, fun e => (hc.2 e).trans ?_⟩
  · unfold dk
    rw [sum_rows _ (512 * (i 1).val + c) (i 1).val (by omega) (by omega) fun r hr => by rw [dscore_unseen _ _ _ _ _ hr, zero_mul]]
  · unfold dv
    rw [sum_rows _ (512 * (i 1).val + c) (i 1).val (by omega) (by omega) fun r hr => by rw [prob_unseen _ _ _ hr, zero_mul]]

end

end Cert.FlashIdeal.Att
-- ==== Proof.FlashCalls.lean ====
/-
  The two attention calls over their grids: what each window holds before and after every point. The backward call
  keeps the queries' gradient of its head in a scratch buffer from point to point; `scrAt` is what it holds there.
-/
module

public import proofs.«01_k».proof.Proof.Gen.FlashIdeal.Launch
public import proofs.«01_k».proof.Proof.Gen.FlashIdeal.Skeleton
public import proofs.«01_k».proof.Proof.Gen.FlashIdeal.Points
public import proofs.«01_k».proof.Proof.Gen.FlashIdeal.Loops
public import proofs.«01_k».proof.Proof.FlashFwdRun
public import proofs.«01_k».proof.Proof.FlashBwdRun
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FlashIdeal.Att

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The forward call -/

/-- A window's block at a point of the forward call, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the forward call's windows hold after each point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (grid0.coords t) (iblk0 V c 0 t) (iblk0 V c 1 t) (iblk0 V c 2 t)
    | ⟨4, _⟩ => out0_4 (grid0.coords t) (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (grid0.coords t) (iblk0 V c 0 t) (iblk0 V c 1 t) (iblk0 V c 2 t) := by dsimp only [dat0]
theorem after0_4 (c : Dev nD) (t : Fin cfg0.N) : (dat0 V c).after 4 t = out0_4 (grid0.coords t) (iblk0 V c 0 t) (iblk0 V c 1 t) (iblk0 V c 2 t) := by dsimp only [dat0]

/-- Each input's buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body is entered with at a point, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! ## The backward call -/

/-- A window's block at a point of the backward call, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer after a point that found it at `z`: set to zero first at a head's first point. -/
def scrStep (c : Dev nD) (t : Fin cfg1.N) (z : Vec F S4096x256 .f32) : Vec F S4096x256 .f32 :=
  scrN (grid1.coords t) (iblk1 V c 0 t) (iblk1 V c 1 t) (iblk1 V c 2 t) (iblk1 V c 3 t) (iblk1 V c 4 t) (iblk1 V c 5 t) (if condA (grid1.coords t) = 1#1 then k1_pay2 else z)

/-- The scratch buffer before point `n`, once a point has written it. -/
def scrAt (c : Dev nD) : ℕ → Vec F S4096x256 .f32
  | 0 => k1_pay2
  | n + 1 => if h : n < cfg1.N then scrStep V c ⟨n, h⟩ (scrAt c n) else scrAt c n

theorem scrAt_succ (c : Dev nD) (t : Fin cfg1.N) : scrAt V c (t.val + 1) = scrStep V c t (scrAt V c t.val) := by
  rw [scrAt, dif_pos t.isLt]

theorem first_pos : ∀ t : Fin cfg1.N, t.val % 8 = 0 → condA (grid1.coords t) = 1#1 :=
  (by decide +kernel : ∀ t : Fin grid1.N, t.val % 8 = 0 → condA (grid1.coords t) = 1#1)
theorem last_iff : ∀ t : Fin cfg1.N, k1_cond2 (grid1.coords t) = 1#1 ↔ t.val % 8 = 7 :=
  (by decide +kernel : ∀ t : Fin grid1.N, k1_cond2 (grid1.coords t) = 1#1 ↔ t.val % 8 = 7)

/-- At a head's first point what the buffer held does not matter. -/
theorem scrStep_eq (c : Dev nD) (t : Fin cfg1.N) (z : Vec F S4096x256 .f32) (hz : t.val % 8 ≠ 0 → z = scrAt V c t.val) :
    scrStep V c t z = scrAt V c (t.val + 1) := by
  rw [scrAt_succ]
  by_cases h : t.val % 8 = 0
  · unfold scrStep; rw [if_pos (first_pos t h), if_pos (first_pos t h)]
  · rw [hz h]

/-- Before point `n`: the scratch buffer at `scrAt` unless a head begins there, and what the call does not touch. -/
def scrInv (c : Dev nD) (n : ℕ) : sProp 𝕄 :=
  iprop((∃ z : Vec F S4096x256 .f32, ⌜n % 8 ≠ 0 → z = scrAt V c n⌝ ∗ owns (c : Thread nD τ) (Memref.whole cc1_scratch0) fullShare z)
    ∗ Pipeline.scopedRestBut (Ix := Unit) (Name := ℕ) (U := UR sig nD τ) (Lvl := ℕ) (Val := Elt F) spec1 c [cc1_scratch0]
    ∗ ∃ r, prngReg c r)

/-- What the backward call's windows hold after each point; the queries' gradient is written where a head ends. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => k1_pay1 (scrAt V c (t.val + 1))
    | ⟨7, _⟩ => k1_pay28 (carN (grid1.coords t) (iblk1 V c 0 t) (iblk1 V c 1 t) (iblk1 V c 2 t) (iblk1 V c 3 t) (iblk1 V c 4 t) (iblk1 V c 5 t)).1
    | ⟨8, _⟩ => k1_pay29 (carN (grid1.coords t) (iblk1 V c 0 t) (iblk1 V c 1 t) (iblk1 V c 2 t) (iblk1 V c 3 t) (iblk1 V c 4 t) (iblk1 V c 5 t)).2
  Φ t := scrInv V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = k1_pay1 (scrAt V c (t.val + 1)) := by dsimp only [dat1]
theorem after1_7 (c : Dev nD) (t : Fin cfg1.N) : (dat1 V c).after 7 t = k1_pay28 (carN (grid1.coords t) (iblk1 V c 0 t) (iblk1 V c 1 t) (iblk1 V c 2 t) (iblk1 V c 3 t) (iblk1 V c 4 t) (iblk1 V c 5 t)).1 := by dsimp only [dat1]
theorem after1_8 (c : Dev nD) (t : Fin cfg1.N) : (dat1 V c).after 8 t = k1_pay29 (carN (grid1.coords t) (iblk1 V c 0 t) (iblk1 V c 1 t) (iblk1 V c 2 t) (iblk1 V c 3 t) (iblk1 V c 4 t) (iblk1 V c 5 t)).2 := by dsimp only [dat1]
theorem inv1 (c : Dev nD) (t : Fin (cfg1.N + 1)) : (dat1 V c).Φ t = scrInv V c t.val := by dsimp only [dat1]
theorem inv1_pre (c : Dev nD) (t : Fin cfg1.N) : (dat1 V c).Φ t.castSucc = scrInv V c t.val := (inv1 V c _).trans (by rw [Fin.val_castSucc])
theorem inv1_post (c : Dev nD) (t : Fin cfg1.N) : (dat1 V c).Φ t.succ = scrInv V c (t.val + 1) := (inv1 V c _).trans (by rw [Fin.val_succ])

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- The queries' gradient is written at a head's last point, -/
theorem leaves6_last (c : Dev nD) (t : Fin cfg1.N) (h : k1_cond2 (grid1.coords t) = 1#1) :
    (dat1 V c).leavesExact 6 t = owns (c : Thread nD τ) (st1_6 t) fullShare (k1_pay1 (scrAt V c (t.val + 1))) := by
  have hi : cfg1.idle 6 (cfg1.grid.coords t) = false := by
    change (!(k1_cond2 (grid1.coords t) == 1#1)) = false; rw [h]; rfl
  unfold Dat.leavesExact; rw [hi, ← after1_6]

/-- and left alone at the others. -/
theorem leaves6_idle (c : Dev nD) (t : Fin cfg1.N) (h : ¬ k1_cond2 (grid1.coords t) = 1#1) :
    (dat1 V c).leavesExact 6 t = iprop(∃ d, owns (c : Thread nD τ) (st1_6 t) fullShare ((dat1 V c).before 6 t d)) := by
  refine Dat.leavesExact_idle _ _ _ ?_ ?_
  · change (!(k1_cond2 (grid1.coords t) == 1#1)) = true; rw [beq_eq_false_iff_ne.mpr h]; rfl
  · exact Bool.eq_false_iff.mpr fun e => h ((last_iff t).mpr ((flush1_6 t).mp e))

/-- What the body is entered with at a point, -/
def bodyPre1 (c : Dev nD) (t : Fin cfg1.N) : sProp 𝕄 :=
  iprop(scrInv V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it leaves. -/
def bodyPost1 (c : Dev nD) (t : Fin cfg1.N) : sProp 𝕄 :=
  iprop(scrInv V c (t.val + 1) ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    after1_0, after1_1, after1_2, after1_3, after1_4, after1_5, after1_7, after1_8]
  unfold scrInv
  iintro ⟨⟨⟨%z, %hz, Hz⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) ((dat1 V c).before 6 t d6) z _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [Hz]; · iexact Hz
  have hs : scrN (grid1.coords t) (iblk1 V c 0 t) (iblk1 V c 1 t) (iblk1 V c 2 t) (iblk1 V c 3 t) (iblk1 V c 4 t) (iblk1 V c 5 t) (if condA (grid1.coords t) = 1#1 then k1_pay2 else z) = scrAt V c (t.val + 1) :=
    scrStep_eq V c t z hz
  rw [hs]
  iintro ⟨H0, H1, H2, H3, H4, H5, H6, H7, H8, Hz⟩
  isplitl [Hz HΦ]
  · isplitl [Hz]
    · iexists _; isplitr
      swap; · iexact Hz
      ipureintro; exact fun _ => rfl
    iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · by_cases h : k1_cond2 (grid1.coords t) = 1#1
    · rw [leaves6_last V c t h, if_pos h]; iexact H6
    · rw [leaves6_idle V c t h, if_neg h]; iexists _; iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1, inv1_pre, inv1_post]
  exact triple_restated (sound_body1 V c t) rfl .rfl fun _ => .rfl

end Cert.FlashIdeal.Att

end
-- ==== Proof.FlashRun.lean ====
/-
  The whole run of the attention program: the casts, the forward call, the backward call on what it leaves, and the
  slice. Every buffer the program keeps ends at `W4`, the arguments among them as they were.
-/
module

public import proofs.«01_k».proof.Proof.Gen.FlashIdeal.Launch
public import proofs.«01_k».proof.Proof.Gen.FlashIdeal.Skeleton
public import proofs.«01_k».proof.Proof.Gen.FlashIdeal.Points
public import proofs.«01_k».proof.Proof.Gen.FlashIdeal.Loops
public import proofs.«01_k».proof.Proof.FlashFwdRun
public import proofs.«01_k».proof.Proof.FlashBwdRun
public import proofs.«01_k».proof.Proof.FlashCalls
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.FlashIdeal.Att

open Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold between the steps -/

abbrev argRefs : List (Ref sig .tc) := [main_arg0, main_arg1, main_arg2, main_arg3]

theorem casts_fresh : (hostOps0 : List (HloOp τ sig (Elt F))).Forall fun op => op.fresh = ∅ := by
  simp only [List.Forall]; repeat' constructor
theorem casts_writes : (hostOps0 : List (HloOp τ sig (Elt F))).Forall fun op => op.writes ⊆ (([main_v0, main_v1, main_v2] : List (Ref sig .tc)).map (Proc.devRef (τ := τ) .tc)).toFinset :=
  StableHlo.forall_writes_sub_of_map rfl
theorem slice_fresh : (hostOps2 : List (HloOp τ sig (Elt F))).Forall fun op => op.fresh = ∅ := by
  simp only [List.Forall]; repeat' constructor
theorem slice_writes : (hostOps2 : List (HloOp τ sig (Elt F))).Forall fun op => op.writes ⊆ (([main_v5] : List (Ref sig .tc)).map (Proc.devRef (τ := τ) .tc)).toFinset :=
  StableHlo.forall_writes_sub_of_map rfl

/-- At the start, -/
abbrev W0 : Dev nD → Valuation τ sig (Elt F) := fun c b => (s₀ m ρ).mem ((c : Dev nD), b)
/-- after the casts, -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the forward call, -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- after the backward call, -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- and after the slice. -/
abbrev W4 : Dev nD → Valuation τ sig (Elt F) := fun c => StableHlo.after hostOps2 (W3 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
theorem W1_of (c : Dev nD) (r : Ref sig .tc) (h : r ∉ ([main_v0, main_v1, main_v2] : List (Ref sig .tc))) :
    W1 m ρ c (Proc.devRef .tc r) = W0 m ρ c (Proc.devRef .tc r) :=
  StableHlo.after_of_writes_sub hostOps0 _ casts_writes h
theorem W4_of (c : Dev nD) (r : Ref sig .tc) (h : r ∉ ([main_v5] : List (Ref sig .tc))) :
    W4 m ρ c (Proc.devRef .tc r) = W3 m ρ c (Proc.devRef .tc r) :=
  StableHlo.after_of_writes_sub hostOps2 _ slice_writes h

theorem args_casts : ∀ a ∈ argRefs, a ∉ ([main_v0, main_v1, main_v2] : List (Ref sig .tc)) := ListAll.forall_mem_of_all_decide (by decide +kernel)
theorem args_slice : ∀ a ∈ argRefs, a ∉ ([main_v5] : List (Ref sig .tc)) := ListAll.forall_mem_of_all_decide (by decide +kernel)
theorem args_in0 : ∀ a ∈ argRefs, ∀ w : Fin cfg0.W, Pipeline.arrRef spec0 w = a → (cfg0.win w).isOut = false :=
  ListAll.forall_mem_of_all_decide (by decide +kernel)
theorem args_in1 : ∀ a ∈ argRefs, ∀ w : Fin cfg1.W, Pipeline.arrRef spec1 w = a → (cfg1.win w).isOut = false :=
  ListAll.forall_mem_of_all_decide (by decide +kernel)

/-- The arguments end as they were. -/
theorem W4_args (c : Dev nD) : ∀ a ∈ argRefs, W4 m ρ c (Proc.devRef .tc a) = m ((c : Thread nD τ).loc a) := fun a ha =>
  (W4_of m ρ c a (args_slice a ha)).trans <| (W3_of m ρ c a (args_in1 a ha)).trans <|
    (W2_of m ρ c a (args_in0 a ha)).trans <| (W1_of m ρ c a (args_casts a ha)).trans rfl

/-! ## The steps as segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The buffers at the end. -/
abbrev Tₙ (c : Dev nD) : sProp 𝕄 := iprop(StableHlo.held (c : Thread nD τ) (Pipeline.ucRefs τ sig) (W4 m ρ c) ∗ ∃ r, prngReg c r)

/-- The scratch buffer apart from what else the backward call leaves alone. -/
theorem rest_split (c : Dev nD) : (Pipeline.scopedRest (Ix := Unit) (Name := ℕ) (U := UR sig nD τ) (Lvl := ℕ) (Val := Elt F) spec1 c : sProp 𝕄)
    = iprop((∃ f : Buf (Elt F) ((c : Thread nD τ).loc cc1_scratch0), ((c : Thread nD τ).loc cc1_scratch0) ↦{fullShare} f)
      ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The scratch buffer and the register out of what the backward call is entered with, and back. -/
theorem inv_in (c : Dev nD) : iprop((∃ r, prngReg c r) ∗ Pipeline.scopedRest (Ix := Unit) (Name := ℕ) (U := UR sig nD τ) (Lvl := ℕ) (Val := Elt F) spec1 c) ⊢ scrInv (V2 m ρ) c 0 := by
  rw [rest_split]
  unfold scrInv
  iintro ⟨Hp, ⟨%f, Hf⟩, Hr⟩
  isplitl [Hf]
  · iexists f; isplitr
    · ipureintro; exact fun h => absurd rfl h
    rw [owns_whole]; iexact Hf
  isplitl [Hr]; · iexact Hr
  iexact Hp
theorem inv_out (c : Dev nD) (n : ℕ) : scrInv (V2 m ρ) c n ⊢ iprop((∃ r, prngReg c r) ∗ Pipeline.scopedRest (Ix := Unit) (Name := ℕ) (U := UR sig nD τ) (Lvl := ℕ) (Val := Elt F) spec1 c) := by
  rw [rest_split]
  unfold scrInv
  iintro ⟨⟨%z, -, Hz⟩, Hr, Hp⟩
  isplitl [Hp]; · iexact Hp
  isplitl [Hz]
  · iexists z; rw [← owns_whole]; iexact Hz
  iexact Hr

set_option backward.isDefEq.respectTransparency.types false in
/-- The forward call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = scrInv (V2 m ρ) c 0 from inv1 (V2 m ρ) c 0]
    iintro ⟨Hp, -, Hr⟩
    iapply (inv_in m ρ c)
    isplitl [Hp]; · iexact Hp
    iexact Hr
  hout c := by
    rw [Pipeline.ownSems0_none, show (pdats m ρ 1 c).Φ (Fin.last _) = scrInv (V2 m ρ) c cfg1.N from inv1 (V2 m ρ) c (Fin.last _)]
    iintro H
    ihave H := (inv_out m ρ c cfg1.N) $$ H
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (fun w => (W3_arr m ρ c w).symm)
      (fun b hb => W3_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub casts_fresh (W0 m ρ)),
    .region (reg0 m ρ),
    .region (reg1 m ρ),
    .host (hseg hostOps2 hostOps2_sub slice_fresh (W3 m ρ)) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends, nothing failing, with the buffers the program keeps at `W4` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide))⟩, h.2⟩) (run_all m ρ)

end Cert.FlashIdeal.Att

end
-- ==== Proof.FlashFinal.lean ====
/- The attention calls' result arrays as real formulas, head by head. -/
module

public import proofs.«01_k».proof.Proof.FlashBwd
public import proofs.«01_k».proof.Proof.FlashRun
public import Idealize.ShloMosaic.Lib.Pipeline.ValueKit
public import Idealize.ShloMosaic.Lib.Pipeline.ValueKit.Partial
public import Idealize.ShloMosaic.Lib.Claim
public import Idealize.ShloMosaic.Lib.StableHlo.RunClose
public import Idealize.ShloMosaic.Lib.StableHlo.RunRead

@[expose] public section

set_option maxRecDepth 16384

noncomputable section

open Idealize.ShloMosaic Idealize.ShloMosaic.TcCoe Idealize.SL.Sem
open Cert.FlashIdeal Cert.FlashIdeal.Gen Cert.RealSums

namespace Cert.FlashIdeal.Att
open Cert.Att

variable (m : (ℓ : Loc nD τ sig) → Buf (Elt Ideal) ℓ) (ρ : Dev nD → PrngReg)

/-- Where each window stands at each point: head `t / 8`, block `t % 8`. -/
theorem idx0 : ∀ t : Fin cfg0.N, win0_0.index t = ![t.val % 8, t.val / 8] ∧ win0_1.index t = ![0, t.val / 8] ∧ win0_2.index t = ![0, t.val / 8]
    ∧ win0_3.index t = ![t.val % 8, 2 + t.val / 8] ∧ win0_4.index t = ![t.val % 8, t.val / 8] ∧ (grid0.coords t 1).val = t.val % 8 ∧ t.val < 48 :=
  (by decide +kernel : ∀ t : Fin grid0.N, _)

theorem idx1 : ∀ t : Fin cfg1.N, win1_0.index t = ![0, t.val / 8] ∧ win1_1.index t = ![t.val % 8, t.val / 8] ∧ win1_2.index t = ![t.val % 8, t.val / 8]
    ∧ win1_3.index t = ![0, 2 + t.val / 8] ∧ win1_4.index t = ![0, 2 + t.val / 8] ∧ win1_5.index t = ![0, t.val / 8] ∧ win1_6.index t = ![0, t.val / 8]
    ∧ win1_7.index t = ![t.val % 8, t.val / 8] ∧ win1_8.index t = ![t.val % 8, t.val / 8] ∧ (grid1.coords t 1).val = t.val % 8 ∧ t.val < 48 :=
  (by decide +kernel : ∀ t : Fin grid1.N, _)

theorem lt0 (t : Fin cfg0.N) : t.val < 48 := (idx0 t).2.2.2.2.2.2
theorem lt1 (t : Fin cfg1.N) : t.val < 48 := (idx1 t).2.2.2.2.2.2.2.2.2.2
theorem coord0 (t : Fin cfg0.N) : (grid0.coords t 1).val = t.val % 8 := (idx0 t).2.2.2.2.2.1
theorem coord1 (t : Fin cfg1.N) : (grid1.coords t 1).val = t.val % 8 := (idx1 t).2.2.2.2.2.2.2.2.2.1

/-- The casts leave the queries, keys and values as they are. -/
theorem cast_q (c : Dev nD) (r : Fin 4096) (x : Fin 1536) : V1 m ρ c main_v0 (ix2 r x) = m ((c : Thread nD τ).loc main_arg0) (ix2 r x) := by
  show StableHlo.after hostOps0 _ (Proc.devRef .tc main_v0) _ = _
  after_reads_simp
  pointwise
theorem cast_k (c : Dev nD) (r : Fin 4096) (x : Fin 1536) : V1 m ρ c main_v1 (ix2 r x) = m ((c : Thread nD τ).loc main_arg1) (ix2 r x) := by
  show StableHlo.after hostOps0 _ (Proc.devRef .tc main_v1) _ = _
  after_reads_simp
  pointwise
theorem cast_v (c : Dev nD) (r : Fin 4096) (x : Fin 768) : V1 m ρ c main_v2 (ix2 r x) = m ((c : Thread nD τ).loc main_arg2) (ix2 r x) := by
  show StableHlo.after hostOps0 _ (Proc.devRef .tc main_v2) _ = _
  after_reads_simp
  pointwise

/-- The arguments hold these real numbers. -/
structure Reals (Q K V G : ℕ → ℕ → ℝ) (c : Dev nD) : Prop where
  q : ∀ (r : Fin 4096) (x : Fin 1536), (m ((c : Thread nD τ).loc main_arg0) : FVec Ideal S4096x1536 .f32) (ix2 r x) = (Q r x : EReal)
  k : ∀ (r : Fin 4096) (x : Fin 1536), (m ((c : Thread nD τ).loc main_arg1) : FVec Ideal S4096x1536 .f32) (ix2 r x) = (K r x : EReal)
  v : ∀ (r : Fin 4096) (x : Fin 768), (m ((c : Thread nD τ).loc main_arg2) : FVec Ideal S4096x768 .f32) (ix2 r x) = (V r x : EReal)
  g : ∀ (r : Fin 4096) (x : Fin 1024), 256 ≤ (x : ℕ) → (m ((c : Thread nD τ).loc main_arg3) : FVec Ideal S4096x1024 .f32) (ix2 r x) = (G r x : EReal)

/-- The lanes of head `h`, of `w` lanes, after `b` others. -/
abbrev head (X : ℕ → ℕ → ℝ) (b w h : ℕ) : ℕ → ℕ → ℝ := fun r d => X r (b + w * h + d)

/-- The scores of head `h`. -/
abbrev sc (Q K : ℕ → ℕ → ℝ) (h : ℕ) : ℕ → ℕ → ℝ := score (head Q 0 256 h) (head K 0 256 h)

section Values

variable {m} {Q K V G : ℕ → ℕ → ℝ} {c : Dev nD} (h : Reals m Q K V G c)
include h

/-- What the forward call's blocks hold. -/
theorem heads (t : Fin cfg0.N) : Heads (head Q 0 256 (t.val / 8)) (head K 0 256 (t.val / 8)) (head V 0 128 (t.val / 8)) (grid0.coords t)
    (iblk0 (V1 m ρ) c 0 t) (iblk0 (V1 m ρ) c 1 t) (iblk0 (V1 m ρ) c 2 t) where
  q r d := by
    have ht := lt0 t
    have e : iblk0 (V1 m ρ) c 0 t (ix2 r d) = V1 m ρ c main_v0 (ix2 ⟨512 * (t.val % 8) + r, by omega⟩ ⟨0 + 256 * (t.val / 8) + d, by omega⟩) := by
      blk_ext [iblk0, idx0 t]
    rw [e, cast_q, h.q, coord0]
  k r d := by
    have ht := lt0 t
    have e : iblk0 (V1 m ρ) c 1 t (ix2 r d) = V1 m ρ c main_v1 (ix2 r ⟨0 + 256 * (t.val / 8) + d, by omega⟩) := by
      blk_ext [iblk0, idx0 t]
    rw [e, cast_k, h.k]
  v r d := by
    have ht := lt0 t
    have e : iblk0 (V1 m ρ) c 2 t (ix2 r d) = V1 m ρ c main_v2 (ix2 r ⟨0 + 128 * (t.val / 8) + d, by omega⟩) := by
      blk_ext [iblk0, idx0 t]
    rw [e, cast_v, h.v]

/-- The forward call's first result: the attention, in the columns from 256 on. -/
theorem final0_3 (r : Fin 4096) (x : Fin 1024) (hx : 256 ≤ (x : ℕ)) : V2 m ρ c main_v3_0 (ix2 r x)
    = (att (sc Q K ((x - 256) / 128)) (head V 0 128 ((x - 256) / 128)) r ((x - 256) % 128) : EReal) := by
  have e : (dat0 (V1 m ρ) c).arrAt 3 cfg0.N = (fun i => if 2 ≤ (i 1 : ℕ) / 128 then
      (att (sc Q K (((i 1 : ℕ) - 256) / 128)) (head V 0 128 (((i 1 : ℕ) - 256) / 128)) (i 0 : ℕ) (((i 1 : ℕ) - 256) % 128) : EReal) else (dat0 (V1 m ρ) c).A 3 i : FVec Ideal S4096x1024 .bf16) := by
    refine (dat0 (V1 m ρ) c).arrAt_eq_of_coversWhere 3 _ (fun β => 2 ≤ β (1 : Fin 2)) (by decide +kernel) (fun t hf y => ?_) (fun j => Iff.rfl)
    idx_vars y
    blk_simp [idx0 t]
    rw [after0_3]
    refine ((heads ρ h t).result y0 y1).1.trans ?_
    rw [coord0]
    have h1 : ((2 + t.val / 8) * 128 + y1.val - 256) / 128 = t.val / 8 := by omega
    have h2 : ((2 + t.val / 8) * 128 + y1.val - 256) % 128 = y1.val := by omega
    rw [h1, h2, Nat.mul_comm 512]
  refine (congrFun ((W2_arr m ρ c 3).trans e) (ix2 r x)).trans (if_pos ?_)
  show 2 ≤ (x : ℕ) / 128
  omega

/-- The forward call's second result: the logarithms of the rows' sums. -/
theorem final0_4 (r : Fin 4096) (x : Fin 768) : V2 m ρ c main_v3_1 (ix2 r x) = (Real.log (tot (sc Q K (x / 128)) r) : EReal) := by
  have e : (dat0 (V1 m ρ) c).arrAt 4 cfg0.N = (fun i => (Real.log (tot (sc Q K ((i 1 : ℕ) / 128)) (i 0 : ℕ)) : EReal) : FVec Ideal S4096x768 .f32) := by
    refine (dat0 (V1 m ρ) c).arrAt_eq_of_covers 4 _ (by decide +kernel) (fun t hf y => ?_)
    idx_vars y
    blk_simp [idx0 t]
    rw [after0_4]
    refine ((heads ρ h t).result y0 y1).2.trans ?_
    rw [coord0]
    have h1 : (t.val / 8 * 128 + y1.val) / 128 = t.val / 8 := by omega
    rw [h1, Nat.mul_comm 512]
  exact congrFun ((W2_arr m ρ c 4).trans e) (ix2 r x)

omit h in
/-- The casts' results are as the first call found them. -/
theorem kept (c : Dev nD) : V2 m ρ c main_v0 = V1 m ρ c main_v0 ∧ V2 m ρ c main_v1 = V1 m ρ c main_v1 ∧ V2 m ρ c main_v2 = V1 m ρ c main_v2
    ∧ V2 m ρ c main_arg3 = m ((c : Thread nD τ).loc main_arg3) :=
  ⟨W2_of m ρ c main_v0 (by decide +kernel), W2_of m ρ c main_v1 (by decide +kernel), W2_of m ρ c main_v2 (by decide +kernel),
    (W2_of m ρ c main_arg3 (by decide +kernel)).trans (W1_of m ρ c main_arg3 (by decide +kernel))⟩

/-- What the backward call's whole blocks hold. -/
theorem headAt (t : Fin cfg1.N) : HeadAt (head Q 0 256 (t.val / 8)) (head K 0 256 (t.val / 8)) (head V 0 128 (t.val / 8)) (head G 256 128 (t.val / 8))
    (iblk1 (V2 m ρ) c 0 t) (iblk1 (V2 m ρ) c 3 t) (iblk1 (V2 m ρ) c 4 t) (iblk1 (V2 m ρ) c 5 t) where
  q r d := by
    have ht := lt1 t
    have e : iblk1 (V2 m ρ) c 0 t (ix2 r d) = V2 m ρ c main_v0 (ix2 r ⟨0 + 256 * (t.val / 8) + d, by omega⟩) := by
      blk_ext [iblk1, idx1 t]
    rw [e, (kept ρ c).1, cast_q, h.q]
  g r d := by
    have ht := lt1 t
    have e : iblk1 (V2 m ρ) c 4 t (ix2 r d) = V2 m ρ c main_arg3 (ix2 r ⟨256 + 128 * (t.val / 8) + d, by omega⟩) := by
      blk_ext [iblk1, idx1 t]
    rw [e, (kept ρ c).2.2.2]
    exact h.g _ _ (by show 256 ≤ 256 + 128 * (t.val / 8) + (d : ℕ); omega)
  o r d := by
    have ht := lt1 t
    have e : iblk1 (V2 m ρ) c 3 t (ix2 r d) = V2 m ρ c main_v3_0 (ix2 r ⟨256 + 128 * (t.val / 8) + d, by omega⟩) := by
      blk_ext [iblk1, idx1 t]
    have h1 : (256 + 128 * (t.val / 8) + d.val - 256) / 128 = t.val / 8 := by omega
    have h2 : (256 + 128 * (t.val / 8) + d.val - 256) % 128 = d.val := by omega
    rw [e, final0_3 ρ h _ _ (by show 256 ≤ 256 + 128 * (t.val / 8) + (d : ℕ); omega)]
    simp only [h1, h2]
  l r d := by
    have ht := lt1 t
    have e : iblk1 (V2 m ρ) c 5 t (ix2 r d) = V2 m ρ c main_v3_1 (ix2 r ⟨128 * (t.val / 8) + d, by omega⟩) := by
      blk_ext [iblk1, idx1 t]
    have h1 : (128 * (t.val / 8) + d.val) / 128 = t.val / 8 := by omega
    rw [e, final0_4 ρ h]
    simp only [h1]

/-- What the backward call's key blocks hold. -/
theorem keysAt (t : Fin cfg1.N) : KeysAt (head K 0 256 (t.val / 8)) (head V 0 128 (t.val / 8)) (grid1.coords t 1).val
    (k1_pay3 (iblk1 (V2 m ρ) c 1 t)) (k1_pay4 (iblk1 (V2 m ρ) c 2 t)) where
  k r d := by
    have ht := lt1 t
    have e : k1_pay3 (iblk1 (V2 m ρ) c 1 t) (ix2 r d) = V2 m ρ c main_v1 (ix2 ⟨512 * (t.val % 8) + r, by omega⟩ ⟨0 + 256 * (t.val / 8) + d, by omega⟩) := by
      refine (show k1_pay3 (iblk1 (V2 m ρ) c 1 t) (ix2 r d) = iblk1 (V2 m ρ) c 1 t (ix2 r d) by pointwise [k1_pay3]).trans ?_
      blk_ext [iblk1, idx1 t]
    rw [e, (kept ρ c).2.1, cast_k, h.k, coord1]
  v r d := by
    have ht := lt1 t
    have e : k1_pay4 (iblk1 (V2 m ρ) c 2 t) (ix2 r d) = V2 m ρ c main_v2 (ix2 ⟨512 * (t.val % 8) + r, by omega⟩ ⟨0 + 128 * (t.val / 8) + d, by omega⟩) := by
      refine (show k1_pay4 (iblk1 (V2 m ρ) c 2 t) (ix2 r d) = iblk1 (V2 m ρ) c 2 t (ix2 r d) by pointwise [k1_pay4]).trans ?_
      blk_ext [iblk1, idx1 t]
    rw [e, (kept ρ c).2.2.1, cast_v, h.v, coord1]

omit h in
theorem later_pos : ∀ t : Fin cfg1.N, t.val % 8 ≠ 0 → condA (grid1.coords t) ≠ 1#1 := (by decide +kernel : ∀ t : Fin grid1.N, _)

/-- What the scratch buffer has gathered once block `j` of head `n` is done. -/
theorem scratch (n j : ℕ) (hn : n < 6) (hj : j < 8) (r : Fin 4096) (d : Fin 256) : scrAt (V2 m ρ) c (8 * n + j + 1) (ix2 r d)
    = ((∑ i ∈ Finset.range (j + 1), addq (sc Q K n) (head K 0 256 n) (head V 0 128 n) (head G 256 128 n) i r d : ℝ) : EReal) := by
  induction j generalizing r d with
  | zero =>
    have ht : 8 * n + 0 < cfg1.N := by show 8 * n + 0 < 48; omega
    have e := scrAt_succ (V2 m ρ) c ⟨8 * n + 0, ht⟩
    rw [show 8 * n + 0 + 1 = (⟨8 * n + 0, ht⟩ : Fin cfg1.N).val + 1 from rfl, e]
    unfold scrStep
    rw [if_pos (first_pos _ (by show (8 * n + 0) % 8 = 0; omega))]
    have a := HeadAt.scr_all (headAt ρ h ⟨8 * n + 0, ht⟩) (keysAt ρ h ⟨8 * n + 0, ht⟩) (k1_pay2 (F := Ideal)) (fun _ _ => 0)
      (fun r d => by rw [EReal.coe_zero]; pointwise [k1_pay2]) r d
    have h1 : (8 * n + 0) / 8 = n := by omega
    have h2 : (8 * n + 0) % 8 = 0 := by omega
    rw [coord1] at a
    simp only [h1, h2] at a
    rw [Finset.sum_range_one, ← zero_add (addq _ _ _ _ 0 _ _)]
    exact a
  | succ j ih =>
    have ht : 8 * n + (j + 1) < cfg1.N := by show 8 * n + (j + 1) < 48; omega
    have e := scrAt_succ (V2 m ρ) c ⟨8 * n + (j + 1), ht⟩
    rw [show 8 * n + (j + 1) + 1 = (⟨8 * n + (j + 1), ht⟩ : Fin cfg1.N).val + 1 from rfl, e]
    unfold scrStep
    rw [if_neg (later_pos _ (by show (8 * n + (j + 1)) % 8 ≠ 0; omega))]
    have a := HeadAt.scr_all (headAt ρ h ⟨8 * n + (j + 1), ht⟩) (keysAt ρ h ⟨8 * n + (j + 1), ht⟩) (scrAt (V2 m ρ) c (8 * n + j + 1))
      (fun r d => ∑ i ∈ Finset.range (j + 1), addq (sc Q K n) (head K 0 256 n) (head V 0 128 n) (head G 256 128 n) i r d) (ih (by omega)) r d
    have h1 : (8 * n + (j + 1)) / 8 = n := by omega
    have h2 : (8 * n + (j + 1)) % 8 = j + 1 := by omega
    rw [coord1] at a
    simp only [h1, h2] at a
    rw [Finset.sum_range_succ]
    exact a

omit h in
/-- The eight blocks' parts make the queries' gradient. -/
theorem sum_addq (S K V G : ℕ → ℕ → ℝ) (r d : ℕ) : ∑ i ∈ Finset.range 8, addq S K V G i r d = dq S K V G r d := by
  have e : ∀ n, ∑ i ∈ Finset.range n, addq S K V G i r d = ∑ c ∈ Finset.range (512 * n), dscore S V G r c * K c d := by
    intro n
    induction n with
    | zero => rfl
    | succ n ih => rw [Finset.sum_range_succ, ih, show 512 * (n + 1) = 512 * n + 512 by ring, Finset.sum_range_add]; rfl
  rw [e 8]; rfl

/-- The queries' gradient. -/
theorem final1_6 (r : Fin 4096) (x : Fin 1536) : W4 m ρ c (Proc.devRef .tc main_v4_0) (ix2 r x)
    = (dq (sc Q K (x / 256)) (head K 0 256 (x / 256)) (head V 0 128 (x / 256)) (head G 256 128 (x / 256)) r (x % 256) : EReal) := by
  have e : (dat1 (V2 m ρ) c).arrAt 6 cfg1.N = (fun i => (dq (sc Q K ((i 1 : ℕ) / 256)) (head K 0 256 ((i 1 : ℕ) / 256)) (head V 0 128 ((i 1 : ℕ) / 256)) (head G 256 128 ((i 1 : ℕ) / 256)) (i 0 : ℕ) ((i 1 : ℕ) % 256) : EReal) : FVec Ideal S4096x1536 .bf16) := by
    refine (dat1 (V2 m ρ) c).arrAt_eq_of_covers 6 _ (by decide +kernel) (fun t hf y => ?_)
    have hl : t.val % 8 = 7 := (flush1_6 t).mp hf
    have ht := lt1 t
    idx_vars y
    blk_simp [idx1 t]
    rw [after1_6]
    have a := scratch ρ h (t.val / 8) 7 (by omega) (by omega) y0 y1
    rw [show 8 * (t.val / 8) + 7 + 1 = t.val + 1 by omega, sum_addq] at a
    refine (show k1_pay1 (scrAt (V2 m ρ) c (t.val + 1)) (ix2 y0 y1) = scrAt (V2 m ρ) c (t.val + 1) (ix2 y0 y1) by pointwise [k1_pay1]).trans (a.trans ?_)
    have h1 : (t.val / 8 * 256 + y1.val) / 256 = t.val / 8 := by omega
    have h2 : (t.val / 8 * 256 + y1.val) % 256 = y1.val := by omega
    rw [h1, h2]
  exact congrFun (((W4_of m ρ c main_v4_0 (by decide +kernel)).trans (W3_arr m ρ c 6)).trans e) (ix2 r x)

/-- The keys' gradient. -/
theorem final1_7 (r : Fin 4096) (x : Fin 1536) : W4 m ρ c (Proc.devRef .tc main_v4_1) (ix2 r x)
    = (dk (sc Q K (x / 256)) (head Q 0 256 (x / 256)) (head V 0 128 (x / 256)) (head G 256 128 (x / 256)) r (x % 256) : EReal) := by
  have e : (dat1 (V2 m ρ) c).arrAt 7 cfg1.N = (fun i => (dk (sc Q K ((i 1 : ℕ) / 256)) (head Q 0 256 ((i 1 : ℕ) / 256)) (head V 0 128 ((i 1 : ℕ) / 256)) (head G 256 128 ((i 1 : ℕ) / 256)) (i 0 : ℕ) ((i 1 : ℕ) % 256) : EReal) : FVec Ideal S4096x1536 .bf16) := by
    refine (dat1 (V2 m ρ) c).arrAt_eq_of_covers 7 _ (by decide +kernel) (fun t hf y => ?_)
    have ht := lt1 t
    idx_vars y
    blk_simp [idx1 t]
    rw [after1_7]
    refine (show k1_pay28 (F := Ideal) _ (ix2 y0 y1) = _ by pointwise [k1_pay28]).trans ((((headAt ρ h t).car_all (keysAt ρ h t) y0).1 y1).trans ?_)
    rw [coord1]
    have h1 : (t.val / 8 * 256 + y1.val) / 256 = t.val / 8 := by omega
    have h2 : (t.val / 8 * 256 + y1.val) % 256 = y1.val := by omega
    rw [h1, h2, Nat.mul_comm 512]
  exact congrFun (((W4_of m ρ c main_v4_1 (by decide +kernel)).trans (W3_arr m ρ c 7)).trans e) (ix2 r x)

/-- The values' gradient. -/
theorem final1_8 (r : Fin 4096) (x : Fin 768) : W4 m ρ c (Proc.devRef .tc main_v4_2) (ix2 r x)
    = (dv (sc Q K (x / 128)) (head G 256 128 (x / 128)) r (x % 128) : EReal) := by
  have e : (dat1 (V2 m ρ) c).arrAt 8 cfg1.N = (fun i => (dv (sc Q K ((i 1 : ℕ) / 128)) (head G 256 128 ((i 1 : ℕ) / 128)) (i 0 : ℕ) ((i 1 : ℕ) % 128) : EReal) : FVec Ideal S4096x768 .bf16) := by
    refine (dat1 (V2 m ρ) c).arrAt_eq_of_covers 8 _ (by decide +kernel) (fun t hf y => ?_)
    have ht := lt1 t
    idx_vars y
    blk_simp [idx1 t]
    rw [after1_8]
    refine (show k1_pay29 (F := Ideal) _ (ix2 y0 y1) = _ by pointwise [k1_pay29]).trans ((((headAt ρ h t).car_all (keysAt ρ h t) y0).2 y1).trans ?_)
    rw [coord1]
    have h1 : (t.val / 8 * 128 + y1.val) / 128 = t.val / 8 := by omega
    have h2 : (t.val / 8 * 128 + y1.val) % 128 = y1.val := by omega
    rw [h1, h2, Nat.mul_comm 512]
  exact congrFun (((W4_of m ρ c main_v4_2 (by decide +kernel)).trans (W3_arr m ρ c 8)).trans e) (ix2 r x)

/-- The attention result. -/
theorem final_o (r : Fin 4096) (x : Fin 768) : W4 m ρ c (Proc.devRef .tc main_v5) (ix2 r x)
    = (att (sc Q K (x / 128)) (head V 0 128 (x / 128)) r (x % 128) : EReal) := by
  have e : W4 m ρ c (Proc.devRef .tc main_v5) (ix2 r x) = V2 m ρ c main_v3_0 (ix2 r ⟨256 + x, by omega⟩) := by
    refine Eq.trans ?_ (congrFun (W3_of m ρ c main_v3_0 (by decide +kernel)) _)
    show StableHlo.after hostOps2 _ (Proc.devRef .tc main_v5) _ = _
    generalize W3 m ρ c = W
    after_reads_simp
    pointwise
  rw [e, final0_3 ρ h _ _ (by show 256 ≤ 256 + (x : ℕ); omega)]
  have h1 : (256 + x.val - 256) = x.val := by omega
  simp only [h1]

end Values

/-- The results at the end of a run. -/
def res (c : Dev nD) : FVec Ideal S4096x768 .bf16 × FVec Ideal S4096x1536 .bf16 × FVec Ideal S4096x1536 .bf16 × FVec Ideal S4096x768 .bf16 :=
  (W4 m ρ c (Proc.devRef .tc main_v5), W4 m ρ c (Proc.devRef .tc main_v4_0), W4 m ρ c (Proc.devRef .tc main_v4_1), W4 m ρ c (Proc.devRef .tc main_v4_2))

/-- Every run ends with the results at `res`. -/
theorem run_main : θ_run defs (onTc (τ := τ) (main (F := Ideal))) ⟨m, fun _ => 0, ρ⟩ (fun r => ∀ c : Dev nD,
      r.2.mem ((c.tc : Thread nD τ).loc main_v5) = (res m ρ c).1
      ∧ r.2.mem ((c.tc : Thread nD τ).loc main_v4_0) = (res m ρ c).2.1
      ∧ r.2.mem ((c.tc : Thread nD τ).loc main_v4_1) = (res m ρ c).2.2.1
      ∧ r.2.mem ((c.tc : Thread nD τ).loc main_v4_2) = (res m ρ c).2.2.2) :=
  (θ_run defs _ _).mono (fun r h c => ⟨h.1 c _ (mem_uc main_v5 (by decide +kernel)), h.1 c _ (mem_uc main_v4_0 (by decide +kernel)),
    h.1 c _ (mem_uc main_v4_1 (by decide +kernel)), h.1 c _ (mem_uc main_v4_2 (by decide +kernel))⟩) (run_all m ρ)

theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.FlashIdeal.Att
-- ==== Proof.FlashRef.lean ====
/- The plain masked attention and its derivative, read element by element as real formulas. -/
module

public import proofs.«01_k».proof.Proof.FlashMath
public import proofs.«01_k».proof.Proof.Gen.FlashRefIdeal.Read
public import Idealize.ShloMosaic.Lib.Pipeline.ValueKit

@[expose] public section

set_option maxRecDepth 16384

noncomputable section

open Idealize.ShloMosaic Idealize.ShloMosaic.TcCoe Idealize.SL.Sem
open Cert.FlashRefIdeal Cert.FlashRefIdeal.Gen Cert.FlashRefIdeal.Value Cert.FlashRefIdeal.Read Cert.RealSums

namespace Cert.Att

/-- One head's lanes of an array. -/
abbrev lanes (X : ℕ → ℕ → ℝ) (b w h : ℕ) : ℕ → ℕ → ℝ := fun r d => X r (b + w * h + d)

/-- One head's scores. -/
abbrev scores (Q K : ℕ → ℕ → ℝ) (h : ℕ) : ℕ → ℕ → ℝ := score (lanes Q 0 256 h) (lanes K 0 256 h)

theorem chunk_word : ∀ r : Fin 4096, IntOp.divsi .host (BitVec.ofNat 32 r) 64#32 = BitVec.ofNat 32 (r / 64) := by decide +kernel

theorem sge_word : ∀ a b : Fin 64, IntOp.cmpi .sge (BitVec.ofNat 32 a) (BitVec.ofNat 32 b) = if b.val ≤ a.val then 1#1 else 0#1 := by decide +kernel

section
variable {Q K V G : ℕ → ℕ → ℝ} {x0 x1 : FVec Ideal S4096x1536 .f32} {x2 : FVec Ideal S4096x768 .f32} {x3 : FVec Ideal S4096x1024 .f32}

theorem ref_mask (h : Fin 6) (r c : Fin 4096) :
    val_main_v13 (F := Ideal) (ix3 h r c) = if seen r c then 1#1 else 0#1 := by
  have e : val_main_v13 (F := Ideal) (ix3 h r c)
      = IntOp.cmpi .sge (IntOp.divsi .host (BitVec.ofNat 32 r) 64#32) (IntOp.divsi .host (BitVec.ofNat 32 c) 64#32) := by
    pointwise [val_main_v13, val_main_v12, val_main_v11, val_main_v10, val_main_v9, val_main_v8, val_main_v7, val_main_v6, val_main_v5, val_main_v4, val_main_c]
  rw [e, chunk_word, chunk_word]
  exact sge_word ⟨r / 64, by omega⟩ ⟨c / 64, by omega⟩

theorem ref_score (h0 : ∀ (r : Fin 4096) (x : Fin 1536), x0 (ix2 r x) = (Q r x : EReal)) (h1 : ∀ (r : Fin 4096) (x : Fin 1536), x1 (ix2 r x) = (K r x : EReal))
    (h : Fin 6) (r c : Fin 4096) :
    val_main_v15 (F := Ideal) x0 x1 (ix3 h r c) = if seen r c then (scores Q K h r c : EReal) else ⊥ := by
  rw [val_main_v15_apply, ref_mask]
  have e : val_main_v3 (F := Ideal) x0 x1 (ix3 h r c) = (scores Q K h r c : EReal) := by
    pointwise [val_main_v3, val_main_v0, val_main_v1]
    unfold scores score lanes
    rw [← coe_sum_fin]
    refine Finset.sum_congr rfl fun d _ => ?_
    rw [h0, h1, ← EReal.coe_mul]
    simp only [zero_add, mul_comm]
  have b : val_main_v14 (F := Ideal) (ix3 h r c) = ⊥ := by
    pointwise [val_main_v14, val_main_cst]
    simp [Ideal.ofBits, Ideal.ieee]
  rw [e, b]
  split <;> rfl

/-- The row's greatest score is a real number. -/
theorem ref_max (h0 : ∀ (r : Fin 4096) (x : Fin 1536), x0 (ix2 r x) = (Q r x : EReal)) (h1 : ∀ (r : Fin 4096) (x : Fin 1536), x1 (ix2 r x) = (K r x : EReal))
    (h : Fin 6) (r : Fin 4096) : ∃ M : ℝ, val_main_v24 (F := Ideal) x0 x1 (ix2 h r) = (M : EReal) := by
  have e : val_main_v17 (F := Ideal) x0 x1 (ix2 h r)
      = Finset.univ.fold max (Ideal.ofBits .f32 0xFF800000#32) fun c : Fin 4096 => val_main_v15 (F := Ideal) x0 x1 (ix3 h r c) := by
    unfold val_main_v17
    generalize val_main_v15 (F := Ideal) x0 x1 = y
    pointwise [val_main_cst_1]
  have o : Ideal.ofBits .f32 0xFF800000#32 = (⊥ : EReal) := by simp [Ideal.ofBits, Ideal.ieee]
  have b : val_main_v23 (F := Ideal) (ix2 h r) = (⊥ : EReal) := by
    rw [val_main_v23_apply]
    exact o
  rw [val_main_v24_apply, b, e, o]
  refine fold_max_real _ ⊥ bot_ne_top (fun c => ?_) (.inr ⟨r, ?_⟩)
  · rw [ref_score h0 h1]; split
    · exact EReal.coe_ne_top _
    · exact bot_ne_top
  · rw [ref_score h0 h1, if_pos (show seen r r from le_rfl)]
    exact EReal.coe_ne_bot _

/-- The weights before division, their sum, and the weights. -/
theorem ref_wt (h0 : ∀ (r : Fin 4096) (x : Fin 1536), x0 (ix2 r x) = (Q r x : EReal)) (h1 : ∀ (r : Fin 4096) (x : Fin 1536), x1 (ix2 r x) = (K r x : EReal))
    (h : Fin 6) (r : Fin 4096) : ∃ M : ℝ,
      (∀ c : Fin 4096, val_main_v37 (F := Ideal) x0 x1 (ix3 h r c) = (wt (scores Q K h) r M c : EReal)) ∧
      val_main_v38 (F := Ideal) x0 x1 (ix2 h r) = ((Real.exp (-M) * tot (scores Q K h) r : ℝ) : EReal) := by
  obtain ⟨M, hM⟩ := ref_max h0 h1 h r
  have hw : ∀ c : Fin 4096, val_main_v37 (F := Ideal) x0 x1 (ix3 h r c) = (wt (scores Q K h) r M c : EReal) := fun c => by
    rw [← exp_wt, ← ref_score h0 h1, ← hM]
    pointwise [val_main_v37, val_main_v36, val_main_v35, val_main_v34]
  refine ⟨M, hw, ?_⟩
  rw [← sum_wt_one (scores Q K h) r 8 M (by omega) le_rfl, ← coe_sum_fin]
  refine Eq.trans ?_ (Finset.sum_congr rfl fun c _ => hw c)
  pointwise [val_main_v38, val_main_cst_9]

theorem wt_prob (S : ℕ → ℕ → ℝ) (r c : ℕ) (M : ℝ) (hr : r < 4096) : wt S r M c / (Real.exp (-M) * tot S r) = prob S r c := by
  have := tot_pos S r hr
  have e : Real.exp (-M) ≠ 0 := (Real.exp_pos _).ne'
  unfold prob
  rw [← wt_shift S r 0 M c, zero_sub, mul_div_mul_left _ _ e]

theorem sum_ne (S : ℕ → ℕ → ℝ) (r : ℕ) (M : ℝ) (hr : r < 4096) : Real.exp (-M) * tot S r ≠ 0 :=
  mul_ne_zero (Real.exp_pos _).ne' (tot_pos S r hr).ne'

theorem ref_prob (h0 : ∀ (r : Fin 4096) (x : Fin 1536), x0 (ix2 r x) = (Q r x : EReal)) (h1 : ∀ (r : Fin 4096) (x : Fin 1536), x1 (ix2 r x) = (K r x : EReal))
    (h : Fin 6) (r c : Fin 4096) : val_main_v41 (F := Ideal) x0 x1 (ix3 h r c) = (prob (scores Q K h) r c : EReal) := by
  obtain ⟨M, hw, hs⟩ := ref_wt h0 h1 h r
  have e : val_main_v41 (F := Ideal) x0 x1 (ix3 h r c)
      = Ideal.div (val_main_v37 (F := Ideal) x0 x1 (ix3 h r c)) (val_main_v38 (F := Ideal) x0 x1 (ix2 h r)) := by
    pointwise [val_main_v41, val_main_v40, val_main_v39]
  rw [e, hw, hs, div_real (sum_ne _ _ _ r.isLt), wt_prob _ _ _ _ r.isLt]

/-- The weights' cotangent. -/
theorem ref_dprob (h2 : ∀ (r : Fin 4096) (x : Fin 768), x2 (ix2 r x) = (V r x : EReal))
    (h3 : ∀ (r : Fin 4096) (x : Fin 1024), 256 ≤ (x : ℕ) → x3 (ix2 r x) = (G r x : EReal)) (h : Fin 6) (r c : Fin 4096) :
    val_main_v51 (F := Ideal) x2 x3 (ix3 h r c) = (dprob (lanes V 0 128 h) (lanes G 256 128 h) r c : EReal) := by
  pointwise [val_main_v51, val_main_v50, val_main_v49, val_main_v48, val_main_v2]
  unfold dprob lanes
  rw [← coe_sum_fin]
  refine Finset.sum_congr rfl fun d _ => ?_
  rw [h2, h3 _ _ (by simp), ← EReal.coe_mul]
  simp only [zero_add, mul_comm, add_assoc, add_comm, add_left_comm]

/-- The scores' cotangent. -/
theorem ref_dscore (h0 : ∀ (r : Fin 4096) (x : Fin 1536), x0 (ix2 r x) = (Q r x : EReal)) (h1 : ∀ (r : Fin 4096) (x : Fin 1536), x1 (ix2 r x) = (K r x : EReal))
    (h2 : ∀ (r : Fin 4096) (x : Fin 768), x2 (ix2 r x) = (V r x : EReal))
    (h3 : ∀ (r : Fin 4096) (x : Fin 1024), 256 ≤ (x : ℕ) → x3 (ix2 r x) = (G r x : EReal)) (h : Fin 6) (r c : Fin 4096) :
    val_main_v67 (F := Ideal) x0 x1 x2 x3 (ix3 h r c) = (dscore (scores Q K h) (lanes V 0 128 h) (lanes G 256 128 h) r c : EReal) := by
  obtain ⟨M, hw, hs⟩ := ref_wt h0 h1 h r
  have hT := sum_ne (scores Q K h) r M r.isLt
  have hp : ∀ c : ℕ, wt (scores Q K h) r M c = prob (scores Q K h) r c * (Real.exp (-M) * tot (scores Q K h) r) := fun c => by
    rw [← wt_prob _ _ _ M r.isLt, div_mul_cancel₀ _ hT]
  generalize hTT : Real.exp (-M) * tot (scores Q K h) r = T at hs hT hp
  have e44 : val_main_v44 (F := Ideal) x0 x1 (ix3 h r 0) = ((1 / (T * T) : ℝ) : EReal) := by
    have e : val_main_v44 (F := Ideal) x0 x1 (ix3 h r 0)
        = Ideal.div 1 (val_main_v38 (F := Ideal) x0 x1 (ix2 h r) * val_main_v38 (F := Ideal) x0 x1 (ix2 h r)) := by
      pointwise [val_main_v44, val_main_v43, val_main_v42, val_main_v39, val_main_cst_10]
    rw [e, hs, ← EReal.coe_mul, ← EReal.coe_one, div_real (mul_ne_zero hT hT)]
  have e57 : val_main_v57 (F := Ideal) x0 x1 x2 x3 (ix2 h r) = ((dot (scores Q K h) (lanes V 0 128 h) (lanes G 256 128 h) r / T : ℝ) : EReal) := by
    have e : val_main_v57 (F := Ideal) x0 x1 x2 x3 (ix2 h r) = ∑ c : Fin 4096,
        val_main_v51 (F := Ideal) x2 x3 (ix3 h r c) * val_main_v44 (F := Ideal) x0 x1 (ix3 h r 0) * val_main_v37 (F := Ideal) x0 x1 (ix3 h r c) := by
      pointwise [val_main_v57, val_main_v56, val_main_v55, val_main_v54, val_main_cst_11]
    rw [e, ← sum_prob_dprob, Finset.sum_div, ← coe_sum_fin]
    refine Finset.sum_congr rfl fun c _ => ?_
    rw [ref_dprob h2 h3, e44, hw, ← EReal.coe_mul, ← EReal.coe_mul, hp]
    congr 1
    field_simp
  have e62 : val_main_v62 (F := Ideal) x0 x1 x2 x3 (ix2 h r) = - val_main_v57 (F := Ideal) x0 x1 x2 x3 (ix2 h r) := by
    rw [val_main_v62_apply, Fin.sum_univ_one]
    pointwise [val_main_v59, val_main_v58, val_main_cst_12]
    rfl
  have e65 : val_main_v65 (F := Ideal) x0 x1 x2 x3 (ix3 h r c) = (dscore (scores Q K h) (lanes V 0 128 h) (lanes G 256 128 h) r c : EReal) := by
    have e : val_main_v65 (F := Ideal) x0 x1 x2 x3 (ix3 h r c)
        = (Ideal.div (val_main_v51 (F := Ideal) x2 x3 (ix3 h r c)) (val_main_v38 (F := Ideal) x0 x1 (ix2 h r)) + val_main_v62 (F := Ideal) x0 x1 x2 x3 (ix2 h r))
          * val_main_v37 (F := Ideal) x0 x1 (ix3 h r c) := by
      pointwise [val_main_v65, val_main_v64, val_main_v63, val_main_v61, val_main_v60, val_main_v39]
    rw [e, e62, e57, ref_dprob h2 h3, hs, hw, div_real hT, ← EReal.coe_neg, ← EReal.coe_add, ← EReal.coe_mul, hp]
    unfold dscore
    congr 1
    field_simp
    ring
  rw [val_main_v67_apply, ref_mask, e65]
  split
  · rfl
  · rename_i hn
    rw [dscore_unseen _ _ _ _ _ hn]
    pointwise [val_main_v66, val_main_cst_13]
    exact EReal.coe_zero.symm

/-- The attention result. -/
theorem ref_o (h0 : ∀ (r : Fin 4096) (x : Fin 1536), x0 (ix2 r x) = (Q r x : EReal)) (h1 : ∀ (r : Fin 4096) (x : Fin 1536), x1 (ix2 r x) = (K r x : EReal))
    (h2 : ∀ (r : Fin 4096) (x : Fin 768), x2 (ix2 r x) = (V r x : EReal)) (r : Fin 4096) (x : Fin 768) :
    val_main_v75 (F := Ideal) x0 x1 x2 (ix2 r x) = (att (scores Q K (x / 128)) (lanes V 0 128 (x / 128)) r (x % 128) : EReal) := by
  pointwise [val_main_v75, val_main_v47, val_main_v46, val_main_v45, val_main_v2]
  unfold att
  rw [← coe_sum_fin]
  refine Finset.sum_congr rfl fun c _ => ?_
  rw [ref_prob h0 h1, h2, ← EReal.coe_mul]
  simp only [zero_add, mul_comm, lanes, Nat.div_add_mod]

/-- The queries' gradient. -/
theorem ref_dq (h0 : ∀ (r : Fin 4096) (x : Fin 1536), x0 (ix2 r x) = (Q r x : EReal)) (h1 : ∀ (r : Fin 4096) (x : Fin 1536), x1 (ix2 r x) = (K r x : EReal))
    (h2 : ∀ (r : Fin 4096) (x : Fin 768), x2 (ix2 r x) = (V r x : EReal))
    (h3 : ∀ (r : Fin 4096) (x : Fin 1024), 256 ≤ (x : ℕ) → x3 (ix2 r x) = (G r x : EReal)) (r : Fin 4096) (x : Fin 1536) :
    val_main_v76 (F := Ideal) x0 x1 x2 x3 (ix2 r x)
      = (dq (scores Q K (x / 256)) (lanes K 0 256 (x / 256)) (lanes V 0 128 (x / 256)) (lanes G 256 128 (x / 256)) r (x % 256) : EReal) := by
  pointwise [val_main_v76, val_main_v74, val_main_v71, val_main_v70, val_main_v1]
  unfold dq
  rw [← coe_sum_fin]
  refine Finset.sum_congr rfl fun c _ => ?_
  rw [ref_dscore h0 h1 h2 h3, h1, ← EReal.coe_mul]
  simp only [zero_add, mul_comm, lanes, Nat.div_add_mod]

/-- The keys' gradient. -/
theorem ref_dk (h0 : ∀ (r : Fin 4096) (x : Fin 1536), x0 (ix2 r x) = (Q r x : EReal)) (h1 : ∀ (r : Fin 4096) (x : Fin 1536), x1 (ix2 r x) = (K r x : EReal))
    (h2 : ∀ (r : Fin 4096) (x : Fin 768), x2 (ix2 r x) = (V r x : EReal))
    (h3 : ∀ (r : Fin 4096) (x : Fin 1024), 256 ≤ (x : ℕ) → x3 (ix2 r x) = (G r x : EReal)) (r : Fin 4096) (x : Fin 1536) :
    val_main_v77 (F := Ideal) x0 x1 x2 x3 (ix2 r x)
      = (dk (scores Q K (x / 256)) (lanes Q 0 256 (x / 256)) (lanes V 0 128 (x / 256)) (lanes G 256 128 (x / 256)) r (x % 256) : EReal) := by
  pointwise [val_main_v77, val_main_v73, val_main_v69, val_main_v68, val_main_v0]
  unfold dk
  rw [← coe_sum_fin]
  refine Finset.sum_congr rfl fun c _ => ?_
  rw [ref_dscore h0 h1 h2 h3, h0, ← EReal.coe_mul]
  simp only [zero_add, mul_comm, lanes, Nat.div_add_mod]

/-- The values' gradient. -/
theorem ref_dv (h0 : ∀ (r : Fin 4096) (x : Fin 1536), x0 (ix2 r x) = (Q r x : EReal)) (h1 : ∀ (r : Fin 4096) (x : Fin 1536), x1 (ix2 r x) = (K r x : EReal))
    (h3 : ∀ (r : Fin 4096) (x : Fin 1024), 256 ≤ (x : ℕ) → x3 (ix2 r x) = (G r x : EReal)) (r : Fin 4096) (x : Fin 768) :
    val_main_v78 (F := Ideal) x0 x1 x3 (ix2 r x) = (dv (scores Q K (x / 128)) (lanes G 256 128 (x / 128)) r (x % 128) : EReal) := by
  pointwise [val_main_v78, val_main_v72, val_main_v53, val_main_v52, val_main_v50, val_main_v49, val_main_v48]
  unfold dv
  rw [← coe_sum_fin]
  refine Finset.sum_congr rfl fun c _ => ?_
  rw [ref_prob h0 h1, h3 _ _ (by simp), ← EReal.coe_mul]
  simp only [mul_comm, lanes, add_assoc, Nat.div_add_mod]

end

end Cert.Att

end
-- ==== Proof.FlashClaim.lean ====
/- The attention calls compute the plain masked attention and its derivative. -/
module

public import proofs.«01_k».proof.Defs
public import proofs.«01_k».proof.Proof.FlashFinal
public import proofs.«01_k».proof.Proof.FlashRef
public import proofs.«01_k».proof.Proof.Gen.FlashRefIdeal.Read
public import proofs.«01_k».proof.Proof.Gen.FlashRefIdeal.Run
public import proofs.«01_k».proof.Proof.Gen.Pre_flash_finite
public import Idealize.ShloMosaic.Lib.Claim

@[expose] public section

set_option maxRecDepth 16384

noncomputable section

open Idealize.ShloMosaic Idealize.ShloMosaic.TcCoe Idealize.SL.Sem
open Cert.RealSums

namespace Cert.Att

attribute [local instance] Cert.FlashIdeal.Gen.facts Cert.FlashRefIdeal.Gen.facts Cert.Pre_flash_finite.Gen.facts

open Cert.FlashIdeal in
/-- The arguments of one device under the precondition, as functions into the real numbers. -/
theorem reals_at (m : (ℓ : Loc nD τ sig) → Buf (Elt Ideal) ℓ) (hpre : Cert.Pre_FlashIdeal_flash_finite m) (c : Dev nD) :
    ∃ Q K V G, Att.Reals m Q K V G c := by
  obtain ⟨h0, h1, h2, h3⟩ := hpre c
  refine ⟨fun r x => if h : r < 4096 ∧ x < 1536 then ((m ((c : Thread nD τ).loc main_arg0) : FVec Ideal S4096x1536 .f32) (ix2 ⟨r, h.1⟩ ⟨x, h.2⟩)).toReal else 0,
    fun r x => if h : r < 4096 ∧ x < 1536 then ((m ((c : Thread nD τ).loc main_arg1) : FVec Ideal S4096x1536 .f32) (ix2 ⟨r, h.1⟩ ⟨x, h.2⟩)).toReal else 0,
    fun r x => if h : r < 4096 ∧ x < 768 then ((m ((c : Thread nD τ).loc main_arg2) : FVec Ideal S4096x768 .f32) (ix2 ⟨r, h.1⟩ ⟨x, h.2⟩)).toReal else 0,
    fun r x => if h : r < 4096 ∧ x < 1024 then ((m ((c : Thread nD τ).loc main_arg3) : FVec Ideal S4096x1024 .f32) (ix2 ⟨r, h.1⟩ ⟨x, h.2⟩)).toReal else 0,
    ⟨fun r x => ?_, fun r x => ?_, fun r x => ?_, fun r x hx => ?_⟩⟩
  · rw [dif_pos ⟨r.isLt, x.isLt⟩]
    exact real_of_one (congrFun h0 (ix2 r x))
  · rw [dif_pos ⟨r.isLt, x.isLt⟩]
    exact real_of_one (congrFun h1 (ix2 r x))
  · rw [dif_pos ⟨r.isLt, x.isLt⟩]
    exact real_of_one (congrFun h2 (ix2 r x))
  · rw [dif_pos ⟨r.isLt, x.isLt⟩]
    generalize (m ((c : Thread nD τ).loc main_arg3) : FVec Ideal S4096x1024 .f32) = y at h3 ⊢
    have hx' : x.val - 256 < 768 := by omega
    have e : (extractStridedSlice S4096x768 ![0, 256] y Cert.Pre_flash_finite.Facts.slices_S4096x1024_S4096x768_0_256 : FVec Ideal S4096x768 .f32) (ix2 r (⟨x - 256, hx'⟩ : Fin 768)) = y (ix2 r x) := by
      pointwise
      congr 2
      exact Fin.ext (by show 256 + (x.val - 256) = x.val; omega)
    show y (ix2 r x) = ((y (ix2 r x)).toReal : EReal)
    rw [← e]
    exact real_of_one (congrFun h3 (ix2 r (⟨x - 256, hx'⟩ : Fin 768)))

/-- The derivative of the plain attention runs, leaves its arguments unchanged and has no counters. -/
theorem frame_ref : Cert.quiescent_FlashRefIdeal := fun m g _ =>
  (θ_run Cert.FlashRefIdeal.defs _ _).mono (fun r h => ⟨fun c => (h c).2.2.2.2, sem_eq_zero_of_no_sems (by decide) r.2⟩)
    (Cert.FlashRefIdeal.Value.run (F := Ideal) m g)

/-- The one name of the idealized program denotes minus infinity. -/
theorem preserves : Cert.preserves_Flash_FlashIdeal := IdealRules.named_const.statement _ _ _ _ _ rfl

/-- The claim about the values. -/
theorem algebraic : Cert.algebraic_FlashIdeal_FlashRefIdeal_pre_flash_finite := by
  pair_intro
  · run_from Cert.FlashIdeal.Att.run_main m g & Cert.FlashIdeal.Att.unchanged m g
  · run_from Cert.FlashRefIdeal.Value.run m' g'
    · obtain ⟨a0, a1, a2, a3⟩ := hagree c
      obtain ⟨Q, K, V, G, h⟩ := reals_at m hpre c
      rw [Cert.FlashRefIdeal.Read.val_main_v75_eq, a0, a1, a2]
      funext y
      idx_vars y
      exact (ref_o h.q h.k h.v y0 y1).trans (Cert.FlashIdeal.Att.final_o g h y0 y1).symm
    · obtain ⟨a0, a1, a2, a3⟩ := hagree c
      obtain ⟨Q, K, V, G, h⟩ := reals_at m hpre c
      rw [Cert.FlashRefIdeal.Read.val_main_v76_eq, a0, a1, a2, a3]
      funext y
      idx_vars y
      exact (ref_dq h.q h.k h.v h.g y0 y1).trans (Cert.FlashIdeal.Att.final1_6 g h y0 y1).symm
    · obtain ⟨a0, a1, a2, a3⟩ := hagree c
      obtain ⟨Q, K, V, G, h⟩ := reals_at m hpre c
      rw [Cert.FlashRefIdeal.Read.val_main_v77_eq, a0, a1, a2, a3]
      funext y
      idx_vars y
      exact (ref_dk h.q h.k h.v h.g y0 y1).trans (Cert.FlashIdeal.Att.final1_7 g h y0 y1).symm
    · obtain ⟨a0, a1, a2, a3⟩ := hagree c
      obtain ⟨Q, K, V, G, h⟩ := reals_at m hpre c
      rw [Cert.FlashRefIdeal.Read.val_main_v78_eq, a0, a1, a3]
      funext y
      idx_vars y
      exact (ref_dv h.q h.k h.g y0 y1).trans (Cert.FlashIdeal.Att.final1_8 g h y0 y1).symm

end Cert.Att

end
-- ==== Proof.Tables.lean ====
/- Tables of two and three axes, read by the values of their coordinates. -/
module

public import proofs.«01_k».proof.Proof.RealSums
public import Idealize.ShloMosaic.Lib.Pipeline.ValueKit

@[expose] public section

noncomputable section

open Idealize.ShloMosaic

namespace Cert.Tables

/-- A read of a table of two axes depends on the coordinates' values alone. -/
theorem at2 {α : Type} {a b : ℕ} (x : (⟨2, ![a, b]⟩ : Shape).Idx → α) {i i' : Fin a} {j j' : Fin b} (hi : (i : ℕ) = i') (hj : (j : ℕ) = j') :
    x (ix2 i j) = x (ix2 i' j') := by
  rw [Fin.ext hi, Fin.ext hj]

/-- A table of real numbers, continued by zero. -/
def tab {a b : ℕ} (x : (⟨2, ![a, b]⟩ : Shape).Idx → EReal) (r k : ℕ) : ℝ := if h : r < a ∧ k < b then (x (ix2 ⟨r, h.1⟩ ⟨k, h.2⟩)).toReal else 0

theorem tab_eq {a b : ℕ} (x : (⟨2, ![a, b]⟩ : Shape).Idx → EReal) (h : ∀ i, ∃ z : ℝ, x i = (z : EReal)) (r : Fin a) (k : Fin b) :
    x (ix2 r k) = (tab x r k : EReal) := by
  rw [tab, dif_pos ⟨r.isLt, k.isLt⟩]
  obtain ⟨z, hz⟩ := h (ix2 r k)
  show x (ix2 r k) = ((x (ix2 r k)).toReal : EReal)
  rw [hz, EReal.toReal_coe]

end Cert.Tables

end
end
-- ==== Proof.FfnRun.lean ====
/- The run of the feed-forward layer's two calls, with everything it ends in. -/
module

public import proofs.«01_k».proof.Proof.Gen.FfnIdeal.Frame

@[expose] public section

set_option maxRecDepth 16384

noncomputable section

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.FfnIdeal.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing failing, with the buffers the program keeps at `W5` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.FfnIdeal.Val

end
end
-- ==== Proof.FfnFinal.lean ====
/- The gate of the feed-forward layer and its gradient: the two calls' result arrays as real formulas. -/
module

public import proofs.«01_k».proof.Proof.Tables
public import proofs.«01_k».proof.Proof.FfnRun
public import Idealize.ShloMosaic.Lib.Pipeline.ValueKit
public import Idealize.ShloMosaic.Lib.Claim
public import Idealize.ShloMosaic.Lib.StableHlo.RunClose
public import Idealize.ShloMosaic.Lib.StableHlo.RunRead

@[expose] public section

set_option maxRecDepth 16384

noncomputable section

namespace Cert.Gate

/-- The product with the two halves of the first weights. -/
def up (X W : ℕ → ℕ → ℝ) (t j : ℕ) : ℝ := ∑ k ∈ Finset.range 1024, X t k * W k j

/-- The product with the second weights' rows. -/
def down (G W : ℕ → ℕ → ℝ) (t j : ℕ) : ℝ := ∑ k ∈ Finset.range 1024, G t k * W j k

/-- The logistic function. -/
def sg (z : ℝ) : ℝ := (1 + Real.exp (-z))⁻¹

/-- The gated value. -/
def act (H : ℕ → ℕ → ℝ) (t j : ℕ) : ℝ := H t j * sg (H t j) * H t (2816 + j)

/-- The gradient of the gated value in its two halves, `D` the gradient that comes in. -/
def grad (D H : ℕ → ℕ → ℝ) (t j : ℕ) : ℝ :=
  if j < 2816 then D t j * H t (2816 + j) * (sg (H t j) + H t j * sg (H t j) * (1 - sg (H t j)))
  else D t (j - 2816) * (H t (j - 2816) * sg (H t (j - 2816)))

/-- Where column `r` of the interleaved order stands in the plain one. -/
def col (r : ℕ) : ℕ := 2816 * (r / 256 % 2) + 256 * (r / 512) + r % 256

theorem col_left {b l : ℕ} (h : l < 256) : col (512 * b + l) = 256 * b + l := by unfold col; omega

theorem col_right {b l : ℕ} (h : l < 256) : col (512 * b + (256 + l)) = 2816 + (256 * b + l) := by unfold col; omega

/-- The interleaved order undone. -/
theorem col_row {x : ℕ} (h : x < 5632) : col (x / 256 % 11 * 512 + x / 2816 * 256 + x % 256) = x := by
  have h0 : x = 256 * (11 * (x / 2816) + x / 256 % 11) + x % 256 := by omega
  have h1 : x / 2816 < 2 := by omega
  have h2 : x % 256 < 256 := by omega
  generalize x / 2816 = q at *
  generalize x / 256 % 11 = p at *
  generalize x % 256 = l at *
  have e0 : (p * 512 + q * 256 + l) / 256 = 2 * p + q := by omega
  have e1 : (p * 512 + q * 256 + l) / 512 = p := by omega
  have e2 : (p * 512 + q * 256 + l) % 256 = l := by omega
  rw [col, e0, e1, e2]
  omega

end Cert.Gate

open Idealize.ShloMosaic Idealize.ShloMosaic.TcCoe Idealize.SL.Sem
open Cert.FfnIdeal Cert.FfnIdeal.Gen Cert.RealSums Cert.Tables Cert.Gate

namespace Cert.FfnIdeal.Val

/-- The product of a block of rows with a block of interleaved columns. -/
theorem pay1_read {X W : ℕ → ℕ → ℝ} {i b : ℕ} (x : FVec Ideal S2048x1024 .bf16) (w : FVec Ideal S1x512x1024 .bf16)
    (hx : ∀ (r : Fin 2048) (k : Fin 1024), x (ix2 r k) = (X (2048 * i + r) k : EReal))
    (hw : ∀ (r : Fin 512) (k : Fin 1024), w (ix3 0 r k) = (W k (col (512 * b + r)) : EReal)) (r : Fin 2048) (l : Fin 512) :
    k0_pay1 (F := Ideal) x w (ix2 r l) = (up X W (2048 * i + r) (col (512 * b + l)) : EReal) := by
  pointwise [k0_pay1]
  rw [up, ← coe_sum_fin fun k => X (2048 * i + r) k * W k (col (512 * b + l))]
  refine Finset.sum_congr rfl fun k _ => ?_
  rw [EReal.coe_mul, ← hx, ← hw]

/-- The gated block. -/
theorem pay3_read {H : ℕ → ℕ → ℝ} {i b : ℕ} (x : FVec Ideal S2048x1024 .bf16) (w : FVec Ideal S1x512x1024 .bf16)
    (h : ∀ (r : Fin 2048) (l : Fin 512), k0_pay1 (F := Ideal) x w (ix2 r l) = (H (2048 * i + r) (col (512 * b + l)) : EReal)) (r : Fin 2048) (l : Fin 256) :
    k0_pay3 (F := Ideal) x w (ix2 r l) = (act H (2048 * i + r) (256 * b + l) : EReal) := by
  unfold k0_pay3
  generalize k0_pay1 (F := Ideal) x w = y at h ⊢
  have h0 := h r ⟨l, by omega⟩
  have h1 := h r ⟨256 + l, by omega⟩
  rw [show col (512 * b + (⟨l, by omega⟩ : Fin 512).val) = 256 * b + l from col_left l.isLt] at h0
  rw [show col (512 * b + (⟨256 + l, by omega⟩ : Fin 512).val) = 2816 + (256 * b + l) from col_right l.isLt] at h1
  pointwise
  show y (ix2 r ⟨(l : ℕ), _⟩) * Ideal.logistic (y (ix2 r ⟨(l : ℕ), _⟩)) * y (ix2 r ⟨256 + (l : ℕ), _⟩) = _
  rw [h0, h1, Ideal.logistic_coe, ← EReal.coe_mul, ← EReal.coe_mul]
  rfl

/-- The product with the second weights' rows. -/
theorem down_read {G W : ℕ → ℕ → ℝ} {i b : ℕ} (x : FVec Ideal S2048x1024 .bf16) (w : FVec Ideal S1x256x1024 .bf16)
    (hx : ∀ (r : Fin 2048) (k : Fin 1024), x (ix2 r k) = (G (2048 * i + r) k : EReal))
    (hw : ∀ (r : Fin 256) (k : Fin 1024), w (ix3 0 r k) = (W (256 * b + r) k : EReal)) (r : Fin 2048) (l : Fin 256) :
    (matmul dot_S2048x1024_S256x1024_S2048x256_1_1_0_0_n_n none (shapeCast S2048x1024 x shapeCasts_S2048x1024_S2048x1024)
      (shapeCast S256x1024 w shapeCasts_S1x256x1024_S256x1024) (constant S2048x256 .f32 0x00000000#32) : FVec Ideal S2048x256 .f32) (ix2 r l)
      = (down G W (2048 * i + r) (256 * b + l) : EReal) := by
  pointwise
  rw [down, ← coe_sum_fin fun k => G (2048 * i + r) k * W (256 * b + l) k]
  refine Finset.sum_congr rfl fun k _ => ?_
  rw [EReal.coe_mul, ← hx, ← hw]

/-- The gradient's block. -/
theorem dh_read {D H : ℕ → ℕ → ℝ} {i b : ℕ} (hb : b < 11) (x : FVec Ideal S2048x1024 .bf16) (w : FVec Ideal S1x256x1024 .bf16) (y : FVec Ideal S2048x512 .bf16)
    (hd : ∀ (r : Fin 2048) (l : Fin 256), (matmul dot_S2048x1024_S256x1024_S2048x256_1_1_0_0_n_n none (shapeCast S2048x1024 x shapeCasts_S2048x1024_S2048x1024)
      (shapeCast S256x1024 w shapeCasts_S1x256x1024_S256x1024) (constant S2048x256 .f32 0x00000000#32) : FVec Ideal S2048x256 .f32) (ix2 r l)
      = (D (2048 * i + r) (256 * b + l) : EReal))
    (h : ∀ (r : Fin 2048) (l : Fin 512), y (ix2 r l) = (H (2048 * i + r) (col (512 * b + l)) : EReal)) (r : Fin 2048) (l : Fin 512) :
    k1_pay1 (F := Ideal) x w y (ix2 r l) = (grad D H (2048 * i + r) (col (512 * b + l)) : EReal) := by
  unfold k1_pay1
  generalize (matmul dot_S2048x1024_S256x1024_S2048x256_1_1_0_0_n_n none (shapeCast S2048x1024 x shapeCasts_S2048x1024_S2048x1024)
      (shapeCast S256x1024 w shapeCasts_S1x256x1024_S256x1024) (constant S2048x256 .f32 0x00000000#32) : FVec Ideal S2048x256 .f32) = d at hd ⊢
  have h0 : ∀ l : Fin 256, y (ix2 r ⟨l, by omega⟩) = (H (2048 * i + r) (256 * b + l) : EReal) := fun l => by
    rw [h]; show ((H _ (col (512 * b + l))) : EReal) = _; rw [col_left l.isLt]
  have h1 : ∀ l : Fin 256, y (ix2 r ⟨256 + l, by omega⟩) = (H (2048 * i + r) (2816 + (256 * b + l)) : EReal) := fun l => by
    rw [h]; show ((H _ (col (512 * b + (256 + l)))) : EReal) = _; rw [col_right l.isLt]
  by_cases hl : (l : ℕ) < 256
  · rw [col_left hl, grad, if_pos (by omega)]
    have e0 := h0 ⟨l, hl⟩
    have e1 := h1 ⟨l, hl⟩
    have e2 := hd r ⟨l, hl⟩
    pointwise
    rw [dif_pos hl]
    show d (ix2 r ⟨(l : ℕ), _⟩) * y (ix2 r ⟨256 + (l : ℕ), _⟩)
      * (Ideal.logistic (y (ix2 r ⟨(l : ℕ), _⟩)) + y (ix2 r ⟨(l : ℕ), _⟩) * Ideal.logistic (y (ix2 r ⟨(l : ℕ), _⟩)) * (1 - Ideal.logistic (y (ix2 r ⟨(l : ℕ), _⟩)))) = _
    rw [e0, e1, e2, Ideal.logistic_coe, ← EReal.coe_one]
    simp only [← EReal.coe_mul, ← EReal.coe_add, ← EReal.coe_sub]
    rfl
  · have hl' : (l : ℕ) - 256 < 256 := by omega
    have ec : col (512 * b + l) = 2816 + (256 * b + (l - 256)) := by
      rw [← col_right hl']
      congr 2
      omega
    rw [ec, grad, if_neg (by omega), Nat.add_sub_cancel_left]
    have e0 := h0 ⟨l - 256, hl'⟩
    have e2 := hd r ⟨l - 256, hl'⟩
    pointwise
    rw [dif_neg hl]
    show d (ix2 r ⟨(l : ℕ) - 256, _⟩) * (y (ix2 r ⟨(l : ℕ) - 256, _⟩) * Ideal.logistic (y (ix2 r ⟨(l : ℕ) - 256, _⟩))) = _
    rw [e0, e2, Ideal.logistic_coe]
    simp only [← EReal.coe_mul]
    rfl

/-! ## The two calls -/

theorem lt0 (t : Fin cfg0.N) : t.val < 22 := lt_of_lt_of_eq t.isLt (show cfg0.N = 22 from rfl)

theorem lt1 (t : Fin cfg1.N) : t.val < 22 := lt_of_lt_of_eq t.isLt (show cfg1.N = 22 from rfl)

/-- Where each window stands at each point of the first call. -/
theorem idx0 : ∀ t : Fin cfg0.N, win0_0.index t = ![t.val / 11, 0] ∧ win0_1.index t = ![0, t.val % 11, 0]
    ∧ win0_2.index t = ![t.val / 11, t.val % 11] ∧ win0_3.index t = ![t.val / 11, t.val % 11] :=
  (by decide +kernel : ∀ t : Fin grid0.N, _)

/-- Where each window stands at each point of the second call. -/
theorem idx1 : ∀ t : Fin cfg1.N, win1_0.index t = ![t.val / 11, 0] ∧ win1_1.index t = ![0, t.val % 11, 0]
    ∧ win1_2.index t = ![t.val / 11, t.val % 11] ∧ win1_3.index t = ![t.val / 11, t.val % 11] :=
  (by decide +kernel : ∀ t : Fin grid1.N, _)

variable (m : (ℓ : Loc nD τ sig) → Buf (Elt Ideal) ℓ) (ρ : Dev nD → PrngReg)

/-- One device's arguments as functions into the real numbers. -/
structure Reals (X U D G : ℕ → ℕ → ℝ) (c : Dev nD) : Prop where
  x (r : Fin 4096) (k : Fin 1024) : (m ((c : Thread nD τ).loc main_arg0) : FVec Ideal S4096x1024 .f32) (ix2 r k) = (X r k : EReal)
  u (k : Fin 1024) (j : Fin 5632) : (m ((c : Thread nD τ).loc main_arg1) : FVec Ideal S1024x5632 .f32) (ix2 k j) = (U k j : EReal)
  d (j : Fin 2816) (k : Fin 1024) : (m ((c : Thread nD τ).loc main_arg2) : FVec Ideal S2816x1024 .f32) (ix2 j k) = (D j k : EReal)
  g (r : Fin 4096) (k : Fin 1024) : (m ((c : Thread nD τ).loc main_arg3) : FVec Ideal S4096x1024 .f32) (ix2 r k) = (G r k : EReal)

variable {m}
variable {X U D G : ℕ → ℕ → ℝ} {c : Dev nD}

theorem op_x (h : Reals m X U D G c) (r : Fin 4096) (k : Fin 1024) : (V1 m ρ c main_v6 : FVec Ideal S4096x1024 .bf16) (ix2 r k) = (X r k : EReal) := by
  rw [← h.x]
  show StableHlo.after hostOps0 _ (Proc.devRef .tc main_v6) _ = _
  after_reads_simp
  pointwise

theorem op_u (h : Reals m X U D G c) (r : Fin 5632) (k : Fin 1024) : (V1 m ρ c main_v5 : FVec Ideal S1x5632x1024 .bf16) (ix3 0 r k) = (U k (col r) : EReal) := by
  have hc : col r < 5632 := by unfold col; omega
  refine Eq.trans ?_ (h.u k ⟨col r, hc⟩)
  show StableHlo.after hostOps0 _ (Proc.devRef .tc main_v5) _ = _
  after_reads_simp
  pointwise
  exact at2 (m ((c : Thread nD τ).loc main_arg1) : FVec Ideal S1024x5632 .f32) rfl (by show r.val / 256 % 2 * 2816 + r.val / 512 * 256 + r.val % 256 = col r; unfold col; omega)

/-- The first weights' product at each block of the first call. -/
theorem first (h : Reals m X U D G c) (t : Fin cfg0.N) (r : Fin 2048) (l : Fin 512) :
    k0_pay1 (F := Ideal) (iblk0 (V1 m ρ) c 0 t) (iblk0 (V1 m ρ) c 1 t) (ix2 r l)
      = (up X U (2048 * (t.val / 11) + r) (col (512 * (t.val % 11) + l)) : EReal) := by
  have ht := lt0 t
  refine pay1_read _ _ (fun r k => ?_) (fun r k => ?_) r l
  · refine Eq.trans ?_ (op_x ρ h ⟨2048 * (t.val / 11) + r, by omega⟩ k)
    blk_ext [iblk0, idx0 t]
  · refine Eq.trans ?_ (op_u ρ h ⟨512 * (t.val % 11) + r, by omega⟩ k)
    blk_ext [iblk0, idx0 t]

/-- The first call's product, in the interleaved order. -/
theorem final0_2 (h : Reals m X U D G c) (r : Fin 4096) (x : Fin 5632) :
    (dat0 (V1 m ρ) c).arrAt 2 cfg0.N (ix2 r x) = (up X U r (col x) : EReal) := by
  have e : (dat0 (V1 m ρ) c).arrAt 2 cfg0.N = (fun i => (up X U (i 0 : ℕ) (col (i 1 : ℕ)) : EReal) : FVec Ideal S4096x5632 .bf16) := by
    refine (dat0 (V1 m ρ) c).arrAt_eq_of_covers 2 _ (by decide +kernel) (fun t hf y => ?_)
    idx_vars y
    blk_simp [idx0 t]
    rw [after0_2]
    frame_out
    rw [Nat.mul_comm _ 2048, Nat.mul_comm _ 512, ← first ρ h t y0 y1]
    unfold k0_pay2
    generalize k0_pay1 (F := Ideal) (iblk0 (V1 m ρ) c 0 t) (iblk0 (V1 m ρ) c 1 t) = z
    pointwise
  exact congrFun e (ix2 r x)

/-- The first call's gated values. -/
theorem final0_3 (h : Reals m X U D G c) (r : Fin 4096) (x : Fin 2816) :
    (dat0 (V1 m ρ) c).arrAt 3 cfg0.N (ix2 r x) = (act (up X U) r x : EReal) := by
  have e : (dat0 (V1 m ρ) c).arrAt 3 cfg0.N = (fun i => (act (up X U) (i 0 : ℕ) (i 1 : ℕ) : EReal) : FVec Ideal S4096x2816 .bf16) := by
    refine (dat0 (V1 m ρ) c).arrAt_eq_of_covers 3 _ (by decide +kernel) (fun t hf y => ?_)
    idx_vars y
    blk_simp [idx0 t]
    rw [after0_3]
    frame_out
    rw [Nat.mul_comm _ 2048, Nat.mul_comm _ 256]
    exact pay3_read _ _ (first ρ h t) y0 y1
  exact congrFun e (ix2 r x)

theorem op_h (h : Reals m X U D G c) (r : Fin 4096) (x : Fin 5632) : (V3 m ρ c main_v7_0 : FVec Ideal S4096x5632 .bf16) (ix2 r x) = (up X U r (col x) : EReal) :=
  (congrFun ((W3_of m ρ c main_v7_0 (by decide +kernel)).trans (W2_arr m ρ c 2)) _).trans (final0_2 ρ h r x)

theorem op_g (h : Reals m X U D G c) (r : Fin 4096) (k : Fin 1024) : (V3 m ρ c main_v8 : FVec Ideal S4096x1024 .bf16) (ix2 r k) = (G r k : EReal) := by
  rw [← h.g, ← W2_args m ρ c main_arg3 (by decide +kernel)]
  show StableHlo.after hostOps1 _ (Proc.devRef .tc main_v8) _ = _
  generalize W2 m ρ c = W
  after_reads_simp
  pointwise

theorem op_d (h : Reals m X U D G c) (j : Fin 2816) (k : Fin 1024) : (V3 m ρ c main_v10 : FVec Ideal S1x2816x1024 .bf16) (ix3 0 j k) = (D j k : EReal) := by
  rw [← h.d, ← W2_args m ρ c main_arg2 (by decide +kernel)]
  show StableHlo.after hostOps1 _ (Proc.devRef .tc main_v10) _ = _
  generalize W2 m ρ c = W
  after_reads_simp
  pointwise

/-- The second call's gradient, in the interleaved order. -/
theorem final1_3 (h : Reals m X U D G c) (r : Fin 4096) (x : Fin 5632) :
    (dat1 (V3 m ρ) c).arrAt 3 cfg1.N (ix2 r x) = (grad (down G D) (up X U) r (col x) : EReal) := by
  have e : (dat1 (V3 m ρ) c).arrAt 3 cfg1.N = (fun i => (grad (down G D) (up X U) (i 0 : ℕ) (col (i 1 : ℕ)) : EReal) : FVec Ideal S4096x5632 .bf16) := by
    refine (dat1 (V3 m ρ) c).arrAt_eq_of_covers 3 _ (by decide +kernel) (fun t hf y => ?_)
    have ht := lt1 t
    idx_vars y
    blk_simp [idx1 t]
    rw [after1_3]
    frame_out
    rw [Nat.mul_comm _ 2048, Nat.mul_comm _ 512]
    refine dh_read (by omega) _ _ _ (down_read _ _ (fun r k => ?_) (fun r k => ?_)) (fun r l => ?_) y0 y1
    · refine Eq.trans ?_ (op_g ρ h ⟨2048 * (t.val / 11) + r, by omega⟩ k)
      blk_ext [iblk1, idx1 t]
    · refine Eq.trans ?_ (op_d ρ h ⟨256 * (t.val % 11) + r, by omega⟩ k)
      blk_ext [iblk1, idx1 t]
    · refine Eq.trans ?_ (op_h ρ h ⟨2048 * (t.val / 11) + r, by omega⟩ ⟨512 * (t.val % 11) + l, by omega⟩)
      blk_ext [iblk1, idx1 t]
  exact congrFun e (ix2 r x)

/-! ## The results -/

theorem res_h (h : Reals m X U D G c) (r : Fin 4096) (x : Fin 5632) :
    (W5 m ρ c (Proc.devRef .tc main_v14) : FVec Ideal S4096x5632 .bf16) (ix2 r x) = (up X U r x : EReal) := by
  have e : ∀ r x, (W4 m ρ c (Proc.devRef .tc main_v7_0) : FVec Ideal S4096x5632 .bf16) (ix2 r x) = (up X U r (col x) : EReal) := fun r x =>
    (congrFun (W4_of m ρ c main_v7_0 (by decide +kernel)) _).trans (op_h ρ h r x)
  show StableHlo.after hostOps2 _ (Proc.devRef .tc main_v14) _ = _
  generalize W4 m ρ c = W at e ⊢
  after_reads_simp
  pointwise
  exact (e r _).trans (by rw [col_row x.isLt])

theorem res_a (h : Reals m X U D G c) (r : Fin 4096) (x : Fin 2816) :
    (W5 m ρ c (Proc.devRef .tc main_v7_1) : FVec Ideal S4096x2816 .bf16) (ix2 r x) = (act (up X U) r x : EReal) :=
  (congrFun ((W5_of m ρ c main_v7_1 (by decide +kernel)).trans ((W4_of m ρ c main_v7_1 (by decide +kernel)).trans
    ((W3_of m ρ c main_v7_1 (by decide +kernel)).trans (W2_arr m ρ c 3)))) _).trans (final0_3 ρ h r x)

theorem res_dh (h : Reals m X U D G c) (r : Fin 4096) (x : Fin 5632) :
    (W5 m ρ c (Proc.devRef .tc main_v17) : FVec Ideal S4096x5632 .bf16) (ix2 r x) = (grad (down G D) (up X U) r x : EReal) := by
  have e : ∀ r x, (W4 m ρ c (Proc.devRef .tc main_v11) : FVec Ideal S4096x5632 .bf16) (ix2 r x) = (grad (down G D) (up X U) r (col x) : EReal) := fun r x =>
    (congrFun (W4_arr m ρ c 3) _).trans (final1_3 ρ h r x)
  show StableHlo.after hostOps2 _ (Proc.devRef .tc main_v17) _ = _
  generalize W4 m ρ c = W at e ⊢
  after_reads_simp
  pointwise
  exact (e r _).trans (by rw [col_row x.isLt])

variable (m)

/-- The results at the end of a run. -/
def res (c : Dev nD) : FVec Ideal S4096x5632 .bf16 × FVec Ideal S4096x2816 .bf16 × FVec Ideal S4096x5632 .bf16 :=
  (W5 m ρ c (Proc.devRef .tc main_v14), W5 m ρ c (Proc.devRef .tc main_v7_1), W5 m ρ c (Proc.devRef .tc main_v17))

/-- Every run ends with the results at `res`. -/
theorem run_main : θ_run defs (onTc (τ := τ) (main (F := Ideal))) ⟨m, fun _ => 0, ρ⟩ (fun r => ∀ c : Dev nD,
      r.2.mem ((c.tc : Thread nD τ).loc main_v14) = (res m ρ c).1
      ∧ r.2.mem ((c.tc : Thread nD τ).loc main_v7_1) = (res m ρ c).2.1
      ∧ r.2.mem ((c.tc : Thread nD τ).loc main_v17) = (res m ρ c).2.2) :=
  (θ_run defs _ _).mono (fun r h c => ⟨h.1 c _ (mem_uc main_v14 (by decide +kernel)), h.1 c _ (mem_uc main_v7_1 (by decide +kernel)),
    h.1 c _ (mem_uc main_v17 (by decide +kernel))⟩) (run_all m ρ)

end Cert.FfnIdeal.Val

end
end
-- ==== Proof.FfnRef.lean ====
/- The gate of the feed-forward layer and its derivative, as the reference writes them, as real formulas. -/
module

public import proofs.«01_k».proof.Proof.FfnFinal
public import proofs.«01_k».proof.Proof.Gen.FfnRefIdeal.Read

@[expose] public section

set_option maxRecDepth 16384

noncomputable section

open Idealize.ShloMosaic Idealize.ShloMosaic.TcCoe Idealize.SL.Sem
open Cert.FfnRefIdeal Cert.FfnRefIdeal.Read Cert.RealSums

namespace Cert.Gate

attribute [local instance] Cert.FfnRefIdeal.Gen.facts

variable {X U D G : ℕ → ℕ → ℝ} {x : FVec Ideal S4096x1024 .f32} {u : FVec Ideal S1024x5632 .f32} {d : FVec Ideal S2816x1024 .f32} {g : FVec Ideal S4096x1024 .f32}

theorem one_real : (1 : EReal) = ((1 : ℝ) : EReal) := EReal.coe_one.symm

/-- The logistic function, as the quotient that the reference writes. -/
theorem sg_quot (z : ℝ) : Ideal.div (1 : EReal) (1 + Ideal.exp (-(z : EReal))) = (sg z : EReal) := by
  have h : (1 : ℝ) + Real.exp (-z) ≠ 0 := by positivity
  rw [← EReal.coe_neg, Ideal.exp_coe, one_real, ← EReal.coe_add, div_real h, sg, one_div]

variable (hx : ∀ (r : Fin 4096) (k : Fin 1024), x (ix2 r k) = (X r k : EReal)) (hu : ∀ (k : Fin 1024) (j : Fin 5632), u (ix2 k j) = (U k j : EReal))
include hx hu

theorem ref_h (r : Fin 4096) (j : Fin 5632) : val_main_v0 (F := Ideal) x u (ix2 r j) = (up X U r j : EReal) := by
  pointwise [val_main_v0]
  rw [up, ← coe_sum_fin fun k => X r k * U k j]
  refine Finset.sum_congr rfl fun k _ => ?_
  rw [EReal.coe_mul, ← hx, ← hu]

theorem ref_a (r : Fin 4096) (j : Fin 2816) : val_main_v16 (F := Ideal) x u (ix2 r j) = (act (up X U) r j : EReal) := by
  have e0 := ref_h hx hu r ⟨j, by omega⟩
  have e1 := ref_h hx hu r ⟨2816 + j, by omega⟩
  pointwise [val_main_v16, val_main_v15, val_main_v14, val_main_call2_v5, val_main_call2_v4, val_main_call2_cst_0, val_main_call2_v3, val_main_call2_v2, val_main_call2_cst, val_main_call2_v1, val_main_call2_v0, val_main_v12, val_main_v13]
  show val_main_v0 (F := Ideal) x u (ix2 r ⟨(j : ℕ), _⟩) * Ideal.div 1 (1 + Ideal.exp (-val_main_v0 (F := Ideal) x u (ix2 r ⟨(j : ℕ), _⟩)))
    * val_main_v0 (F := Ideal) x u (ix2 r ⟨2816 + (j : ℕ), _⟩) = _
  rw [e0, e1, sg_quot, ← EReal.coe_mul, ← EReal.coe_mul]
  rfl

variable (hd : ∀ (j : Fin 2816) (k : Fin 1024), d (ix2 j k) = (D j k : EReal)) (hg : ∀ (r : Fin 4096) (k : Fin 1024), g (ix2 r k) = (G r k : EReal))
include hd hg

omit hx hu in
theorem ref_d (r : Fin 4096) (j : Fin 2816) : val_main_v6 (F := Ideal) d g (ix2 r j) = (down G D r j : EReal) := by
  pointwise [val_main_v6]
  rw [down, ← coe_sum_fin fun k => G r k * D j k]
  refine Finset.sum_congr rfl fun k _ => ?_
  rw [EReal.coe_mul, ← hg, ← hd]

theorem ref_dh (r : Fin 4096) (j : Fin 5632) : val_main_v17 (F := Ideal) x u d g (ix2 r j) = (grad (down G D) (up X U) r j : EReal) := by
  by_cases hj : (j : ℕ) < 2816
  · have e0 := ref_h hx hu r ⟨j, by omega⟩
    have e1 := ref_h hx hu r ⟨2816 + j, by omega⟩
    have e2 := ref_d hd hg r ⟨j, hj⟩
    pointwise [val_main_v17, val_main_v10, val_main_v9, val_main_call1_v2, val_main_call1_v1, val_main_call1_v0, val_main_v8, val_main_v7, val_main_v3_0, val_main_v3_1, val_main_v3_2, val_main_call0_v7, val_main_call0_v6, val_main_call0_cst_1, val_main_call0_v4, val_main_call0_cst_0, val_main_call0_v3, val_main_call0_v2, val_main_call0_cst, val_main_call0_v1, val_main_call0_v0, val_main_v1, val_main_v2]
    rw [dif_pos hj]
    generalize val_main_v0 (F := Ideal) x u (ix2 r j) = a at e0 ⊢
    generalize val_main_v0 (F := Ideal) x u (ix2 r ⟨2816 + j, _⟩) = b at e1 ⊢
    generalize val_main_v6 (F := Ideal) d g (ix2 r ⟨j, hj⟩) = e at e2 ⊢
    rw [e0, e1, e2, sg_quot, one_real, grad, if_pos hj]
    simp only [← EReal.coe_mul, ← EReal.coe_add, ← EReal.coe_sub]
    refine congrArg _ ?_
    show down G D r j * up X U r (2816 + j) * sg (up X U r j) + up X U r j * (down G D r j * up X U r (2816 + j)) * (sg (up X U r j) * (1 - sg (up X U r j))) = _
    ring
  · have hj' : (j : ℕ) - 2816 < 2816 := by omega
    have e0 := ref_h hx hu r ⟨j - 2816, by omega⟩
    have e2 := ref_d hd hg r ⟨j - 2816, hj'⟩
    pointwise [val_main_v17, val_main_v10, val_main_v9, val_main_call1_v2, val_main_call1_v1, val_main_call1_v0, val_main_v8, val_main_v7, val_main_v3_0, val_main_v3_1, val_main_v3_2, val_main_call0_v7, val_main_call0_v6, val_main_call0_cst_1, val_main_call0_v4, val_main_call0_cst_0, val_main_call0_v3, val_main_call0_v2, val_main_call0_cst, val_main_call0_v1, val_main_call0_v0, val_main_v1, val_main_v2]
    rw [dif_neg hj]
    generalize val_main_v0 (F := Ideal) x u (ix2 r ⟨j - 2816, _⟩) = a at e0 ⊢
    generalize val_main_v6 (F := Ideal) d g (ix2 r ⟨j - 2816, hj'⟩) = e at e2 ⊢
    rw [e0, e2, sg_quot, grad, if_neg hj, ← EReal.coe_mul, ← EReal.coe_mul, mul_comm]

end Cert.Gate

end
end
-- ==== Proof.FfnClaim.lean ====
/- The feed-forward layer's two calls compute its gate and the gate's derivative. -/
module

public import proofs.«01_k».proof.Defs
public import proofs.«01_k».proof.Proof.FfnFinal
public import proofs.«01_k».proof.Proof.FfnRef
public import proofs.«01_k».proof.Proof.Gen.FfnRefIdeal.Read
public import proofs.«01_k».proof.Proof.Gen.FfnRefIdeal.Run
public import proofs.«01_k».proof.Proof.Gen.Pre_ffn_finite
public import Idealize.ShloMosaic.Lib.Claim

@[expose] public section

set_option maxRecDepth 16384

noncomputable section

open Idealize.ShloMosaic Idealize.ShloMosaic.TcCoe Idealize.SL.Sem
open Cert.RealSums Cert.Tables

namespace Cert.Gate

attribute [local instance] Cert.FfnIdeal.Gen.facts Cert.FfnRefIdeal.Gen.facts Cert.Pre_ffn_finite.Gen.facts

open Cert.FfnIdeal in
/-- The arguments of one device under the precondition, as functions into the real numbers. -/
theorem reals_at (m : (ℓ : Loc nD τ sig) → Buf (Elt Ideal) ℓ) (hpre : Cert.Pre_FfnIdeal_ffn_finite m) (c : Dev nD) :
    ∃ X U D G, Val.Reals m X U D G c := by
  obtain ⟨h0, h1, h2, h3⟩ := hpre c
  exact ⟨_, _, _, _, ⟨tab_eq _ fun i => ⟨_, real_of_one (congrFun h0 i)⟩, tab_eq _ fun i => ⟨_, real_of_one (congrFun h1 i)⟩,
    tab_eq _ fun i => ⟨_, real_of_one (congrFun h2 i)⟩, tab_eq _ fun i => ⟨_, real_of_one (congrFun h3 i)⟩⟩⟩

/-- The reference runs, leaves its arguments unchanged and has no counters. -/
theorem frame_ref : Cert.quiescent_FfnRefIdeal := fun m g _ =>
  (θ_run Cert.FfnRefIdeal.defs _ _).mono (fun r h => ⟨fun c => (h c).2.2.2, sem_eq_zero_of_no_sems (by decide) r.2⟩)
    (Cert.FfnRefIdeal.Value.run (F := Ideal) m g)

/-- The claim about the values. -/
theorem algebraic : Cert.algebraic_FfnIdeal_FfnRefIdeal_pre_ffn_finite := by
  pair_intro
  · run_from Cert.FfnIdeal.Val.run_main m g & Cert.FfnIdeal.Gen.unchanged m g
  · run_from Cert.FfnRefIdeal.Value.run m' g'
    · obtain ⟨a0, a1, a2, a3⟩ := hagree c
      obtain ⟨X, U, D, G, h⟩ := reals_at m hpre c
      rw [Cert.FfnRefIdeal.Read.val_main_v11_eq]
      funext y
      idx_vars y
      refine Eq.trans ?_ ((ref_h h.x h.u y0 y1).trans (Cert.FfnIdeal.Val.res_h g h y0 y1).symm)
      pointwise [Cert.FfnRefIdeal.Read.val_main_v11]
    · obtain ⟨a0, a1, a2, a3⟩ := hagree c
      obtain ⟨X, U, D, G, h⟩ := reals_at m hpre c
      rw [Cert.FfnRefIdeal.Read.val_main_v16_eq]
      funext y
      idx_vars y
      exact (ref_a h.x h.u y0 y1).trans (Cert.FfnIdeal.Val.res_a g h y0 y1).symm
    · obtain ⟨a0, a1, a2, a3⟩ := hagree c
      obtain ⟨X, U, D, G, h⟩ := reals_at m hpre c
      rw [Cert.FfnRefIdeal.Read.val_main_v17_eq, a3]
      funext y
      idx_vars y
      exact (ref_dh h.x h.u h.d h.g y0 y1).trans (Cert.FfnIdeal.Val.res_dh g h y0 y1).symm

end Cert.Gate

end
-- ==== Proof.LnMath.lean ====
/- Layer normalisation of one row of real numbers and its derivative, and the extended-real expressions that denote them. -/
module

public import proofs.«01_k».proof.Proof.RealSums
public import Idealize.ShloMosaic.Lib.Pipeline.ValueKit

@[expose] public section

noncomputable section

open Idealize.ShloMosaic Cert.RealSums

namespace Cert.Ln

/-- The mean of a row. -/
def mean (z : ℕ → ℝ) : ℝ := (∑ l ∈ Finset.range 1024, z l) / 1024

/-- A row less its mean. -/
def dev (z : ℕ → ℝ) (l : ℕ) : ℝ := z l - mean z

/-- The number added to the variance. -/
def eps : ℝ := 10995116 / 2 ^ 40

/-- The variance and the number added to it. -/
def vare (z : ℕ → ℝ) : ℝ := mean (fun l => dev z l * dev z l) + eps

/-- The reciprocal of the standard deviation. -/
def rs (z : ℕ → ℝ) : ℝ := (Real.sqrt (vare z))⁻¹

/-- The normalised row. -/
def hat (z : ℕ → ℝ) (l : ℕ) : ℝ := dev z l * rs z

/-- The derivative of the normalisation at the row `z`, applied to the row `e`. -/
def back (z e : ℕ → ℝ) (l : ℕ) : ℝ := rs z * (e l - mean e - hat z l * mean fun l => e l * hat z l)

/-- The normalised rows, scaled and shifted. -/
def out (Z : ℕ → ℕ → ℝ) (G B : ℕ → ℝ) (t l : ℕ) : ℝ := hat (Z t) l * G l + B l

/-- The gradient at what is normalised, `D` the gradient at the scaled and shifted rows. -/
def grad (Z D : ℕ → ℕ → ℝ) (G : ℕ → ℝ) (t l : ℕ) : ℝ := back (Z t) (fun l => D t l * G l) l

theorem vare_pos (z : ℕ → ℝ) : 0 < vare z := by
  have h : 0 ≤ ∑ l ∈ Finset.range 1024, dev z l * dev z l := Finset.sum_nonneg fun l _ => mul_self_nonneg _
  rw [vare, mean, eps]
  positivity

theorem rs_sq (z : ℕ → ℝ) : rs z / vare z = rs z * (rs z * rs z) := by
  have h := vare_pos z
  rw [rs, div_eq_mul_inv]
  congr 1
  rw [← mul_inv, Real.mul_self_sqrt h.le]

theorem sum_dev (z : ℕ → ℝ) : ∑ l ∈ Finset.range 1024, dev z l = 0 := by
  simp only [dev, mean]
  rw [Finset.sum_sub_distrib, Finset.sum_const, Finset.card_range, nsmul_eq_mul]
  push_cast
  ring

/-- The derivative written as the reverse pass leaves it. -/
theorem back_eq (z e : ℕ → ℝ) (l : ℕ) :
    e l * rs z + (∑ l ∈ Finset.range 1024, dev z l * e l) * (-(1 / 2) * (rs z / vare z)) / 1024 * (2 * dev z l)
      + (∑ l ∈ Finset.range 1024, -(e l * rs z)
          + ∑ l' ∈ Finset.range 1024, -((∑ l ∈ Finset.range 1024, dev z l * e l) * (-(1 / 2) * (rs z / vare z)) / 1024 * (2 * dev z l'))) / 1024
      = back z e l := by
  have h1 : ∑ l ∈ Finset.range 1024, -(e l * rs z) = -(mean e * 1024 * rs z) := by
    rw [Finset.sum_neg_distrib, ← Finset.sum_mul, mean]
    ring
  have h2 : ∀ c : ℝ, ∑ l' ∈ Finset.range 1024, -(c * (2 * dev z l')) = 0 := fun c => by
    rw [Finset.sum_neg_distrib, ← Finset.mul_sum, ← Finset.mul_sum, sum_dev, mul_zero, mul_zero, neg_zero]
  have h3 : (mean fun l => e l * hat z l) = (∑ l ∈ Finset.range 1024, dev z l * e l) * rs z / 1024 := by
    rw [mean, Finset.sum_mul]
    refine congrArg (· / 1024) (Finset.sum_congr rfl fun l _ => ?_)
    rw [hat]
    ring
  rw [h1, h2, back, h3, hat, rs_sq]
  ring

/-! ## The same in extended reals -/

theorem width : Ideal.ofBits .f32 0x44800000#32 = ((1024 : ℝ) : EReal) := by
  simp [Ideal.ofBits, Ideal.ieee]
  rw [← EReal.coe_mul]
  norm_num

theorem eps_bits : Ideal.ofBits .f32 0x3727C5AC#32 = (eps : EReal) := by
  simp [Ideal.ofBits, Ideal.ieee]
  rw [← EReal.coe_mul, eps]
  norm_num

/-- The weight of the residual. -/
def alpha : ℝ := 11863283 / 2 ^ 23

theorem alpha_bits : Ideal.ofBits .f32 0x3FB504F3#32 = (alpha : EReal) := by
  simp [Ideal.ofBits, Ideal.ieee]
  rw [← EReal.coe_mul, alpha]
  norm_num

theorem half_bits : Ideal.ofBits .f32 0x3F000000#32 = ((1 / 2 : ℝ) : EReal) := by
  simp [Ideal.ofBits, Ideal.ieee]
  rw [← EReal.coe_mul]
  norm_num

theorem mhalf_bits : Ideal.ofBits .f32 0xBF000000#32 = ((-(1 / 2) : ℝ) : EReal) := by
  simp [Ideal.ofBits, Ideal.ieee]
  rw [← EReal.coe_mul]
  norm_num

theorem two_bits : Ideal.ofBits .f32 0x40000000#32 = ((2 : ℝ) : EReal) := by
  simp [Ideal.ofBits, Ideal.ieee]
  rw [← EReal.coe_mul]
  norm_num

theorem one_bits : Ideal.ofBits .f32 0x3F800000#32 = ((1 : ℝ) : EReal) := by
  simp [Ideal.ofBits, Ideal.ieee]
  rw [← EReal.coe_mul]
  norm_num

theorem mean_row {f : Fin 1024 → EReal} {z : ℕ → ℝ} (h : ∀ k, f k = (z k : EReal)) : Ideal.div (∑ k, f k) (Ideal.ofBits .f32 0x44800000#32) = (mean z : EReal) := by
  rw [Finset.sum_congr rfl fun k _ => h k, coe_sum_fin z, width, div_real (by norm_num), mean]

theorem dev_row {f : Fin 1024 → EReal} {z : ℕ → ℝ} (h : ∀ k, f k = (z k : EReal)) (l : Fin 1024) :
    f l - Ideal.div (∑ k, f k) (Ideal.ofBits .f32 0x44800000#32) = (dev z l : EReal) := by
  rw [mean_row h, h, ← EReal.coe_sub, dev]

theorem rsqrt_row (z : ℕ → ℝ) : Ideal.rsqrt ((vare z : ℝ) : EReal) = (rs z : EReal) := by
  have h := vare_pos z
  rw [Ideal.rsqrt_coe, if_neg h.not_gt, if_neg h.ne', rs]

/-- From a row less its mean, the reciprocal of its standard deviation. -/
theorem rs_row {g : Fin 1024 → EReal} {z : ℕ → ℝ} (h : ∀ k, g k = (dev z k : EReal)) :
    Ideal.rsqrt (Ideal.div (∑ k, g k * g k) (Ideal.ofBits .f32 0x44800000#32) + Ideal.ofBits .f32 0x3727C5AC#32) = (rs z : EReal) := by
  rw [mean_row (z := fun l => dev z l * dev z l) fun k => by rw [h k, EReal.coe_mul], eps_bits, ← EReal.coe_add]
  exact rsqrt_row z

/-- The normalised row, scaled and shifted. -/
theorem out_row {f : Fin 1024 → EReal} {z g b : ℕ → ℝ} (h : ∀ k, f k = (z k : EReal)) (l : Fin 1024) :
    (f l - Ideal.div (∑ k, f k) (Ideal.ofBits .f32 0x44800000#32))
      * Ideal.rsqrt (Ideal.div (∑ k, (f k - Ideal.div (∑ k, f k) (Ideal.ofBits .f32 0x44800000#32)) * (f k - Ideal.div (∑ k, f k) (Ideal.ofBits .f32 0x44800000#32)))
          (Ideal.ofBits .f32 0x44800000#32) + Ideal.ofBits .f32 0x3727C5AC#32) * (g l : EReal) + (b l : EReal)
      = ((hat z l * g l + b l : ℝ) : EReal) := by
  rw [rs_row fun k => dev_row h k, dev_row h l, ← EReal.coe_mul, ← EReal.coe_mul, ← EReal.coe_add, hat]

/-- The derivative of the normalisation. -/
theorem back_row {p : Fin 1024 → EReal} {q : Fin 1024 → EReal} {r : EReal} {z e : ℕ → ℝ} (hp : ∀ k, p k = (e k : EReal)) (hq : ∀ k, q k = (hat z k : EReal))
    (hr : r = (rs z : EReal)) (l : Fin 1024) :
    r * (p l - Ideal.div (∑ k, p k) (Ideal.ofBits .f32 0x44800000#32) - q l * Ideal.div (∑ k, p k * q k) (Ideal.ofBits .f32 0x44800000#32))
      = (back z e l : EReal) := by
  rw [mean_row hp, mean_row (z := fun l => e l * hat z l) fun k => by rw [hp k, hq k, EReal.coe_mul], hr, hp, hq, ← EReal.coe_mul, ← EReal.coe_sub,
    ← EReal.coe_sub, ← EReal.coe_mul, back]

/-- A running sum of rows grows by a block's rows. -/
theorem grow {f : ℕ → ℝ} (n : ℕ) : ((∑ s ∈ Finset.range (256 * n), f s : ℝ) : EReal) + ∑ r : Fin 256, (f (256 * n + r) : EReal)
    = ((∑ s ∈ Finset.range (256 * (n + 1)), f s : ℝ) : EReal) := by
  rw [show 256 * (n + 1) = 256 * n + 256 by ring, Finset.sum_range_add, EReal.coe_add, ← coe_sum_fin fun r => f (256 * n + r)]

/-- A running sum of rows begins with the first block's rows. -/
theorem start {f : ℕ → ℝ} : 0 + ∑ r : Fin 256, (f (256 * 0 + r) : EReal) = ((∑ s ∈ Finset.range (256 * (0 + 1)), f s : ℝ) : EReal) := by
  rw [← grow 0, Nat.mul_zero, Finset.range_zero, Finset.sum_empty, EReal.coe_zero]

end Cert.Ln

end
end
-- ==== Proof.LossLnRun.lean ====
/- Every run of the layer's loss and its gradient ends with the buffers the program keeps at the last contents. -/
module

public import proofs.«01_k».proof.Proof.Gen.LossLnIdeal.Frame

@[expose] public section

set_option maxRecDepth 16384

noncomputable section

open Cert.LossLnIdeal Cert.LossLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.LossLnIdeal.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing failing, with the buffers the program keeps at `W4` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.LossLnIdeal.Val

end
end
-- ==== Proof.LossLnPay.lean ====
/- The layer's loss and its gradient: what each block of the two calls computes, as real formulas. -/
module

public import proofs.«01_k».proof.Proof.LnMath
public import proofs.«01_k».proof.Proof.LossLnRun
public import Idealize.ShloMosaic.Lib.Pipeline.ValueKit

@[expose] public section

set_option maxRecDepth 16384

noncomputable section

namespace Cert.Ln

/-- The layer's product. -/
def prod (A W : ℕ → ℕ → ℝ) (t l : ℕ) : ℝ := ∑ k ∈ Finset.range 2816, A t k * W k l

/-- What is normalised: the residual and half the product. -/
def halfRow (X Y : ℕ → ℕ → ℝ) (t l : ℕ) : ℝ := alpha * X t l + 1 / 2 * Y t l

/-- The gradient of the loss at the layer's result. -/
def cot (O T : ℕ → ℕ → ℝ) (t l : ℕ) : ℝ := (O t l - T t l) / 1024

/-- One row's share of the loss. -/
def share (O T : ℕ → ℕ → ℝ) (t : ℕ) : ℝ := 1 / 2 * ((∑ l ∈ Finset.range 1024, (O t l - T t l) * (O t l - T t l)) / 1024)

end Cert.Ln

open Idealize.ShloMosaic Idealize.ShloMosaic.TcCoe Idealize.SL.Sem
open Cert.LossLnIdeal Cert.LossLnIdeal.Gen Cert.RealSums Cert.Ln

namespace Cert.LossLnIdeal.Val

variable {A W X Y Z D O T : ℕ → ℕ → ℝ} {G B : ℕ → ℝ} {i : ℕ}

/-! ## The first call -/

theorem y_read (x : FVec Ideal S512x2816 .bf16) (w : FVec Ideal S1x2816x1024 .bf16) (hx : ∀ (r : Fin 512) (k : Fin 2816), x (ix2 r k) = (A (512 * i + r) k : EReal))
    (hw : ∀ (k : Fin 2816) (l : Fin 1024), w (ix3 0 k l) = (W k l : EReal)) (r : Fin 512) (l : Fin 1024) :
    k0_pay3 (F := Ideal) x w (ix2 r l) = (prod A W (512 * i + r) l : EReal) := by
  pointwise [k0_pay3]
  rw [prod, ← coe_sum_fin fun k => A (512 * i + r) k * W k l]
  refine Finset.sum_congr rfl fun k _ => ?_
  rw [EReal.coe_mul, ← hx, ← hw]

theorem out_read (x : FVec Ideal S512x2816 .bf16) (w : FVec Ideal S1x2816x1024 .bf16) (u : FVec Ideal S512x1024 .f32) (g b : FVec Ideal S1x1024 .f32)
    (hy : ∀ (r : Fin 512) (l : Fin 1024), k0_pay3 (F := Ideal) x w (ix2 r l) = (Y (512 * i + r) l : EReal))
    (hu : ∀ (r : Fin 512) (l : Fin 1024), u (ix2 r l) = (X (512 * i + r) l : EReal))
    (hg : ∀ l : Fin 1024, g (ix2 0 l) = (G l : EReal)) (hb : ∀ l : Fin 1024, b (ix2 0 l) = (B l : EReal)) (r : Fin 512) (l : Fin 1024) :
    k0_pay5 (F := Ideal) x w u g b (ix2 r l) = (out (halfRow X Y) G B (512 * i + r) l : EReal) := by
  unfold k0_pay5
  generalize k0_pay3 (F := Ideal) x w = y at hy ⊢
  pointwise
  rw [hg, hb]
  refine out_row (f := fun l => Ideal.ofBits .f32 0x3FB504F3#32 * u (ix2 r l) + Ideal.ofBits .f32 0x3F000000#32 * y (ix2 r l)) (z := halfRow X Y (512 * i + r)) (fun l => ?_) l
  rw [hu, hy, alpha_bits, half_bits, ← EReal.coe_mul, ← EReal.coe_mul, ← EReal.coe_add, halfRow]

/-! ## The second call -/

theorem err_read (o t : FVec Ideal S256x1024 .f32) (ho : ∀ (r : Fin 256) (l : Fin 1024), o (ix2 r l) = (O (256 * i + r) l : EReal))
    (ht : ∀ (r : Fin 256) (l : Fin 1024), t (ix2 r l) = (T (256 * i + r) l : EReal)) (r : Fin 256) (l : Fin 1024) :
    k1_pay7 (F := Ideal) o t (ix2 r l) = ((O (256 * i + r) l - T (256 * i + r) l : ℝ) : EReal) := by
  pointwise [k1_pay7]
  rw [ho, ht, ← EReal.coe_sub]

theorem cot_read (o t : FVec Ideal S256x1024 .f32) (ho : ∀ (r : Fin 256) (l : Fin 1024), o (ix2 r l) = (O (256 * i + r) l : EReal))
    (ht : ∀ (r : Fin 256) (l : Fin 1024), t (ix2 r l) = (T (256 * i + r) l : EReal)) (r : Fin 256) (l : Fin 1024) :
    k1_pay9 (F := Ideal) o t (ix2 r l) = (cot O T (256 * i + r) l : EReal) := by
  have h := err_read o t ho ht r l
  pointwise [k1_pay9]
  rw [h, width, div_real (by norm_num), cot]

theorem loss_read (o t : FVec Ideal S256x1024 .f32) (s : FVec Ideal S8x128 .f32) (ho : ∀ (r : Fin 256) (l : Fin 1024), o (ix2 r l) = (O (256 * i + r) l : EReal))
    (ht : ∀ (r : Fin 256) (l : Fin 1024), t (ix2 r l) = (T (256 * i + r) l : EReal)) (a : Fin 8) (b : Fin 128) :
    k1_pay8 (F := Ideal) o t s (ix2 a b) = s (ix2 a b) + ∑ r : Fin 256, (share O T (256 * i + r) : EReal) := by
  have h := err_read o t ho ht
  unfold k1_pay8
  generalize k1_pay7 (F := Ideal) o t = e at h ⊢
  pointwise
  congr 1
  rw [Finset.sum_congr rfl fun r _ => by
      rw [Finset.sum_congr rfl fun l _ => by rw [h r l, ← EReal.coe_mul],
        coe_sum_fin fun l => (O (256 * i + r) l - T (256 * i + r) l) * (O (256 * i + r) l - T (256 * i + r) l), width, div_real (by norm_num)],
    coe_sum_fin fun r => (∑ l ∈ Finset.range 1024, (O (256 * i + r) l - T (256 * i + r) l) * (O (256 * i + r) l - T (256 * i + r) l)) / 1024, half_bits,
    coe_sum_fin fun r => share O T (256 * i + r), ← EReal.coe_mul, Finset.mul_sum]
  rfl

theorem row_read (u : FVec Ideal S256x1024 .f32) (y : FVec Ideal S256x1024 .bf16) (hu : ∀ (r : Fin 256) (l : Fin 1024), u (ix2 r l) = (X (256 * i + r) l : EReal))
    (hy : ∀ (r : Fin 256) (l : Fin 1024), y (ix2 r l) = (Y (256 * i + r) l : EReal)) (r : Fin 256) (l : Fin 1024) :
    k1_pay10 (F := Ideal) u y (ix2 r l) = (halfRow X Y (256 * i + r) l : EReal) := by
  pointwise [k1_pay10]
  rw [hu, hy, alpha_bits, half_bits, ← EReal.coe_mul, ← EReal.coe_mul, ← EReal.coe_add, halfRow]

section
variable (z d : FVec Ideal S256x1024 .f32) (g : FVec Ideal S1x1024 .f32) (hz : ∀ (r : Fin 256) (l : Fin 1024), z (ix2 r l) = (Z (256 * i + r) l : EReal))
include hz

theorem dev_read (r : Fin 256) (l : Fin 1024) : k1_pay11 (F := Ideal) z (ix2 r l) = (dev (Z (256 * i + r)) l : EReal) := by
  pointwise [k1_pay11]
  exact dev_row (f := fun l => z (ix2 r l)) (hz r) l

theorem rs_read (r : Fin 256) : k1_pay12 (F := Ideal) z (ix2 r 0) = (rs (Z (256 * i + r)) : EReal) := by
  have h := dev_read z hz
  unfold k1_pay12
  generalize k1_pay11 (F := Ideal) z = y at h ⊢
  pointwise
  exact rs_row (g := fun l => y (ix2 r l)) (h r)

theorem hat_read (r : Fin 256) (l : Fin 1024) : k1_pay13 (F := Ideal) z (ix2 r l) = (hat (Z (256 * i + r)) l : EReal) := by
  have h0 := dev_read z hz r l
  have h1 := rs_read z hz r
  pointwise [k1_pay13]
  rw [h0, h1, ← EReal.coe_mul, hat]

variable (hd : ∀ (r : Fin 256) (l : Fin 1024), d (ix2 r l) = (D (256 * i + r) l : EReal))
include hd

theorem dg_read (l : Fin 1024) : k1_pay16 (F := Ideal) d z (ix2 0 l) = ∑ r : Fin 256, ((D (256 * i + r) l * hat (Z (256 * i + r)) l : ℝ) : EReal) := by
  have h := hat_read z hz
  unfold k1_pay16
  generalize k1_pay13 (F := Ideal) z = y at h ⊢
  pointwise
  exact Finset.sum_congr rfl fun r _ => by rw [hd, h, EReal.coe_mul]

omit hz in
theorem db_read (l : Fin 1024) : k1_pay17 (F := Ideal) d (ix2 0 l) = ∑ r : Fin 256, (D (256 * i + r) l : EReal) := by
  pointwise [k1_pay17]
  exact Finset.sum_congr rfl fun r _ => by rw [hd]

variable (hg : ∀ l : Fin 1024, g (ix2 0 l) = (G l : EReal))
include hg

theorem back_read (r : Fin 256) (l : Fin 1024) : k1_pay14 (F := Ideal) g d z (ix2 r l) = (grad Z D G (256 * i + r) l : EReal) := by
  have h0 := hat_read z hz
  have h1 := rs_read z hz
  unfold k1_pay14
  generalize k1_pay13 (F := Ideal) z = y at h0 ⊢
  generalize k1_pay12 (F := Ideal) z = q at h1 ⊢
  pointwise
  exact back_row (p := fun l => d (ix2 r l) * g (ix2 0 l)) (q := fun l => y (ix2 r l)) (e := fun l => D (256 * i + r) l * G l)
    (fun l => by rw [hd, hg, EReal.coe_mul]) (h0 r) (h1 r) l

theorem dy_read (r : Fin 256) (l : Fin 1024) : k1_pay1 (F := Ideal) (k1_pay15 (F := Ideal) g d z) (ix2 r l) = ((1 / 2 * grad Z D G (256 * i + r) l : ℝ) : EReal) := by
  have h := back_read z d g hz hd hg r l
  unfold k1_pay15
  generalize k1_pay14 (F := Ideal) g d z = y at h ⊢
  pointwise [k1_pay1]
  rw [h, half_bits, ← EReal.coe_mul]

theorem dx_read (r : Fin 256) (l : Fin 1024) : k1_pay18 (F := Ideal) g d z (ix2 r l) = ((alpha * grad Z D G (256 * i + r) l : ℝ) : EReal) := by
  have h := back_read z d g hz hd hg r l
  unfold k1_pay18
  generalize k1_pay14 (F := Ideal) g d z = y at h ⊢
  pointwise
  rw [h, alpha_bits, ← EReal.coe_mul]

end

end Cert.LossLnIdeal.Val

end
end
-- ==== Proof.LossLnFinal.lean ====
/- The layer's loss and its gradient: the two calls' result arrays as real formulas. -/
module

public import proofs.«01_k».proof.Proof.LossLnPay
public import Idealize.ShloMosaic.Lib.Pipeline.ValueKit
public import Idealize.ShloMosaic.Lib.Claim
public import Idealize.ShloMosaic.Lib.StableHlo.RunClose
public import Idealize.ShloMosaic.Lib.StableHlo.RunRead

@[expose] public section

set_option maxRecDepth 16384

noncomputable section

open Idealize.ShloMosaic Idealize.ShloMosaic.TcCoe Idealize.SL.Sem
open Cert.LossLnIdeal Cert.LossLnIdeal.Gen Cert.RealSums Cert.Ln

namespace Cert.LossLnIdeal.Val

theorem lt0 (t : Fin cfg0.N) : t.val < 8 := lt_of_lt_of_eq t.isLt (show cfg0.N = 8 from rfl)

theorem lt1 (t : Fin cfg1.N) : t.val < 16 := lt_of_lt_of_eq t.isLt (show cfg1.N = 16 from rfl)

/-- Where each window stands at each point of the first call. -/
theorem idx0 : ∀ t : Fin cfg0.N, win0_0.index t = ![t.val, 0] ∧ win0_1.index t = ![0, 0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- Where each window stands at each point of the second call. -/
theorem idx1 : ∀ t : Fin cfg1.N, win1_0.index t = ![t.val, 0] ∧ win1_1.index t = ![t.val, 0] ∧ win1_2.index t = ![t.val, 0] ∧ win1_3.index t = ![t.val, 0]
    ∧ win1_4.index t = ![0, 0] ∧ win1_5.index t = ![t.val, 0] ∧ win1_6.index t = ![t.val, 0] :=
  (by decide +kernel : ∀ t : Fin grid1.N, _)

variable (m : (ℓ : Loc nD τ sig) → Buf (Elt Ideal) ℓ) (ρ : Dev nD → PrngReg)

/-- One device's arguments as functions into the real numbers. -/
structure Reals (A W X T : ℕ → ℕ → ℝ) (G B : ℕ → ℝ) (c : Dev nD) : Prop where
  a (r : Fin 4096) (k : Fin 2816) : (m ((c : Thread nD τ).loc main_arg0) : FVec Ideal S4096x2816 .f32) (ix2 r k) = (A r k : EReal)
  w (k : Fin 2816) (l : Fin 1024) : (m ((c : Thread nD τ).loc main_arg1) : FVec Ideal S2816x1024 .f32) (ix2 k l) = (W k l : EReal)
  x (r : Fin 4096) (l : Fin 1024) : (m ((c : Thread nD τ).loc main_arg2) : FVec Ideal S4096x1024 .f32) (ix2 r l) = (X r l : EReal)
  g (l : Fin 1024) : (m ((c : Thread nD τ).loc main_arg3) : FVec Ideal S1x1024 .f32) (ix2 0 l) = (G l : EReal)
  b (l : Fin 1024) : (m ((c : Thread nD τ).loc main_arg4) : FVec Ideal S1x1024 .f32) (ix2 0 l) = (B l : EReal)
  t (r : Fin 4096) (l : Fin 1024) : (m ((c : Thread nD τ).loc main_arg5) : FVec Ideal S4096x1024 .f32) (ix2 r l) = (T r l : EReal)

variable {m}
variable {A W X T : ℕ → ℕ → ℝ} {G B : ℕ → ℝ} {c : Dev nD} (h : Reals m A W X T G B c)
include h

/-! ## The first call -/

theorem op_a (r : Fin 4096) (k : Fin 2816) : (V1 m ρ c main_v0 : FVec Ideal S4096x2816 .bf16) (ix2 r k) = (A r k : EReal) := by
  rw [← h.a]
  show StableHlo.after hostOps0 _ (Proc.devRef .tc main_v0) _ = _
  after_reads_simp
  pointwise

theorem op_w (k : Fin 2816) (l : Fin 1024) : (V1 m ρ c main_v2 : FVec Ideal S1x2816x1024 .bf16) (ix3 0 k l) = (W k l : EReal) := by
  rw [← h.w]
  show StableHlo.after hostOps0 _ (Proc.devRef .tc main_v2) _ = _
  after_reads_simp
  pointwise

theorem in_x (r : Fin 4096) (l : Fin 1024) : (V1 m ρ c main_arg2 : FVec Ideal S4096x1024 .f32) (ix2 r l) = (X r l : EReal) :=
  (congrFun (W1_args m ρ c main_arg2 (by decide +kernel)) _).trans (h.x r l)

theorem in_g (l : Fin 1024) : (V1 m ρ c main_arg3 : FVec Ideal S1x1024 .f32) (ix2 0 l) = (G l : EReal) :=
  (congrFun (W1_args m ρ c main_arg3 (by decide +kernel)) _).trans (h.g l)

theorem in_b (l : Fin 1024) : (V1 m ρ c main_arg4 : FVec Ideal S1x1024 .f32) (ix2 0 l) = (B l : EReal) :=
  (congrFun (W1_args m ρ c main_arg4 (by decide +kernel)) _).trans (h.b l)

/-- The product at each block. -/
theorem block_y (t : Fin cfg0.N) (r : Fin 512) (l : Fin 1024) :
    k0_pay3 (F := Ideal) (iblk0 (V1 m ρ) c 0 t) (iblk0 (V1 m ρ) c 1 t) (ix2 r l) = (prod A W (512 * t.val + r) l : EReal) := by
  have ht := lt0 t
  refine y_read _ _ (fun r k => ?_) (fun k l => ?_) r l
  · refine Eq.trans ?_ (op_a ρ h ⟨512 * t.val + r, by omega⟩ k)
    blk_ext [iblk0, idx0 t]
  · refine Eq.trans ?_ (op_w ρ h k l)
    blk_ext [iblk0, idx0 t]

theorem final0_5 (r : Fin 4096) (l : Fin 1024) : (dat0 (V1 m ρ) c).arrAt 5 cfg0.N (ix2 r l) = (prod A W r l : EReal) := by
  have e : (dat0 (V1 m ρ) c).arrAt 5 cfg0.N = (fun i => (prod A W (i 0 : ℕ) (i 1 : ℕ) : EReal) : FVec Ideal S4096x1024 .bf16) := by
    refine (dat0 (V1 m ρ) c).arrAt_eq_of_covers 5 _ (by decide +kernel) (fun t hf y => ?_)
    idx_vars y
    blk_simp [idx0 t]
    rw [after0_5]
    frame_out
    rw [Nat.mul_comm _ 512, ← block_y ρ h t y0 y1]
    unfold k0_pay4
    generalize k0_pay3 (F := Ideal) (iblk0 (V1 m ρ) c 0 t) (iblk0 (V1 m ρ) c 1 t) = z
    pointwise
  exact congrFun e (ix2 r l)

theorem final0_6 (r : Fin 4096) (l : Fin 1024) :
    (dat0 (V1 m ρ) c).arrAt 6 cfg0.N (ix2 r l) = (out (halfRow X (prod A W)) G B r l : EReal) := by
  have e : (dat0 (V1 m ρ) c).arrAt 6 cfg0.N = (fun i => (out (halfRow X (prod A W)) G B (i 0 : ℕ) (i 1 : ℕ) : EReal) : FVec Ideal S4096x1024 .f32) := by
    refine (dat0 (V1 m ρ) c).arrAt_eq_of_covers 6 _ (by decide +kernel) (fun t hf y => ?_)
    have ht := lt0 t
    idx_vars y
    blk_simp [idx0 t]
    rw [after0_6]
    frame_out
    rw [Nat.mul_comm _ 512]
    refine Eq.trans ?_ (out_read _ _ (iblk0 (V1 m ρ) c 2 t) (iblk0 (V1 m ρ) c 3 t) (iblk0 (V1 m ρ) c 4 t) (block_y ρ h t) (fun r l => ?_) (fun l => ?_) (fun l => ?_) y0 y1)
    · unfold k0_pay6
      frame_out
      generalize k0_pay5 (F := Ideal) (iblk0 (V1 m ρ) c 0 t) (iblk0 (V1 m ρ) c 1 t) (iblk0 (V1 m ρ) c 2 t) (iblk0 (V1 m ρ) c 3 t) (iblk0 (V1 m ρ) c 4 t) = z
      pointwise [k0_pay1]
    · refine Eq.trans ?_ (in_x ρ h ⟨512 * t.val + r, by omega⟩ l)
      blk_ext [iblk0, idx0 t]
    · refine Eq.trans ?_ (in_g ρ h l)
      blk_ext [iblk0, idx0 t]
    · refine Eq.trans ?_ (in_b ρ h l)
      blk_ext [iblk0, idx0 t]
  exact congrFun e (ix2 r l)

/-! ## The second call -/

theorem op_y (r : Fin 4096) (l : Fin 1024) : (V2 m ρ c main_v3_0 : FVec Ideal S4096x1024 .bf16) (ix2 r l) = (prod A W r l : EReal) :=
  (congrFun (W2_arr m ρ c 5) _).trans (final0_5 ρ h r l)

theorem op_o (r : Fin 4096) (l : Fin 1024) : (V2 m ρ c main_v3_1 : FVec Ideal S4096x1024 .f32) (ix2 r l) = (out (halfRow X (prod A W)) G B r l : EReal) :=
  (congrFun (W2_arr m ρ c 6) _).trans (final0_6 ρ h r l)

theorem op_x (r : Fin 4096) (l : Fin 1024) : (V2 m ρ c main_arg2 : FVec Ideal S4096x1024 .f32) (ix2 r l) = (X r l : EReal) :=
  (congrFun (W2_args m ρ c main_arg2 (by decide +kernel)) _).trans (h.x r l)

theorem op_g (l : Fin 1024) : (V2 m ρ c main_arg3 : FVec Ideal S1x1024 .f32) (ix2 0 l) = (G l : EReal) :=
  (congrFun (W2_args m ρ c main_arg3 (by decide +kernel)) _).trans (h.g l)

theorem op_t (r : Fin 4096) (l : Fin 1024) : (V2 m ρ c main_arg5 : FVec Ideal S4096x1024 .f32) (ix2 r l) = (T r l : EReal) :=
  (congrFun (W2_args m ρ c main_arg5 (by decide +kernel)) _).trans (h.t r l)

section
variable (t : Fin cfg1.N)

theorem blk_x (r : Fin 256) (l : Fin 1024) : (iblk1 (V2 m ρ) c 0 t : FVec Ideal S256x1024 .f32) (ix2 r l) = (X (256 * t.val + r) l : EReal) := by
  have ht := lt1 t
  refine Eq.trans ?_ (op_x ρ h ⟨256 * t.val + r, by omega⟩ l)
  blk_ext [iblk1, idx1 t]

theorem blk_y (r : Fin 256) (l : Fin 1024) : (iblk1 (V2 m ρ) c 1 t : FVec Ideal S256x1024 .bf16) (ix2 r l) = (prod A W (256 * t.val + r) l : EReal) := by
  have ht := lt1 t
  refine Eq.trans ?_ (op_y ρ h ⟨256 * t.val + r, by omega⟩ l)
  blk_ext [iblk1, idx1 t]

theorem blk_o (r : Fin 256) (l : Fin 1024) :
    (iblk1 (V2 m ρ) c 2 t : FVec Ideal S256x1024 .f32) (ix2 r l) = (out (halfRow X (prod A W)) G B (256 * t.val + r) l : EReal) := by
  have ht := lt1 t
  refine Eq.trans ?_ (op_o ρ h ⟨256 * t.val + r, by omega⟩ l)
  blk_ext [iblk1, idx1 t]

theorem blk_t (r : Fin 256) (l : Fin 1024) : (iblk1 (V2 m ρ) c 3 t : FVec Ideal S256x1024 .f32) (ix2 r l) = (T (256 * t.val + r) l : EReal) := by
  have ht := lt1 t
  refine Eq.trans ?_ (op_t ρ h ⟨256 * t.val + r, by omega⟩ l)
  blk_ext [iblk1, idx1 t]

theorem blk_g (l : Fin 1024) : (iblk1 (V2 m ρ) c 4 t : FVec Ideal S1x1024 .f32) (ix2 0 l) = (G l : EReal) := by
  refine Eq.trans ?_ (op_g ρ h l)
  blk_ext [iblk1, idx1 t]

/-- What is normalised, at each block. -/
theorem blk_z (r : Fin 256) (l : Fin 1024) :
    k1_pay10 (F := Ideal) (iblk1 (V2 m ρ) c 0 t) (iblk1 (V2 m ρ) c 1 t) (ix2 r l) = (halfRow X (prod A W) (256 * t.val + r) l : EReal) :=
  row_read _ _ (blk_x ρ h t) (blk_y ρ h t) r l

/-- The gradient at the layer's result, at each block. -/
theorem blk_d (r : Fin 256) (l : Fin 1024) :
    k1_pay9 (F := Ideal) (iblk1 (V2 m ρ) c 2 t) (iblk1 (V2 m ρ) c 3 t) (ix2 r l) = (cot (out (halfRow X (prod A W)) G B) T (256 * t.val + r) l : EReal) :=
  cot_read _ _ (blk_o ρ h t) (blk_t ρ h t) r l

theorem left5 (r : Fin 256) (l : Fin 1024) : (outsAt1 (V2 m ρ) c t.val t.isLt).1 (ix2 r l)
    = ((alpha * grad (halfRow X (prod A W)) (cot (out (halfRow X (prod A W)) G B) T) G (256 * t.val + r) l : ℝ) : EReal) := by
  by_cases h0 : t.val % 16 = 0
  · rw [outsAt1_A _ c t h0]
    frame_out
    exact dx_read _ _ _ (blk_z ρ h t) (blk_d ρ h t) (blk_g ρ h t) r l
  · rw [outsAt1_B _ c t h0]
    frame_out
    exact dx_read _ _ _ (blk_z ρ h t) (blk_d ρ h t) (blk_g ρ h t) r l

theorem left6 (r : Fin 256) (l : Fin 1024) : (outsAt1 (V2 m ρ) c t.val t.isLt).2.1 (ix2 r l)
    = ((1 / 2 * grad (halfRow X (prod A W)) (cot (out (halfRow X (prod A W)) G B) T) G (256 * t.val + r) l : ℝ) : EReal) := by
  by_cases h0 : t.val % 16 = 0
  · rw [outsAt1_A _ c t h0]
    frame_out
    exact dy_read _ _ _ (blk_z ρ h t) (blk_d ρ h t) (blk_g ρ h t) r l
  · rw [outsAt1_B _ c t h0]
    frame_out
    exact dy_read _ _ _ (blk_z ρ h t) (blk_d ρ h t) (blk_g ρ h t) r l

end

/-- The running gradient of the scales. -/
theorem left7 (l : Fin 1024) : ∀ (n : ℕ) (hn : n < cfg1.N), (outsAt1 (V2 m ρ) c n hn).2.2.1 (ix2 0 l)
    = ((∑ s ∈ Finset.range (256 * (n + 1)), cot (out (halfRow X (prod A W)) G B) T s l * hat (halfRow X (prod A W) s) l : ℝ) : EReal)
  | 0, hn => by
    have e : outsAt1 (V2 m ρ) c 0 hn = _ := outsAt1_A _ c ⟨0, hn⟩ rfl
    rw [e]
    frame_out
    rw [← start, ← dg_read _ _ (blk_z ρ h ⟨0, hn⟩) (blk_d ρ h ⟨0, hn⟩)]
    generalize k1_pay16 (F := Ideal) _ _ = y
    pointwise [k1_pay2, k1_pay4]
  | n + 1, hn => by
    have e : outsAt1 (V2 m ρ) c (n + 1) hn = _ := outsAt1_B _ c ⟨n + 1, hn⟩ (by have := lt1 ⟨n + 1, hn⟩; simp only [] at this ⊢; omega)
    rw [e]
    frame_out
    rw [← grow (n + 1), ← left7 l n (by omega), ← dg_read _ _ (blk_z ρ h ⟨n + 1, hn⟩) (blk_d ρ h ⟨n + 1, hn⟩)]
    generalize k1_pay16 (F := Ideal) _ _ = y
    pointwise [k1_pay2]
    rfl

/-- The running gradient of the shifts. -/
theorem left8 (l : Fin 1024) : ∀ (n : ℕ) (hn : n < cfg1.N), (outsAt1 (V2 m ρ) c n hn).2.2.2.1 (ix2 0 l)
    = ((∑ s ∈ Finset.range (256 * (n + 1)), cot (out (halfRow X (prod A W)) G B) T s l : ℝ) : EReal)
  | 0, hn => by
    have e : outsAt1 (V2 m ρ) c 0 hn = _ := outsAt1_A _ c ⟨0, hn⟩ rfl
    rw [e]
    frame_out
    rw [← start, ← db_read _ (blk_d ρ h ⟨0, hn⟩)]
    generalize k1_pay17 (F := Ideal) _ = y
    pointwise [k1_pay3, k1_pay5]
  | n + 1, hn => by
    have e : outsAt1 (V2 m ρ) c (n + 1) hn = _ := outsAt1_B _ c ⟨n + 1, hn⟩ (by have := lt1 ⟨n + 1, hn⟩; simp only [] at this ⊢; omega)
    rw [e]
    frame_out
    rw [← grow (n + 1), ← left8 l n (by omega), ← db_read _ (blk_d ρ h ⟨n + 1, hn⟩)]
    generalize k1_pay17 (F := Ideal) _ = y
    pointwise [k1_pay3]
    rfl

/-- The running loss. -/
theorem left9 (a : Fin 8) (b : Fin 128) : ∀ (n : ℕ) (hn : n < cfg1.N), (outsAt1 (V2 m ρ) c n hn).2.2.2.2 (ix2 a b)
    = ((∑ s ∈ Finset.range (256 * (n + 1)), share (out (halfRow X (prod A W)) G B) T s : ℝ) : EReal)
  | 0, hn => by
    have e : outsAt1 (V2 m ρ) c 0 hn = _ := outsAt1_A _ c ⟨0, hn⟩ rfl
    rw [e]
    frame_out
    refine (loss_read _ _ _ (blk_o ρ h ⟨0, hn⟩) (blk_t ρ h ⟨0, hn⟩) a b).trans ?_
    rw [← start]
    pointwise [k1_pay6]
  | n + 1, hn => by
    have e : outsAt1 (V2 m ρ) c (n + 1) hn = _ := outsAt1_B _ c ⟨n + 1, hn⟩ (by have := lt1 ⟨n + 1, hn⟩; simp only [] at this ⊢; omega)
    rw [e]
    frame_out
    refine (loss_read _ _ _ (blk_o ρ h ⟨n + 1, hn⟩) (blk_t ρ h ⟨n + 1, hn⟩) a b).trans ?_
    rw [← grow (n + 1), ← left9 a b n (by omega)]
    rfl

theorem final1_5 (r : Fin 4096) (l : Fin 1024) : (dat1 (V2 m ρ) c).arrAt 5 cfg1.N (ix2 r l)
    = ((alpha * grad (halfRow X (prod A W)) (cot (out (halfRow X (prod A W)) G B) T) G r l : ℝ) : EReal) := by
  have e : (dat1 (V2 m ρ) c).arrAt 5 cfg1.N
      = (fun i => ((alpha * grad (halfRow X (prod A W)) (cot (out (halfRow X (prod A W)) G B) T) G (i 0 : ℕ) (i 1 : ℕ) : ℝ) : EReal) : FVec Ideal S4096x1024 .f32) := by
    refine (dat1 (V2 m ρ) c).arrAt_eq_of_covers 5 _ (by decide +kernel) (fun t hf y => ?_)
    idx_vars y
    blk_simp [idx1 t]
    rw [after1_5, left5 ρ h, Nat.mul_comm]
  exact congrFun e (ix2 r l)

theorem final1_6 (r : Fin 4096) (l : Fin 1024) : (dat1 (V2 m ρ) c).arrAt 6 cfg1.N (ix2 r l)
    = ((1 / 2 * grad (halfRow X (prod A W)) (cot (out (halfRow X (prod A W)) G B) T) G r l : ℝ) : EReal) := by
  have e : (dat1 (V2 m ρ) c).arrAt 6 cfg1.N
      = (fun i => ((1 / 2 * grad (halfRow X (prod A W)) (cot (out (halfRow X (prod A W)) G B) T) G (i 0 : ℕ) (i 1 : ℕ) : ℝ) : EReal) : FVec Ideal S4096x1024 .bf16) := by
    refine (dat1 (V2 m ρ) c).arrAt_eq_of_covers 6 _ (by decide +kernel) (fun t hf y => ?_)
    idx_vars y
    blk_simp [idx1 t]
    rw [after1_6, left6 ρ h, Nat.mul_comm]
  exact congrFun e (ix2 r l)

theorem final1_7 (l : Fin 1024) : (dat1 (V2 m ρ) c).arrAt 7 cfg1.N (ix2 0 l)
    = ((∑ s ∈ Finset.range 4096, cot (out (halfRow X (prod A W)) G B) T s l * hat (halfRow X (prod A W) s) l : ℝ) : EReal) := by
  have e : (dat1 (V2 m ρ) c).arrAt 7 cfg1.N = (fun i => ((∑ s ∈ Finset.range 4096,
      cot (out (halfRow X (prod A W)) G B) T s (i 1 : ℕ) * hat (halfRow X (prod A W) s) (i 1 : ℕ) : ℝ) : EReal) : FVec Ideal S1x1024 .f32) := by
    refine (dat1 (V2 m ρ) c).arrAt_eq_of_after_last 7 t1_15 (by decide +kernel) _ fun y => ?_
    idx_vars y
    blk_simp
    rw [after1_7, Subsingleton.elim y0 0, left7 ρ h]
    rfl
  exact congrFun e (ix2 0 l)

theorem final1_8 (l : Fin 1024) : (dat1 (V2 m ρ) c).arrAt 8 cfg1.N (ix2 0 l)
    = ((∑ s ∈ Finset.range 4096, cot (out (halfRow X (prod A W)) G B) T s l : ℝ) : EReal) := by
  have e : (dat1 (V2 m ρ) c).arrAt 8 cfg1.N = (fun i => ((∑ s ∈ Finset.range 4096,
      cot (out (halfRow X (prod A W)) G B) T s (i 1 : ℕ) : ℝ) : EReal) : FVec Ideal S1x1024 .f32) := by
    refine (dat1 (V2 m ρ) c).arrAt_eq_of_after_last 8 t1_15 (by decide +kernel) _ fun y => ?_
    idx_vars y
    blk_simp
    rw [after1_8, Subsingleton.elim y0 0, left8 ρ h]
    rfl
  exact congrFun e (ix2 0 l)

theorem final1_9 (a : Fin 8) (b : Fin 128) : (dat1 (V2 m ρ) c).arrAt 9 cfg1.N (ix2 a b)
    = ((∑ s ∈ Finset.range 4096, share (out (halfRow X (prod A W)) G B) T s : ℝ) : EReal) := by
  have e : (dat1 (V2 m ρ) c).arrAt 9 cfg1.N = (fun _ => ((∑ s ∈ Finset.range 4096,
      share (out (halfRow X (prod A W)) G B) T s : ℝ) : EReal) : FVec Ideal S8x128 .f32) := by
    refine (dat1 (V2 m ρ) c).arrAt_eq_of_after_last 9 t1_15 (by decide +kernel) _ fun y => ?_
    idx_vars y
    blk_simp
    rw [after1_9, left9 ρ h]
    rfl
  exact congrFun e (ix2 a b)

/-! ## The results -/

theorem res_y (r : Fin 4096) (l : Fin 1024) : (W4 m ρ c (Proc.devRef .tc main_v3_0) : FVec Ideal S4096x1024 .bf16) (ix2 r l) = (prod A W r l : EReal) :=
  (congrFun ((W4_of m ρ c main_v3_0 (by decide +kernel)).trans (W3_of m ρ c main_v3_0 (by decide +kernel))) _).trans (op_y ρ h r l)

theorem res_o (r : Fin 4096) (l : Fin 1024) :
    (W4 m ρ c (Proc.devRef .tc main_v3_1) : FVec Ideal S4096x1024 .f32) (ix2 r l) = (out (halfRow X (prod A W)) G B r l : EReal) :=
  (congrFun ((W4_of m ρ c main_v3_1 (by decide +kernel)).trans (W3_of m ρ c main_v3_1 (by decide +kernel))) _).trans (op_o ρ h r l)

theorem res_dx (r : Fin 4096) (l : Fin 1024) : (W4 m ρ c (Proc.devRef .tc main_v4_0) : FVec Ideal S4096x1024 .f32) (ix2 r l)
    = ((alpha * grad (halfRow X (prod A W)) (cot (out (halfRow X (prod A W)) G B) T) G r l : ℝ) : EReal) :=
  (congrFun ((W4_of m ρ c main_v4_0 (by decide +kernel)).trans (W3_arr m ρ c 5)) _).trans (final1_5 ρ h r l)

theorem res_dy (r : Fin 4096) (l : Fin 1024) : (W4 m ρ c (Proc.devRef .tc main_v4_1) : FVec Ideal S4096x1024 .bf16) (ix2 r l)
    = ((1 / 2 * grad (halfRow X (prod A W)) (cot (out (halfRow X (prod A W)) G B) T) G r l : ℝ) : EReal) :=
  (congrFun ((W4_of m ρ c main_v4_1 (by decide +kernel)).trans (W3_arr m ρ c 6)) _).trans (final1_6 ρ h r l)

theorem res_dg (l : Fin 1024) : (W4 m ρ c (Proc.devRef .tc main_v4_2) : FVec Ideal S1x1024 .f32) (ix2 0 l)
    = ((∑ s ∈ Finset.range 4096, cot (out (halfRow X (prod A W)) G B) T s l * hat (halfRow X (prod A W) s) l : ℝ) : EReal) :=
  (congrFun ((W4_of m ρ c main_v4_2 (by decide +kernel)).trans (W3_arr m ρ c 7)) _).trans (final1_7 ρ h l)

theorem res_db (l : Fin 1024) : (W4 m ρ c (Proc.devRef .tc main_v4_3) : FVec Ideal S1x1024 .f32) (ix2 0 l)
    = ((∑ s ∈ Finset.range 4096, cot (out (halfRow X (prod A W)) G B) T s l : ℝ) : EReal) :=
  (congrFun ((W4_of m ρ c main_v4_3 (by decide +kernel)).trans (W3_arr m ρ c 8)) _).trans (final1_8 ρ h l)

theorem res_loss (i : S1.Idx) : (W4 m ρ c (Proc.devRef .tc main_v6) : FVec Ideal S1 .f32) i
    = ((∑ s ∈ Finset.range 4096, share (out (halfRow X (prod A W)) G B) T s : ℝ) : EReal) := by
  have e : ∀ a b, (W3 m ρ c (Proc.devRef .tc main_v4_4) : FVec Ideal S8x128 .f32) (ix2 a b)
      = ((∑ s ∈ Finset.range 4096, share (out (halfRow X (prod A W)) G B) T s : ℝ) : EReal) := fun a b =>
    (congrFun (W3_arr m ρ c 9) _).trans (final1_9 ρ h a b)
  show StableHlo.after hostOps2 _ (Proc.devRef .tc main_v6) _ = _
  generalize W3 m ρ c = W at e ⊢
  idx_vars i
  after_reads_simp
  pointwise
  exact e _ _

omit h
variable (m)

/-- The results at the end of a run. -/
@[irreducible] def res (c : Dev nD) : FVec Ideal S4096x1024 .bf16 × FVec Ideal S4096x1024 .f32 × FVec Ideal S4096x1024 .f32 × FVec Ideal S4096x1024 .bf16
    × FVec Ideal S1x1024 .f32 × FVec Ideal S1x1024 .f32 × FVec Ideal S1 .f32 :=
  (W4 m ρ c (Proc.devRef .tc main_v3_0), W4 m ρ c (Proc.devRef .tc main_v3_1), W4 m ρ c (Proc.devRef .tc main_v4_0), W4 m ρ c (Proc.devRef .tc main_v4_1),
    W4 m ρ c (Proc.devRef .tc main_v4_2), W4 m ρ c (Proc.devRef .tc main_v4_3), W4 m ρ c (Proc.devRef .tc main_v6))

theorem res_eq (c : Dev nD) : res m ρ c = (W4 m ρ c (Proc.devRef .tc main_v3_0), W4 m ρ c (Proc.devRef .tc main_v3_1), W4 m ρ c (Proc.devRef .tc main_v4_0), W4 m ρ c (Proc.devRef .tc main_v4_1),
    W4 m ρ c (Proc.devRef .tc main_v4_2), W4 m ρ c (Proc.devRef .tc main_v4_3), W4 m ρ c (Proc.devRef .tc main_v6)) := by
  unfold res
  rfl

set_option maxHeartbeats 1000000 in
/-- Every run ends with the results at `res`. -/
theorem run_main : θ_run defs (onTc (τ := τ) (main (F := Ideal))) ⟨m, fun _ => 0, ρ⟩ (fun r => ∀ c : Dev nD,
      r.2.mem ((c.tc : Thread nD τ).loc main_v3_0) = (res m ρ c).1
      ∧ r.2.mem ((c.tc : Thread nD τ).loc main_v3_1) = (res m ρ c).2.1
      ∧ r.2.mem ((c.tc : Thread nD τ).loc main_v4_0) = (res m ρ c).2.2.1
      ∧ r.2.mem ((c.tc : Thread nD τ).loc main_v4_1) = (res m ρ c).2.2.2.1
      ∧ r.2.mem ((c.tc : Thread nD τ).loc main_v4_2) = (res m ρ c).2.2.2.2.1
      ∧ r.2.mem ((c.tc : Thread nD τ).loc main_v4_3) = (res m ρ c).2.2.2.2.2.1
      ∧ r.2.mem ((c.tc : Thread nD τ).loc main_v6) = (res m ρ c).2.2.2.2.2.2) :=
  (θ_run defs _ _).mono (fun r h c => by
    rw [res_eq]
    exact ⟨h.1 c (Proc.devRef .tc main_v3_0) (mem_uc main_v3_0 (by decide +kernel)), h.1 c (Proc.devRef .tc main_v3_1) (mem_uc main_v3_1 (by decide +kernel)),
    h.1 c (Proc.devRef .tc main_v4_0) (mem_uc main_v4_0 (by decide +kernel)), h.1 c (Proc.devRef .tc main_v4_1) (mem_uc main_v4_1 (by decide +kernel)), h.1 c (Proc.devRef .tc main_v4_2) (mem_uc main_v4_2 (by decide +kernel)),
    h.1 c (Proc.devRef .tc main_v4_3) (mem_uc main_v4_3 (by decide +kernel)), h.1 c (Proc.devRef .tc main_v6) (mem_uc main_v6 (by decide +kernel))⟩) (run_all m ρ)

end Cert.LossLnIdeal.Val

end
end
-- ==== Proof.LnHost.lean ====
/- Layer normalisation over whole tables and its derivative, as a reverse pass writes them, as real formulas. -/
module

public import proofs.«01_k».proof.Proof.LnMath
public import proofs.«01_k».proof.Proof.Tables
public import proofs.«01_k».proof.Proof.Gen.LossLnRefIdeal.Read

@[expose] public section

set_option maxRecDepth 16384

noncomputable section

open Idealize.ShloMosaic Idealize.ShloMosaic.TcCoe Idealize.SL.Sem
open Cert.LossLnRefIdeal Cert.LossLnRefIdeal.Facts₀ Cert.LossLnRefIdeal.Facts Cert.RealSums

namespace Cert.Ln.Host

attribute [local instance] Cert.LossLnRefIdeal.Gen.facts

/-- The sum of each row, as a column, over the number of lanes. -/
def avg (z : FVec Ideal S4096x1024 .f32) : FVec Ideal S4096x1 .f32 :=
  Host.divf (broadcastInDim S4096x1 ![0] bcast_S4096_S4096x1_0 (Host.reduceAdd z (constant S_ .f32 0x00000000#32) reducesTo_S4096x1024_S4096_d1 h_S_))
    (broadcastInDim S4096x1 ![] bcast_S_S4096x1 (constant S_ .f32 0x44800000#32))

/-- The table less its rows' means. -/
def cen (z : FVec Ideal S4096x1024 .f32) : FVec Ideal S4096x1024 .f32 :=
  subf z (broadcastInDim S4096x1024 ![0, 1] bcast_S4096x1_S4096x1024_0_1 (avg z))

/-- The rows' variances and the number added to them. -/
def vr (z : FVec Ideal S4096x1024 .f32) : FVec Ideal S4096x1 .f32 :=
  addf (avg (mulf (cen z) (cen z))) (broadcastInDim S4096x1 ![] bcast_S_S4096x1 (constant S_ .f32 0x3727C5AC#32))

/-- The normalised table. -/
def nrm (z : FVec Ideal S4096x1024 .f32) : FVec Ideal S4096x1024 .f32 :=
  mulf (cen z) (broadcastInDim S4096x1024 ![0, 1] bcast_S4096x1_S4096x1024_0_1 (Host.rsqrt (vr z)))

/-- The normalised table, scaled and shifted. -/
def ln (z : FVec Ideal S4096x1024 .f32) (g b : FVec Ideal S1x1024 .f32) : FVec Ideal S4096x1024 .f32 :=
  addf (mulf (nrm z) (broadcastInDim S4096x1024 ![0, 1] bcast_S1x1024_S4096x1024_0_1
      (broadcastInDim S1x1024 ![1] bcast_S1024_S1x1024_1 (shapeCast S1024 g shapeCasts_S1x1024_S1024))))
    (broadcastInDim S4096x1024 ![0, 1] bcast_S1x1024_S4096x1024_0_1
      (broadcastInDim S1x1024 ![1] bcast_S1024_S1x1024_1 (shapeCast S1024 b shapeCasts_S1x1024_S1024)))

/-- What comes in, times the scales. -/
def scaled (d : FVec Ideal S4096x1024 .f32) (g : FVec Ideal S1x1024 .f32) : FVec Ideal S4096x1024 .f32 :=
  mulf d (broadcastInDim S4096x1024 ![0, 1] bcast_S1x1024_S4096x1024_0_1
      (broadcastInDim S1x1024 ![1] bcast_S1024_S1x1024_1 (shapeCast S1024 g shapeCasts_S1x1024_S1024)))

/-- What comes in through the deviations. -/
def viaDev (z e : FVec Ideal S4096x1024 .f32) : FVec Ideal S4096x1024 .f32 :=
  mulf e (broadcastInDim S4096x1024 ![0, 1] bcast_S4096x1_S4096x1024_0_1 (Host.rsqrt (vr z)))

/-- The sum that comes in through the variance. -/
def varSum (z e : FVec Ideal S4096x1024 .f32) : FVec Ideal S4096x1 .f32 :=
  Host.divf (mulf (shapeCast S4096x1 (Host.reduceAdd (mulf (cen z) e) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (vr z)) (vr z))))
    (broadcastInDim S4096x1 ![] bcast_S_S4096x1 (constant S_ .f32 0x44800000#32))

/-- What comes in through the variance. -/
def viaVar (z e : FVec Ideal S4096x1024 .f32) : FVec Ideal S4096x1024 .f32 :=
  mulf (broadcastInDim S4096x1024 ![0] bcast_S4096_S4096x1024_0 (Host.reduceAdd (varSum z e) (constant S_ .f32 0x00000000#32) reducesTo_S4096x1_S4096_d1 h_S_))
    (mulf (broadcastInDim S4096x1024 ![] bcast_S_S4096x1024 (constant S_ .f32 0x40000000#32)) (cen z))

/-- The sum of each row's negative, as a column. -/
def negSum (e : FVec Ideal S4096x1024 .f32) : FVec Ideal S4096x1 .f32 :=
  shapeCast S4096x1 (Host.reduceAdd (Host.negf e) (constant S_ .f32 0x00000000#32) reducesTo_S4096x1024_S4096_d1 h_S_) shapeCasts_S4096_S4096x1

/-- The derivative of the normalisation. -/
def dz (z e : FVec Ideal S4096x1024 .f32) : FVec Ideal S4096x1024 .f32 :=
  addf (addf (viaDev z e) (viaVar z e)) (broadcastInDim S4096x1024 ![0] bcast_S4096_S4096x1024_0
    (Host.reduceAdd (Host.divf (addf (negSum (viaDev z e)) (negSum (viaVar z e))) (broadcastInDim S4096x1 ![] bcast_S_S4096x1 (constant S_ .f32 0x44800000#32)))
      (constant S_ .f32 0x00000000#32) reducesTo_S4096x1_S4096_d1 h_S_))

/-- The sum of each column, as a row. -/
def colSum (e : FVec Ideal S4096x1024 .f32) : FVec Ideal S1x1024 .f32 :=
  broadcastInDim S1x1024 ![1] bcast_S1024_S1x1024_1 (Host.reduceAdd (shapeCast S1x1024
    (Host.reduceAdd e (constant S_ .f32 0x00000000#32) reducesTo_S4096x1024_S1024_d0 h_S_) shapeCasts_S1024_S1x1024) (constant S_ .f32 0x00000000#32) reducesTo_S1x1024_S1024_d0 h_S_)

variable {z e : FVec Ideal S4096x1024 .f32} {g b : FVec Ideal S1x1024 .f32} {Z E : ℕ → ℕ → ℝ} {G B : ℕ → ℝ}

theorem avg_read (hz : ∀ (t : Fin 4096) (l : Fin 1024), z (ix2 t l) = (Z t l : EReal)) (t : Fin 4096) : avg z (ix2 t 0) = (mean (Z t) : EReal) := by
  pointwise [avg]
  exact mean_row (f := fun l => z (ix2 t l)) (hz t)

theorem cen_read (hz : ∀ (t : Fin 4096) (l : Fin 1024), z (ix2 t l) = (Z t l : EReal)) (t : Fin 4096) (l : Fin 1024) :
    cen z (ix2 t l) = (dev (Z t) l : EReal) := by
  pointwise [cen]
  rw [avg_read hz, hz, ← EReal.coe_sub, dev]

theorem vr_read (hz : ∀ (t : Fin 4096) (l : Fin 1024), z (ix2 t l) = (Z t l : EReal)) (t : Fin 4096) : vr z (ix2 t 0) = (vare (Z t) : EReal) := by
  have h := avg_read (z := mulf (cen z) (cen z)) (Z := fun t l => dev (Z t) l * dev (Z t) l) (fun t l => by
    pointwise
    rw [cen_read hz, EReal.coe_mul]) t
  pointwise [vr]
  rw [h, eps_bits, ← EReal.coe_add, vare]

theorem nrm_read (hz : ∀ (t : Fin 4096) (l : Fin 1024), z (ix2 t l) = (Z t l : EReal)) (t : Fin 4096) (l : Fin 1024) :
    nrm z (ix2 t l) = (hat (Z t) l : EReal) := by
  pointwise [nrm]
  rw [cen_read hz, vr_read hz, rsqrt_row, ← EReal.coe_mul, hat]

theorem ln_read (hz : ∀ (t : Fin 4096) (l : Fin 1024), z (ix2 t l) = (Z t l : EReal)) (hg : ∀ l : Fin 1024, g (ix2 0 l) = (G l : EReal))
    (hb : ∀ l : Fin 1024, b (ix2 0 l) = (B l : EReal)) (t : Fin 4096) (l : Fin 1024) : ln z g b (ix2 t l) = ((hat (Z t) l * G l + B l : ℝ) : EReal) := by
  pointwise [ln]
  rw [nrm_read hz, hg, hb, ← EReal.coe_mul, ← EReal.coe_add]

theorem scaled_read {d : FVec Ideal S4096x1024 .f32} {D : ℕ → ℕ → ℝ} (hd : ∀ (t : Fin 4096) (l : Fin 1024), d (ix2 t l) = (D t l : EReal))
    (hg : ∀ l : Fin 1024, g (ix2 0 l) = (G l : EReal)) (t : Fin 4096) (l : Fin 1024) : scaled d g (ix2 t l) = ((D t l * G l : ℝ) : EReal) := by
  pointwise [scaled]
  rw [hd, hg, ← EReal.coe_mul]

theorem colSum_read (he : ∀ (t : Fin 4096) (l : Fin 1024), e (ix2 t l) = (E t l : EReal)) (l : Fin 1024) :
    colSum e (ix2 0 l) = ((∑ t ∈ Finset.range 4096, E t l : ℝ) : EReal) := by
  pointwise [colSum]
  rw [Fin.sum_univ_one, Finset.sum_congr rfl fun t _ => he t l, coe_sum_fin fun t => E t l]

variable (hz : ∀ (t : Fin 4096) (l : Fin 1024), z (ix2 t l) = (Z t l : EReal)) (he : ∀ (t : Fin 4096) (l : Fin 1024), e (ix2 t l) = (E t l : EReal))
include hz he

theorem viaDev_read (t : Fin 4096) (l : Fin 1024) : viaDev z e (ix2 t l) = ((E t l * rs (Z t) : ℝ) : EReal) := by
  pointwise [viaDev]
  rw [he, vr_read hz, rsqrt_row, ← EReal.coe_mul]

theorem varSum_read (t : Fin 4096) : varSum z e (ix2 t 0)
    = (((∑ l ∈ Finset.range 1024, dev (Z t) l * E t l) * (-(1 / 2) * (rs (Z t) / vare (Z t))) / 1024 : ℝ) : EReal) := by
  have h := vare_pos (Z t)
  pointwise [varSum]
  rw [Finset.sum_congr rfl fun l _ => by rw [cen_read hz t l, he t l, ← EReal.coe_mul], coe_sum_fin fun l => dev (Z t) l * E t l, vr_read hz, rsqrt_row,
    div_real h.ne', mhalf_bits, width, ← EReal.coe_mul, ← EReal.coe_mul, div_real (by norm_num)]

theorem viaVar_read (t : Fin 4096) (l : Fin 1024) : viaVar z e (ix2 t l)
    = (((∑ l ∈ Finset.range 1024, dev (Z t) l * E t l) * (-(1 / 2) * (rs (Z t) / vare (Z t))) / 1024 * (2 * dev (Z t) l) : ℝ) : EReal) := by
  pointwise [viaVar]
  rw [Fin.sum_univ_one, varSum_read hz he, cen_read hz, two_bits, ← EReal.coe_mul, ← EReal.coe_mul]

omit hz in
theorem negSum_read (t : Fin 4096) : negSum e (ix2 t 0) = ((∑ l ∈ Finset.range 1024, -(E t l) : ℝ) : EReal) := by
  pointwise [negSum]
  rw [Finset.sum_congr rfl fun l _ => by rw [he t l, ← EReal.coe_neg], coe_sum_fin fun l => -(E t l)]

theorem dz_read (t : Fin 4096) (l : Fin 1024) : dz z e (ix2 t l) = (back (Z t) (E t) l : EReal) := by
  have h0 := negSum_read (E := fun t l => E t l * rs (Z t)) (viaDev_read hz he) t
  have h1 := negSum_read
    (E := fun t l => (∑ l ∈ Finset.range 1024, dev (Z t) l * E t l) * (-(1 / 2) * (rs (Z t) / vare (Z t))) / 1024 * (2 * dev (Z t) l)) (viaVar_read hz he) t
  pointwise [dz]
  rw [Fin.sum_univ_one, h0, h1, viaDev_read hz he, viaVar_read hz he, width, ← EReal.coe_add, ← EReal.coe_add, div_real (by norm_num), ← EReal.coe_add, back_eq]

end Cert.Ln.Host

end
end
-- ==== Proof.LossLnRef.lean ====
/- The layer's loss and its gradient as the reference writes them, as real formulas. -/
module

public import proofs.«01_k».proof.Proof.LossLnPay
public import proofs.«01_k».proof.Proof.LnHost

@[expose] public section

set_option maxRecDepth 16384

noncomputable section

open Idealize.ShloMosaic Idealize.ShloMosaic.TcCoe Idealize.SL.Sem
open Cert.LossLnRefIdeal Cert.LossLnRefIdeal.Read Cert.RealSums Cert.Ln Cert.Ln.Host

namespace Cert.LossLnRefIdeal.Val

attribute [local instance] Cert.LossLnRefIdeal.Gen.facts

variable {A W X T : ℕ → ℕ → ℝ} {G B : ℕ → ℝ} {a : FVec Ideal S4096x2816 .f32} {w : FVec Ideal S2816x1024 .f32} {x t : FVec Ideal S4096x1024 .f32} {g b : FVec Ideal S1x1024 .f32}
variable (ha : ∀ (r : Fin 4096) (k : Fin 2816), a (ix2 r k) = (A r k : EReal)) (hw : ∀ (k : Fin 2816) (l : Fin 1024), w (ix2 k l) = (W k l : EReal))
  (hx : ∀ (r : Fin 4096) (l : Fin 1024), x (ix2 r l) = (X r l : EReal))
  (hg : ∀ l : Fin 1024, g (ix2 0 l) = (G l : EReal)) (hb : ∀ l : Fin 1024, b (ix2 0 l) = (B l : EReal))
  (ht : ∀ (r : Fin 4096) (l : Fin 1024), t (ix2 r l) = (T r l : EReal))
include ha hw

theorem ref_p (r : Fin 4096) (l : Fin 1024) : val_main_v0 (F := Ideal) a w (ix2 r l) = (prod A W r l : EReal) := by
  pointwise [val_main_v0]
  rw [prod, ← coe_sum_fin fun k => A r k * W k l]
  refine Finset.sum_congr rfl fun k _ => ?_
  rw [EReal.coe_mul, ← ha, ← hw]

theorem ref_y (r : Fin 4096) (l : Fin 1024) : val_main_v89 (F := Ideal) a w (ix2 r l) = (prod A W r l : EReal) := by
  refine Eq.trans ?_ (ref_p ha hw r l)
  pointwise [val_main_v89]

include hx

theorem ref_z (r : Fin 4096) (l : Fin 1024) : val_main_v7 (F := Ideal) a w x (ix2 r l) = (halfRow X (prod A W) r l : EReal) := by
  have e := ref_p ha hw r l
  pointwise [val_main_v7, val_main_v6, val_main_v5, val_main_v4, val_main_v3, val_main_cst, val_main_cst_0]
  rw [e, hx, alpha_bits, half_bits, ← EReal.coe_mul, ← EReal.coe_mul, ← EReal.coe_add, halfRow]

include hg hb

theorem ref_o (r : Fin 4096) (l : Fin 1024) : val_main_v36 (F := Ideal) a w x g b (ix2 r l) = (out (halfRow X (prod A W)) G B r l : EReal) :=
  (congrFun (show val_main_v36 (F := Ideal) a w x g b = ln (val_main_v7 (F := Ideal) a w x) g b from rfl) _).trans
    (ln_read (ref_z ha hw hx) hg hb r l)

include ht

theorem ref_d (r : Fin 4096) (l : Fin 1024) : val_main_v51 (F := Ideal) a w x g b t (ix2 r l) = (cot (out (halfRow X (prod A W)) G B) T r l : EReal) := by
  have e := ref_o ha hw hx hg hb r l
  pointwise [val_main_v51, val_main_v50, val_main_v49, val_main_v48, val_main_v47, val_main_v46, val_main_v40, val_main_v39, val_main_v37,
    val_main_cst_8, val_main_cst_13, val_main_cst_14, val_main_cst_15]
  rw [e, ht, width, half_bits, two_bits, div_real (by norm_num), ← EReal.coe_sub, ← EReal.coe_mul, ← EReal.coe_mul, cot]
  congr 1
  ring

theorem ref_e (r : Fin 4096) (l : Fin 1024) : val_main_v59 (F := Ideal) a w x g b t (ix2 r l) = ((cot (out (halfRow X (prod A W)) G B) T r l * G l : ℝ) : EReal) :=
  (congrFun (show val_main_v59 (F := Ideal) a w x g b t = scaled (val_main_v51 (F := Ideal) a w x g b t) g from rfl) _).trans
    (scaled_read (ref_d ha hw hx hg hb ht) hg r l)

theorem ref_dz (r : Fin 4096) (l : Fin 1024) : val_main_v84 (F := Ideal) a w x g b t (ix2 r l)
    = (grad (halfRow X (prod A W)) (cot (out (halfRow X (prod A W)) G B) T) G r l : EReal) :=
  (congrFun (show val_main_v84 (F := Ideal) a w x g b t = dz (val_main_v7 (F := Ideal) a w x) (val_main_v59 (F := Ideal) a w x g b t) from rfl) _).trans
    (dz_read (E := fun r l => cot (out (halfRow X (prod A W)) G B) T r l * G l) (ref_z ha hw hx) (ref_e ha hw hx hg hb ht) r l)

theorem ref_dx (r : Fin 4096) (l : Fin 1024) : val_main_v88 (F := Ideal) a w x g b t (ix2 r l)
    = ((alpha * grad (halfRow X (prod A W)) (cot (out (halfRow X (prod A W)) G B) T) G r l : ℝ) : EReal) := by
  have e := ref_dz ha hw hx hg hb ht r l
  pointwise [val_main_v88, val_main_v87, val_main_cst_28]
  rw [e, alpha_bits, ← EReal.coe_mul]

theorem ref_dy (r : Fin 4096) (l : Fin 1024) : val_main_v90 (F := Ideal) a w x g b t (ix2 r l)
    = ((1 / 2 * grad (halfRow X (prod A W)) (cot (out (halfRow X (prod A W)) G B) T) G r l : ℝ) : EReal) := by
  have e := ref_dz ha hw hx hg hb ht r l
  pointwise [val_main_v90, val_main_v86, val_main_v85, val_main_cst_27]
  rw [e, half_bits, ← EReal.coe_mul]

theorem ref_dg (l : Fin 1024) : val_main_v91 (F := Ideal) a w x g b t (ix2 0 l)
    = ((∑ s ∈ Finset.range 4096, cot (out (halfRow X (prod A W)) G B) T s l * hat (halfRow X (prod A W) s) l : ℝ) : EReal) :=
  (congrFun (show val_main_v91 (F := Ideal) a w x g b t = colSum (val_main_v55 (F := Ideal) a w x g b t) from rfl) _).trans
    (colSum_read (E := fun s l => cot (out (halfRow X (prod A W)) G B) T s l * hat (halfRow X (prod A W) s) l) (fun s l => by
      have e0 := ref_d ha hw hx hg hb ht s l
      have e1 := nrm_read (ref_z ha hw hx) s l
      show nrm (val_main_v7 (F := Ideal) a w x) (ix2 s l) * val_main_v51 (F := Ideal) a w x g b t (ix2 s l) = _
      rw [e0, e1, mul_comm, EReal.coe_mul]) l)

theorem ref_db (l : Fin 1024) : val_main_v92 (F := Ideal) a w x g b t (ix2 0 l)
    = ((∑ s ∈ Finset.range 4096, cot (out (halfRow X (prod A W)) G B) T s l : ℝ) : EReal) :=
  (congrFun (show val_main_v92 (F := Ideal) a w x g b t = colSum (val_main_v51 (F := Ideal) a w x g b t) from rfl) _).trans
    (colSum_read (ref_d ha hw hx hg hb ht) l)

theorem ref_q (r : Fin 4096) : val_main_v43 (F := Ideal) a w x g b t (ix1 r) = (((∑ l ∈ Finset.range 1024,
    (out (halfRow X (prod A W)) G B r l - T r l) * (out (halfRow X (prod A W)) G B r l - T r l)) / 1024 : ℝ) : EReal) := by
  have e := ref_o ha hw hx hg hb r
  pointwise [val_main_v43, val_main_v42, val_main_v41, val_main_v38, val_main_v37, val_main_cst_9, val_main_cst_10]
  rw [Finset.sum_congr rfl fun l _ => by rw [e l, ht r l, ← EReal.coe_sub, ← EReal.coe_mul],
    coe_sum_fin fun l => (out (halfRow X (prod A W)) G B r l - T r l) * (out (halfRow X (prod A W)) G B r l - T r l), width, div_real (by norm_num)]

theorem ref_loss (i : S1.Idx) : val_main_v93 (F := Ideal) a w x g b t i = ((∑ s ∈ Finset.range 4096, share (out (halfRow X (prod A W)) G B) T s : ℝ) : EReal) := by
  have e := ref_q ha hw hx hg hb ht
  idx_vars i
  pointwise [val_main_v93, val_main_v45, val_main_v44, val_main_cst_11, val_main_cst_12]
  rw [Finset.sum_congr rfl fun r _ => e r, coe_sum_fin fun r => (∑ l ∈ Finset.range 1024,
    (out (halfRow X (prod A W)) G B r l - T r l) * (out (halfRow X (prod A W)) G B r l - T r l)) / 1024, half_bits, ← EReal.coe_mul, Finset.mul_sum]
  rfl

end Cert.LossLnRefIdeal.Val

end
end
-- ==== Proof.LossLnClaim.lean ====
/- The layer's loss and its gradient agree with the reference's. -/
module

public import proofs.«01_k».proof.Defs
public import proofs.«01_k».proof.Proof.LossLnFinal
public import proofs.«01_k».proof.Proof.LossLnRef
public import proofs.«01_k».proof.Proof.Tables
public import proofs.«01_k».proof.Proof.Gen.LossLnRefIdeal.Read
public import proofs.«01_k».proof.Proof.Gen.LossLnRefIdeal.Run
public import proofs.«01_k».proof.Proof.Gen.Pre_loss_finite
public import Idealize.ShloMosaic.Lib.Claim

@[expose] public section

set_option maxRecDepth 16384

noncomputable section

open Idealize.ShloMosaic Idealize.ShloMosaic.TcCoe Idealize.SL.Sem
open Cert.RealSums Cert.Tables Cert.LossLnRefIdeal.Read Cert.LossLnRefIdeal.Val

namespace Cert.LossLn

attribute [local instance] Cert.LossLnIdeal.Gen.facts Cert.LossLnRefIdeal.Gen.facts Cert.Pre_loss_finite.Gen.facts

open Cert.LossLnIdeal in
/-- The arguments of one device under the precondition, as functions into the real numbers. -/
theorem reals_at (m : (ℓ : Loc nD τ sig) → Buf (Elt Ideal) ℓ) (hpre : Cert.Pre_LossLnIdeal_loss_finite m) (c : Dev nD) :
    ∃ A W X T G B, Val.Reals m A W X T G B c := by
  obtain ⟨h0, h1, h2, h3, h4, h5⟩ := hpre c
  have e3 := tab_eq (m ((c : Thread nD τ).loc main_arg3) : FVec Ideal S1x1024 .f32) fun i => ⟨_, real_of_one (congrFun h3 i)⟩
  have e4 := tab_eq (m ((c : Thread nD τ).loc main_arg4) : FVec Ideal S1x1024 .f32) fun i => ⟨_, real_of_one (congrFun h4 i)⟩
  exact ⟨_, _, _, _, _, _, ⟨tab_eq _ fun i => ⟨_, real_of_one (congrFun h0 i)⟩, tab_eq _ fun i => ⟨_, real_of_one (congrFun h1 i)⟩,
    tab_eq _ fun i => ⟨_, real_of_one (congrFun h2 i)⟩, fun l => e3 0 l, fun l => e4 0 l, tab_eq _ fun i => ⟨_, real_of_one (congrFun h5 i)⟩⟩⟩

/-- The reference runs, leaves its arguments unchanged and has no counters. -/
theorem frame_ref : Cert.quiescent_LossLnRefIdeal := fun m g _ =>
  (θ_run Cert.LossLnRefIdeal.defs _ _).mono (fun r h => ⟨fun c => (h c).2.2.2.2.2.2.2, sem_eq_zero_of_no_sems (by decide) r.2⟩)
    (Cert.LossLnRefIdeal.Value.run (F := Ideal) m g)

/-- The claim about the values. -/
theorem algebraic : Cert.algebraic_LossLnIdeal_LossLnRefIdeal_pre_loss_finite := by
  pair_intro
  · run_from Cert.LossLnIdeal.Val.run_main m g & Cert.LossLnIdeal.Gen.unchanged m g
  · run_from Cert.LossLnRefIdeal.Value.run m' g'
    · obtain ⟨a0, a1, a2, a3, a4, a5⟩ := hagree c
      obtain ⟨A, W, X, T, G, B, h⟩ := reals_at m hpre c
      rw [Cert.LossLnIdeal.Val.res_eq]
      funext y
      idx_vars y
      refine Eq.trans ?_ ((ref_y h.a h.w y0 y1).trans (Cert.LossLnIdeal.Val.res_y g h y0 y1).symm)
      pointwise [val_main_v89, val_main_v0]
    · obtain ⟨a0, a1, a2, a3, a4, a5⟩ := hagree c
      obtain ⟨A, W, X, T, G, B, h⟩ := reals_at m hpre c
      rw [val_main_v36_eq, Cert.LossLnIdeal.Val.res_eq]
      simp only [a0, a1, a2, a3, a4, a5]
      funext y
      idx_vars y
      exact (ref_o h.a h.w h.x h.g h.b y0 y1).trans (Cert.LossLnIdeal.Val.res_o g h y0 y1).symm
    · obtain ⟨a0, a1, a2, a3, a4, a5⟩ := hagree c
      obtain ⟨A, W, X, T, G, B, h⟩ := reals_at m hpre c
      rw [val_main_v88_eq, Cert.LossLnIdeal.Val.res_eq]
      simp only [a0, a1, a2, a3, a4, a5]
      funext y
      idx_vars y
      exact (ref_dx h.a h.w h.x h.g h.b h.t y0 y1).trans (Cert.LossLnIdeal.Val.res_dx g h y0 y1).symm
    · obtain ⟨a0, a1, a2, a3, a4, a5⟩ := hagree c
      obtain ⟨A, W, X, T, G, B, h⟩ := reals_at m hpre c
      rw [val_main_v90_eq, Cert.LossLnIdeal.Val.res_eq]
      simp only [a0, a1, a2, a3, a4, a5]
      funext y
      idx_vars y
      exact (ref_dy h.a h.w h.x h.g h.b h.t y0 y1).trans (Cert.LossLnIdeal.Val.res_dy g h y0 y1).symm
    · obtain ⟨a0, a1, a2, a3, a4, a5⟩ := hagree c
      obtain ⟨A, W, X, T, G, B, h⟩ := reals_at m hpre c
      rw [val_main_v91_eq, Cert.LossLnIdeal.Val.res_eq]
      simp only [a0, a1, a2, a3, a4, a5]
      funext y
      idx_vars y
      rw [Subsingleton.elim y0 0]
      exact (ref_dg h.a h.w h.x h.g h.b h.t y1).trans (Cert.LossLnIdeal.Val.res_dg g h y1).symm
    · obtain ⟨a0, a1, a2, a3, a4, a5⟩ := hagree c
      obtain ⟨A, W, X, T, G, B, h⟩ := reals_at m hpre c
      rw [val_main_v92_eq, Cert.LossLnIdeal.Val.res_eq]
      simp only [a0, a1, a2, a3, a4, a5]
      funext y
      idx_vars y
      rw [Subsingleton.elim y0 0]
      exact (ref_db h.a h.w h.x h.g h.b h.t y1).trans (Cert.LossLnIdeal.Val.res_db g h y1).symm
    · obtain ⟨a0, a1, a2, a3, a4, a5⟩ := hagree c
      obtain ⟨A, W, X, T, G, B, h⟩ := reals_at m hpre c
      rw [val_main_v93_eq, Cert.LossLnIdeal.Val.res_eq]
      simp only [a0, a1, a2, a3, a4, a5]
      funext y
      exact (ref_loss h.a h.w h.x h.g h.b h.t y).trans (Cert.LossLnIdeal.Val.res_loss g h y).symm

end Cert.LossLn

end
-- ==== Proof.MixLnRun.lean ====
/- Every run of the memory layer and the gradient into it ends with the buffers the program keeps at the last contents. -/
module

public import proofs.«01_k».proof.Proof.Gen.MixLnIdeal.Frame

@[expose] public section

set_option maxRecDepth 16384

noncomputable section

open Cert.MixLnIdeal Cert.MixLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MixLnIdeal.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing failing, with the buffers the program keeps at `W4` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.MixLnIdeal.Val

end
end
-- ==== Proof.MixLnPay.lean ====
/- The memory layer and the gradient into it: what each block of the two calls computes, as real formulas. -/
module

public import proofs.«01_k».proof.Proof.LnMath
public import proofs.«01_k».proof.Proof.FfnFinal
public import proofs.«01_k».proof.Proof.MixLnRun
public import Idealize.ShloMosaic.Lib.Pipeline.ValueKit

@[expose] public section

set_option maxRecDepth 16384

noncomputable section

namespace Cert.Mix

open Cert.Ln Cert.Gate

/-- The layer's product. -/
def prod (A W : ℕ → ℕ → ℝ) (t l : ℕ) : ℝ := ∑ k ∈ Finset.range 1024, A t k * W k l

/-- What is normalised: the residual and the product. -/
def row (X Y : ℕ → ℕ → ℝ) (t l : ℕ) : ℝ := alpha * X t l + Y t l

/-- The gradient at the layer's result: what comes in and the product with the next weights. -/
def cot (C D V : ℕ → ℕ → ℝ) (t l : ℕ) : ℝ := (∑ j ∈ Finset.range 5632, D t j * V l j) + C t l

theorem col_lt {r : ℕ} (h : r < 5632) : col r < 5632 := by unfold col; omega

theorem row_col {r : ℕ} (h : r < 5632) : col r / 256 % 11 * 512 + col r / 2816 * 256 + col r % 256 = r := by
  have h0 : r = 512 * (r / 512) + 256 * (r / 256 % 2) + r % 256 := by omega
  have h1 : r / 512 < 11 := by omega
  have h2 : r / 256 % 2 < 2 := by omega
  have h3 : r % 256 < 256 := by omega
  unfold col
  generalize r / 512 = q at *
  generalize r / 256 % 2 = p at *
  generalize r % 256 = l at *
  have e0 : (2816 * p + 256 * q + l) / 256 = 11 * p + q := by omega
  have e1 : (2816 * p + 256 * q + l) / 2816 = p := by omega
  have e2 : (2816 * p + 256 * q + l) % 256 = l := by omega
  rw [e0, e1, e2]
  omega

/-- A sum in the interleaved order is the plain one. -/
theorem sum_col (f : ℕ → ℝ) : ∑ r ∈ Finset.range 5632, f (col r) = ∑ j ∈ Finset.range 5632, f j := by
  refine Finset.sum_nbij' col (fun x => x / 256 % 11 * 512 + x / 2816 * 256 + x % 256) (fun r h => ?_) (fun x h => ?_) (fun r h => ?_) (fun x h => ?_) fun _ _ => rfl
  · exact Finset.mem_range.mpr (col_lt (Finset.mem_range.mp h))
  · have := Finset.mem_range.mp h
    exact Finset.mem_range.mpr (by omega)
  · exact row_col (Finset.mem_range.mp h)
  · exact col_row (Finset.mem_range.mp h)

end Cert.Mix

open Idealize.ShloMosaic Idealize.ShloMosaic.TcCoe Idealize.SL.Sem
open Cert.MixLnIdeal Cert.MixLnIdeal.Gen Cert.RealSums Cert.Mix

namespace Cert.MixLnIdeal.Val

open Cert.Ln (alpha alpha_bits width dev rs hat out grad out_row dev_row rs_row back_row)

variable {A W X Y Z C D V : ℕ → ℕ → ℝ} {G B : ℕ → ℝ} {i : ℕ}

/-! ## The first call -/

theorem y_read (x : FVec Ideal S512x1024 .bf16) (w : FVec Ideal S1x1024x1024 .bf16) (hx : ∀ (r : Fin 512) (k : Fin 1024), x (ix2 r k) = (A (512 * i + r) k : EReal))
    (hw : ∀ (k : Fin 1024) (l : Fin 1024), w (ix3 0 k l) = (W k l : EReal)) (r : Fin 512) (l : Fin 1024) :
    k0_pay3 (F := Ideal) x w (ix2 r l) = (prod A W (512 * i + r) l : EReal) := by
  pointwise [k0_pay3]
  rw [prod, ← coe_sum_fin fun k => A (512 * i + r) k * W k l]
  refine Finset.sum_congr rfl fun k _ => ?_
  rw [EReal.coe_mul, ← hx, ← hw]

theorem out_read (x : FVec Ideal S512x1024 .bf16) (w : FVec Ideal S1x1024x1024 .bf16) (u : FVec Ideal S512x1024 .f32) (g b : FVec Ideal S1x1024 .f32)
    (hy : ∀ (r : Fin 512) (l : Fin 1024), k0_pay3 (F := Ideal) x w (ix2 r l) = (Y (512 * i + r) l : EReal))
    (hu : ∀ (r : Fin 512) (l : Fin 1024), u (ix2 r l) = (X (512 * i + r) l : EReal))
    (hg : ∀ l : Fin 1024, g (ix2 0 l) = (G l : EReal)) (hb : ∀ l : Fin 1024, b (ix2 0 l) = (B l : EReal)) (r : Fin 512) (l : Fin 1024) :
    k0_pay5 (F := Ideal) x w u g b (ix2 r l) = (out (row X Y) G B (512 * i + r) l : EReal) := by
  unfold k0_pay5
  generalize k0_pay3 (F := Ideal) x w = y at hy ⊢
  pointwise
  rw [hg, hb]
  refine out_row (f := fun l => Ideal.ofBits .f32 0x3FB504F3#32 * u (ix2 r l) + y (ix2 r l)) (z := row X Y (512 * i + r)) (fun l => ?_) l
  rw [hu, hy, alpha_bits, ← EReal.coe_mul, ← EReal.coe_add, row]

/-! ## The second call -/

theorem cot_read (x : FVec Ideal S256x5632 .bf16) (w : FVec Ideal S1x5632x1024 .bf16) (a : FVec Ideal S256x1024 .f32)
    (hx : ∀ (r : Fin 256) (k : Fin 5632), x (ix2 r k) = (D (256 * i + r) (Cert.Gate.col k) : EReal))
    (hw : ∀ (k : Fin 5632) (l : Fin 1024), w (ix3 0 k l) = (V l (Cert.Gate.col k) : EReal))
    (ha : ∀ (r : Fin 256) (l : Fin 1024), a (ix2 r l) = (C (256 * i + r) l : EReal)) (r : Fin 256) (l : Fin 1024) :
    k1_pay4 (F := Ideal) x w a (ix2 r l) = (cot C D V (256 * i + r) l : EReal) := by
  pointwise [k1_pay4]
  rw [ha, cot, ← sum_col fun j => D (256 * i + r) j * V l j, EReal.coe_add,
    ← coe_sum_fin fun k => D (256 * i + r) (Cert.Gate.col k) * V l (Cert.Gate.col k)]
  refine congrArg (· + (C (256 * i + r) l : EReal)) (Finset.sum_congr rfl fun k _ => ?_)
  rw [EReal.coe_mul, ← hx, ← hw]

section
variable (u : FVec Ideal S256x1024 .f32) (y : FVec Ideal S256x1024 .bf16) (hu : ∀ (r : Fin 256) (l : Fin 1024), u (ix2 r l) = (X (256 * i + r) l : EReal))
  (hy : ∀ (r : Fin 256) (l : Fin 1024), y (ix2 r l) = (Y (256 * i + r) l : EReal))
include hu hy

theorem dev_read (r : Fin 256) (l : Fin 1024) : k1_pay5 (F := Ideal) u y (ix2 r l) = (dev (row X Y (256 * i + r)) l : EReal) := by
  pointwise [k1_pay5]
  refine dev_row (f := fun l => Ideal.ofBits .f32 0x3FB504F3#32 * u (ix2 r l) + y (ix2 r l)) (z := row X Y (256 * i + r)) (fun l => ?_) l
  rw [hu, hy, alpha_bits, ← EReal.coe_mul, ← EReal.coe_add, row]

theorem rs_read (r : Fin 256) : k1_pay6 (F := Ideal) u y (ix2 r 0) = (rs (row X Y (256 * i + r)) : EReal) := by
  have h := dev_read u y hu hy
  unfold k1_pay6
  generalize k1_pay5 (F := Ideal) u y = z at h ⊢
  pointwise
  exact rs_row (g := fun l => z (ix2 r l)) (h r)

theorem rs_wide (r : Fin 256) (l : Fin 1024) : k1_pay7 (F := Ideal) u y (ix2 r l) = (rs (row X Y (256 * i + r)) : EReal) := by
  have h := rs_read u y hu hy r
  unfold k1_pay7
  generalize k1_pay6 (F := Ideal) u y = z at h ⊢
  pointwise
  exact h

end

section
variable (g : FVec Ideal S1x1024 .f32) (d q : FVec Ideal S256x1024 .f32) (s : FVec Ideal S256x1 .f32) (p : FVec Ideal S256x1024 .f32)
  (hq : ∀ (r : Fin 256) (l : Fin 1024), q (ix2 r l) = (dev (Z (256 * i + r)) l : EReal)) (hp : ∀ (r : Fin 256) (l : Fin 1024), p (ix2 r l) = (rs (Z (256 * i + r)) : EReal))
include hq hp

theorem hat_read (r : Fin 256) (l : Fin 1024) : k1_pay8 (F := Ideal) q p (ix2 r l) = (hat (Z (256 * i + r)) l : EReal) := by
  pointwise [k1_pay8]
  rw [hq, hp, ← EReal.coe_mul, hat]

variable (hd : ∀ (r : Fin 256) (l : Fin 1024), d (ix2 r l) = (D (256 * i + r) l : EReal))
include hd

theorem dg_read (a : FVec Ideal S1x1024 .f32) (l : Fin 1024) :
    k1_pay13 (F := Ideal) d q p a (ix2 0 l) = a (ix2 0 l) + ∑ r : Fin 256, ((D (256 * i + r) l * hat (Z (256 * i + r)) l : ℝ) : EReal) := by
  have h := hat_read q p hq hp
  unfold k1_pay13
  generalize k1_pay8 (F := Ideal) q p = y at h ⊢
  pointwise
  exact congrArg (a (ix2 0 l) + ·) (Finset.sum_congr rfl fun r _ => by rw [hd, h, EReal.coe_mul])

omit hq hp in
theorem db_read (l : Fin 1024) : k1_pay10 (F := Ideal) d (ix2 0 l) = ∑ r : Fin 256, (D (256 * i + r) l : EReal) := by
  pointwise [k1_pay10]
  exact Finset.sum_congr rfl fun r _ => by rw [hd]

variable (hs : ∀ r : Fin 256, s (ix2 r 0) = (rs (Z (256 * i + r)) : EReal)) (hg : ∀ l : Fin 1024, g (ix2 0 l) = (G l : EReal))
include hs hg

theorem back_read (r : Fin 256) (l : Fin 1024) : k1_pay9 (F := Ideal) g d q s p (ix2 r l) = (grad Z D G (256 * i + r) l : EReal) := by
  have h := hat_read q p hq hp
  unfold k1_pay9
  generalize k1_pay8 (F := Ideal) q p = y at h ⊢
  pointwise
  exact back_row (p := fun l => d (ix2 r l) * g (ix2 0 l)) (q := fun l => y (ix2 r l)) (e := fun l => D (256 * i + r) l * G l)
    (fun l => by rw [hd, hg, EReal.coe_mul]) (h r) (hs r) l

theorem dx_read (r : Fin 256) (l : Fin 1024) : k1_pay11 (F := Ideal) g d q s p (ix2 r l) = ((alpha * grad Z D G (256 * i + r) l : ℝ) : EReal) := by
  have h := back_read g d q s p hq hp hd hs hg r l
  unfold k1_pay11
  generalize k1_pay9 (F := Ideal) g d q s p = y at h ⊢
  pointwise
  rw [h, alpha_bits, ← EReal.coe_mul]

theorem dy_read (r : Fin 256) (l : Fin 1024) : k1_pay12 (F := Ideal) g d q s p (ix2 r l) = (grad Z D G (256 * i + r) l : EReal) := by
  have h := back_read g d q s p hq hp hd hs hg r l
  unfold k1_pay12
  generalize k1_pay9 (F := Ideal) g d q s p = y at h ⊢
  pointwise
  exact h

end

end Cert.MixLnIdeal.Val

end
end
-- ==== Proof.MixLnFinal.lean ====
/- The memory layer and the gradient into it: the two calls' result arrays as real formulas. -/
module

public import proofs.«01_k».proof.Proof.MixLnPay
public import Idealize.ShloMosaic.Lib.Pipeline.ValueKit
public import Idealize.ShloMosaic.Lib.Claim
public import Idealize.ShloMosaic.Lib.StableHlo.RunClose
public import Idealize.ShloMosaic.Lib.StableHlo.RunRead

@[expose] public section

set_option maxRecDepth 16384

noncomputable section

open Idealize.ShloMosaic Idealize.ShloMosaic.TcCoe Idealize.SL.Sem
open Cert.MixLnIdeal Cert.MixLnIdeal.Gen Cert.RealSums Cert.Mix Cert.Tables
open Cert.Gate (col)
open Cert.Ln (alpha dev rs hat out grad grow start)

namespace Cert.MixLnIdeal.Val

theorem lt0 (t : Fin cfg0.N) : t.val < 8 := lt_of_lt_of_eq t.isLt (show cfg0.N = 8 from rfl)

theorem lt1 (t : Fin cfg1.N) : t.val < 16 := lt_of_lt_of_eq t.isLt (show cfg1.N = 16 from rfl)

/-- Where each window stands at each point of the first call. -/
theorem idx0 : ∀ t : Fin cfg0.N, win0_0.index t = ![t.val, 0] ∧ win0_1.index t = ![0, 0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

/-- Where each window stands at each point of the second call. -/
theorem idx1 : ∀ t : Fin cfg1.N, win1_0.index t = ![t.val, 0] ∧ win1_1.index t = ![0, 0, 0] ∧ win1_2.index t = ![t.val, 0] ∧ win1_3.index t = ![t.val, 0]
    ∧ win1_4.index t = ![t.val, 0] ∧ win1_5.index t = ![0, 0] ∧ win1_6.index t = ![t.val, 0] ∧ win1_7.index t = ![t.val, 0] :=
  (by decide +kernel : ∀ t : Fin grid1.N, _)

variable (m : (ℓ : Loc nD τ sig) → Buf (Elt Ideal) ℓ) (ρ : Dev nD → PrngReg)

/-- One device's arguments as functions into the real numbers. -/
structure Reals (A W X C D V : ℕ → ℕ → ℝ) (G B : ℕ → ℝ) (c : Dev nD) : Prop where
  a (r : Fin 4096) (k : Fin 1024) : (m ((c : Thread nD τ).loc main_arg0) : FVec Ideal S4096x1024 .f32) (ix2 r k) = (A r k : EReal)
  w (k : Fin 1024) (l : Fin 1024) : (m ((c : Thread nD τ).loc main_arg1) : FVec Ideal S1024x1024 .f32) (ix2 k l) = (W k l : EReal)
  x (r : Fin 4096) (l : Fin 1024) : (m ((c : Thread nD τ).loc main_arg2) : FVec Ideal S4096x1024 .f32) (ix2 r l) = (X r l : EReal)
  g (l : Fin 1024) : (m ((c : Thread nD τ).loc main_arg3) : FVec Ideal S1x1024 .f32) (ix2 0 l) = (G l : EReal)
  b (l : Fin 1024) : (m ((c : Thread nD τ).loc main_arg4) : FVec Ideal S1x1024 .f32) (ix2 0 l) = (B l : EReal)
  s (r : Fin 4096) (l : Fin 1024) : (m ((c : Thread nD τ).loc main_arg5) : FVec Ideal S4096x1024 .f32) (ix2 r l) = (C r l : EReal)
  d (r : Fin 4096) (k : Fin 5632) : (m ((c : Thread nD τ).loc main_arg6) : FVec Ideal S4096x5632 .f32) (ix2 r k) = (D r k : EReal)
  v (l : Fin 1024) (k : Fin 5632) : (m ((c : Thread nD τ).loc main_arg7) : FVec Ideal S1024x5632 .f32) (ix2 l k) = (V l k : EReal)

variable {m}
variable {A W X C D V : ℕ → ℕ → ℝ} {G B : ℕ → ℝ} {c : Dev nD} (h : Reals m A W X C D V G B c)
include h

/-! ## The first call -/

theorem op_a (r : Fin 4096) (k : Fin 1024) : (V1 m ρ c main_v0 : FVec Ideal S4096x1024 .bf16) (ix2 r k) = (A r k : EReal) := by
  rw [← h.a]
  show StableHlo.after hostOps0 _ (Proc.devRef .tc main_v0) _ = _
  after_reads_simp
  pointwise

theorem op_w (k : Fin 1024) (l : Fin 1024) : (V1 m ρ c main_v2 : FVec Ideal S1x1024x1024 .bf16) (ix3 0 k l) = (W k l : EReal) := by
  rw [← h.w]
  show StableHlo.after hostOps0 _ (Proc.devRef .tc main_v2) _ = _
  after_reads_simp
  pointwise

theorem in_x (r : Fin 4096) (l : Fin 1024) : (V1 m ρ c main_arg2 : FVec Ideal S4096x1024 .f32) (ix2 r l) = (X r l : EReal) :=
  (congrFun (W1_args m ρ c main_arg2 (by decide +kernel)) _).trans (h.x r l)

theorem in_g (l : Fin 1024) : (V1 m ρ c main_arg3 : FVec Ideal S1x1024 .f32) (ix2 0 l) = (G l : EReal) :=
  (congrFun (W1_args m ρ c main_arg3 (by decide +kernel)) _).trans (h.g l)

theorem in_b (l : Fin 1024) : (V1 m ρ c main_arg4 : FVec Ideal S1x1024 .f32) (ix2 0 l) = (B l : EReal) :=
  (congrFun (W1_args m ρ c main_arg4 (by decide +kernel)) _).trans (h.b l)

/-- The product at each block. -/
theorem block_y (t : Fin cfg0.N) (r : Fin 512) (l : Fin 1024) :
    k0_pay3 (F := Ideal) (iblk0 (V1 m ρ) c 0 t) (iblk0 (V1 m ρ) c 1 t) (ix2 r l) = (prod A W (512 * t.val + r) l : EReal) := by
  have ht := lt0 t
  refine y_read _ _ (fun r k => ?_) (fun k l => ?_) r l
  · refine Eq.trans ?_ (op_a ρ h ⟨512 * t.val + r, by omega⟩ k)
    blk_ext [iblk0, idx0 t]
  · refine Eq.trans ?_ (op_w ρ h k l)
    blk_ext [iblk0, idx0 t]

theorem final0_5 (r : Fin 4096) (l : Fin 1024) : (dat0 (V1 m ρ) c).arrAt 5 cfg0.N (ix2 r l) = (prod A W r l : EReal) := by
  have e : (dat0 (V1 m ρ) c).arrAt 5 cfg0.N = (fun i => (prod A W (i 0 : ℕ) (i 1 : ℕ) : EReal) : FVec Ideal S4096x1024 .bf16) := by
    refine (dat0 (V1 m ρ) c).arrAt_eq_of_covers 5 _ (by decide +kernel) (fun t hf y => ?_)
    idx_vars y
    blk_simp [idx0 t]
    rw [after0_5]
    frame_out
    rw [Nat.mul_comm _ 512, ← block_y ρ h t y0 y1]
    unfold k0_pay4
    generalize k0_pay3 (F := Ideal) (iblk0 (V1 m ρ) c 0 t) (iblk0 (V1 m ρ) c 1 t) = z
    pointwise
  exact congrFun e (ix2 r l)

theorem final0_6 (r : Fin 4096) (l : Fin 1024) :
    (dat0 (V1 m ρ) c).arrAt 6 cfg0.N (ix2 r l) = (out (row X (prod A W)) G B r l : EReal) := by
  have e : (dat0 (V1 m ρ) c).arrAt 6 cfg0.N = (fun i => (out (row X (prod A W)) G B (i 0 : ℕ) (i 1 : ℕ) : EReal) : FVec Ideal S4096x1024 .f32) := by
    refine (dat0 (V1 m ρ) c).arrAt_eq_of_covers 6 _ (by decide +kernel) (fun t hf y => ?_)
    have ht := lt0 t
    idx_vars y
    blk_simp [idx0 t]
    rw [after0_6]
    frame_out
    rw [Nat.mul_comm _ 512]
    refine Eq.trans ?_ (out_read _ _ (iblk0 (V1 m ρ) c 2 t) (iblk0 (V1 m ρ) c 3 t) (iblk0 (V1 m ρ) c 4 t) (block_y ρ h t) (fun r l => ?_) (fun l => ?_) (fun l => ?_) y0 y1)
    · unfold k0_pay6
      frame_out
      generalize k0_pay5 (F := Ideal) (iblk0 (V1 m ρ) c 0 t) (iblk0 (V1 m ρ) c 1 t) (iblk0 (V1 m ρ) c 2 t) (iblk0 (V1 m ρ) c 3 t) (iblk0 (V1 m ρ) c 4 t) = z
      pointwise [k0_pay1]
    · refine Eq.trans ?_ (in_x ρ h ⟨512 * t.val + r, by omega⟩ l)
      blk_ext [iblk0, idx0 t]
    · refine Eq.trans ?_ (in_g ρ h l)
      blk_ext [iblk0, idx0 t]
    · refine Eq.trans ?_ (in_b ρ h l)
      blk_ext [iblk0, idx0 t]
  exact congrFun e (ix2 r l)

/-! ## The second call -/

theorem op_y (r : Fin 4096) (l : Fin 1024) : (V3 m ρ c main_v3_0 : FVec Ideal S4096x1024 .bf16) (ix2 r l) = (prod A W r l : EReal) :=
  (congrFun ((W3_of m ρ c main_v3_0 (by decide +kernel)).trans (W2_arr m ρ c 5)) _).trans (final0_5 ρ h r l)

theorem op_o (r : Fin 4096) (l : Fin 1024) : (V3 m ρ c main_v3_1 : FVec Ideal S4096x1024 .f32) (ix2 r l) = (out (row X (prod A W)) G B r l : EReal) :=
  (congrFun ((W3_of m ρ c main_v3_1 (by decide +kernel)).trans (W2_arr m ρ c 6)) _).trans (final0_6 ρ h r l)

theorem op_x (r : Fin 4096) (l : Fin 1024) : (V3 m ρ c main_arg2 : FVec Ideal S4096x1024 .f32) (ix2 r l) = (X r l : EReal) :=
  (congrFun (W3_args m ρ c main_arg2 (by decide +kernel)) _).trans (h.x r l)

theorem op_g (l : Fin 1024) : (V3 m ρ c main_arg3 : FVec Ideal S1x1024 .f32) (ix2 0 l) = (G l : EReal) :=
  (congrFun (W3_args m ρ c main_arg3 (by decide +kernel)) _).trans (h.g l)

theorem op_s (r : Fin 4096) (l : Fin 1024) : (V3 m ρ c main_arg5 : FVec Ideal S4096x1024 .f32) (ix2 r l) = (C r l : EReal) :=
  (congrFun (W3_args m ρ c main_arg5 (by decide +kernel)) _).trans (h.s r l)

theorem op_d (r : Fin 4096) (k : Fin 5632) : (V3 m ρ c main_v13 : FVec Ideal S4096x5632 .bf16) (ix2 r k) = (D r (col k) : EReal) := by
  have hc : col k < 5632 := by unfold col; omega
  refine Eq.trans ?_ (h.d r ⟨col k, hc⟩)
  rw [← W2_args m ρ c main_arg6 (by decide +kernel)]
  show StableHlo.after hostOps1 _ (Proc.devRef .tc main_v13) _ = _
  generalize W2 m ρ c = Q
  after_reads_simp
  pointwise
  exact at2 (Q (Proc.devRef .tc main_arg6) : FVec Ideal S4096x5632 .f32) rfl (by show k.val / 256 % 2 * 2816 + k.val / 512 * 256 + k.val % 256 = col k; unfold col; omega)

theorem op_v (k : Fin 5632) (l : Fin 1024) : (V3 m ρ c main_v9 : FVec Ideal S1x5632x1024 .bf16) (ix3 0 k l) = (V l (col k) : EReal) := by
  have hc : col k < 5632 := by unfold col; omega
  refine Eq.trans ?_ (h.v l ⟨col k, hc⟩)
  rw [← W2_args m ρ c main_arg7 (by decide +kernel)]
  show StableHlo.after hostOps1 _ (Proc.devRef .tc main_v9) _ = _
  generalize W2 m ρ c = Q
  after_reads_simp
  pointwise
  exact at2 (Q (Proc.devRef .tc main_arg7) : FVec Ideal S1024x5632 .f32) rfl (by show k.val / 256 % 2 * 2816 + k.val / 512 * 256 + k.val % 256 = col k; unfold col; omega)

section
variable (t : Fin cfg1.N)

theorem blk_x (r : Fin 256) (l : Fin 1024) : (iblk1 (V3 m ρ) c 3 t : FVec Ideal S256x1024 .f32) (ix2 r l) = (X (256 * t.val + r) l : EReal) := by
  have ht := lt1 t
  refine Eq.trans ?_ (op_x ρ h ⟨256 * t.val + r, by omega⟩ l)
  blk_ext [iblk1, idx1 t]

theorem blk_y (r : Fin 256) (l : Fin 1024) : (iblk1 (V3 m ρ) c 4 t : FVec Ideal S256x1024 .bf16) (ix2 r l) = (prod A W (256 * t.val + r) l : EReal) := by
  have ht := lt1 t
  refine Eq.trans ?_ (op_y ρ h ⟨256 * t.val + r, by omega⟩ l)
  blk_ext [iblk1, idx1 t]

theorem blk_g (l : Fin 1024) : (iblk1 (V3 m ρ) c 5 t : FVec Ideal S1x1024 .f32) (ix2 0 l) = (G l : EReal) := by
  refine Eq.trans ?_ (op_g ρ h l)
  blk_ext [iblk1, idx1 t]

theorem blk_dev (r : Fin 256) (l : Fin 1024) :
    k1_pay5 (F := Ideal) (iblk1 (V3 m ρ) c 3 t) (iblk1 (V3 m ρ) c 4 t) (ix2 r l) = (dev (row X (prod A W) (256 * t.val + r)) l : EReal) :=
  dev_read _ _ (blk_x ρ h t) (blk_y ρ h t) r l

theorem blk_rs (r : Fin 256) :
    k1_pay6 (F := Ideal) (iblk1 (V3 m ρ) c 3 t) (iblk1 (V3 m ρ) c 4 t) (ix2 r 0) = (rs (row X (prod A W) (256 * t.val + r)) : EReal) :=
  rs_read _ _ (blk_x ρ h t) (blk_y ρ h t) r

theorem blk_wide (r : Fin 256) (l : Fin 1024) :
    k1_pay7 (F := Ideal) (iblk1 (V3 m ρ) c 3 t) (iblk1 (V3 m ρ) c 4 t) (ix2 r l) = (rs (row X (prod A W) (256 * t.val + r)) : EReal) :=
  rs_wide _ _ (blk_x ρ h t) (blk_y ρ h t) r l

/-- The gradient at the layer's result, at each block. -/
theorem blk_d (r : Fin 256) (l : Fin 1024) :
    k1_pay4 (F := Ideal) (iblk1 (V3 m ρ) c 0 t) (iblk1 (V3 m ρ) c 1 t) (iblk1 (V3 m ρ) c 2 t) (ix2 r l) = (cot C D V (256 * t.val + r) l : EReal) := by
  have ht := lt1 t
  refine cot_read _ _ _ (fun r k => ?_) (fun k l => ?_) (fun r l => ?_) r l
  · refine Eq.trans ?_ (op_d ρ h ⟨256 * t.val + r, by omega⟩ k)
    blk_ext [iblk1, idx1 t]
  · refine Eq.trans ?_ (op_v ρ h k l)
    blk_ext [iblk1, idx1 t]
  · refine Eq.trans ?_ (op_s ρ h ⟨256 * t.val + r, by omega⟩ l)
    blk_ext [iblk1, idx1 t]

theorem left6 (r : Fin 256) (l : Fin 1024) : (outsAt1 (V3 m ρ) c t.val t.isLt).1 (ix2 r l)
    = ((alpha * grad (row X (prod A W)) (cot C D V) G (256 * t.val + r) l : ℝ) : EReal) := by
  by_cases h0 : t.val % 16 = 0
  · rw [outsAt1_A _ c t h0]
    frame_out
    exact dx_read _ _ _ _ _ (blk_dev ρ h t) (blk_wide ρ h t) (blk_d ρ h t) (blk_rs ρ h t) (blk_g ρ h t) r l
  · rw [outsAt1_B _ c t h0]
    frame_out
    exact dx_read _ _ _ _ _ (blk_dev ρ h t) (blk_wide ρ h t) (blk_d ρ h t) (blk_rs ρ h t) (blk_g ρ h t) r l

theorem left7 (r : Fin 256) (l : Fin 1024) : (outsAt1 (V3 m ρ) c t.val t.isLt).2.1 (ix2 r l)
    = (grad (row X (prod A W)) (cot C D V) G (256 * t.val + r) l : EReal) := by
  by_cases h0 : t.val % 16 = 0
  · rw [outsAt1_A _ c t h0]
    frame_out
    exact dy_read _ _ _ _ _ (blk_dev ρ h t) (blk_wide ρ h t) (blk_d ρ h t) (blk_rs ρ h t) (blk_g ρ h t) r l
  · rw [outsAt1_B _ c t h0]
    frame_out
    exact dy_read _ _ _ _ _ (blk_dev ρ h t) (blk_wide ρ h t) (blk_d ρ h t) (blk_rs ρ h t) (blk_g ρ h t) r l

end

/-- The running gradient of the scales. -/
theorem left8 (l : Fin 1024) : ∀ (n : ℕ) (hn : n < cfg1.N), (outsAt1 (V3 m ρ) c n hn).2.2.1 (ix2 0 l)
    = ((∑ s ∈ Finset.range (256 * (n + 1)), cot C D V s l * hat (row X (prod A W) s) l : ℝ) : EReal)
  | 0, hn => by
    have e : outsAt1 (V3 m ρ) c 0 hn = _ := outsAt1_A _ c ⟨0, hn⟩ rfl
    rw [e]
    frame_out
    refine (dg_read _ _ _ (blk_dev ρ h ⟨0, hn⟩) (blk_wide ρ h ⟨0, hn⟩) (blk_d ρ h ⟨0, hn⟩) _ l).trans ?_
    rw [← start]
    pointwise [k1_pay2]
  | n + 1, hn => by
    have e : outsAt1 (V3 m ρ) c (n + 1) hn = _ := outsAt1_B _ c ⟨n + 1, hn⟩ (by have := lt1 ⟨n + 1, hn⟩; simp only [] at this ⊢; omega)
    rw [e]
    frame_out
    refine (dg_read _ _ _ (blk_dev ρ h ⟨n + 1, hn⟩) (blk_wide ρ h ⟨n + 1, hn⟩) (blk_d ρ h ⟨n + 1, hn⟩) _ l).trans ?_
    rw [← grow (n + 1), ← left8 l n (by omega)]
    rfl

/-- The running gradient of the shifts. -/
theorem left9 (l : Fin 1024) : ∀ (n : ℕ) (hn : n < cfg1.N), (outsAt1 (V3 m ρ) c n hn).2.2.2 (ix2 0 l)
    = ((∑ s ∈ Finset.range (256 * (n + 1)), cot C D V s l : ℝ) : EReal)
  | 0, hn => by
    have e : outsAt1 (V3 m ρ) c 0 hn = _ := outsAt1_A _ c ⟨0, hn⟩ rfl
    rw [e]
    frame_out
    rw [← start, ← db_read _ (blk_d ρ h ⟨0, hn⟩)]
    generalize k1_pay10 (F := Ideal) _ = y
    pointwise [k1_pay1, k1_pay3]
  | n + 1, hn => by
    have e : outsAt1 (V3 m ρ) c (n + 1) hn = _ := outsAt1_B _ c ⟨n + 1, hn⟩ (by have := lt1 ⟨n + 1, hn⟩; simp only [] at this ⊢; omega)
    rw [e]
    frame_out
    rw [← grow (n + 1), ← left9 l n (by omega), ← db_read _ (blk_d ρ h ⟨n + 1, hn⟩)]
    generalize k1_pay10 (F := Ideal) _ = y
    pointwise [k1_pay1]
    rfl

theorem final1_6 (r : Fin 4096) (l : Fin 1024) : (dat1 (V3 m ρ) c).arrAt 6 cfg1.N (ix2 r l)
    = ((alpha * grad (row X (prod A W)) (cot C D V) G r l : ℝ) : EReal) := by
  have e : (dat1 (V3 m ρ) c).arrAt 6 cfg1.N
      = (fun i => ((alpha * grad (row X (prod A W)) (cot C D V) G (i 0 : ℕ) (i 1 : ℕ) : ℝ) : EReal) : FVec Ideal S4096x1024 .f32) := by
    refine (dat1 (V3 m ρ) c).arrAt_eq_of_covers 6 _ (by decide +kernel) (fun t hf y => ?_)
    idx_vars y
    blk_simp [idx1 t]
    rw [after1_6, left6 ρ h, Nat.mul_comm]
  exact congrFun e (ix2 r l)

theorem final1_7 (r : Fin 4096) (l : Fin 1024) : (dat1 (V3 m ρ) c).arrAt 7 cfg1.N (ix2 r l) = (grad (row X (prod A W)) (cot C D V) G r l : EReal) := by
  have e : (dat1 (V3 m ρ) c).arrAt 7 cfg1.N
      = (fun i => (grad (row X (prod A W)) (cot C D V) G (i 0 : ℕ) (i 1 : ℕ) : EReal) : FVec Ideal S4096x1024 .bf16) := by
    refine (dat1 (V3 m ρ) c).arrAt_eq_of_covers 7 _ (by decide +kernel) (fun t hf y => ?_)
    idx_vars y
    blk_simp [idx1 t]
    rw [after1_7, left7 ρ h, Nat.mul_comm]
  exact congrFun e (ix2 r l)

theorem final1_8 (l : Fin 1024) : (dat1 (V3 m ρ) c).arrAt 8 cfg1.N (ix2 0 l)
    = ((∑ s ∈ Finset.range 4096, cot C D V s l * hat (row X (prod A W) s) l : ℝ) : EReal) := by
  have e : (dat1 (V3 m ρ) c).arrAt 8 cfg1.N = (fun i => ((∑ s ∈ Finset.range 4096,
      cot C D V s (i 1 : ℕ) * hat (row X (prod A W) s) (i 1 : ℕ) : ℝ) : EReal) : FVec Ideal S1x1024 .f32) := by
    refine (dat1 (V3 m ρ) c).arrAt_eq_of_after_last 8 t1_15 (by decide +kernel) _ fun y => ?_
    idx_vars y
    blk_simp
    rw [after1_8, Subsingleton.elim y0 0, left8 ρ h]
    rfl
  exact congrFun e (ix2 0 l)

theorem final1_9 (l : Fin 1024) : (dat1 (V3 m ρ) c).arrAt 9 cfg1.N (ix2 0 l)
    = ((∑ s ∈ Finset.range 4096, cot C D V s l : ℝ) : EReal) := by
  have e : (dat1 (V3 m ρ) c).arrAt 9 cfg1.N = (fun i => ((∑ s ∈ Finset.range 4096,
      cot C D V s (i 1 : ℕ) : ℝ) : EReal) : FVec Ideal S1x1024 .f32) := by
    refine (dat1 (V3 m ρ) c).arrAt_eq_of_after_last 9 t1_15 (by decide +kernel) _ fun y => ?_
    idx_vars y
    blk_simp
    rw [after1_9, Subsingleton.elim y0 0, left9 ρ h]
    rfl
  exact congrFun e (ix2 0 l)

/-! ## The results -/

theorem res_o (r : Fin 4096) (l : Fin 1024) :
    (W4 m ρ c (Proc.devRef .tc main_v3_1) : FVec Ideal S4096x1024 .f32) (ix2 r l) = (out (row X (prod A W)) G B r l : EReal) :=
  (congrFun (W4_of m ρ c main_v3_1 (by decide +kernel)) _).trans (op_o ρ h r l)

theorem res_dx (r : Fin 4096) (l : Fin 1024) : (W4 m ρ c (Proc.devRef .tc main_v14_0) : FVec Ideal S4096x1024 .f32) (ix2 r l)
    = ((alpha * grad (row X (prod A W)) (cot C D V) G r l : ℝ) : EReal) :=
  (congrFun (W4_arr m ρ c 6) _).trans (final1_6 ρ h r l)

theorem res_dy (r : Fin 4096) (l : Fin 1024) : (W4 m ρ c (Proc.devRef .tc main_v14_1) : FVec Ideal S4096x1024 .bf16) (ix2 r l)
    = (grad (row X (prod A W)) (cot C D V) G r l : EReal) :=
  (congrFun (W4_arr m ρ c 7) _).trans (final1_7 ρ h r l)

theorem res_dg (l : Fin 1024) : (W4 m ρ c (Proc.devRef .tc main_v14_2) : FVec Ideal S1x1024 .f32) (ix2 0 l)
    = ((∑ s ∈ Finset.range 4096, cot C D V s l * hat (row X (prod A W) s) l : ℝ) : EReal) :=
  (congrFun (W4_arr m ρ c 8) _).trans (final1_8 ρ h l)

theorem res_db (l : Fin 1024) : (W4 m ρ c (Proc.devRef .tc main_v14_3) : FVec Ideal S1x1024 .f32) (ix2 0 l)
    = ((∑ s ∈ Finset.range 4096, cot C D V s l : ℝ) : EReal) :=
  (congrFun (W4_arr m ρ c 9) _).trans (final1_9 ρ h l)

omit h
variable (m)

/-- The results at the end of a run. -/
@[irreducible] def res (c : Dev nD) : FVec Ideal S4096x1024 .f32 × FVec Ideal S4096x1024 .f32 × FVec Ideal S4096x1024 .bf16 × FVec Ideal S1x1024 .f32 × FVec Ideal S1x1024 .f32 :=
  (W4 m ρ c (Proc.devRef .tc main_v3_1), W4 m ρ c (Proc.devRef .tc main_v14_0), W4 m ρ c (Proc.devRef .tc main_v14_1),
    W4 m ρ c (Proc.devRef .tc main_v14_2), W4 m ρ c (Proc.devRef .tc main_v14_3))

theorem res_eq (c : Dev nD) : res m ρ c = (W4 m ρ c (Proc.devRef .tc main_v3_1), W4 m ρ c (Proc.devRef .tc main_v14_0), W4 m ρ c (Proc.devRef .tc main_v14_1),
    W4 m ρ c (Proc.devRef .tc main_v14_2), W4 m ρ c (Proc.devRef .tc main_v14_3)) := by
  unfold res
  rfl

set_option maxHeartbeats 1000000 in
/-- Every run ends with the results at `res`. -/
theorem run_main : θ_run defs (onTc (τ := τ) (main (F := Ideal))) ⟨m, fun _ => 0, ρ⟩ (fun r => ∀ c : Dev nD,
      r.2.mem ((c.tc : Thread nD τ).loc main_v3_1) = (res m ρ c).1
      ∧ r.2.mem ((c.tc : Thread nD τ).loc main_v14_0) = (res m ρ c).2.1
      ∧ r.2.mem ((c.tc : Thread nD τ).loc main_v14_1) = (res m ρ c).2.2.1
      ∧ r.2.mem ((c.tc : Thread nD τ).loc main_v14_2) = (res m ρ c).2.2.2.1
      ∧ r.2.mem ((c.tc : Thread nD τ).loc main_v14_3) = (res m ρ c).2.2.2.2) :=
  (θ_run defs _ _).mono (fun r h c => by
    rw [res_eq]
    exact ⟨h.1 c (Proc.devRef .tc main_v3_1) (mem_uc main_v3_1 (by decide +kernel)), h.1 c (Proc.devRef .tc main_v14_0) (mem_uc main_v14_0 (by decide +kernel)),
      h.1 c (Proc.devRef .tc main_v14_1) (mem_uc main_v14_1 (by decide +kernel)), h.1 c (Proc.devRef .tc main_v14_2) (mem_uc main_v14_2 (by decide +kernel)),
      h.1 c (Proc.devRef .tc main_v14_3) (mem_uc main_v14_3 (by decide +kernel))⟩) (run_all m ρ)

end Cert.MixLnIdeal.Val

end
end
-- ==== Proof.MixLnRef.lean ====
/- The memory layer and the gradient into it as the reference writes them, as real formulas. -/
module

public import proofs.«01_k».proof.Proof.MixLnPay
public import proofs.«01_k».proof.Proof.LnHost
public import proofs.«01_k».proof.Proof.Gen.MixLnRefIdeal.Read

@[expose] public section

set_option maxRecDepth 16384

noncomputable section

open Idealize.ShloMosaic Idealize.ShloMosaic.TcCoe Idealize.SL.Sem
open Cert.MixLnRefIdeal Cert.MixLnRefIdeal.Read Cert.RealSums Cert.Mix Cert.Ln.Host
open Cert.Ln (alpha alpha_bits hat out grad)

namespace Cert.MixLnRefIdeal.Val

attribute [local instance] Cert.MixLnRefIdeal.Gen.facts Cert.LossLnRefIdeal.Gen.facts

variable {A W X C D V : ℕ → ℕ → ℝ} {G B : ℕ → ℝ} {a x s : FVec Ideal S4096x1024 .f32} {w : FVec Ideal S1024x1024 .f32} {g b : FVec Ideal S1x1024 .f32}
  {d : FVec Ideal S4096x5632 .f32} {v : FVec Ideal S1024x5632 .f32}
variable (ha : ∀ (r : Fin 4096) (k : Fin 1024), a (ix2 r k) = (A r k : EReal)) (hw : ∀ (k : Fin 1024) (l : Fin 1024), w (ix2 k l) = (W k l : EReal))
  (hx : ∀ (r : Fin 4096) (l : Fin 1024), x (ix2 r l) = (X r l : EReal))
  (hg : ∀ l : Fin 1024, g (ix2 0 l) = (G l : EReal)) (hb : ∀ l : Fin 1024, b (ix2 0 l) = (B l : EReal))
  (hs : ∀ (r : Fin 4096) (l : Fin 1024), s (ix2 r l) = (C r l : EReal))
  (hd : ∀ (r : Fin 4096) (k : Fin 5632), d (ix2 r k) = (D r k : EReal)) (hv : ∀ (l : Fin 1024) (k : Fin 5632), v (ix2 l k) = (V l k : EReal))

section
include ha hw hx

theorem ref_z (r : Fin 4096) (l : Fin 1024) : val_main_v5 (F := Ideal) a w x (ix2 r l) = (row X (prod A W) r l : EReal) := by
  pointwise [val_main_v5, val_main_v4, val_main_v3, val_main_v0, val_main_cst]
  rw [Finset.sum_congr rfl fun k _ => by rw [ha, hw, ← EReal.coe_mul], coe_sum_fin fun k => A r k * W k l, hx, alpha_bits, ← EReal.coe_mul, ← EReal.coe_add]
  rfl

include hg hb

theorem ref_o (r : Fin 4096) (l : Fin 1024) : val_main_v34 (F := Ideal) a w x g b (ix2 r l) = (out (row X (prod A W)) G B r l : EReal) :=
  (congrFun (show val_main_v34 (F := Ideal) a w x g b = ln (val_main_v5 (F := Ideal) a w x) g b from rfl) _).trans
    (ln_read (ref_z ha hw hx) hg hb r l)

end

section
include hs hd hv

theorem ref_c (r : Fin 4096) (l : Fin 1024) : val_main_v37 (F := Ideal) s d v (ix2 r l) = (cot C D V r l : EReal) := by
  pointwise [val_main_v37, val_main_v36]
  rw [Finset.sum_congr rfl fun k _ => by rw [hd, hv, ← EReal.coe_mul], coe_sum_fin fun k => D r k * V l k, hs, ← EReal.coe_add, cot, add_comm]

theorem ref_d (r : Fin 4096) (l : Fin 1024) : val_main_v38 (F := Ideal) s d v (ix2 r l) = (cot C D V r l : EReal) := by
  have e := ref_c hs hd hv r l
  pointwise [val_main_v38]
  exact e

theorem ref_db (l : Fin 1024) : val_main_v76 (F := Ideal) s d v (ix2 0 l) = ((∑ t ∈ Finset.range 4096, cot C D V t l : ℝ) : EReal) :=
  (congrFun (show val_main_v76 (F := Ideal) s d v = colSum (val_main_v37 (F := Ideal) s d v) from rfl) _).trans
    (colSum_read (ref_c hs hd hv) l)

include ha hw hx

theorem ref_dg (l : Fin 1024) : val_main_v75 (F := Ideal) a w x s d v (ix2 0 l)
    = ((∑ t ∈ Finset.range 4096, cot C D V t l * hat (row X (prod A W) t) l : ℝ) : EReal) :=
  (congrFun (show val_main_v75 (F := Ideal) a w x s d v = colSum (val_main_v42 (F := Ideal) a w x s d v) from rfl) _).trans
    (colSum_read (E := fun t l => cot C D V t l * hat (row X (prod A W) t) l) (fun t l => by
      have e0 := ref_d hs hd hv t l
      have e1 := nrm_read (ref_z ha hw hx) t l
      show nrm (val_main_v5 (F := Ideal) a w x) (ix2 t l) * val_main_v38 (F := Ideal) s d v (ix2 t l) = _
      rw [e0, e1, mul_comm, EReal.coe_mul]) l)

include hg

theorem ref_e (r : Fin 4096) (l : Fin 1024) : val_main_v46 (F := Ideal) g s d v (ix2 r l) = ((cot C D V r l * G l : ℝ) : EReal) :=
  (congrFun (show val_main_v46 (F := Ideal) g s d v = scaled (val_main_v38 (F := Ideal) s d v) g from rfl) _).trans
    (scaled_read (ref_d hs hd hv) hg r l)

theorem ref_dz (r : Fin 4096) (l : Fin 1024) : val_main_v71 (F := Ideal) a w x g s d v (ix2 r l) = (grad (row X (prod A W)) (cot C D V) G r l : EReal) :=
  (congrFun (show val_main_v71 (F := Ideal) a w x g s d v = dz (val_main_v5 (F := Ideal) a w x) (val_main_v46 (F := Ideal) g s d v) from rfl) _).trans
    (dz_read (E := fun r l => cot C D V r l * G l) (ref_z ha hw hx) (ref_e ha hw hx hg hs hd hv) r l)

theorem ref_dx (r : Fin 4096) (l : Fin 1024) : val_main_v73 (F := Ideal) a w x g s d v (ix2 r l)
    = ((alpha * grad (row X (prod A W)) (cot C D V) G r l : ℝ) : EReal) := by
  have e := ref_dz ha hw hx hg hs hd hv r l
  pointwise [val_main_v73, val_main_v72, val_main_cst_18]
  rw [e, alpha_bits, ← EReal.coe_mul]

theorem ref_dy (r : Fin 4096) (l : Fin 1024) : val_main_v74 (F := Ideal) a w x g s d v (ix2 r l) = (grad (row X (prod A W)) (cot C D V) G r l : EReal) := by
  refine Eq.trans ?_ (ref_dz ha hw hx hg hs hd hv r l)
  pointwise [val_main_v74]

end

end Cert.MixLnRefIdeal.Val

end
end
-- ==== Proof.MixLnClaim.lean ====
/- The memory layer and the gradient into it agree with the reference's. -/
module

public import proofs.«01_k».proof.Defs
public import proofs.«01_k».proof.Proof.MixLnFinal
public import proofs.«01_k».proof.Proof.MixLnRef
public import proofs.«01_k».proof.Proof.Tables
public import proofs.«01_k».proof.Proof.Gen.MixLnRefIdeal.Read
public import proofs.«01_k».proof.Proof.Gen.MixLnRefIdeal.Run
public import proofs.«01_k».proof.Proof.Gen.Pre_mix_finite
public import Idealize.ShloMosaic.Lib.Claim

@[expose] public section

set_option maxRecDepth 16384

noncomputable section

open Idealize.ShloMosaic Idealize.ShloMosaic.TcCoe Idealize.SL.Sem
open Cert.RealSums Cert.Tables Cert.MixLnRefIdeal.Read Cert.MixLnRefIdeal.Val

namespace Cert.MixLn

attribute [local instance] Cert.MixLnIdeal.Gen.facts Cert.MixLnRefIdeal.Gen.facts Cert.Pre_mix_finite.Gen.facts

open Cert.MixLnIdeal in
/-- The arguments of one device under the precondition, as functions into the real numbers. -/
theorem reals_at (m : (ℓ : Loc nD τ sig) → Buf (Elt Ideal) ℓ) (hpre : Cert.Pre_MixLnIdeal_mix_finite m) (c : Dev nD) :
    ∃ A W X C D V G B, Val.Reals m A W X C D V G B c := by
  obtain ⟨h0, h1, h2, h3, h4, h5, h6, h7⟩ := hpre c
  have e3 := tab_eq (m ((c : Thread nD τ).loc main_arg3) : FVec Ideal S1x1024 .f32) fun i => ⟨_, real_of_one (congrFun h3 i)⟩
  have e4 := tab_eq (m ((c : Thread nD τ).loc main_arg4) : FVec Ideal S1x1024 .f32) fun i => ⟨_, real_of_one (congrFun h4 i)⟩
  exact ⟨_, _, _, _, _, _, _, _, ⟨tab_eq _ fun i => ⟨_, real_of_one (congrFun h0 i)⟩, tab_eq _ fun i => ⟨_, real_of_one (congrFun h1 i)⟩,
    tab_eq _ fun i => ⟨_, real_of_one (congrFun h2 i)⟩, fun l => e3 0 l, fun l => e4 0 l, tab_eq _ fun i => ⟨_, real_of_one (congrFun h5 i)⟩,
    tab_eq _ fun i => ⟨_, real_of_one (congrFun h6 i)⟩, tab_eq _ fun i => ⟨_, real_of_one (congrFun h7 i)⟩⟩⟩

/-- The reference runs, leaves its arguments unchanged and has no counters. -/
theorem frame_ref : Cert.quiescent_MixLnRefIdeal := fun m g _ =>
  (θ_run Cert.MixLnRefIdeal.defs _ _).mono (fun r h => ⟨fun c => (h c).2.2.2.2.2, sem_eq_zero_of_no_sems (by decide) r.2⟩)
    (Cert.MixLnRefIdeal.Value.run (F := Ideal) m g)

/-- The claim about the values. -/
theorem algebraic : Cert.algebraic_MixLnIdeal_MixLnRefIdeal_pre_mix_finite := by
  pair_intro
  · run_from Cert.MixLnIdeal.Val.run_main m g & Cert.MixLnIdeal.Gen.unchanged m g
  · run_from Cert.MixLnRefIdeal.Value.run m' g'
    · obtain ⟨a0, a1, a2, a3, a4, a5, a6, a7⟩ := hagree c
      obtain ⟨A, W, X, C, D, V, G, B, h⟩ := reals_at m hpre c
      rw [val_main_v34_eq, Cert.MixLnIdeal.Val.res_eq]
      funext y
      idx_vars y
      exact (ref_o h.a h.w h.x h.g h.b y0 y1).trans (Cert.MixLnIdeal.Val.res_o g h y0 y1).symm
    · obtain ⟨a0, a1, a2, a3, a4, a5, a6, a7⟩ := hagree c
      obtain ⟨A, W, X, C, D, V, G, B, h⟩ := reals_at m hpre c
      rw [val_main_v73_eq, Cert.MixLnIdeal.Val.res_eq]
      simp only [a0, a1, a2, a3, a4, a5, a6, a7]
      funext y
      idx_vars y
      exact (ref_dx h.a h.w h.x h.g h.s h.d h.v y0 y1).trans (Cert.MixLnIdeal.Val.res_dx g h y0 y1).symm
    · obtain ⟨a0, a1, a2, a3, a4, a5, a6, a7⟩ := hagree c
      obtain ⟨A, W, X, C, D, V, G, B, h⟩ := reals_at m hpre c
      rw [val_main_v74_eq, Cert.MixLnIdeal.Val.res_eq]
      simp only [a0, a1, a2, a3, a4, a5, a6, a7]
      funext y
      idx_vars y
      exact (ref_dy h.a h.w h.x h.g h.s h.d h.v y0 y1).trans (Cert.MixLnIdeal.Val.res_dy g h y0 y1).symm
    · obtain ⟨a0, a1, a2, a3, a4, a5, a6, a7⟩ := hagree c
      obtain ⟨A, W, X, C, D, V, G, B, h⟩ := reals_at m hpre c
      rw [val_main_v75_eq, Cert.MixLnIdeal.Val.res_eq]
      funext y
      idx_vars y
      rw [Subsingleton.elim y0 0]
      exact (ref_dg h.a h.w h.x h.s h.d h.v y1).trans (Cert.MixLnIdeal.Val.res_dg g h y1).symm
    · obtain ⟨a0, a1, a2, a3, a4, a5, a6, a7⟩ := hagree c
      obtain ⟨A, W, X, C, D, V, G, B, h⟩ := reals_at m hpre c
      rw [val_main_v76_eq, Cert.MixLnIdeal.Val.res_eq]
      funext y
      idx_vars y
      rw [Subsingleton.elim y0 0]
      exact (ref_db h.s h.d h.v y1).trans (Cert.MixLnIdeal.Val.res_db g h y1).symm

end Cert.MixLn

end
-- ==== Proof.NormsPay.lean ====
/- The gradients of the two root-mean-square norms: the formulas of one row, and a block's stored values as these formulas. -/
module

public import proofs.«01_k».proof.Proof.LnMath
public import proofs.«01_k».proof.Proof.Gen.NormsIdeal.Skeleton

@[expose] public section

set_option maxRecDepth 16384

noncomputable section

open Idealize.ShloMosaic Idealize.ShloMosaic.TcCoe Idealize.SL.Sem
open Cert.NormsIdeal Cert.NormsIdeal.Gen

namespace Cert.Rms

/-- The mean square of a row, with the norm's small constant. -/
def ms {n : ℕ} (w : EReal) (X : Fin n → EReal) : EReal := Ideal.div (∑ k, X k * X k) w + Ideal.ofBits .f32 0x358637BD#32

/-- A row's part of the gradient of the scales, before the cotangent. -/
def normed {n : ℕ} (w : EReal) (X : Fin n → EReal) (l : Fin n) : EReal := X l * Ideal.rsqrt (ms w X)

/-- The derivative along the mean square of a row. -/
def slope {n : ℕ} (w : EReal) (X E : Fin n → EReal) : EReal :=
  Ideal.div ((∑ k, X k * E k) * (Ideal.ofBits .f32 0xBF000000#32 * Ideal.div (Ideal.rsqrt (ms w X)) (ms w X))) w

/-- The gradient of a row, from the scaled cotangent. -/
def grad {n : ℕ} (w : EReal) (X E : Fin n → EReal) (l : Fin n) : EReal :=
  E l * Ideal.rsqrt (ms w X) + slope w X E * (Ideal.ofBits .f32 0x40000000#32 * X l)

/-- Twice an extended real number is its sum with itself. -/
theorem twice (x : EReal) : (2 : EReal) * x = x + x := by
  induction x using EReal.rec with
  | bot => rw [EReal.mul_bot_of_pos (by norm_num)]; rfl
  | top => rw [EReal.mul_top_of_pos (by norm_num)]; rfl
  | coe x => rw [show (2 : EReal) = ((2 : ℝ) : EReal) from rfl, ← EReal.coe_mul, ← EReal.coe_add, two_mul]

theorem both (x c : EReal) : c * (Ideal.ofBits .f32 0x40000000#32 * x) = x * c + c * x := by
  rw [Cert.Ln.two_bits, mul_left_comm, show ((2 : ℝ) : EReal) = 2 from rfl, twice, mul_comm x c]

/-- The first width and the second. -/
def wq : EReal := Ideal.ofBits .f32 0x43800000#32
def wk : EReal := Ideal.ofBits .f32 0x43000000#32

/-- One row of the gradient: the pooled columns' own, the two norms', the positions' own. -/
def row (X : Fin 704 → EReal) (Gq : Fin 256 → EReal) (Gk : Fin 128 → EReal) (Dq : Fin 256 → EReal) (Dk : Fin 128 → EReal) (De : Fin 64 → EReal)
    (U : Fin 256 → EReal) (l : Fin 704) : EReal :=
  if h : (l : ℕ) < 256 then U ⟨l, h⟩
  else if h : (l : ℕ) < 512 then grad wq (fun k => X ⟨256 + k, by omega⟩) (fun k => Dq k * Gq k) ⟨l - 256, by omega⟩
  else if h : (l : ℕ) < 640 then grad wk (fun k => X ⟨512 + k, by omega⟩) (fun k => Dk k * Gk k) ⟨l - 512, by omega⟩
  else De ⟨l - 640, by omega⟩

section
variable (x : FVec Ideal S256x768 .f32) (dq : FVec Ideal S256x256 .f32) (dk de : FVec Ideal S256x128 .f32) (gq : FVec Ideal S1x256 .f32) (gk : FVec Ideal S1x128 .f32)
  (r : Fin 256)

/-- A block's row under the first norm, and under the second. -/
def xq (l : Fin 256) : EReal := x (ix2 r ⟨256 + l, by omega⟩)
def xk (l : Fin 128) : EReal := x (ix2 r ⟨512 + l, by omega⟩)

theorem pay8_read (l : Fin 256) : k0_pay8 (F := Ideal) x (ix2 r l) = xq x r l := by
  pointwise [k0_pay8, k0_pay6]
  rfl

theorem pay13_read (l : Fin 128) : k0_pay13 (F := Ideal) x (ix2 r l) = xk x r l := by
  pointwise [k0_pay13, k0_pay6]
  rfl

theorem pay9_read : k0_pay9 (F := Ideal) x (ix2 r 0) = ms wq (xq x r) := by
  have e := pay8_read x r
  pointwise [k0_pay9]
  simp only [e]
  rfl

theorem pay14_read : k0_pay14 (F := Ideal) x (ix2 r 0) = ms wk (xk x r) := by
  have e := pay13_read x r
  pointwise [k0_pay14]
  simp only [e]
  rfl

theorem pay10_read : k0_pay10 (F := Ideal) x (ix2 r 0) = Ideal.rsqrt (ms wq (xq x r)) := by
  rw [← pay9_read]
  pointwise [k0_pay10]

theorem pay15_read : k0_pay15 (F := Ideal) x (ix2 r 0) = Ideal.rsqrt (ms wk (xk x r)) := by
  rw [← pay14_read]
  pointwise [k0_pay15]

theorem pay12_read (l : Fin 256) : k0_pay12 (F := Ideal) x (ix2 r l) = normed wq (xq x r) l := by
  rw [normed, ← pay10_read, ← pay8_read]
  pointwise [k0_pay12]

theorem pay17_read (l : Fin 128) : k0_pay17 (F := Ideal) x (ix2 r l) = normed wk (xk x r) l := by
  rw [normed, ← pay15_read, ← pay13_read]
  pointwise [k0_pay17]

theorem pay11_read : k0_pay11 (F := Ideal) x (ix2 r 0) = Ideal.ofBits .f32 0xBF000000#32 * Ideal.div (Ideal.rsqrt (ms wq (xq x r))) (ms wq (xq x r)) := by
  rw [← pay10_read, ← pay9_read]
  pointwise [k0_pay11]

theorem pay16_read : k0_pay16 (F := Ideal) x (ix2 r 0) = Ideal.ofBits .f32 0xBF000000#32 * Ideal.div (Ideal.rsqrt (ms wk (xk x r))) (ms wk (xk x r)) := by
  rw [← pay15_read, ← pay14_read]
  pointwise [k0_pay16]

/-- The gradient through the first norm. -/
theorem pay21_read (l : Fin 256) : k0_pay21 (F := Ideal) dq gq (k0_pay8 x) (k0_pay10 x) (k0_pay11 x) (ix2 r l)
    = grad wq (xq x r) (fun k => dq (ix2 r k) * gq (ix2 0 k)) l := by
  have e := pay8_read x r
  have e1 := pay10_read x r
  have e2 := pay11_read x r
  generalize k0_pay8 (F := Ideal) x = v9 at e ⊢
  generalize k0_pay10 (F := Ideal) x = v17 at e1 ⊢
  generalize k0_pay11 (F := Ideal) x = v20 at e2 ⊢
  pointwise [k0_pay21]
  rw [grad, both, ← add_assoc]
  simp only [e, Fin.sum_univ_one, slope, wq]
  rw [e1, show v20 (ix2 r 0) = _ from e2]
  rfl

/-- The gradient through the second norm, and the positions' columns. -/
theorem pay19_read (l : Fin 768) (hl : 512 ≤ (l : ℕ)) : k0_pay19 (F := Ideal) dk (k0_pay7 de) gk (k0_pay13 x) (k0_pay15 x) (k0_pay16 x) (ix2 r l)
    = if h : (l : ℕ) < 640 then grad wk (xk x r) (fun k => dk (ix2 r k) * gk (ix2 0 k)) ⟨l - 512, by omega⟩ else de (ix2 r ⟨l - 640, by omega⟩) := by
  have e := pay13_read x r
  have e1 := pay15_read x r
  have e2 := pay16_read x r
  generalize k0_pay13 (F := Ideal) x = v9 at e ⊢
  generalize k0_pay15 (F := Ideal) x = v17 at e1 ⊢
  generalize k0_pay16 (F := Ideal) x = v20 at e2 ⊢
  pointwise [k0_pay19, k0_pay7]
  by_cases h : (l : ℕ) < 640
  · rw [dif_pos h, dif_pos h, dif_neg (by omega), dif_pos (by omega), zero_add, grad, both, ← add_assoc]
    simp only [e, Fin.sum_univ_one, slope, wk]
    rw [e1, show v20 (ix2 r 0) = _ from e2]
    rfl
  · rw [dif_neg h, dif_neg h, dif_neg (by omega), dif_neg (by omega), add_zero]

variable (du : FVec Ideal S256x256 .f32)

/-- A stored row of the gradient, in the columns that are not padding. -/
theorem pay1_read (l : Fin 768) (hl : (l : ℕ) < 704) :
    k0_pay1 (F := Ideal) du (k0_pay19 dk (k0_pay7 de) gk (k0_pay13 x) (k0_pay15 x) (k0_pay16 x)) (k0_pay21 dq gq (k0_pay8 x) (k0_pay10 x) (k0_pay11 x))
        k0_pay22 (Scalar.ofBits .f32 0x00000000#32) (ix2 r l)
      = row (fun k => x (ix2 r ⟨k, by omega⟩)) (fun k => gq (ix2 0 k)) (fun k => gk (ix2 0 k)) (fun k => dq (ix2 r k)) (fun k => dk (ix2 r k))
        (fun k => de (ix2 r ⟨k, by omega⟩)) (fun k => du (ix2 r k)) ⟨l, hl⟩ := by
  have e := pay19_read x dk de gk r l
  have e' := pay21_read x dq gq r
  have e0 : (l : ℕ) < 512 → k0_pay19 (F := Ideal) dk (k0_pay7 de) gk (k0_pay13 x) (k0_pay15 x) (k0_pay16 x) (ix2 r l) = 0 := fun h => by
    pointwise [k0_pay19, k0_pay7]
    rw [dif_pos (by omega), dif_pos h, add_zero]
  generalize k0_pay19 (F := Ideal) dk (k0_pay7 de) gk (k0_pay13 x) (k0_pay15 x) (k0_pay16 x) = v62 at e e0 ⊢
  generalize k0_pay21 (F := Ideal) dq gq (k0_pay8 x) (k0_pay10 x) (k0_pay11 x) = v82 at e' ⊢
  pointwise [k0_pay1, k0_pay22]
  rw [row]
  by_cases h : (l : ℕ) < 256
  · rw [dif_pos h, dif_pos h]
  have hc : v62 (ix2 r ⟨256 + (l - 256), by omega⟩) = v62 (ix2 r l) := by congr 2; exact Fin.ext (by simp only []; omega)
  rw [dif_neg h, dif_neg h, hc]
  by_cases h' : (l : ℕ) < 512
  · rw [dif_pos (by omega), dif_pos h', e0 h', zero_add, e']
    rfl
  rw [dif_neg (by omega), dif_neg h', add_zero, e (by omega)]
  rfl

/-- The block's part of the gradients of the scales. -/
theorem pay20_read (l : Fin 256) : k0_pay20 (F := Ideal) dq (k0_pay12 x) (ix2 0 l) = ∑ r, normed wq (xq x r) l * dq (ix2 r l) := by
  have e := fun r => pay12_read x r
  generalize k0_pay12 (F := Ideal) x = v at e ⊢
  pointwise [k0_pay20]
  simp only [e]

theorem pay18_read (l : Fin 128) : k0_pay18 (F := Ideal) dk (k0_pay17 x) (ix2 0 l) = ∑ r, normed wk (xk x r) l * dk (ix2 r l) := by
  have e := fun r => pay17_read x r
  generalize k0_pay17 (F := Ideal) x = v at e ⊢
  pointwise [k0_pay18]
  simp only [e]

end
end Cert.Rms
end
end
-- ==== Proof.NormsFinal.lean ====
/- The gradients of the two root-mean-square norms: the kernel's result arrays. -/
module

public import proofs.«01_k».proof.Proof.NormsPay
public import proofs.«01_k».proof.Proof.Gen.NormsIdeal.Frame
public import Idealize.ShloMosaic.Lib.Pipeline.ValueKit
public import Idealize.ShloMosaic.Lib.Claim
public import Idealize.ShloMosaic.Lib.StableHlo.RunClose
public import Idealize.ShloMosaic.Lib.StableHlo.RunRead

@[expose] public section

set_option maxRecDepth 16384

noncomputable section

open Idealize.ShloMosaic Idealize.ShloMosaic.TcCoe Idealize.SL.Sem
open Cert.NormsIdeal Cert.NormsIdeal.Gen

namespace Cert.Rms

section
variable (h : FVec Ideal S4096x704 .f32) (gq : FVec Ideal S1x256 .f32) (gk : FVec Ideal S1x128 .f32) (dq : FVec Ideal S4096x256 .f32) (dk : FVec Ideal S4096x128 .f32)
  (de : FVec Ideal S4096x64 .f32) (du : FVec Ideal S4096x256 .f32)

/-- The gradient of the input. -/
def dh (t : Fin 4096) (l : Fin 704) : EReal :=
  row (fun k => h (ix2 t k)) (fun k => gq (ix2 0 k)) (fun k => gk (ix2 0 k)) (fun k => dq (ix2 t k)) (fun k => dk (ix2 t k)) (fun k => de (ix2 t k)) (fun k => du (ix2 t k)) l

/-- A row's part of the gradient of the first scales, and of the second. -/
def partQ (l : Fin 256) (s : ℕ) : EReal := if hs : s < 4096 then normed wq (fun k : Fin 256 => h (ix2 ⟨s, hs⟩ ⟨256 + k, by omega⟩)) l * dq (ix2 ⟨s, hs⟩ l) else 0
def partK (l : Fin 128) (s : ℕ) : EReal := if hs : s < 4096 then normed wk (fun k : Fin 128 => h (ix2 ⟨s, hs⟩ ⟨512 + k, by omega⟩)) l * dk (ix2 ⟨s, hs⟩ l) else 0

end

/-- A running sum of rows grows by a block's rows. -/
theorem grow {f : ℕ → EReal} (n : ℕ) : ∑ s ∈ Finset.range (256 * n), f s + ∑ r : Fin 256, f (256 * n + r) = ∑ s ∈ Finset.range (256 * (n + 1)), f s := by
  rw [show 256 * (n + 1) = 256 * n + 256 by ring, Finset.sum_range_add, Fin.sum_univ_eq_sum_range fun r => f (256 * n + r)]

variable (m : (ℓ : Loc nD τ sig) → Buf (Elt Ideal) ℓ) (c : Dev nD)

/-- Where each window stands at each point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] ∧ win0_9.index t = ![0, 0] ∧ t.val < 16 :=
  (by decide +kernel : ∀ t : Fin grid0.N, _)

theorem lt16 (t : Fin cfg0.N) : t.val < 16 := (idx t).2.2.2.2.2.2.2.2.2.2

/-- A table padded with columns, read where it was not padded. -/
theorem pad_read (x : FVec Ideal S4096x704 .f32) (t : Fin 4096) (l : Fin 768) (h : (l : ℕ) < 704) :
    (pad S4096x768 ![0, 0] ![0, 64] ![0, 0] x (sitofp .f32 (constantI S_ 32 0#32)) pads_S4096x704_S4096x768_000_0640 h_S_ :
      FVec Ideal S4096x768 .f32) (ix2 t l) = x (ix2 t ⟨l, h⟩) := by
  pointwise
  rw [dif_pos h]

theorem pad_read' (x : FVec Ideal S4096x64 .f32) (t : Fin 4096) (l : Fin 128) (h : (l : ℕ) < 64) :
    (pad S4096x128 ![0, 0] ![0, 64] ![0, 0] x (sitofp .f32 (constantI S_ 32 0#32)) pads_S4096x64_S4096x128_000_0640 h_S_ :
      FVec Ideal S4096x128 .f32) (ix2 t l) = x (ix2 t ⟨l, h⟩) := by
  pointwise
  rw [dif_pos h]

/-- The padded operands, read in the columns that the call uses. -/
theorem padded (t : Fin 4096) (l : Fin 768) (h : (l : ℕ) < 704) :
    V m c main_v0 (ix2 t l) = m ((c : Thread nD τ).loc main_arg0) (ix2 t ⟨l, h⟩) := by
  show StableHlo.after _ _ (Proc.devRef .tc main_v0) _ = _
  after_reads_simp
  exact pad_read _ t l h

theorem padded' (t : Fin 4096) (l : Fin 128) (h : (l : ℕ) < 64) :
    V m c main_v1 (ix2 t l) = m ((c : Thread nD τ).loc main_arg5) (ix2 t ⟨l, h⟩) := by
  show StableHlo.after _ _ (Proc.devRef .tc main_v1) _ = _
  after_reads_simp
  exact pad_read' _ t l h

section
variable (t : Fin cfg0.N)

theorem read0 (r : Fin 256) (l : Fin 768) (hl : (l : ℕ) < 704) : iblk m c 0 t (ix2 r l)
    = m ((c : Thread nD τ).loc main_arg0) (ix2 ⟨256 * t.val + r, by have := lt16 t; omega⟩ ⟨l, hl⟩) := by
  have h := lt16 t
  refine Eq.trans ?_ (padded m c ⟨256 * t.val + r, by omega⟩ l hl)
  blk_ext [iblk, idx t]

theorem read1 (r l : Fin 256) : iblk m c 1 t (ix2 r l) = m ((c : Thread nD τ).loc main_arg3) (ix2 ⟨256 * t.val + r, by have := lt16 t; omega⟩ l) := by
  have h := lt16 t
  blk_ext [iblk, V, idx t]

theorem read2 (r : Fin 256) (l : Fin 128) : iblk m c 2 t (ix2 r l) = m ((c : Thread nD τ).loc main_arg4) (ix2 ⟨256 * t.val + r, by have := lt16 t; omega⟩ l) := by
  have h := lt16 t
  blk_ext [iblk, V, idx t]

theorem read3 (r : Fin 256) (l : Fin 128) (hl : (l : ℕ) < 64) : iblk m c 3 t (ix2 r l)
    = m ((c : Thread nD τ).loc main_arg5) (ix2 ⟨256 * t.val + r, by have := lt16 t; omega⟩ ⟨l, hl⟩) := by
  have h := lt16 t
  refine Eq.trans ?_ (padded' m c ⟨256 * t.val + r, by omega⟩ l hl)
  blk_ext [iblk, idx t]

theorem read4 (r l : Fin 256) : iblk m c 4 t (ix2 r l) = m ((c : Thread nD τ).loc main_arg6) (ix2 ⟨256 * t.val + r, by have := lt16 t; omega⟩ l) := by
  have h := lt16 t
  blk_ext [iblk, V, idx t]

theorem read5 (l : Fin 256) : iblk m c 5 t (ix2 0 l) = m ((c : Thread nD τ).loc main_arg1) (ix2 0 l) := by
  blk_ext [iblk, V, idx t]

theorem read6 (l : Fin 128) : iblk m c 6 t (ix2 0 l) = m ((c : Thread nD τ).loc main_arg2) (ix2 0 l) := by
  blk_ext [iblk, V, idx t]

/-- The stored block of the gradient of the input. -/
theorem left7 (r : Fin 256) (l : Fin 768) (hl : (l : ℕ) < 704) : (outsAt0 m c t.val t.isLt).1 (ix2 r l)
    = dh (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      ⟨256 * t.val + r, by have := lt16 t; omega⟩ ⟨l, hl⟩ := by
  have e := pay1_read (iblk m c 0 t) (iblk m c 1 t) (iblk m c 2 t) (iblk m c 3 t) (iblk m c 5 t) (iblk m c 6 t) r (iblk m c 4 t) l hl
  rw [dh]
  simp only [← read1 m c t, ← read2 m c t, ← read4 m c t, ← read5 m c t, ← read6 m c t]
  have e0 := fun k : Fin 704 => read0 m c t r ⟨k, by omega⟩ k.isLt
  have e3 := fun k : Fin 64 => read3 m c t r ⟨k, by omega⟩ k.isLt
  simp only [← e0, ← e3]
  by_cases h0 : t.val % 16 = 0
  · rw [outsAt0_A m c t h0]
    frame_out
    exact e
  · rw [outsAt0_B m c t h0]
    frame_out
    exact e

/-- A block's part of the gradients of the scales. -/
theorem partQ_blk (l : Fin 256) : k0_pay20 (F := Ideal) (iblk m c 1 t) (k0_pay12 (iblk m c 0 t)) (ix2 0 l)
    = ∑ r : Fin 256, partQ (m ((c : Thread nD τ).loc main_arg0)) (m ((c : Thread nD τ).loc main_arg3)) l (256 * t.val + r) := by
  have h := lt16 t
  rw [pay20_read]
  refine Finset.sum_congr rfl fun r _ => ?_
  rw [partQ, dif_pos (by omega), read1]
  congr 2
  funext k
  exact read0 m c t r ⟨256 + k, by omega⟩ (by simp only []; omega)

theorem partK_blk (l : Fin 128) : k0_pay18 (F := Ideal) (iblk m c 2 t) (k0_pay17 (iblk m c 0 t)) (ix2 0 l)
    = ∑ r : Fin 256, partK (m ((c : Thread nD τ).loc main_arg0)) (m ((c : Thread nD τ).loc main_arg4)) l (256 * t.val + r) := by
  have h := lt16 t
  rw [pay18_read]
  refine Finset.sum_congr rfl fun r _ => ?_
  rw [partK, dif_pos (by omega), read2]
  congr 2
  funext k
  exact read0 m c t r ⟨512 + k, by omega⟩ (by simp only []; omega)

end

/-- A stored sum is what was stored and the block's part. -/
theorem pay4_read (v : FVec Ideal S1x256 .f32) (o : FVec Ideal S1x256 .f32) (l : Fin 256) : k0_pay4 (F := Ideal) v o (ix2 0 l) = o (ix2 0 l) + v (ix2 0 l) := by
  pointwise [k0_pay4]

theorem pay5_read (v : FVec Ideal S1x128 .f32) (o : FVec Ideal S1x128 .f32) (l : Fin 128) : k0_pay5 (F := Ideal) v o (ix2 0 l) = o (ix2 0 l) + v (ix2 0 l) := by
  pointwise [k0_pay5]

/-- The running gradient of the first scales. -/
theorem left8 (l : Fin 256) : ∀ (n : ℕ) (hn : n < cfg0.N), (outsAt0 m c n hn).2.1 (ix2 0 l)
    = ∑ s ∈ Finset.range (256 * (n + 1)), partQ (m ((c : Thread nD τ).loc main_arg0)) (m ((c : Thread nD τ).loc main_arg3)) l s
  | 0, hn => by
    have e : outsAt0 m c 0 hn = _ := outsAt0_A m c ⟨0, hn⟩ rfl
    rw [e]
    frame_out
    refine (pay4_read _ _ l).trans ?_
    rw [partQ_blk, ← grow 0]
    pointwise [k0_pay2]
    rw [Finset.range_zero, Finset.sum_empty, zero_add]
  | n + 1, hn => by
    have e : outsAt0 m c (n + 1) hn = _ := outsAt0_B m c ⟨n + 1, hn⟩ (by have := lt16 ⟨n + 1, hn⟩; simp only [] at this ⊢; omega)
    rw [e]
    frame_out
    refine (pay4_read _ _ l).trans ?_
    rw [partQ_blk, ← grow (n + 1), ← left8 l n (by omega)]
    rfl

/-- The running gradient of the second scales. -/
theorem left9 (l : Fin 128) : ∀ (n : ℕ) (hn : n < cfg0.N), (outsAt0 m c n hn).2.2 (ix2 0 l)
    = ∑ s ∈ Finset.range (256 * (n + 1)), partK (m ((c : Thread nD τ).loc main_arg0)) (m ((c : Thread nD τ).loc main_arg4)) l s
  | 0, hn => by
    have e : outsAt0 m c 0 hn = _ := outsAt0_A m c ⟨0, hn⟩ rfl
    rw [e]
    frame_out
    refine (pay5_read _ _ l).trans ?_
    rw [partK_blk, ← grow 0]
    pointwise [k0_pay3]
    rw [Finset.range_zero, Finset.sum_empty, zero_add]
  | n + 1, hn => by
    have e : outsAt0 m c (n + 1) hn = _ := outsAt0_B m c ⟨n + 1, hn⟩ (by have := lt16 ⟨n + 1, hn⟩; simp only [] at this ⊢; omega)
    rw [e]
    frame_out
    refine (pay5_read _ _ l).trans ?_
    rw [partK_blk, ← grow (n + 1), ← left9 l n (by omega)]
    rfl

/-- A read of a stored block depends on the numbers alone. -/
theorem outs_at {n n' : ℕ} (hn : n < cfg0.N) (hn' : n' < cfg0.N) {r r' : Fin 256} {l l' : Fin 768} (e : n = n') (er : r = r') (el : l = l') :
    (outsAt0 m c n hn).1 (ix2 r l) = (outsAt0 m c n' hn').1 (ix2 r' l') := by
  subst e er el
  rfl

/-- The array that the first result is cut from. -/
theorem final7 (t : Fin 4096) (l : Fin 768) (hl : (l : ℕ) < 704) : (dats m 0 c).arrAt 7 (cfgs 0).N (ix2 t l)
    = dh (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) t ⟨l, hl⟩ := by
  have e : (dats m 0 c).arrAt 7 (cfgs 0).N = (fun i => (outsAt0 m c ((i 0 : ℕ) / 256) (by have h : (i 0 : ℕ) < 4096 := (i 0).isLt; show _ < 16; omega)).1
      (ix2 ⟨(i 0 : ℕ) % 256, by omega⟩ ⟨(i 1 : ℕ), (i 1).isLt⟩) : FVec Ideal S4096x768 .bf16) := by
    refine (dats m 0 c).arrAt_eq_of_covers 7 _ (by decide +kernel) fun t hf y => ?_
    idx_vars y
    blk_simp [idx t]
    rw [after0_7]
    exact outs_at m c _ _ (by omega) (Fin.ext (by simp only []; omega)) rfl
  rw [e]
  refine (left7 m c ⟨t / 256, by show _ < 16; omega⟩ ⟨t % 256, by omega⟩ l hl).trans ?_
  congr 1
  exact Fin.ext (by simp only []; omega)

/-- The second result: the gradient of the first scales. -/
theorem final8 (l : Fin 256) : (dats m 0 c).arrAt 8 (cfgs 0).N (ix2 0 l)
    = ∑ s ∈ Finset.range 4096, partQ (m ((c : Thread nD τ).loc main_arg0)) (m ((c : Thread nD τ).loc main_arg3)) l s := by
  have e : (dats m 0 c).arrAt 8 (cfgs 0).N = (fun i => ∑ s ∈ Finset.range 4096, partQ (m ((c : Thread nD τ).loc main_arg0)) (m ((c : Thread nD τ).loc main_arg3)) (i 1) s : FVec Ideal S1x256 .f32) := by
    refine (dats m 0 c).arrAt_eq_of_after_last 8 t0_15 (by decide +kernel) _ fun y => ?_
    idx_vars y
    blk_simp
    rw [after0_8, Subsingleton.elim y0 0, left8]
    rfl
  rw [e]; rfl

/-- The third result: the gradient of the second scales. -/
theorem final9 (l : Fin 128) : (dats m 0 c).arrAt 9 (cfgs 0).N (ix2 0 l)
    = ∑ s ∈ Finset.range 4096, partK (m ((c : Thread nD τ).loc main_arg0)) (m ((c : Thread nD τ).loc main_arg4)) l s := by
  have e : (dats m 0 c).arrAt 9 (cfgs 0).N = (fun i => ∑ s ∈ Finset.range 4096, partK (m ((c : Thread nD τ).loc main_arg0)) (m ((c : Thread nD τ).loc main_arg4)) (i 1) s : FVec Ideal S1x128 .f32) := by
    refine (dats m 0 c).arrAt_eq_of_after_last 9 t0_15 (by decide +kernel) _ fun y => ?_
    idx_vars y
    blk_simp
    rw [after0_9, Subsingleton.elim y0 0, left9]
    rfl
  rw [e]; rfl

/-- What the operation after the call makes of its first result. -/
theorem cut (W : Valuation τ sig (Elt Ideal)) (x : FVec Ideal S4096x768 .bf16) (hx : W (Proc.devRef .tc main_v2_0) = x) :
    StableHlo.after hostOps1 W (Proc.devRef .tc main_v3) = (extractStridedSlice S4096x704 ![0, 0] x slices_S4096x768_S4096x704_0_0 : FVec Ideal S4096x704 .bf16) := by
  subst hx
  after_results_entrywise (rounds := 1) []

/-- The first result: the gradient of the input. -/
theorem final3 (t : Fin 4096) (l : Fin 704) : Pipeline.afterTail₀ cfgs (dats m) 0 (V0 m) [hostOps1] c main_v3 (ix2 t l)
    = dh (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) t l := by
  have e := cut (Pipeline.withArrays (cfgs 0).spec c (V0 m c) fun w => (dats m 0 c).arrAt w (cfgs 0).N) ((dats m 0 c).arrAt 7 (cfgs 0).N)
    (Pipeline.withArrays_arr spec0 launch0.win.arr_inj c _ _ 7)
  refine (congrFun e _).trans ?_
  refine Eq.trans ?_ (final7 m c t ⟨l, by omega⟩ l.isLt)
  generalize (dats m 0 c).arrAt 7 (cfgs 0).N = x
  revert x
  show ∀ x : FVec Ideal S4096x768 .bf16, _
  intro x
  pointwise

end Cert.Rms

end
-- ==== Proof.NormsRef.lean ====
/- The gradients of the two root-mean-square norms: the reference's results. -/
module

public import proofs.«01_k».proof.Proof.NormsPay
public import proofs.«01_k».proof.Proof.NormsFinal
public import proofs.«01_k».proof.Proof.Gen.NormsRefIdeal.Read
public import Idealize.ShloMosaic.Lib.Pipeline.ValueKit

@[expose] public section

set_option maxRecDepth 16384

noncomputable section

open Idealize.ShloMosaic Idealize.ShloMosaic.TcCoe Idealize.SL.Sem
open Cert.NormsRefIdeal Cert.NormsRefIdeal.Gen Cert.NormsRefIdeal.Value Cert.NormsRefIdeal.Read

namespace Cert.Rms

section
variable (x0 : FVec Ideal S4096x704 .f32) (x1 : FVec Ideal S1x256 .f32) (x2 : FVec Ideal S1x128 .f32) (x3 : FVec Ideal S4096x256 .f32) (x4 : FVec Ideal S4096x128 .f32)
  (x5 : FVec Ideal S4096x64 .f32) (x6 : FVec Ideal S4096x256 .f32) (t : Fin 4096)

theorem ref_ms : val_main_v12 (F := Ideal) x0 (ix2 t 0) = ms wq (fun k : Fin 256 => x0 (ix2 t ⟨256 + k, by omega⟩)) := by
  pointwise [val_main_v12, val_main_v11, val_main_v10, val_main_v9, val_main_v8, val_main_v7, val_main_v4, val_main_v3, val_main_cst_0, val_main_cst_1, val_main_cst_2]
  rfl

theorem ref_ms' : val_main_v31 (F := Ideal) x0 (ix2 t 0) = ms wk (fun k : Fin 128 => x0 (ix2 t ⟨512 + k, by omega⟩)) := by
  pointwise [val_main_v31, val_main_v30, val_main_v29, val_main_v28, val_main_v27, val_main_v26, val_main_v23, val_main_v22, val_main_cst_5, val_main_cst_6, val_main_cst_7]
  rfl

theorem ref_normed (l : Fin 256) : val_main_v18 (F := Ideal) x0 (ix2 t l) = normed wq (fun k : Fin 256 => x0 (ix2 t ⟨256 + k, by omega⟩)) l := by
  rw [normed, ← ref_ms]
  pointwise [val_main_v18, val_main_v17, val_main_v13, val_main_v3]

theorem ref_normed' (l : Fin 128) : val_main_v37 (F := Ideal) x0 (ix2 t l) = normed wk (fun k : Fin 128 => x0 (ix2 t ⟨512 + k, by omega⟩)) l := by
  rw [normed, ← ref_ms']
  pointwise [val_main_v37, val_main_v36, val_main_v32, val_main_v22]

/-- The gradient through the first norm. -/
theorem ref_grad (l : Fin 256) : val_main_v80 (F := Ideal) x0 x1 x3 (ix2 t l)
    = grad wq (fun k : Fin 256 => x0 (ix2 t ⟨256 + k, by omega⟩)) (fun k => x3 (ix2 t k) * x1 (ix2 0 k)) l := by
  rw [grad, slope, ← ref_ms]
  pointwise [val_main_v80, val_main_v79, val_main_v78, val_main_v77, val_main_v76, val_main_v75, val_main_v74, val_main_v73, val_main_v72, val_main_v71, val_main_v70,
    val_main_v69, val_main_v67, val_main_v66, val_main_v19, val_main_v0, val_main_v16, val_main_v15, val_main_v14, val_main_v13, val_main_v6, val_main_v5, val_main_v3,
    val_main_cst, val_main_cst_3, val_main_cst_18, val_main_cst_19, val_main_cst_20]
  simp only [Fin.sum_univ_one]
  rfl

/-- The gradient through the second norm. -/
theorem ref_grad' (l : Fin 128) : val_main_v60 (F := Ideal) x0 x2 x4 (ix2 t l)
    = grad wk (fun k : Fin 128 => x0 (ix2 t ⟨512 + k, by omega⟩)) (fun k => x4 (ix2 t k) * x2 (ix2 0 k)) l := by
  rw [grad, slope, ← ref_ms']
  pointwise [val_main_v60, val_main_v59, val_main_v58, val_main_v57, val_main_v56, val_main_v55, val_main_v54, val_main_v53, val_main_v52, val_main_v51, val_main_v50,
    val_main_v49, val_main_v47, val_main_v46, val_main_v38, val_main_v1, val_main_v35, val_main_v34, val_main_v33, val_main_v32, val_main_v25, val_main_v24, val_main_v22,
    val_main_cst_4, val_main_cst_8, val_main_cst_12, val_main_cst_13, val_main_cst_14]
  simp only [Fin.sum_univ_one]
  rfl

/-- The first result: the gradient of the input. -/
theorem ref_dh (l : Fin 704) : val_main_v85 (F := Ideal) x0 x1 x2 x3 x4 x5 x6 (ix2 t l) = dh x0 x1 x2 x3 x4 x5 x6 t l := by
  have eq := ref_grad x0 x1 x3 t
  have ek := ref_grad' x0 x2 x4 t
  rw [dh, row]
  pointwise [val_main_v85, val_main_v84, val_main_v83, val_main_v82, val_main_v81, val_main_v62, val_main_v61, val_main_v42, val_main_cst_9, val_main_cst_15, val_main_cst_21, val_main_cst_22]
  by_cases h : (l : ℕ) < 256
  · rw [dif_neg (by omega), dif_neg (by omega), dif_neg (by omega), dif_pos h, dif_pos h, add_zero, add_zero, zero_add]
  rw [dif_neg h, dif_neg h, add_zero]
  by_cases h' : (l : ℕ) < 512
  · rw [dif_neg (by omega), dif_neg (by omega), dif_pos (by omega), dif_pos h', add_zero, zero_add, eq]
  rw [dif_neg h', dif_neg (by omega : ¬ (256 ≤ (l : ℕ) ∧ (l : ℕ) - 256 < 256)), add_zero]
  by_cases h'' : (l : ℕ) < 640
  · rw [dif_neg (by omega), dif_pos (by omega), dif_pos h'', zero_add, ek]
  · rw [dif_pos (by omega), dif_neg (by omega), dif_neg h'', add_zero]

/-- The second result: the gradient of the first scales. -/
theorem ref_dgq (l : Fin 256) : val_main_v86 (F := Ideal) x0 x3 (ix2 0 l) = ∑ s ∈ Finset.range 4096, partQ x0 x3 l s := by
  rw [← Fin.sum_univ_eq_sum_range]
  pointwise [val_main_v86, val_main_v68, val_main_v65, val_main_v64, val_main_v63, val_main_cst_16, val_main_cst_17]
  simp only [Fin.sum_univ_one]
  refine Finset.sum_congr rfl fun t _ => ?_
  rw [ref_normed, partQ, dif_pos t.isLt]

/-- The third result: the gradient of the second scales. -/
theorem ref_dgk (l : Fin 128) : val_main_v87 (F := Ideal) x0 x4 (ix2 0 l) = ∑ s ∈ Finset.range 4096, partK x0 x4 l s := by
  rw [← Fin.sum_univ_eq_sum_range]
  pointwise [val_main_v87, val_main_v48, val_main_v45, val_main_v44, val_main_v43, val_main_cst_10, val_main_cst_11]
  simp only [Fin.sum_univ_one]
  refine Finset.sum_congr rfl fun t _ => ?_
  rw [ref_normed', partK, dif_pos t.isLt]

end
end Cert.Rms
end
-- ==== Proof.NormsClaim.lean ====
/- The two norms' backward kernel computes the derivative of the plain forward pass. -/
module

public import proofs.«01_k».proof.Defs
public import proofs.«01_k».proof.Proof.NormsFinal
public import proofs.«01_k».proof.Proof.NormsRef
public import proofs.«01_k».proof.Proof.Gen.NormsRefIdeal.Run
public import Idealize.ShloMosaic.Lib.Claim

@[expose] public section

set_option maxRecDepth 16384

noncomputable section

open Idealize.ShloMosaic Idealize.ShloMosaic.TcCoe Idealize.SL.Sem

namespace Cert.Rms

attribute [local instance] Cert.NormsIdeal.Gen.facts Cert.NormsRefIdeal.Gen.facts

/-- The derivative of the plain forward pass runs, leaves its arguments unchanged and has no counters. -/
theorem frame_ref : Cert.quiescent_NormsRefIdeal := fun m g _ =>
  (θ_run Cert.NormsRefIdeal.defs _ _).mono (fun r h => ⟨fun c => (h c).2.2.2, sem_eq_zero_of_no_sems (by decide) r.2⟩)
    (Cert.NormsRefIdeal.Value.run (F := Ideal) m g)

/-- The claim about the values. -/
theorem algebraic : Cert.algebraic_NormsIdeal_NormsRefIdeal := by
  pair_intro
  · run_from Cert.NormsIdeal.Gen.run_main m g & Cert.NormsIdeal.Gen.unchanged m g
  · run_from Cert.NormsRefIdeal.Value.run m' g'
    · obtain ⟨a0, a1, a2, a3, a4, a5, a6⟩ := hagree c
      rw [Cert.NormsRefIdeal.Read.val_main_v85_eq]
      simp only [a0, a1, a2, a3, a4, a5, a6]
      funext y
      idx_vars y
      exact (ref_dh _ _ _ _ _ _ _ y0 y1).trans (final3 m c y0 y1).symm
    · obtain ⟨a0, a1, a2, a3, a4, a5, a6⟩ := hagree c
      rw [Cert.NormsRefIdeal.Read.val_main_v86_eq]
      funext y
      idx_vars y
      obtain rfl : y0 = 0 := Subsingleton.elim _ _
      exact (ref_dgq _ _ y1).trans (final8 m c y1).symm
    · obtain ⟨a0, a1, a2, a3, a4, a5, a6⟩ := hagree c
      rw [Cert.NormsRefIdeal.Read.val_main_v87_eq]
      funext y
      idx_vars y
      obtain rfl : y0 = 0 := Subsingleton.elim _ _
      exact (ref_dgk _ _ y1).trans (final9 m c y1).symm

end Cert.Rms

end
-- ==== Proof.MemPay.lean ====
/- The gradient of the memory attention: the formulas of one row of one head, and a block's stored values as these formulas. -/
module

public import proofs.«01_k».proof.Proof.LnMath
public import proofs.«01_k».proof.Proof.Gen.MemAttnIdeal.Skeleton

@[expose] public section

set_option maxRecDepth 16384

noncomputable section

open Idealize.ShloMosaic Idealize.ShloMosaic.TcCoe Idealize.SL.Sem

namespace Cert.Mem

/-! ## One row of one head -/

/-- The part of a row that head `n` reads: 256 of the 1024 columns. -/
def seg (n : Fin 4) (x : Fin 1024 → EReal) (d : Fin 256) : EReal := x ⟨(n : ℕ) * 256 + (d : ℕ), by omega⟩

section
variable (q g : Fin 256 → EReal) (k v : Fin 256 → Fin 256 → EReal)

/-- A row's scaled scores against the memory's keys. -/
def score (j : Fin 256) : EReal := (∑ d, q d * k j d) * Ideal.ofBits .f32 0x3D800000#32

/-- The exponential of a score, after the row's largest one is taken off. -/
def expo (j : Fin 256) : EReal :=
  Ideal.exp (score q k j - Finset.fold max (Ideal.ofBits .f32 0xFF800000#32) (score q k) Finset.univ)

/-- The row's sum of exponentials. -/
def total : EReal := ∑ j, expo q k j

/-- The attention weight of a slot of the memory. -/
def weight (j : Fin 256) : EReal := Ideal.div (expo q k j) (total q k)

/-- The gradient that reaches an attention weight. -/
def dweight (j : Fin 256) : EReal := ∑ d, g d * v j d

/-- The gradient that reaches a score, as the division's two gradients give it. -/
def dscore (j : Fin 256) : EReal :=
  (Ideal.div (dweight g v j) (total q k) +
      (0 - ∑ i, dweight g v i * Ideal.div (Ideal.ofBits .f32 0x3F800000#32) (total q k * total q k) * expo q k i)) *
    expo q k j * Ideal.ofBits .f32 0x3D800000#32
end

/-! ## The four results -/

section
variable (P D : Fin 4096 → Fin 1024 → EReal) (K V : Fin 256 → Fin 1024 → EReal)

/-- The rows times the query weights. -/
def proj (x : Fin 4096 → Fin 1024 → EReal) (w : Fin 1024 → Fin 1024 → EReal) (t : Fin 4096) (l : Fin 1024) : EReal := ∑ i, x t i * w i l

/-- The attention weights of a row. -/
def wt (n : Fin 4) (t : Fin 4096) : Fin 256 → EReal := weight (seg n (P t)) fun j => seg n (K j)

/-- The gradient at the scores of a row. -/
def ds (n : Fin 4) (t : Fin 4096) : Fin 256 → EReal := dscore (seg n (P t)) (seg n (D t)) (fun j => seg n (K j)) fun j => seg n (V j)

/-- What the attention gives a row. -/
def omF (t : Fin 4096) (n : Fin 4) (d : Fin 256) : EReal := ∑ j, wt P K n t j * seg n (V j) d

/-- The gradient at the queries. -/
def dqF (t : Fin 4096) (n : Fin 4) (d : Fin 256) : EReal := ∑ j, ds P D K V n t j * seg n (K j) d

/-- The gradient at the keys. -/
def dkF (j : Fin 256) (n : Fin 4) (d : Fin 256) : EReal := ∑ t, ds P D K V n t j * seg n (P t) d

/-- The gradient at the values. -/
def dvF (j : Fin 256) (n : Fin 4) (d : Fin 256) : EReal := ∑ t, wt P K n t j * seg n (D t) d
end

/-- A column of head `n`. -/
def col (n : Fin 4) (d : Fin 256) : Fin 1024 := ⟨(n : ℕ) * 256 + (d : ℕ), by omega⟩

theorem col_surj (l : Fin 1024) : ∃ n d, l = col n d :=
  ⟨⟨(l : ℕ) / 256, by omega⟩, ⟨(l : ℕ) % 256, by omega⟩, Fin.ext (by simp only [col]; omega)⟩

/-! ## The kernel's vectors -/

section
open Cert.MemAttnIdeal Cert.MemAttnIdeal.Gen

/-- The exponentials of one head for a block of rows. -/
def vexp (q : FVec Ideal S256x256 .bf16) (k : FVec Ideal S256x256 .f32) : FVec Ideal S256x256 .f32 :=
  have z := mulf (matmul dot_S256x256_S256x256_S256x256_1_1_0_0_n_n none q (truncf .bf16 k bitsLt_bf16_f32)
    (constant S256x256 .f32 0x00000000#32)) (broadcast S256x256 (Scalar.ofBits .f32 0x3D800000#32))
  exp (subf z (broadcastTo S256x256 (shapeCast S256x1 (multiReduction .maximumf [1] S256 z 0xFF800000#32
    reduces_S256x256_S256 (.inl rfl) rfl) shapeCasts_S256_S256x1) broadcasts_S256x1_S256x256))

/-- The row sums of a block, as a column. -/
def vsum (e : FVec Ideal S256x256 .f32) : FVec Ideal S256x1 .f32 :=
  shapeCast S256x1 (multiReduction .add [1] S256 e 0x00000000#32 reduces_S256x256_S256 (.inl rfl) rfl) shapeCasts_S256_S256x1

/-- The exponentials divided by their row sums. -/
def vatt (e : FVec Ideal S256x256 .f32) : FVec Ideal S256x256 .f32 :=
  divf e (broadcastTo S256x256 (vsum e) broadcasts_S256x1_S256x256)

/-- One over the squared row sums. -/
def vinv (e : FVec Ideal S256x256 .f32) : FVec Ideal S256x1 .f32 :=
  divf (broadcast S256x1 (Scalar.ofBits .f32 0x3F800000#32)) (mulf (vsum e) (vsum e))

/-- The gradient of the scores of one head for a block of rows. -/
def vds (q : FVec Ideal S256x256 .bf16) (k v g : FVec Ideal S256x256 .f32) : FVec Ideal S256x256 .f32 :=
  k1_pay42 (vexp q k) (vsum (vexp q k)) (vinv (vexp q k)) (k1_pay45 v g)

variable (q : FVec Ideal S256x256 .bf16) (k v g e : FVec Ideal S256x256 .f32) (r j : Fin 256)

theorem vexp_read : vexp q k (ix2 r j) = expo (fun d => q (ix2 r d)) (fun j d => k (ix2 j d)) j := by
  pointwise [vexp]
  rfl

theorem vsum_read : vsum e (ix2 r 0) = ∑ j, e (ix2 r j) := by
  pointwise [vsum]

theorem vatt_read0 : vatt e (ix2 r j) = Ideal.div (e (ix2 r j)) (vsum e (ix2 r 0)) := by
  unfold vatt
  generalize vsum e = s
  pointwise []

theorem vatt_read : vatt (vexp q k) (ix2 r j) = weight (fun d => q (ix2 r d)) (fun j d => k (ix2 j d)) j := by
  rw [vatt_read0, vsum_read]
  simp only [vexp_read]
  rfl

theorem vinv_read : vinv e (ix2 r 0) = Ideal.div (Ideal.ofBits .f32 0x3F800000#32) (vsum e (ix2 r 0) * vsum e (ix2 r 0)) := by
  unfold vinv
  generalize vsum e = s
  pointwise []

theorem dp_read : k1_pay45 (F := Ideal) v g (ix2 r j) = dweight (fun d => g (ix2 r d)) (fun j d => v (ix2 j d)) j := by
  pointwise [k1_pay45]
  rfl

theorem pay42_read (s i : FVec Ideal S256x1 .f32) (p : FVec Ideal S256x256 .f32) :
    k1_pay42 (F := Ideal) e s i p (ix2 r j) =
      (Ideal.div (p (ix2 r j)) (s (ix2 r 0)) + (0 - ∑ x, p (ix2 r x) * i (ix2 r 0) * e (ix2 r x))) * e (ix2 r j) *
        Ideal.ofBits .f32 0x3D800000#32 := by
  pointwise [k1_pay42]
  rw [Fin.sum_univ_one]

theorem vds_read : vds q k v g (ix2 r j) =
    dscore (fun d => q (ix2 r d)) (fun d => g (ix2 r d)) (fun j d => k (ix2 j d)) (fun j d => v (ix2 j d)) j := by
  unfold vds
  rw [pay42_read, vinv_read, vsum_read]
  simp only [vexp_read, dp_read]
  rfl

/-! ## The four heads -/

/-- The queries' part of each head, as the kernel cuts it. -/
def qs : Fin 4 → FVec Ideal S256x1024 .bf16 → FVec Ideal S256x256 .bf16 :=
  ![fun x => k1_pay7 x, fun x => k1_pay14 x, fun x => k1_pay23 x, fun x => k1_pay30 x]

/-- The part of each head of the memory's keys or values. -/
def ks : Fin 4 → FVec Ideal S256x1024 .f32 → FVec Ideal S256x256 .f32 :=
  ![fun x => k1_pay8 x, fun x => k1_pay15 x, fun x => k1_pay24 x, fun x => k1_pay31 x]

/-- The part of each head of the incoming gradient. -/
def gs : Fin 4 → FVec Ideal S256x1024 .bf16 → FVec Ideal S256x256 .f32 :=
  ![fun x => k1_pay36 (k1_pay6 x), fun x => k1_pay37 (k1_pay6 x), fun x => k1_pay38 (k1_pay6 x), fun x => k1_pay39 (k1_pay6 x)]

variable (Q G : FVec Ideal S256x1024 .bf16) (K V : FVec Ideal S256x1024 .f32) (n : Fin 4) (d : Fin 256)

theorem qs_read : qs n Q (ix2 r d) = seg n (fun l => Q (ix2 r l)) d := by
  fin_cases n
  · change k1_pay7 (F := Ideal) Q (ix2 r d) = seg 0 _ d
    pointwise [k1_pay7]
    simp [seg]
  · change k1_pay14 (F := Ideal) Q (ix2 r d) = seg 1 _ d
    pointwise [k1_pay14]
    simp [seg]
  · change k1_pay23 (F := Ideal) Q (ix2 r d) = seg 2 _ d
    pointwise [k1_pay23]
    simp [seg]
  · change k1_pay30 (F := Ideal) Q (ix2 r d) = seg 3 _ d
    pointwise [k1_pay30]
    simp [seg]

theorem ks_read : ks n K (ix2 r d) = seg n (fun l => K (ix2 r l)) d := by
  fin_cases n
  · change k1_pay8 (F := Ideal) K (ix2 r d) = seg 0 _ d
    pointwise [k1_pay8]
    simp [seg]
  · change k1_pay15 (F := Ideal) K (ix2 r d) = seg 1 _ d
    pointwise [k1_pay15]
    simp [seg]
  · change k1_pay24 (F := Ideal) K (ix2 r d) = seg 2 _ d
    pointwise [k1_pay24]
    simp [seg]
  · change k1_pay31 (F := Ideal) K (ix2 r d) = seg 3 _ d
    pointwise [k1_pay31]
    simp [seg]

theorem gs_read : gs n G (ix2 r d) = seg n (fun l => G (ix2 r l)) d := by
  fin_cases n
  · change k1_pay36 (F := Ideal) (k1_pay6 G) (ix2 r d) = seg 0 _ d
    pointwise [k1_pay36, k1_pay35, k1_pay6]
    simp [seg]
  · change k1_pay37 (F := Ideal) (k1_pay6 G) (ix2 r d) = seg 1 _ d
    pointwise [k1_pay37, k1_pay35, k1_pay6]
    simp [seg]
  · change k1_pay38 (F := Ideal) (k1_pay6 G) (ix2 r d) = seg 2 _ d
    pointwise [k1_pay38, k1_pay35, k1_pay6]
    simp [seg]
  · change k1_pay39 (F := Ideal) (k1_pay6 G) (ix2 r d) = seg 3 _ d
    pointwise [k1_pay39, k1_pay35, k1_pay6]
    simp [seg]

/-- The columns of head `n` lie between `n` times 256 and the next multiple. -/
theorem bounds (d : Fin 256) : (d : ℕ) < 512 ∧ (d : ℕ) < 768 ∧ 256 + (d : ℕ) < 512 ∧ 256 + (d : ℕ) < 768 ∧ 512 + (d : ℕ) < 768 ∧
    ¬512 + (d : ℕ) < 256 ∧ ¬512 + (d : ℕ) < 512 ∧ ¬512 + (d : ℕ) - 256 < 256 ∧ ¬768 + (d : ℕ) < 256 ∧ ¬768 + (d : ℕ) < 512 ∧
    ¬768 + (d : ℕ) - 512 < 256 ∧ ¬768 + (d : ℕ) - 256 < 256 ∧ ¬256 + (d : ℕ) < 256 ∧ ¬768 + (d : ℕ) - 256 - 256 < 256 := by
  omega

section
variable (k0 k1 k2 k3 e1 e2 e3 w1 p2 p3 D0 a0 a1 a2 g0 g1 g2 g3 : FVec Ideal S256x256 .f32) (u1 s2 u2 s3 i3 : FVec Ideal S256x1 .f32)
  (q0 q1 q2 q3 a3 : FVec Ideal S256x256 .bf16) (old : FVec Ideal S256x1024 .f32)

theorem dq_vec : k1_pay1 k0 (k1_pay57 k1 e1 (k1_pay50 k2 e2 s2 (k1_pay44 k3 e3 s3 i3 p3) p2 u2) u1 w1) D0 (ix2 r (col n d)) =
    ∑ j, (![D0, k1_pay55 e1 u1 w1, k1_pay48 e2 s2 p2 u2, k1_pay42 e3 s3 i3 p3] n) (ix2 r j) * (![k0, k1, k2, k3] n) (ix2 j d) := by
  unfold col
  pointwise [k1_pay1, k1_pay57, k1_pay50, k1_pay44]
  have h := bounds d
  fin_cases n <;> simp [h]

theorem dk_vec : k1_pay4 q0 (k1_pay56 q1 e1 (k1_pay49 q2 e2 s2 (k1_pay43 q3 e3 s3 i3 p3) p2 u2) u1 w1) D0 old (ix2 r (col n d)) =
    old (ix2 r (col n d)) +
      ∑ t, (![D0, k1_pay55 e1 u1 w1, k1_pay48 e2 s2 p2 u2, k1_pay42 e3 s3 i3 p3] n) (ix2 t r) * (![q0, q1, q2, q3] n) (ix2 t d) := by
  unfold col
  pointwise [k1_pay4, k1_pay56, k1_pay49, k1_pay43]
  have h := bounds d
  fin_cases n <;> simp [h]

theorem dv_vec : k1_pay5 (k1_pay58 a0 g0 (k1_pay52 a1 g1 (k1_pay46 a2 g2 g3 a3))) old (ix2 r (col n d)) =
    old (ix2 r (col n d)) + ∑ t, (![a0 (ix2 t r), a1 (ix2 t r), a2 (ix2 t r), a3 (ix2 t r)] n) * (![g0, g1, g2, g3] n) (ix2 t d) := by
  unfold col
  pointwise [k1_pay5, k1_pay58, k1_pay52, k1_pay46]
  have h := bounds d
  fin_cases n <;> simp [h]

end

/-! ## A block's stored values -/

/-- The four heads' results side by side, from their attention weights and the values. -/
def vom (a v : Fin 4 → FVec Ideal S256x256 .f32) : FVec Ideal S256x1024 .bf16 :=
  have m (n : Fin 4) : FVec Ideal S256x256 .f32 := matmul dot_S256x256_S256x256_S256x256_1_0_0_1_n_n none
    (truncf .bf16 (a n) bitsLt_bf16_f32) (truncf .bf16 (v n) bitsLt_bf16_f32) (constant S256x256 .f32 0x00000000#32)
  truncf .bf16 (concatenate S256x1024 1 [⟨S256x256, m 0⟩, ⟨S256x256, m 1⟩, ⟨S256x256, m 2⟩, ⟨S256x256, m 3⟩]
    concatenates_S256x256_S256x256_S256x256_S256x256_S256x1024_d1) bitsLt_bf16_f32

theorem vom_read (a v : Fin 4 → FVec Ideal S256x256 .f32) : vom a v (ix2 r (col n d)) = ∑ j, a n (ix2 r j) * v n (ix2 j d) := by
  unfold col
  pointwise [vom]
  have h := bounds d
  have h2 : 512 + (d : ℕ) - 256 - 256 = d := by omega
  have h3 : 768 + (d : ℕ) - 256 - 256 - 256 = d := by omega
  fin_cases n <;> simp [h, h2, h3]

/-- The gradient of the scores of each head. -/
def dss (n : Fin 4) : FVec Ideal S256x256 .f32 := vds (qs n Q) (ks n K) (ks n V) (gs n G)

/-- The attention weights of each head. -/
def atts (n : Fin 4) : FVec Ideal S256x256 .f32 := vatt (vexp (qs n Q) (ks n K))

theorem dss_read : dss Q G K V n (ix2 r j) = dscore (seg n fun l => Q (ix2 r l)) (seg n fun l => G (ix2 r l))
    (fun j => seg n fun l => K (ix2 j l)) (fun j => seg n fun l => V (ix2 j l)) j := by
  unfold dss
  rw [vds_read]
  simp only [qs_read, ks_read, gs_read]

theorem atts_read : atts Q K n (ix2 r j) = weight (seg n fun l => Q (ix2 r l)) (fun j => seg n fun l => K (ix2 j l)) j := by
  unfold atts
  rw [vatt_read]
  simp only [qs_read, ks_read]

theorem om_block (x : FVec Ideal S256x1024 .bf16) (w : FVec Ideal S1024x1024 .bf16) :
    k0_pay1 (F := Ideal) (k0_pay7 K V (k0_pay3 x w) (k0_pay4 x w K V) (k0_pay5 x w K) (k0_pay6 x w K)) (ix2 r (col n d)) =
      ∑ j, weight (seg n fun l => k0_pay3 (F := Ideal) x w (ix2 r l)) (fun j => seg n fun l => K (ix2 j l)) j * seg n (fun l => V (ix2 j l)) d := by
  have h : k0_pay7 (F := Ideal) K V (k0_pay3 x w) (k0_pay4 x w K V) (k0_pay5 x w K) (k0_pay6 x w K) =
      vom (atts (k0_pay3 x w) K) (fun n => ks n V) := rfl
  rw [h]
  generalize k0_pay3 (F := Ideal) x w = q
  have h1 (z : FVec Ideal S256x1024 .bf16) (l : Fin 1024) : k0_pay1 (F := Ideal) z (ix2 r l) = z (ix2 r l) := by
    pointwise [k0_pay1]
  rw [h1, vom_read]
  simp only [atts_read, ks_read]

/-- The gradient at a block's queries, as the kernel stores it. -/
def dqv : FVec Ideal S256x1024 .bf16 :=
  k1_pay1 (k1_pay8 K)
    (k1_pay57 (k1_pay15 K) (k1_pay16 Q K)
      (k1_pay50 (k1_pay24 K) (k1_pay25 Q K) (k1_pay26 Q K)
        (k1_pay44 (k1_pay31 K) (k1_pay32 Q K) (k1_pay33 Q K) (k1_pay34 Q K) (k1_pay40 (k1_pay6 G) V))
        (k1_pay45 (k1_pay29 V) (k1_pay38 (k1_pay6 G)))
        (k1_pay47 (k1_pay25 Q K) (k1_pay28 Q K) (k1_pay29 V) (k1_pay38 (k1_pay6 G))))
      (k1_pay53 (k1_pay16 Q K) (k1_pay21 (k1_pay19 Q K) k1_pay20) (k1_pay22 V) (k1_pay37 (k1_pay6 G)))
      (k1_pay54 (k1_pay17 Q K) (k1_pay22 V) (k1_pay37 (k1_pay6 G))))
    (k1_pay59 (k1_pay9 Q K) (k1_pay10 Q K) (k1_pay12 Q K) (k1_pay13 V) (k1_pay36 (k1_pay6 G)))

/-- The gradient at the keys after a block, from the gradient before it. -/
def dkv (old : FVec Ideal S256x1024 .f32) : FVec Ideal S256x1024 .f32 :=
  k1_pay4 (k1_pay7 Q)
    (k1_pay56 (k1_pay14 Q) (k1_pay16 Q K)
      (k1_pay49 (k1_pay23 Q) (k1_pay25 Q K) (k1_pay26 Q K)
        (k1_pay43 (k1_pay30 Q) (k1_pay32 Q K) (k1_pay33 Q K) (k1_pay34 Q K) (k1_pay40 (k1_pay6 G) V))
        (k1_pay45 (k1_pay29 V) (k1_pay38 (k1_pay6 G)))
        (k1_pay47 (k1_pay25 Q K) (k1_pay28 Q K) (k1_pay29 V) (k1_pay38 (k1_pay6 G))))
      (k1_pay53 (k1_pay16 Q K) (k1_pay21 (k1_pay19 Q K) k1_pay20) (k1_pay22 V) (k1_pay37 (k1_pay6 G)))
      (k1_pay54 (k1_pay17 Q K) (k1_pay22 V) (k1_pay37 (k1_pay6 G))))
    (k1_pay59 (k1_pay9 Q K) (k1_pay10 Q K) (k1_pay12 Q K) (k1_pay13 V) (k1_pay36 (k1_pay6 G))) old

/-- The gradient at the values after a block, from the gradient before it. -/
def dvv (old : FVec Ideal S256x1024 .f32) : FVec Ideal S256x1024 .f32 :=
  k1_pay5
    (k1_pay58 (k1_pay11 Q K) (k1_pay36 (k1_pay6 G))
      (k1_pay52 (k1_pay18 Q K) (k1_pay37 (k1_pay6 G))
        (k1_pay46 (k1_pay27 Q K) (k1_pay38 (k1_pay6 G)) (k1_pay39 (k1_pay6 G)) (k1_pay41 Q K)))) old

theorem dqv_read : dqv Q G K V (ix2 r (col n d)) = ∑ j, dscore (seg n fun l => Q (ix2 r l)) (seg n fun l => G (ix2 r l))
    (fun j => seg n fun l => K (ix2 j l)) (fun j => seg n fun l => V (ix2 j l)) j * seg n (fun l => K (ix2 j l)) d := by
  have h : dqv Q G K V (ix2 r (col n d)) = ∑ j, dss Q G K V n (ix2 r j) * ks n K (ix2 j d) := by
    unfold dqv
    rw [dq_vec]
    fin_cases n <;> rfl
  rw [h]
  simp only [dss_read, ks_read]

theorem dkv_read (old : FVec Ideal S256x1024 .f32) : dkv Q G K V old (ix2 r (col n d)) = old (ix2 r (col n d)) +
    ∑ t, dscore (seg n fun l => Q (ix2 t l)) (seg n fun l => G (ix2 t l))
      (fun j => seg n fun l => K (ix2 j l)) (fun j => seg n fun l => V (ix2 j l)) r * seg n (fun l => Q (ix2 t l)) d := by
  have h : dkv Q G K V old (ix2 r (col n d)) = old (ix2 r (col n d)) + ∑ t, dss Q G K V n (ix2 t r) * qs n Q (ix2 t d) := by
    unfold dkv
    rw [dk_vec]
    fin_cases n <;> rfl
  rw [h]
  simp only [dss_read, qs_read]

theorem dvv_read (old : FVec Ideal S256x1024 .f32) : dvv Q G K old (ix2 r (col n d)) = old (ix2 r (col n d)) +
    ∑ t, weight (seg n fun l => Q (ix2 t l)) (fun j => seg n fun l => K (ix2 j l)) r * seg n (fun l => G (ix2 t l)) d := by
  have h : dvv Q G K old (ix2 r (col n d)) = old (ix2 r (col n d)) + ∑ t, atts Q K n (ix2 t r) * gs n G (ix2 t d) := by
    unfold dvv
    rw [dv_vec]
    fin_cases n <;> rfl
  rw [h]
  simp only [atts_read, gs_read]

/-! ## A block's stored values as the rows' -/

/-- Row `r` of block `b`. -/
def row (b : ℕ) (hb : b < 16) (r : Fin 256) : Fin 4096 := ⟨256 * b + r, by omega⟩

/-- A row's part of the gradient at the keys, and of the gradient at the values. -/
def partK (P D : Fin 4096 → Fin 1024 → EReal) (Kf Vf : Fin 256 → Fin 1024 → EReal) (s : ℕ) : EReal :=
  if hs : s < 4096 then ds P D Kf Vf n ⟨s, hs⟩ j * seg n (P ⟨s, hs⟩) d else 0
def partV (P D : Fin 4096 → Fin 1024 → EReal) (Kf : Fin 256 → Fin 1024 → EReal) (s : ℕ) : EReal :=
  if hs : s < 4096 then wt P Kf n ⟨s, hs⟩ j * seg n (D ⟨s, hs⟩) d else 0

section
variable {Q G K V}
variable {P D : Fin 4096 → Fin 1024 → EReal} {Kf Vf : Fin 256 → Fin 1024 → EReal} (b : ℕ) (hb : b < 16)

theorem proj_block {x : FVec Ideal S256x1024 .bf16} {w : FVec Ideal S1024x1024 .bf16} {X : Fin 4096 → Fin 1024 → EReal} {W : Fin 1024 → Fin 1024 → EReal}
    (hx : ∀ r i, x (ix2 r i) = X (row b hb r) i) (hw : ∀ i l, w (ix2 i l) = W i l) (l : Fin 1024) :
    k0_pay3 (F := Ideal) x w (ix2 r l) = proj X W (row b hb r) l := by
  pointwise [k0_pay3]
  simp only [hx, hw]
  rfl

theorem stored (z : FVec Ideal S256x1024 .bf16) (l : Fin 1024) : k0_pay2 (F := Ideal) z (ix2 r l) = z (ix2 r l) := by
  pointwise [k0_pay2]

theorem om_of {x : FVec Ideal S256x1024 .bf16} {w : FVec Ideal S1024x1024 .bf16} (hp : ∀ r l, k0_pay3 (F := Ideal) x w (ix2 r l) = P (row b hb r) l)
    (hk : ∀ r l, K (ix2 r l) = Kf r l) (hv : ∀ r l, V (ix2 r l) = Vf r l) :
    k0_pay1 (F := Ideal) (k0_pay7 K V (k0_pay3 x w) (k0_pay4 x w K V) (k0_pay5 x w K) (k0_pay6 x w K)) (ix2 r (col n d)) = omF P Kf Vf (row b hb r) n d := by
  rw [om_block]
  simp only [hp, hk, hv]
  rfl

variable (hq : ∀ r l, Q (ix2 r l) = P (row b hb r) l) (hg : ∀ r l, G (ix2 r l) = D (row b hb r) l) (hk : ∀ r l, K (ix2 r l) = Kf r l)
  (hv : ∀ r l, V (ix2 r l) = Vf r l)
include hq hg hk hv

theorem dq_of : dqv Q G K V (ix2 r (col n d)) = dqF P D Kf Vf (row b hb r) n d := by
  rw [dqv_read]
  simp only [hq, hg, hk, hv]
  rfl

theorem dk_of (old : FVec Ideal S256x1024 .f32) : dkv Q G K V old (ix2 j (col n d)) =
    old (ix2 j (col n d)) + ∑ r : Fin 256, partK j n d P D Kf Vf (256 * b + r) := by
  rw [dkv_read]
  congr 1
  refine Finset.sum_congr rfl fun r _ => ?_
  rw [partK, dif_pos (by omega)]
  simp only [hq, hg, hk, hv]
  rfl

omit hv in
theorem dv_of (old : FVec Ideal S256x1024 .f32) : dvv Q G K old (ix2 j (col n d)) =
    old (ix2 j (col n d)) + ∑ r : Fin 256, partV j n d P D Kf (256 * b + r) := by
  rw [dvv_read]
  congr 1
  refine Finset.sum_congr rfl fun r _ => ?_
  rw [partV, dif_pos (by omega)]
  simp only [hq, hg, hk]
  rfl

end

end
end Cert.Mem
-- ==== Proof.MemRun.lean ====
/- Every run of the memory attention and the gradient into it ends with the buffers the program keeps at the last contents. -/
module

public import proofs.«01_k».proof.Proof.Gen.MemAttnIdeal.Frame

@[expose] public section

set_option maxRecDepth 16384

noncomputable section

open Cert.MemAttnIdeal Cert.MemAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.MemAttnIdeal.Val

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, nothing failing, with the buffers the program keeps at `W4` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.MemAttnIdeal.Val

end
end
-- ==== Proof.MemFinal.lean ====
/- The memory attention and its gradient: the two calls' result arrays as the rows' formulas. -/
module

public import proofs.«01_k».proof.Proof.MemPay
public import proofs.«01_k».proof.Proof.MemRun
public import Idealize.ShloMosaic.Lib.Pipeline.ValueKit
public import Idealize.ShloMosaic.Lib.Claim
public import Idealize.ShloMosaic.Lib.StableHlo.RunClose
public import Idealize.ShloMosaic.Lib.StableHlo.RunRead

@[expose] public section

set_option maxRecDepth 16384

noncomputable section

open Idealize.ShloMosaic Idealize.ShloMosaic.TcCoe Idealize.SL.Sem
open Cert.MemAttnIdeal Cert.MemAttnIdeal.Gen Cert.Mem

namespace Cert.MemAttnIdeal.Val

theorem lt0 (t : Fin cfg0.N) : t.val < 16 := lt_of_lt_of_eq t.isLt (show cfg0.N = 16 from rfl)

theorem lt1 (t : Fin cfg1.N) : t.val < 16 := lt_of_lt_of_eq t.isLt (show cfg1.N = 16 from rfl)

/-- Where each window stands at each point of the first call. -/
theorem idx0 : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, _)

/-- Where each window stands at each point of the second call. -/
theorem idx1 : ∀ t : Fin cfg1.N, win1_0.index t = ![t.val, 0] ∧ win1_1.index t = ![t.val, 0] ∧ win1_2.index t = ![0, 0] ∧ win1_3.index t = ![0, 0]
    ∧ win1_4.index t = ![t.val, 0] ∧ win1_5.index t = ![0, 0] ∧ win1_6.index t = ![0, 0] :=
  (by decide +kernel : ∀ t : Fin grid1.N, _)

/-- A row of the four heads' results, by column. -/
def cols (f : Fin 4 → Fin 256 → EReal) (l : Fin 1024) : EReal := f ⟨(l : ℕ) / 256, by omega⟩ ⟨(l : ℕ) % 256, by omega⟩

theorem cols_col (f : Fin 4 → Fin 256 → EReal) (n : Fin 4) (d : Fin 256) : cols f (col n d) = f n d := by
  have h1 : (⟨((n : ℕ) * 256 + (d : ℕ)) / 256, by omega⟩ : Fin 4) = n := Fin.ext (by show ((n : ℕ) * 256 + (d : ℕ)) / 256 = n; omega)
  have h2 : (⟨((n : ℕ) * 256 + (d : ℕ)) % 256, by omega⟩ : Fin 256) = d := Fin.ext (by show ((n : ℕ) * 256 + (d : ℕ)) % 256 = d; omega)
  exact congrArg₂ f h1 h2

theorem row_eq (b : ℕ) (hb : b < 16) (r : Fin 256) (h : b * 256 + (r : ℕ) < 4096) : row b hb r = ⟨b * 256 + (r : ℕ), h⟩ :=
  Fin.ext (by show 256 * b + (r : ℕ) = b * 256 + r; omega)

variable (m : (ℓ : Loc nD τ sig) → Buf (Elt Ideal) ℓ) (ρ : Dev nD → PrngReg) (c : Dev nD)

/-- One device's projected rows, incoming gradient, keys and values. -/
def aP : Fin 4096 → Fin 1024 → EReal := proj (fun t i => (m ((c : Thread nD τ).loc main_arg0) : FVec Ideal S4096x1024 .f32) (ix2 t i))
  fun i l => (m ((c : Thread nD τ).loc main_arg1) : FVec Ideal S1024x1024 .f32) (ix2 i l)
def aD (t : Fin 4096) (l : Fin 1024) : EReal := (m ((c : Thread nD τ).loc main_arg4) : FVec Ideal S4096x1024 .f32) (ix2 t l)
def aK (j : Fin 256) (l : Fin 1024) : EReal := (m ((c : Thread nD τ).loc main_arg2) : FVec Ideal S256x1024 .f32) (ix2 j l)
def aV (j : Fin 256) (l : Fin 1024) : EReal := (m ((c : Thread nD τ).loc main_arg3) : FVec Ideal S256x1024 .f32) (ix2 j l)

/-! ## The first call -/

theorem op_x (r : Fin 4096) (k : Fin 1024) : (V1 m ρ c main_v0 : FVec Ideal S4096x1024 .bf16) (ix2 r k)
    = (m ((c : Thread nD τ).loc main_arg0) : FVec Ideal S4096x1024 .f32) (ix2 r k) := by
  show StableHlo.after hostOps0 _ (Proc.devRef .tc main_v0) _ = _
  after_reads_simp
  pointwise

theorem op_w (k l : Fin 1024) : (V1 m ρ c main_v1 : FVec Ideal S1024x1024 .bf16) (ix2 k l)
    = (m ((c : Thread nD τ).loc main_arg1) : FVec Ideal S1024x1024 .f32) (ix2 k l) := by
  show StableHlo.after hostOps0 _ (Proc.devRef .tc main_v1) _ = _
  after_reads_simp
  pointwise

theorem in_k (r : Fin 256) (l : Fin 1024) : (V1 m ρ c main_arg2 : FVec Ideal S256x1024 .f32) (ix2 r l) = aK m c r l :=
  congrFun (W1_args m ρ c main_arg2 (by decide +kernel)) _

theorem in_v (r : Fin 256) (l : Fin 1024) : (V1 m ρ c main_arg3 : FVec Ideal S256x1024 .f32) (ix2 r l) = aV m c r l :=
  congrFun (W1_args m ρ c main_arg3 (by decide +kernel)) _

section
variable (t : Fin cfg0.N)

/-- The projected rows at each block. -/
theorem blk_p (r : Fin 256) (l : Fin 1024) :
    k0_pay3 (F := Ideal) (iblk0 (V1 m ρ) c 0 t) (iblk0 (V1 m ρ) c 1 t) (ix2 r l) = aP m c (row t.val (lt0 t) r) l := by
  have ht := lt0 t
  refine proj_block r t.val (lt0 t) (fun r i => ?_) (fun i l => ?_) l
  · refine Eq.trans ?_ (op_x m ρ c (row t.val (lt0 t) r) i)
    unfold row
    blk_ext [iblk0, idx0 t]
  · refine Eq.trans ?_ (op_w m ρ c i l)
    blk_ext [iblk0, idx0 t]

theorem left0_4 (r : Fin 256) (n : Fin 4) (d : Fin 256) : ((dat0 (V1 m ρ) c).after 4 t : FVec Ideal S256x1024 .bf16) (ix2 r (col n d))
    = omF (aP m c) (aK m c) (aV m c) (row t.val (lt0 t) r) n d := by
  rw [after0_4]
  frame_out
  unfold k0_pay8
  frame_out
  refine om_of r n d t.val (lt0 t) (blk_p m ρ c t) (fun r l => ?_) (fun r l => ?_)
  · refine Eq.trans ?_ (in_k m ρ c r l)
    blk_ext [iblk0, idx0 t]
  · refine Eq.trans ?_ (in_v m ρ c r l)
    blk_ext [iblk0, idx0 t]

theorem left0_5 (r : Fin 256) (l : Fin 1024) : ((dat0 (V1 m ρ) c).after 5 t : FVec Ideal S256x1024 .bf16) (ix2 r l) = aP m c (row t.val (lt0 t) r) l := by
  rw [after0_5]
  frame_out
  unfold k0_pay8
  frame_out
  rw [stored]
  exact blk_p m ρ c t r l

end

theorem final0_4 (s : Fin 4096) (n : Fin 4) (d : Fin 256) : ((dat0 (V1 m ρ) c).arrAt 4 cfg0.N : FVec Ideal S4096x1024 .bf16) (ix2 s (col n d))
    = omF (aP m c) (aK m c) (aV m c) s n d := by
  have e : (dat0 (V1 m ρ) c).arrAt 4 cfg0.N
      = (fun i => cols (omF (aP m c) (aK m c) (aV m c) ⟨(i 0 : ℕ), (i 0).isLt⟩) ⟨(i 1 : ℕ), (i 1).isLt⟩ : FVec Ideal S4096x1024 .bf16) := by
    refine (dat0 (V1 m ρ) c).arrAt_eq_of_covers 4 _ (by decide +kernel) (fun t hf y => ?_)
    have ht := lt0 t
    idx_vars y
    blk_simp [idx0 t]
    obtain ⟨n, d, rfl⟩ := col_surj y1
    refine (left0_4 m ρ c t y0 n d).trans ?_
    exact (congrArg (fun s => omF (aP m c) (aK m c) (aV m c) s n d) (row_eq _ _ _ (by omega))).trans (cols_col _ n d).symm
  rw [e]
  exact cols_col _ n d

theorem final0_5 (s : Fin 4096) (l : Fin 1024) : ((dat0 (V1 m ρ) c).arrAt 5 cfg0.N : FVec Ideal S4096x1024 .bf16) (ix2 s l) = aP m c s l := by
  have e : (dat0 (V1 m ρ) c).arrAt 5 cfg0.N
      = (fun i => aP m c ⟨(i 0 : ℕ), (i 0).isLt⟩ ⟨(i 1 : ℕ), (i 1).isLt⟩ : FVec Ideal S4096x1024 .bf16) := by
    refine (dat0 (V1 m ρ) c).arrAt_eq_of_covers 5 _ (by decide +kernel) (fun t hf y => ?_)
    have ht := lt0 t
    idx_vars y
    blk_simp [idx0 t]
    refine (left0_5 m ρ c t y0 y1).trans ?_
    exact congrArg (fun s => aP m c s y1) (row_eq _ _ _ (by omega))
  rw [e]
  rfl

/-! ## The second call -/

theorem op_q (r : Fin 4096) (l : Fin 1024) : (V3 m ρ c main_v2_1 : FVec Ideal S4096x1024 .bf16) (ix2 r l) = aP m c r l :=
  (congrFun ((W3_of m ρ c main_v2_1 (by decide +kernel)).trans (W2_arr m ρ c 5)) _).trans (final0_5 m ρ c r l)

theorem op_g (r : Fin 4096) (l : Fin 1024) : (V3 m ρ c main_v3 : FVec Ideal S4096x1024 .bf16) (ix2 r l) = aD m c r l := by
  unfold aD
  rw [← W2_args m ρ c main_arg4 (by decide +kernel)]
  show StableHlo.after hostOps1 _ (Proc.devRef .tc main_v3) _ = _
  generalize W2 m ρ c = Q
  after_reads_simp
  pointwise

theorem op_k (r : Fin 256) (l : Fin 1024) : (V3 m ρ c main_arg2 : FVec Ideal S256x1024 .f32) (ix2 r l) = aK m c r l :=
  congrFun (W3_args m ρ c main_arg2 (by decide +kernel)) _

theorem op_v (r : Fin 256) (l : Fin 1024) : (V3 m ρ c main_arg3 : FVec Ideal S256x1024 .f32) (ix2 r l) = aV m c r l :=
  congrFun (W3_args m ρ c main_arg3 (by decide +kernel)) _

section
variable (t : Fin cfg1.N)

theorem blk_q (r : Fin 256) (l : Fin 1024) : (iblk1 (V3 m ρ) c 0 t : FVec Ideal S256x1024 .bf16) (ix2 r l) = aP m c (row t.val (lt1 t) r) l := by
  have ht := lt1 t
  refine Eq.trans ?_ (op_q m ρ c (row t.val (lt1 t) r) l)
  unfold row
  blk_ext [iblk1, idx1 t]

theorem blk_g (r : Fin 256) (l : Fin 1024) : (iblk1 (V3 m ρ) c 1 t : FVec Ideal S256x1024 .bf16) (ix2 r l) = aD m c (row t.val (lt1 t) r) l := by
  have ht := lt1 t
  refine Eq.trans ?_ (op_g m ρ c (row t.val (lt1 t) r) l)
  unfold row
  blk_ext [iblk1, idx1 t]

theorem blk_k (r : Fin 256) (l : Fin 1024) : (iblk1 (V3 m ρ) c 2 t : FVec Ideal S256x1024 .f32) (ix2 r l) = aK m c r l := by
  refine Eq.trans ?_ (op_k m ρ c r l)
  blk_ext [iblk1, idx1 t]

theorem blk_v (r : Fin 256) (l : Fin 1024) : (iblk1 (V3 m ρ) c 3 t : FVec Ideal S256x1024 .f32) (ix2 r l) = aV m c r l := by
  refine Eq.trans ?_ (op_v m ρ c r l)
  blk_ext [iblk1, idx1 t]

/-- The stored block of the gradient at the queries. -/
theorem left4 (r : Fin 256) (n : Fin 4) (d : Fin 256) : (outsAt1 (V3 m ρ) c t.val t.isLt).1 (ix2 r (col n d))
    = dqF (aP m c) (aD m c) (aK m c) (aV m c) (row t.val (lt1 t) r) n d := by
  have e := dq_of r n d t.val (lt1 t) (blk_q m ρ c t) (blk_g m ρ c t) (blk_k m ρ c t) (blk_v m ρ c t)
  unfold dqv at e
  by_cases h0 : t.val % 16 = 0
  · rw [outsAt1_A _ c t h0]
    frame_out
    exact e
  · rw [outsAt1_B _ c t h0]
    frame_out
    exact e

end

/-- A running sum of rows grows by a block's rows. -/
theorem grow {f : ℕ → EReal} (n : ℕ) : ∑ s ∈ Finset.range (256 * n), f s + ∑ r : Fin 256, f (256 * n + r) = ∑ s ∈ Finset.range (256 * (n + 1)), f s := by
  rw [show 256 * (n + 1) = 256 * n + 256 by ring, Finset.sum_range_add, Fin.sum_univ_eq_sum_range fun r => f (256 * n + r)]

/-- The running gradient at the keys. -/
theorem left5 (j : Fin 256) (n : Fin 4) (d : Fin 256) : ∀ (k : ℕ) (hk : k < cfg1.N), (outsAt1 (V3 m ρ) c k hk).2.1 (ix2 j (col n d))
    = ∑ s ∈ Finset.range (256 * (k + 1)), partK j n d (aP m c) (aD m c) (aK m c) (aV m c) s
  | 0, hk => by
    have e : outsAt1 (V3 m ρ) c 0 hk = _ := outsAt1_A _ c ⟨0, hk⟩ rfl
    rw [e]
    frame_out
    refine (dk_of j n d 0 (by omega) (blk_q m ρ c ⟨0, hk⟩) (blk_g m ρ c ⟨0, hk⟩) (blk_k m ρ c ⟨0, hk⟩) (blk_v m ρ c ⟨0, hk⟩) k1_pay2).trans ?_
    rw [← grow 0]
    pointwise [k1_pay2]
    rw [Finset.range_zero, Finset.sum_empty, zero_add]
  | k + 1, hk => by
    have e : outsAt1 (V3 m ρ) c (k + 1) hk = _ := outsAt1_B _ c ⟨k + 1, hk⟩ (by have := lt1 ⟨k + 1, hk⟩; simp only [] at this ⊢; omega)
    rw [e]
    frame_out
    refine (dk_of j n d (k + 1) (lt1 ⟨k + 1, hk⟩) (blk_q m ρ c ⟨k + 1, hk⟩) (blk_g m ρ c ⟨k + 1, hk⟩) (blk_k m ρ c ⟨k + 1, hk⟩) (blk_v m ρ c ⟨k + 1, hk⟩) _).trans ?_
    rw [← grow (k + 1), ← left5 j n d k (by omega)]
    rfl

/-- The running gradient at the values. -/
theorem left6 (j : Fin 256) (n : Fin 4) (d : Fin 256) : ∀ (k : ℕ) (hk : k < cfg1.N), (outsAt1 (V3 m ρ) c k hk).2.2 (ix2 j (col n d))
    = ∑ s ∈ Finset.range (256 * (k + 1)), partV j n d (aP m c) (aD m c) (aK m c) s
  | 0, hk => by
    have e : outsAt1 (V3 m ρ) c 0 hk = _ := outsAt1_A _ c ⟨0, hk⟩ rfl
    rw [e]
    frame_out
    refine (dv_of j n d 0 (by omega) (blk_q m ρ c ⟨0, hk⟩) (blk_g m ρ c ⟨0, hk⟩) (blk_k m ρ c ⟨0, hk⟩) k1_pay3).trans ?_
    rw [← grow 0]
    pointwise [k1_pay3]
    rw [Finset.range_zero, Finset.sum_empty, zero_add]
  | k + 1, hk => by
    have e : outsAt1 (V3 m ρ) c (k + 1) hk = _ := outsAt1_B _ c ⟨k + 1, hk⟩ (by have := lt1 ⟨k + 1, hk⟩; simp only [] at this ⊢; omega)
    rw [e]
    frame_out
    refine (dv_of j n d (k + 1) (lt1 ⟨k + 1, hk⟩) (blk_q m ρ c ⟨k + 1, hk⟩) (blk_g m ρ c ⟨k + 1, hk⟩) (blk_k m ρ c ⟨k + 1, hk⟩) _).trans ?_
    rw [← grow (k + 1), ← left6 j n d k (by omega)]
    rfl

theorem sumK (j : Fin 256) (n : Fin 4) (d : Fin 256) : ∑ s ∈ Finset.range 4096, partK j n d (aP m c) (aD m c) (aK m c) (aV m c) s
    = dkF (aP m c) (aD m c) (aK m c) (aV m c) j n d := by
  rw [Finset.sum_range]
  exact Finset.sum_congr rfl fun s _ => dif_pos s.isLt

theorem sumV (j : Fin 256) (n : Fin 4) (d : Fin 256) : ∑ s ∈ Finset.range 4096, partV j n d (aP m c) (aD m c) (aK m c) s
    = dvF (aP m c) (aD m c) (aK m c) j n d := by
  rw [Finset.sum_range]
  exact Finset.sum_congr rfl fun s _ => dif_pos s.isLt

theorem final1_4 (s : Fin 4096) (n : Fin 4) (d : Fin 256) : ((dat1 (V3 m ρ) c).arrAt 4 cfg1.N : FVec Ideal S4096x1024 .bf16) (ix2 s (col n d))
    = dqF (aP m c) (aD m c) (aK m c) (aV m c) s n d := by
  have e : (dat1 (V3 m ρ) c).arrAt 4 cfg1.N
      = (fun i => cols (dqF (aP m c) (aD m c) (aK m c) (aV m c) ⟨(i 0 : ℕ), (i 0).isLt⟩) ⟨(i 1 : ℕ), (i 1).isLt⟩ : FVec Ideal S4096x1024 .bf16) := by
    refine (dat1 (V3 m ρ) c).arrAt_eq_of_covers 4 _ (by decide +kernel) (fun t hf y => ?_)
    have ht := lt1 t
    idx_vars y
    blk_simp [idx1 t]
    rw [after1_4]
    obtain ⟨n, d, rfl⟩ := col_surj y1
    refine (left4 m ρ c t y0 n d).trans ?_
    exact (congrArg (fun s => dqF (aP m c) (aD m c) (aK m c) (aV m c) s n d) (row_eq _ _ _ (by omega))).trans (cols_col _ n d).symm
  rw [e]
  exact cols_col _ n d

theorem final1_5 (j : Fin 256) (n : Fin 4) (d : Fin 256) : ((dat1 (V3 m ρ) c).arrAt 5 cfg1.N : FVec Ideal S256x1024 .f32) (ix2 j (col n d))
    = dkF (aP m c) (aD m c) (aK m c) (aV m c) j n d := by
  have e : (dat1 (V3 m ρ) c).arrAt 5 cfg1.N
      = (fun i => cols (dkF (aP m c) (aD m c) (aK m c) (aV m c) ⟨(i 0 : ℕ), (i 0).isLt⟩) ⟨(i 1 : ℕ), (i 1).isLt⟩ : FVec Ideal S256x1024 .f32) := by
    refine (dat1 (V3 m ρ) c).arrAt_eq_of_after_last 5 t1_15 (by decide +kernel) _ fun y => ?_
    idx_vars y
    blk_simp
    rw [after1_5]
    obtain ⟨n, d, rfl⟩ := col_surj y1
    refine (left5 m ρ c y0 n d _ _).trans ((sumK m c y0 n d).trans ?_)
    exact (cols_col _ n d).symm
  rw [e]
  exact cols_col _ n d

theorem final1_6 (j : Fin 256) (n : Fin 4) (d : Fin 256) : ((dat1 (V3 m ρ) c).arrAt 6 cfg1.N : FVec Ideal S256x1024 .f32) (ix2 j (col n d))
    = dvF (aP m c) (aD m c) (aK m c) j n d := by
  have e : (dat1 (V3 m ρ) c).arrAt 6 cfg1.N
      = (fun i => cols (dvF (aP m c) (aD m c) (aK m c) ⟨(i 0 : ℕ), (i 0).isLt⟩) ⟨(i 1 : ℕ), (i 1).isLt⟩ : FVec Ideal S256x1024 .f32) := by
    refine (dat1 (V3 m ρ) c).arrAt_eq_of_after_last 6 t1_15 (by decide +kernel) _ fun y => ?_
    idx_vars y
    blk_simp
    rw [after1_6]
    obtain ⟨n, d, rfl⟩ := col_surj y1
    refine (left6 m ρ c y0 n d _ _).trans ((sumV m c y0 n d).trans ?_)
    exact (cols_col _ n d).symm
  rw [e]
  exact cols_col _ n d

/-! ## The results -/

theorem res_om (s : Fin 4096) (n : Fin 4) (d : Fin 256) : (W4 m ρ c (Proc.devRef .tc main_v2_0) : FVec Ideal S4096x1024 .bf16) (ix2 s (col n d))
    = omF (aP m c) (aK m c) (aV m c) s n d :=
  (congrFun ((W4_of m ρ c main_v2_0 (by decide +kernel)).trans ((W3_of m ρ c main_v2_0 (by decide +kernel)).trans (W2_arr m ρ c 4))) _).trans (final0_4 m ρ c s n d)

theorem res_dq (s : Fin 4096) (n : Fin 4) (d : Fin 256) : (W4 m ρ c (Proc.devRef .tc main_v4_0) : FVec Ideal S4096x1024 .bf16) (ix2 s (col n d))
    = dqF (aP m c) (aD m c) (aK m c) (aV m c) s n d :=
  (congrFun (W4_arr m ρ c 4) _).trans (final1_4 m ρ c s n d)

theorem res_dk (j : Fin 256) (n : Fin 4) (d : Fin 256) : (W4 m ρ c (Proc.devRef .tc main_v4_1) : FVec Ideal S256x1024 .f32) (ix2 j (col n d))
    = dkF (aP m c) (aD m c) (aK m c) (aV m c) j n d :=
  (congrFun (W4_arr m ρ c 5) _).trans (final1_5 m ρ c j n d)

theorem res_dv (j : Fin 256) (n : Fin 4) (d : Fin 256) : (W4 m ρ c (Proc.devRef .tc main_v4_2) : FVec Ideal S256x1024 .f32) (ix2 j (col n d))
    = dvF (aP m c) (aD m c) (aK m c) j n d :=
  (congrFun (W4_arr m ρ c 6) _).trans (final1_6 m ρ c j n d)

/-- The results at the end of a run. -/
@[irreducible] def res (c : Dev nD) : FVec Ideal S4096x1024 .bf16 × FVec Ideal S4096x1024 .bf16 × FVec Ideal S256x1024 .f32 × FVec Ideal S256x1024 .f32 :=
  (W4 m ρ c (Proc.devRef .tc main_v2_0), W4 m ρ c (Proc.devRef .tc main_v4_0), W4 m ρ c (Proc.devRef .tc main_v4_1), W4 m ρ c (Proc.devRef .tc main_v4_2))

theorem res_eq (c : Dev nD) : res m ρ c = (W4 m ρ c (Proc.devRef .tc main_v2_0), W4 m ρ c (Proc.devRef .tc main_v4_0),
    W4 m ρ c (Proc.devRef .tc main_v4_1), W4 m ρ c (Proc.devRef .tc main_v4_2)) := by
  unfold res
  rfl

set_option maxHeartbeats 1000000 in
/-- Every run ends with the results at `res`. -/
theorem run_main : θ_run defs (onTc (τ := τ) (main (F := Ideal))) ⟨m, fun _ => 0, ρ⟩ (fun r => ∀ c : Dev nD,
      r.2.mem ((c.tc : Thread nD τ).loc main_v2_0) = (res m ρ c).1
      ∧ r.2.mem ((c.tc : Thread nD τ).loc main_v4_0) = (res m ρ c).2.1
      ∧ r.2.mem ((c.tc : Thread nD τ).loc main_v4_1) = (res m ρ c).2.2.1
      ∧ r.2.mem ((c.tc : Thread nD τ).loc main_v4_2) = (res m ρ c).2.2.2) :=
  (θ_run defs _ _).mono (fun r h c => by
    rw [res_eq]
    exact ⟨h.1 c (Proc.devRef .tc main_v2_0) (mem_uc main_v2_0 (by decide +kernel)), h.1 c (Proc.devRef .tc main_v4_0) (mem_uc main_v4_0 (by decide +kernel)),
      h.1 c (Proc.devRef .tc main_v4_1) (mem_uc main_v4_1 (by decide +kernel)), h.1 c (Proc.devRef .tc main_v4_2) (mem_uc main_v4_2 (by decide +kernel))⟩) (run_all m ρ)

end Cert.MemAttnIdeal.Val

end
end
-- ==== Proof.MemRef.lean ====
/- The memory attention and its derivative: the reference's results. -/
module

public import proofs.«01_k».proof.Proof.MemPay
public import proofs.«01_k».proof.Proof.Gen.MemAttnRefIdeal.Read
public import Idealize.ShloMosaic.Lib.Pipeline.ValueKit

@[expose] public section

set_option maxRecDepth 16384

noncomputable section

open Idealize.ShloMosaic Idealize.ShloMosaic.TcCoe Idealize.SL.Sem
open Cert.MemAttnRefIdeal Cert.MemAttnRefIdeal.Gen Cert.MemAttnRefIdeal.Value Cert.MemAttnRefIdeal.Read

namespace Cert.Mem

section
variable (x0 : FVec Ideal S4096x1024 .f32) (x1 : FVec Ideal S1024x1024 .f32) (x2 x3 : FVec Ideal S256x1024 .f32) (x4 : FVec Ideal S4096x1024 .f32)
  (t : Fin 4096) (n : Fin 4) (j d : Fin 256)

/-- The reference's projected rows. -/
def rows : Fin 4096 → Fin 1024 → EReal := proj (fun t i => x0 (ix2 t i)) fun i l => x1 (ix2 i l)

theorem ref_proj (l : Fin 1024) : val_main_v0 (F := Ideal) x0 x1 (ix2 t l) = rows x0 x1 t l := by
  pointwise [val_main_v0]
  rfl

theorem ref_q : val_main_v1 (F := Ideal) x0 x1 (ix3 t n d) = seg n (rows x0 x1 t) d := by
  rw [seg, ← ref_proj]
  unfold val_main_v1
  generalize val_main_v0 (F := Ideal) x0 x1 = z
  pointwise []

theorem ref_k : val_main_v2 (F := Ideal) x2 (ix3 j n d) = seg n (fun l => x2 (ix2 j l)) d := by
  pointwise [val_main_v2]
  rfl

theorem ref_v : val_main_v3 (F := Ideal) x3 (ix3 j n d) = seg n (fun l => x3 (ix2 j l)) d := by
  pointwise [val_main_v3]
  rfl

theorem ref_g : val_main_v39 (F := Ideal) x4 (ix3 n d t) = seg n (fun l => x4 (ix2 t l)) d := by
  pointwise [val_main_v39, val_main_v38]
  rfl

theorem ref_score : val_main_v6 (F := Ideal) x0 x1 x2 (ix3 n t j) = score (seg n (rows x0 x1 t)) (fun j => seg n fun l => x2 (ix2 j l)) j := by
  simp only [score, ← ref_q, ← ref_k]
  unfold val_main_v6 val_main_v4 val_main_v5 val_main_cst
  generalize val_main_v1 (F := Ideal) x0 x1 = q
  generalize val_main_v2 (F := Ideal) x2 = k
  pointwise []

theorem max_read (z : FVec Ideal S4x4096x256 .f32) :
    (Host.reduce FloatOps.maximumf z (constant S_ .f32 0xFF800000#32) reducesTo_S4x4096x256_S4x4096_d2 h_S_ : FVec Ideal S4x4096 .f32) (ix2 n t) =
      Finset.fold max (Ideal.ofBits .f32 0xFF800000#32) (fun j => z (ix3 n t j)) Finset.univ := by
  pointwise []

theorem v7_read : val_main_v7 (F := Ideal) x0 x1 x2 = (Host.reduce FloatOps.maximumf (val_main_v6 (F := Ideal) x0 x1 x2) (constant S_ .f32 0xFF800000#32)
    reducesTo_S4x4096x256_S4x4096_d2 h_S_ : FVec Ideal S4x4096 .f32) := by
  unfold val_main_v7 val_main_cst_0
  rfl

theorem max_of (f : Fin 256 → EReal) (hf : ∀ j, val_main_v6 (F := Ideal) x0 x1 x2 (ix3 n t j) = f j) :
    val_main_v7 (F := Ideal) x0 x1 x2 (ix2 n t) = Finset.fold max (Ideal.ofBits .f32 0xFF800000#32) f Finset.univ := by
  rw [v7_read]
  generalize val_main_v6 (F := Ideal) x0 x1 x2 = z at *
  rw [max_read]
  have e : (fun j => z (ix3 n t j)) = f := funext hf
  exact congrArg (fun f : Fin 256 → EReal => Finset.fold max (Ideal.ofBits .f32 0xFF800000#32) f Finset.univ) e

theorem ref_max : val_main_v7 (F := Ideal) x0 x1 x2 (ix2 n t) = Finset.fold max (Ideal.ofBits .f32 0xFF800000#32)
    (score (seg n (rows x0 x1 t)) fun j => seg n fun l => x2 (ix2 j l)) Finset.univ :=
  max_of x0 x1 x2 t n _ (ref_score x0 x1 x2 t n)

theorem max_bot (y : EReal) : max (Ideal.ofBits .f32 0xFF800000#32) y = y := by
  simp [Ideal.ofBits, Ideal.ieee]

theorem raised_read (z : FVec Ideal S4x4096 .f32) :
    (maximumf (broadcastInDim S4x4096 ![] bcast_S_S4x4096 (constant S_ .f32 0xFF800000#32)) z : FVec Ideal S4x4096 .f32) (ix2 n t) = z (ix2 n t) :=
  max_bot _

theorem ref_max' : val_main_v14 (F := Ideal) x0 x1 x2 (ix2 n t) = val_main_v7 (F := Ideal) x0 x1 x2 (ix2 n t) := by
  unfold val_main_v14 val_main_v13 val_main_cst_2
  exact raised_read t n _

theorem ref_expo : val_main_v27 (F := Ideal) x0 x1 x2 (ix3 n t j) = expo (seg n (rows x0 x1 t)) (fun j => seg n fun l => x2 (ix2 j l)) j := by
  rw [expo, ← ref_max, ← ref_max', ← ref_score]
  unfold val_main_v27 val_main_v26 val_main_v25 val_main_v24
  generalize val_main_v6 (F := Ideal) x0 x1 x2 = z
  generalize val_main_v14 (F := Ideal) x0 x1 x2 = y
  pointwise []

theorem ref_total : val_main_v29 (F := Ideal) x0 x1 x2 (ix3 n t 0) = total (seg n (rows x0 x1 t)) (fun j => seg n fun l => x2 (ix2 j l)) := by
  simp only [total, ← ref_expo]
  unfold val_main_v29 val_main_v28 val_main_cst_8
  generalize val_main_v27 (F := Ideal) x0 x1 x2 = z
  pointwise []

theorem ref_wt : val_main_v31 (F := Ideal) x0 x1 x2 (ix3 n t j) = wt (rows x0 x1) (fun j l => x2 (ix2 j l)) n t j := by
  rw [wt, weight, ← ref_total, ← ref_expo]
  unfold val_main_v31 val_main_v30
  generalize val_main_v27 (F := Ideal) x0 x1 x2 = z
  generalize val_main_v29 (F := Ideal) x0 x1 x2 = y
  pointwise []

theorem ref_dp : val_main_v40 (F := Ideal) x3 x4 (ix3 n t j) = dweight (seg n fun l => x4 (ix2 t l)) (fun j => seg n fun l => x3 (ix2 j l)) j := by
  simp only [dweight, ← ref_g, ← ref_v]
  unfold val_main_v40
  generalize val_main_v39 (F := Ideal) x4 = g
  generalize val_main_v3 (F := Ideal) x3 = v
  pointwise []

theorem ref_ds : val_main_v56 (F := Ideal) x0 x1 x2 x3 x4 (ix3 n t j) =
    ds (rows x0 x1) (fun t l => x4 (ix2 t l)) (fun j l => x2 (ix2 j l)) (fun j l => x3 (ix2 j l)) n t j := by
  simp only [ds, dscore, ← ref_dp, ← ref_expo, ← ref_total]
  unfold val_main_v56 val_main_v55 val_main_v54 val_main_v53 val_main_v52 val_main_v51 val_main_v50 val_main_v49 val_main_v48 val_main_v47 val_main_v46
    val_main_v45 val_main_v44 val_main_v43 val_main_v34 val_main_v33 val_main_v32 val_main_cst_9 val_main_cst_10 val_main_cst_11 val_main_cst_12
  generalize val_main_v27 (F := Ideal) x0 x1 x2 = e
  generalize val_main_v29 (F := Ideal) x0 x1 x2 = s
  generalize val_main_v40 (F := Ideal) x3 x4 = p
  pointwise []
  simp only [Fin.sum_univ_one, zero_sub]

/-- The reference's attention. -/
theorem ref_om : val_main_v64 (F := Ideal) x0 x1 x2 x3 (ix2 t (col n d)) =
    omF (rows x0 x1) (fun j l => x2 (ix2 j l)) (fun j l => x3 (ix2 j l)) t n d := by
  simp only [omF, ← ref_wt, ← ref_v]
  unfold val_main_v64 val_main_v37 val_main_v36 val_main_v35
  generalize val_main_v31 (F := Ideal) x0 x1 x2 = a
  generalize val_main_v3 (F := Ideal) x3 = v
  unfold col
  pointwise []
  exact Finset.sum_congr rfl fun _ _ => mul_comm _ _

/-- The reference's gradient at the queries. -/
theorem ref_dq : val_main_v65 (F := Ideal) x0 x1 x2 x3 x4 (ix2 t (col n d)) =
    dqF (rows x0 x1) (fun t l => x4 (ix2 t l)) (fun j l => x2 (ix2 j l)) (fun j l => x3 (ix2 j l)) t n d := by
  simp only [dqF, ← ref_ds, ← ref_k]
  unfold val_main_v65 val_main_v63 val_main_v60 val_main_v59
  generalize val_main_v56 (F := Ideal) x0 x1 x2 x3 x4 = a
  generalize val_main_v2 (F := Ideal) x2 = k
  unfold col
  pointwise []

/-- The reference's gradient at the keys. -/
theorem ref_dk : val_main_v62 (F := Ideal) x0 x1 x2 x3 x4 (ix2 j (col n d)) =
    dkF (rows x0 x1) (fun t l => x4 (ix2 t l)) (fun j l => x2 (ix2 j l)) (fun j l => x3 (ix2 j l)) j n d := by
  simp only [dkF, ← ref_ds, ← ref_q]
  unfold val_main_v62 val_main_v58 val_main_v57
  generalize val_main_v56 (F := Ideal) x0 x1 x2 x3 x4 = a
  generalize val_main_v1 (F := Ideal) x0 x1 = q
  unfold col
  pointwise []

/-- The reference's gradient at the values. -/
theorem ref_dv : val_main_v61 (F := Ideal) x0 x1 x2 x4 (ix2 j (col n d)) =
    dvF (rows x0 x1) (fun t l => x4 (ix2 t l)) (fun j l => x2 (ix2 j l)) j n d := by
  simp only [dvF, ← ref_wt, ← ref_g]
  unfold val_main_v61 val_main_v42 val_main_v41
  generalize val_main_v31 (F := Ideal) x0 x1 x2 = a
  generalize val_main_v39 (F := Ideal) x4 = g
  unfold col
  pointwise []
  exact Finset.sum_congr rfl fun _ _ => mul_comm _ _

end
end Cert.Mem
-- ==== Proof.MemClaim.lean ====
/- The memory attention and the gradient into it agree with the reference's. -/
module

public import proofs.«01_k».proof.Defs
public import proofs.«01_k».proof.Proof.MemFinal
public import proofs.«01_k».proof.Proof.MemRef
public import proofs.«01_k».proof.Proof.Gen.MemAttnRefIdeal.Read
public import proofs.«01_k».proof.Proof.Gen.MemAttnRefIdeal.Run
public import Idealize.ShloMosaic.Lib.Claim

@[expose] public section

set_option maxRecDepth 16384

noncomputable section

open Idealize.ShloMosaic Idealize.ShloMosaic.TcCoe Idealize.SL.Sem

namespace Cert.Mem

attribute [local instance] Cert.MemAttnIdeal.Gen.facts Cert.MemAttnRefIdeal.Gen.facts

/-- The reference runs, leaves its arguments unchanged and has no counters. -/
theorem frame_ref : Cert.quiescent_MemAttnRefIdeal := fun m g _ =>
  (θ_run Cert.MemAttnRefIdeal.defs _ _).mono (fun r h => ⟨fun c => (h c).2.2.2.2, sem_eq_zero_of_no_sems (by decide) r.2⟩)
    (Cert.MemAttnRefIdeal.Value.run (F := Ideal) m g)

/-- The claim about the values. -/
theorem algebraic : Cert.algebraic_MemAttnIdeal_MemAttnRefIdeal := by
  pair_intro
  · run_from Cert.MemAttnIdeal.Val.run_main m g & Cert.MemAttnIdeal.Gen.unchanged m g
  · run_from Cert.MemAttnRefIdeal.Value.run m' g'
    · obtain ⟨a0, a1, a2, a3, a4⟩ := hagree c
      rw [Cert.MemAttnRefIdeal.Read.val_main_v64_eq, Cert.MemAttnIdeal.Val.res_eq]
      funext y
      idx_vars y
      obtain ⟨n, d, rfl⟩ := col_surj y1
      exact (ref_om _ _ _ _ y0 n d).trans (Cert.MemAttnIdeal.Val.res_om m g c y0 n d).symm
    · obtain ⟨a0, a1, a2, a3, a4⟩ := hagree c
      rw [Cert.MemAttnRefIdeal.Read.val_main_v65_eq, Cert.MemAttnIdeal.Val.res_eq]
      simp only [a0, a1, a2, a3, a4]
      funext y
      idx_vars y
      obtain ⟨n, d, rfl⟩ := col_surj y1
      exact (ref_dq _ _ _ _ _ y0 n d).trans (Cert.MemAttnIdeal.Val.res_dq m g c y0 n d).symm
    · obtain ⟨a0, a1, a2, a3, a4⟩ := hagree c
      rw [Cert.MemAttnRefIdeal.Read.val_main_v62_eq, Cert.MemAttnIdeal.Val.res_eq]
      simp only [a0, a1, a2, a3, a4]
      funext y
      idx_vars y
      obtain ⟨n, d, rfl⟩ := col_surj y1
      exact (ref_dk _ _ _ _ _ n y0 d).trans (Cert.MemAttnIdeal.Val.res_dk m g c y0 n d).symm
    · obtain ⟨a0, a1, a2, a3, a4⟩ := hagree c
      rw [Cert.MemAttnRefIdeal.Read.val_main_v61_eq, Cert.MemAttnIdeal.Val.res_eq]
      funext y
      idx_vars y
      obtain ⟨n, d, rfl⟩ := col_surj y1
      exact (ref_dv _ _ _ _ n y0 d).trans (Cert.MemAttnIdeal.Val.res_dv m g c y0 n d).symm

end Cert.Mem

end
-- ==== Proof.lean ====
/- The claims of the certificate, each by its proof. -/
module

public import proofs.«01_k».proof.Defs
public import proofs.«01_k».proof.Proof.Gen.PoolBwd
public import proofs.«01_k».proof.Proof.Gen.PoolBwd.Skeleton
public import proofs.«01_k».proof.Proof.Gen.PoolBwd.Launch
public import proofs.«01_k».proof.Proof.Gen.PoolBwd.Points
public import proofs.«01_k».proof.Proof.Gen.PoolBwd.Frame
public import proofs.«01_k».proof.Proof.Gen.PoolBwdIdeal
public import proofs.«01_k».proof.Proof.Gen.PoolBwdIdeal.Skeleton
public import proofs.«01_k».proof.Proof.Gen.PoolBwdIdeal.Launch
public import proofs.«01_k».proof.Proof.Gen.PoolBwdIdeal.Points
public import proofs.«01_k».proof.Proof.Gen.PoolBwdIdeal.Frame
public import proofs.«01_k».proof.Proof.Gen.PoolBwdRefIdeal
public import proofs.«01_k».proof.Proof.Gen.PoolBwdRefIdeal.Run
public import proofs.«01_k».proof.Proof.Gen.PoolBwdRefIdeal.Read
public import proofs.«01_k».proof.Proof.Gen.Pre_pool_finite
public import proofs.«01_k».proof.Proof.Gen.Flash
public import proofs.«01_k».proof.Proof.Gen.FlashIdeal
public import proofs.«01_k».proof.Proof.Gen.Flash.Skeleton
public import proofs.«01_k».proof.Proof.Gen.Flash.Launch
public import proofs.«01_k».proof.Proof.Gen.Flash.Points
public import proofs.«01_k».proof.Proof.Gen.Flash.Loops
public import proofs.«01_k».proof.Proof.Gen.FlashIdeal.Skeleton
public import proofs.«01_k».proof.Proof.Gen.FlashIdeal.Launch
public import proofs.«01_k».proof.Proof.Gen.FlashIdeal.Points
public import proofs.«01_k».proof.Proof.Gen.FlashIdeal.Loops
public import proofs.«01_k».proof.Proof.Gen.FlashRefIdeal
public import proofs.«01_k».proof.Proof.Gen.FlashRefIdeal.Run
public import proofs.«01_k».proof.Proof.Gen.FlashRefIdeal.Read
public import proofs.«01_k».proof.Proof.Gen.Pre_flash_finite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.LossLn
public import proofs.«01_k».proof.Proof.Gen.LossLn.Skeleton
public import proofs.«01_k».proof.Proof.Gen.LossLn.Launch
public import proofs.«01_k».proof.Proof.Gen.LossLn.Points
public import proofs.«01_k».proof.Proof.Gen.LossLn.Frame
public import proofs.«01_k».proof.Proof.Gen.LossLnIdeal
public import proofs.«01_k».proof.Proof.Gen.LossLnIdeal.Skeleton
public import proofs.«01_k».proof.Proof.Gen.LossLnIdeal.Launch
public import proofs.«01_k».proof.Proof.Gen.LossLnIdeal.Points
public import proofs.«01_k».proof.Proof.Gen.LossLnIdeal.Frame
public import proofs.«01_k».proof.Proof.Gen.LossLnRefIdeal
public import proofs.«01_k».proof.Proof.Gen.LossLnRefIdeal.Run
public import proofs.«01_k».proof.Proof.Gen.LossLnRefIdeal.Read
public import proofs.«01_k».proof.Proof.Gen.MixLn
public import proofs.«01_k».proof.Proof.Gen.MixLn.Skeleton
public import proofs.«01_k».proof.Proof.Gen.MixLn.Launch
public import proofs.«01_k».proof.Proof.Gen.MixLn.Points
public import proofs.«01_k».proof.Proof.Gen.MixLn.Frame
public import proofs.«01_k».proof.Proof.Gen.MixLnIdeal
public import proofs.«01_k».proof.Proof.Gen.MixLnIdeal.Skeleton
public import proofs.«01_k».proof.Proof.Gen.MixLnIdeal.Launch
public import proofs.«01_k».proof.Proof.Gen.MixLnIdeal.Points
public import proofs.«01_k».proof.Proof.Gen.MixLnIdeal.Frame
public import proofs.«01_k».proof.Proof.Gen.MixLnRefIdeal
public import proofs.«01_k».proof.Proof.Gen.MixLnRefIdeal.Run
public import proofs.«01_k».proof.Proof.Gen.MixLnRefIdeal.Read
public import proofs.«01_k».proof.Proof.Gen.Pre_ffn_finite
public import proofs.«01_k».proof.Proof.Gen.Pre_loss_finite
public import proofs.«01_k».proof.Proof.Gen.Pre_mix_finite
public import proofs.«01_k».proof.Proof.Gen.Norms
public import proofs.«01_k».proof.Proof.Gen.Norms.Skeleton
public import proofs.«01_k».proof.Proof.Gen.Norms.Launch
public import proofs.«01_k».proof.Proof.Gen.Norms.Points
public import proofs.«01_k».proof.Proof.Gen.Norms.Frame
public import proofs.«01_k».proof.Proof.Gen.NormsIdeal
public import proofs.«01_k».proof.Proof.Gen.NormsIdeal.Skeleton
public import proofs.«01_k».proof.Proof.Gen.NormsIdeal.Launch
public import proofs.«01_k».proof.Proof.Gen.NormsIdeal.Points
public import proofs.«01_k».proof.Proof.Gen.NormsIdeal.Frame
public import proofs.«01_k».proof.Proof.Gen.NormsRefIdeal
public import proofs.«01_k».proof.Proof.Gen.NormsRefIdeal.Run
public import proofs.«01_k».proof.Proof.Gen.NormsRefIdeal.Read
public import proofs.«01_k».proof.Proof.Gen.MemAttn
public import proofs.«01_k».proof.Proof.Gen.MemAttn.Skeleton
public import proofs.«01_k».proof.Proof.Gen.MemAttn.Launch
public import proofs.«01_k».proof.Proof.Gen.MemAttn.Points
public import proofs.«01_k».proof.Proof.Gen.MemAttn.Frame
public import proofs.«01_k».proof.Proof.Gen.MemAttnIdeal
public import proofs.«01_k».proof.Proof.Gen.MemAttnIdeal.Skeleton
public import proofs.«01_k».proof.Proof.Gen.MemAttnIdeal.Launch
public import proofs.«01_k».proof.Proof.Gen.MemAttnIdeal.Points
public import proofs.«01_k».proof.Proof.Gen.MemAttnIdeal.Frame
public import proofs.«01_k».proof.Proof.Gen.MemAttnRefIdeal
public import proofs.«01_k».proof.Proof.Gen.MemAttnRefIdeal.Run
public import proofs.«01_k».proof.Proof.Gen.MemAttnRefIdeal.Read
public import proofs.«01_k».proof.Proof.PoolClaim
public import proofs.«01_k».proof.Proof.FlashRunBits
public import proofs.«01_k».proof.Proof.FlashClaim
public import proofs.«01_k».proof.Proof.FfnClaim
public import proofs.«01_k».proof.Proof.LossLnClaim
public import proofs.«01_k».proof.Proof.MixLnClaim
public import proofs.«01_k».proof.Proof.NormsClaim
public import proofs.«01_k».proof.Proof.MemClaim
public import Idealize.ShloMosaic.Adequacy
public import Idealize.ShloMosaic.Init

@[expose] public section

noncomputable section

namespace Cert.Proof

open Idealize.ShloMosaic Idealize.SL.Sem Cert.PoolBwd

theorem claim : Cert.Claim := ⟨Cert.PoolBwd.Gen.facts, Cert.PoolBwdIdeal.Gen.facts, Cert.PoolBwdRefIdeal.Gen.facts,
  Cert.Flash.Gen.facts, Cert.FlashIdeal.Gen.facts, Cert.FlashRefIdeal.Gen.facts, Cert.Ffn.Gen.facts, Cert.FfnIdeal.Gen.facts, Cert.FfnRefIdeal.Gen.facts,
  Cert.LossLn.Gen.facts, Cert.LossLnIdeal.Gen.facts, Cert.LossLnRefIdeal.Gen.facts, Cert.MixLn.Gen.facts, Cert.MixLnIdeal.Gen.facts, Cert.MixLnRefIdeal.Gen.facts,
  Cert.Norms.Gen.facts, Cert.NormsIdeal.Gen.facts, Cert.NormsRefIdeal.Gen.facts, Cert.MemAttn.Gen.facts, Cert.MemAttnIdeal.Gen.facts, Cert.MemAttnRefIdeal.Gen.facts,
  Cert.Pre_pool_finite.Gen.facts, Cert.Pre_flash_finite.Gen.facts, Cert.Pre_ffn_finite.Gen.facts, Cert.Pre_loss_finite.Gen.facts, Cert.Pre_mix_finite.Gen.facts,
  fun m g _ => Cert.PoolBwd.Gen.frame m g, fun m g _ => Cert.PoolBwdIdeal.Gen.frame m g, fun m g _ => Cert.PoolBwdIdeal.Gen.frame m g,
  Cert.Pool.frame_ref, fun m g _ => Cert.Pool.frame_ref m g ⟨⟩,
  fun m g _ => Cert.Flash.Att.frame m g, fun m g _ => Cert.FlashIdeal.Att.frame m g, fun m g _ => Cert.FlashIdeal.Att.frame m g,
  Cert.Att.frame_ref, fun m g _ => Cert.Att.frame_ref m g ⟨⟩,
  fun m g _ => Cert.Ffn.Gen.frame m g, fun m g _ => Cert.FfnIdeal.Gen.frame m g, fun m g _ => Cert.FfnIdeal.Gen.frame m g,
  Cert.Gate.frame_ref, fun m g _ => Cert.Gate.frame_ref m g ⟨⟩,
  fun m g _ => Cert.LossLn.Gen.frame m g, fun m g _ => Cert.LossLnIdeal.Gen.frame m g, fun m g _ => Cert.LossLnIdeal.Gen.frame m g,
  Cert.LossLn.frame_ref, fun m g _ => Cert.LossLn.frame_ref m g ⟨⟩,
  fun m g _ => Cert.MixLn.Gen.frame m g, fun m g _ => Cert.MixLnIdeal.Gen.frame m g, fun m g _ => Cert.MixLnIdeal.Gen.frame m g,
  Cert.MixLn.frame_ref, fun m g _ => Cert.MixLn.frame_ref m g ⟨⟩,
  fun m g _ => Cert.Norms.Gen.frame m g, fun m g _ => Cert.NormsIdeal.Gen.frame m g, Cert.Rms.frame_ref,
  fun m g _ => Cert.MemAttn.Gen.frame m g, fun m g _ => Cert.MemAttnIdeal.Gen.frame m g, Cert.Mem.frame_ref,
  trivial, Cert.Pool.algebraic, Cert.Att.preserves, Cert.Att.algebraic, trivial, Cert.Gate.algebraic,
  trivial, Cert.LossLn.algebraic, trivial, Cert.MixLn.algebraic,
  trivial, Cert.Rms.algebraic, trivial, Cert.Mem.algebraic⟩

end Cert.Proof

end
